-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_OutputSample (m : (ℓ : Loc Cert.OutputSample.nD Cert.OutputSample.τ Cert.OutputSample.sig) → Buf (Elt Bits) ℓ) : Prop :=
  True

def Pre_OutputSampleIdeal (m : (ℓ : Loc Cert.OutputSampleIdeal.nD Cert.OutputSampleIdeal.τ Cert.OutputSampleIdeal.sig) → Buf (Elt Ideal) ℓ) : Prop :=
  True

def Pre_OutputSampleReferenceIdeal (m : (ℓ : Loc Cert.OutputSampleReferenceIdeal.nD Cert.OutputSampleReferenceIdeal.τ Cert.OutputSampleReferenceIdeal.sig) → Buf (Elt Ideal) ℓ) : Prop :=
  True

def Pre_OutputNext (m : (ℓ : Loc Cert.OutputNext.nD Cert.OutputNext.τ Cert.OutputNext.sig) → Buf (Elt Bits) ℓ) : Prop :=
  True

def Pre_OutputNextIdeal (m : (ℓ : Loc Cert.OutputNextIdeal.nD Cert.OutputNextIdeal.τ Cert.OutputNextIdeal.sig) → Buf (Elt Ideal) ℓ) : Prop :=
  True

def Pre_OutputNextReferenceIdeal (m : (ℓ : Loc Cert.OutputNextReferenceIdeal.nD Cert.OutputNextReferenceIdeal.τ Cert.OutputNextReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def Pre_ProjectWide (m : (ℓ : Loc Cert.ProjectWide.nD Cert.ProjectWide.τ Cert.ProjectWide.sig) → Buf (Elt Bits) ℓ) : Prop :=
  True

def Pre_ProjectWideIdeal (m : (ℓ : Loc Cert.ProjectWideIdeal.nD Cert.ProjectWideIdeal.τ Cert.ProjectWideIdeal.sig) → Buf (Elt Ideal) ℓ) : Prop :=
  True

def Pre_ProjectWideReferenceIdeal (m : (ℓ : Loc Cert.ProjectWideReferenceIdeal.nD Cert.ProjectWideReferenceIdeal.τ Cert.ProjectWideReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_OutputFirst (m : (ℓ : Loc Cert.OutputFirst.nD Cert.OutputFirst.τ Cert.OutputFirst.sig) → Buf (Elt Bits) ℓ) : Prop :=
  True

def Pre_OutputFirstIdeal (m : (ℓ : Loc Cert.OutputFirstIdeal.nD Cert.OutputFirstIdeal.τ Cert.OutputFirstIdeal.sig) → Buf (Elt Ideal) ℓ) : Prop :=
  True

def Pre_OutputFirstReferenceIdeal (m : (ℓ : Loc Cert.OutputFirstReferenceIdeal.nD Cert.OutputFirstReferenceIdeal.τ Cert.OutputFirstReferenceIdeal.sig) → Buf (Elt Ideal) ℓ) : Prop :=
  True

def Pre_OutputFirstSample (m : (ℓ : Loc Cert.OutputFirstSample.nD Cert.OutputFirstSample.τ Cert.OutputFirstSample.sig) → Buf (Elt Bits) ℓ) : Prop :=
  True

def Pre_OutputFirstSampleIdeal (m : (ℓ : Loc Cert.OutputFirstSampleIdeal.nD Cert.OutputFirstSampleIdeal.τ Cert.OutputFirstSampleIdeal.sig) → Buf (Elt Ideal) ℓ) : Prop :=
  True

def Pre_OutputFirstSampleReferenceIdeal (m : (ℓ : Loc Cert.OutputFirstSampleReferenceIdeal.nD Cert.OutputFirstSampleReferenceIdeal.τ Cert.OutputFirstSampleReferenceIdeal.sig) → Buf (Elt Ideal) ℓ) : Prop :=
  True

def Pre_OutputNextSample (m : (ℓ : Loc Cert.OutputNextSample.nD Cert.OutputNextSample.τ Cert.OutputNextSample.sig) → Buf (Elt Bits) ℓ) : Prop :=
  True

def Pre_OutputNextSampleIdeal (m : (ℓ : Loc Cert.OutputNextSampleIdeal.nD Cert.OutputNextSampleIdeal.τ Cert.OutputNextSampleIdeal.sig) → Buf (Elt Ideal) ℓ) : Prop :=
  True

def Pre_OutputNextSampleReferenceIdeal (m : (ℓ : Loc Cert.OutputNextSampleReferenceIdeal.nD Cert.OutputNextSampleReferenceIdeal.τ Cert.OutputNextSampleReferenceIdeal.sig) → Buf (Elt Ideal) ℓ) : Prop :=
  True

def Pre_ProjectGate (m : (ℓ : Loc Cert.ProjectGate.nD Cert.ProjectGate.τ Cert.ProjectGate.sig) → Buf (Elt Bits) ℓ) : Prop :=
  True

def Pre_ProjectGateIdeal (m : (ℓ : Loc Cert.ProjectGateIdeal.nD Cert.ProjectGateIdeal.τ Cert.ProjectGateIdeal.sig) → Buf (Elt Ideal) ℓ) : Prop :=
  True

def Pre_ProjectGateReferenceIdeal (m : (ℓ : Loc Cert.ProjectGateReferenceIdeal.nD Cert.ProjectGateReferenceIdeal.τ Cert.ProjectGateReferenceIdeal.sig) → Buf (Elt Ideal) ℓ) : Prop :=
  True

def Pre_ProjectStep (m : (ℓ : Loc Cert.ProjectStep.nD Cert.ProjectStep.τ Cert.ProjectStep.sig) → Buf (Elt Bits) ℓ) : Prop :=
  True

def Pre_ProjectStepIdeal (m : (ℓ : Loc Cert.ProjectStepIdeal.nD Cert.ProjectStepIdeal.τ Cert.ProjectStepIdeal.sig) → Buf (Elt Ideal) ℓ) : Prop :=
  True

def Pre_ProjectStepReferenceIdeal (m : (ℓ : Loc Cert.ProjectStepReferenceIdeal.nD Cert.ProjectStepReferenceIdeal.τ Cert.ProjectStepReferenceIdeal.sig) → Buf (Elt Ideal) ℓ) : Prop :=
  True

def Pre_ProjectWideSample (m : (ℓ : Loc Cert.ProjectWideSample.nD Cert.ProjectWideSample.τ Cert.ProjectWideSample.sig) → Buf (Elt Bits) ℓ) : Prop :=
  True

def Pre_ProjectWideSampleIdeal (m : (ℓ : Loc Cert.ProjectWideSampleIdeal.nD Cert.ProjectWideSampleIdeal.τ Cert.ProjectWideSampleIdeal.sig) → Buf (Elt Ideal) ℓ) : Prop :=
  True

def Pre_ProjectWideSampleReferenceIdeal (m : (ℓ : Loc Cert.ProjectWideSampleReferenceIdeal.nD Cert.ProjectWideSampleReferenceIdeal.τ Cert.ProjectWideSampleReferenceIdeal.sig) → Buf (Elt Ideal) ℓ) : Prop :=
  True

def Pre_ProjectGateSample (m : (ℓ : Loc Cert.ProjectGateSample.nD Cert.ProjectGateSample.τ Cert.ProjectGateSample.sig) → Buf (Elt Bits) ℓ) : Prop :=
  True

def Pre_ProjectGateSampleIdeal (m : (ℓ : Loc Cert.ProjectGateSampleIdeal.nD Cert.ProjectGateSampleIdeal.τ Cert.ProjectGateSampleIdeal.sig) → Buf (Elt Ideal) ℓ) : Prop :=
  True

def Pre_ProjectGateSampleReferenceIdeal (m : (ℓ : Loc Cert.ProjectGateSampleReferenceIdeal.nD Cert.ProjectGateSampleReferenceIdeal.τ Cert.ProjectGateSampleReferenceIdeal.sig) → Buf (Elt Ideal) ℓ) : Prop :=
  True

def Pre_ProjectStepSample (m : (ℓ : Loc Cert.ProjectStepSample.nD Cert.ProjectStepSample.τ Cert.ProjectStepSample.sig) → Buf (Elt Bits) ℓ) : Prop :=
  True

def Pre_ProjectStepSampleIdeal (m : (ℓ : Loc Cert.ProjectStepSampleIdeal.nD Cert.ProjectStepSampleIdeal.τ Cert.ProjectStepSampleIdeal.sig) → Buf (Elt Ideal) ℓ) : Prop :=
  True

def Pre_ProjectStepSampleReferenceIdeal (m : (ℓ : Loc Cert.ProjectStepSampleReferenceIdeal.nD Cert.ProjectStepSampleReferenceIdeal.τ Cert.ProjectStepSampleReferenceIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleReferenceIdeal (m : (ℓ : Loc Cert.NormSampleReferenceIdeal.nD Cert.NormSampleReferenceIdeal.τ Cert.NormSampleReferenceIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleReferenceIdeal (m : (ℓ : Loc Cert.ConvSampleReferenceIdeal.nD Cert.ConvSampleReferenceIdeal.τ Cert.ConvSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6))
      ∧ r.2.sem = fun _ => 0)

def quiescent_OutputSample [hOutputSample : Cert.OutputSample.Facts] : Prop :=
  ∀ (m : (ℓ : Loc Cert.OutputSample.nD Cert.OutputSample.τ Cert.OutputSample.sig) → Buf (Elt Bits) ℓ) (g : Dev Cert.OutputSample.nD → PrngReg), Pre_OutputSample m →
    θ_run (Cert.OutputSample.defs (F := Bits)) (onTc (τ := Cert.OutputSample.τ) (Cert.OutputSample.main (F := Bits))) ⟨m, fun _ => 0, g⟩ (fun r => (∀ c : Dev Cert.OutputSample.nD,
      r.2.mem ((c.tc : Thread Cert.OutputSample.nD Cert.OutputSample.τ).loc Cert.OutputSample.main_arg0) = m ((c.tc : Thread Cert.OutputSample.nD Cert.OutputSample.τ).loc Cert.OutputSample.main_arg0)
      ∧ r.2.mem ((c.tc : Thread Cert.OutputSample.nD Cert.OutputSample.τ).loc Cert.OutputSample.main_arg1) = m ((c.tc : Thread Cert.OutputSample.nD Cert.OutputSample.τ).loc Cert.OutputSample.main_arg1)
      ∧ r.2.mem ((c.tc : Thread Cert.OutputSample.nD Cert.OutputSample.τ).loc Cert.OutputSample.main_arg2) = m ((c.tc : Thread Cert.OutputSample.nD Cert.OutputSample.τ).loc Cert.OutputSample.main_arg2)
      ∧ r.2.mem ((c.tc : Thread Cert.OutputSample.nD Cert.OutputSample.τ).loc Cert.OutputSample.main_arg3) = m ((c.tc : Thread Cert.OutputSample.nD Cert.OutputSample.τ).loc Cert.OutputSample.main_arg3)
      ∧ r.2.mem ((c.tc : Thread Cert.OutputSample.nD Cert.OutputSample.τ).loc Cert.OutputSample.main_arg4) = m ((c.tc : Thread Cert.OutputSample.nD Cert.OutputSample.τ).loc Cert.OutputSample.main_arg4)
      ∧ r.2.mem ((c.tc : Thread Cert.OutputSample.nD Cert.OutputSample.τ).loc Cert.OutputSample.main_arg5) = m ((c.tc : Thread Cert.OutputSample.nD Cert.OutputSample.τ).loc Cert.OutputSample.main_arg5)
      ∧ r.2.mem ((c.tc : Thread Cert.OutputSample.nD Cert.OutputSample.τ).loc Cert.OutputSample.main_arg6) = m ((c.tc : Thread Cert.OutputSample.nD Cert.OutputSample.τ).loc Cert.OutputSample.main_arg6))
      ∧ r.2.sem = fun _ => 0)

def quiescent_OutputSampleIdeal [hOutputSampleIdeal : Cert.OutputSampleIdeal.Facts] : Prop :=
  ∀ (m : (ℓ : Loc Cert.OutputSampleIdeal.nD Cert.OutputSampleIdeal.τ Cert.OutputSampleIdeal.sig) → Buf (Elt Ideal) ℓ) (g : Dev Cert.OutputSampleIdeal.nD → PrngReg), Pre_OutputSampleIdeal m →
    θ_run (Cert.OutputSampleIdeal.defs (F := Ideal)) (onTc (τ := Cert.OutputSampleIdeal.τ) (Cert.OutputSampleIdeal.main (F := Ideal))) ⟨m, fun _ => 0, g⟩ (fun r => (∀ c : Dev Cert.OutputSampleIdeal.nD,
      r.2.mem ((c.tc : Thread Cert.OutputSampleIdeal.nD Cert.OutputSampleIdeal.τ).loc Cert.OutputSampleIdeal.main_arg0) = m ((c.tc : Thread Cert.OutputSampleIdeal.nD Cert.OutputSampleIdeal.τ).loc Cert.OutputSampleIdeal.main_arg0)
      ∧ r.2.mem ((c.tc : Thread Cert.OutputSampleIdeal.nD Cert.OutputSampleIdeal.τ).loc Cert.OutputSampleIdeal.main_arg1) = m ((c.tc : Thread Cert.OutputSampleIdeal.nD Cert.OutputSampleIdeal.τ).loc Cert.OutputSampleIdeal.main_arg1)
      ∧ r.2.mem ((c.tc : Thread Cert.OutputSampleIdeal.nD Cert.OutputSampleIdeal.τ).loc Cert.OutputSampleIdeal.main_arg2) = m ((c.tc : Thread Cert.OutputSampleIdeal.nD Cert.OutputSampleIdeal.τ).loc Cert.OutputSampleIdeal.main_arg2)
      ∧ r.2.mem ((c.tc : Thread Cert.OutputSampleIdeal.nD Cert.OutputSampleIdeal.τ).loc Cert.OutputSampleIdeal.main_arg3) = m ((c.tc : Thread Cert.OutputSampleIdeal.nD Cert.OutputSampleIdeal.τ).loc Cert.OutputSampleIdeal.main_arg3)
      ∧ r.2.mem ((c.tc : Thread Cert.OutputSampleIdeal.nD Cert.OutputSampleIdeal.τ).loc Cert.OutputSampleIdeal.main_arg4) = m ((c.tc : Thread Cert.OutputSampleIdeal.nD Cert.OutputSampleIdeal.τ).loc Cert.OutputSampleIdeal.main_arg4)
      ∧ r.2.mem ((c.tc : Thread Cert.OutputSampleIdeal.nD Cert.OutputSampleIdeal.τ).loc Cert.OutputSampleIdeal.main_arg5) = m ((c.tc : Thread Cert.OutputSampleIdeal.nD Cert.OutputSampleIdeal.τ).loc Cert.OutputSampleIdeal.main_arg5)
      ∧ r.2.mem ((c.tc : Thread Cert.OutputSampleIdeal.nD Cert.OutputSampleIdeal.τ).loc Cert.OutputSampleIdeal.main_arg6) = m ((c.tc : Thread Cert.OutputSampleIdeal.nD Cert.OutputSampleIdeal.τ).loc Cert.OutputSampleIdeal.main_arg6))
      ∧ r.2.sem = fun _ => 0)

def quiescent_OutputSampleReferenceIdeal [hOutputSampleReferenceIdeal : Cert.OutputSampleReferenceIdeal.Facts] : Prop :=
  ∀ (m : (ℓ : Loc Cert.OutputSampleReferenceIdeal.nD Cert.OutputSampleReferenceIdeal.τ Cert.OutputSampleReferenceIdeal.sig) → Buf (Elt Ideal) ℓ) (g : Dev Cert.OutputSampleReferenceIdeal.nD → PrngReg), Pre_OutputSampleReferenceIdeal m →
    θ_run (Cert.OutputSampleReferenceIdeal.defs (F := Ideal)) (onTc (τ := Cert.OutputSampleReferenceIdeal.τ) (Cert.OutputSampleReferenceIdeal.main (F := Ideal))) ⟨m, fun _ => 0, g⟩ (fun r => (∀ c : Dev Cert.OutputSampleReferenceIdeal.nD,
      r.2.mem ((c.tc : Thread Cert.OutputSampleReferenceIdeal.nD Cert.OutputSampleReferenceIdeal.τ).loc Cert.OutputSampleReferenceIdeal.main_arg0) = m ((c.tc : Thread Cert.OutputSampleReferenceIdeal.nD Cert.OutputSampleReferenceIdeal.τ).loc Cert.OutputSampleReferenceIdeal.main_arg0)
      ∧ r.2.mem ((c.tc : Thread Cert.OutputSampleReferenceIdeal.nD Cert.OutputSampleReferenceIdeal.τ).loc Cert.OutputSampleReferenceIdeal.main_arg1) = m ((c.tc : Thread Cert.OutputSampleReferenceIdeal.nD Cert.OutputSampleReferenceIdeal.τ).loc Cert.OutputSampleReferenceIdeal.main_arg1)
      ∧ r.2.mem ((c.tc : Thread Cert.OutputSampleReferenceIdeal.nD Cert.OutputSampleReferenceIdeal.τ).loc Cert.OutputSampleReferenceIdeal.main_arg2) = m ((c.tc : Thread Cert.OutputSampleReferenceIdeal.nD Cert.OutputSampleReferenceIdeal.τ).loc Cert.OutputSampleReferenceIdeal.main_arg2)
      ∧ r.2.mem ((c.tc : Thread Cert.OutputSampleReferenceIdeal.nD Cert.OutputSampleReferenceIdeal.τ).loc Cert.OutputSampleReferenceIdeal.main_arg3) = m ((c.tc : Thread Cert.OutputSampleReferenceIdeal.nD Cert.OutputSampleReferenceIdeal.τ).loc Cert.OutputSampleReferenceIdeal.main_arg3)
      ∧ r.2.mem ((c.tc : Thread Cert.OutputSampleReferenceIdeal.nD Cert.OutputSampleReferenceIdeal.τ).loc Cert.OutputSampleReferenceIdeal.main_arg4) = m ((c.tc : Thread Cert.OutputSampleReferenceIdeal.nD Cert.OutputSampleReferenceIdeal.τ).loc Cert.OutputSampleReferenceIdeal.main_arg4)
      ∧ r.2.mem ((c.tc : Thread Cert.OutputSampleReferenceIdeal.nD Cert.OutputSampleReferenceIdeal.τ).loc Cert.OutputSampleReferenceIdeal.main_arg5) = m ((c.tc : Thread Cert.OutputSampleReferenceIdeal.nD Cert.OutputSampleReferenceIdeal.τ).loc Cert.OutputSampleReferenceIdeal.main_arg5)
      ∧ r.2.mem ((c.tc : Thread Cert.OutputSampleReferenceIdeal.nD Cert.OutputSampleReferenceIdeal.τ).loc Cert.OutputSampleReferenceIdeal.main_arg6) = m ((c.tc : Thread Cert.OutputSampleReferenceIdeal.nD Cert.OutputSampleReferenceIdeal.τ).loc Cert.OutputSampleReferenceIdeal.main_arg6))
      ∧ r.2.sem = fun _ => 0)

def quiescent_OutputNext [hOutputNext : Cert.OutputNext.Facts] : Prop :=
  ∀ (m : (ℓ : Loc Cert.OutputNext.nD Cert.OutputNext.τ Cert.OutputNext.sig) → Buf (Elt Bits) ℓ) (g : Dev Cert.OutputNext.nD → PrngReg), Pre_OutputNext m →
    θ_run (Cert.OutputNext.defs (F := Bits)) (onTc (τ := Cert.OutputNext.τ) (Cert.OutputNext.main (F := Bits))) ⟨m, fun _ => 0, g⟩ (fun r => (∀ c : Dev Cert.OutputNext.nD,
      r.2.mem ((c.tc : Thread Cert.OutputNext.nD Cert.OutputNext.τ).loc Cert.OutputNext.main_arg0) = m ((c.tc : Thread Cert.OutputNext.nD Cert.OutputNext.τ).loc Cert.OutputNext.main_arg0)
      ∧ r.2.mem ((c.tc : Thread Cert.OutputNext.nD Cert.OutputNext.τ).loc Cert.OutputNext.main_arg1) = m ((c.tc : Thread Cert.OutputNext.nD Cert.OutputNext.τ).loc Cert.OutputNext.main_arg1)
      ∧ r.2.mem ((c.tc : Thread Cert.OutputNext.nD Cert.OutputNext.τ).loc Cert.OutputNext.main_arg2) = m ((c.tc : Thread Cert.OutputNext.nD Cert.OutputNext.τ).loc Cert.OutputNext.main_arg2)
      ∧ r.2.mem ((c.tc : Thread Cert.OutputNext.nD Cert.OutputNext.τ).loc Cert.OutputNext.main_arg3) = m ((c.tc : Thread Cert.OutputNext.nD Cert.OutputNext.τ).loc Cert.OutputNext.main_arg3)
      ∧ r.2.mem ((c.tc : Thread Cert.OutputNext.nD Cert.OutputNext.τ).loc Cert.OutputNext.main_arg4) = m ((c.tc : Thread Cert.OutputNext.nD Cert.OutputNext.τ).loc Cert.OutputNext.main_arg4)
      ∧ r.2.mem ((c.tc : Thread Cert.OutputNext.nD Cert.OutputNext.τ).loc Cert.OutputNext.main_arg5) = m ((c.tc : Thread Cert.OutputNext.nD Cert.OutputNext.τ).loc Cert.OutputNext.main_arg5)
      ∧ r.2.mem ((c.tc : Thread Cert.OutputNext.nD Cert.OutputNext.τ).loc Cert.OutputNext.main_arg6) = m ((c.tc : Thread Cert.OutputNext.nD Cert.OutputNext.τ).loc Cert.OutputNext.main_arg6)
      ∧ r.2.mem ((c.tc : Thread Cert.OutputNext.nD Cert.OutputNext.τ).loc Cert.OutputNext.main_arg7) = m ((c.tc : Thread Cert.OutputNext.nD Cert.OutputNext.τ).loc Cert.OutputNext.main_arg7))
      ∧ r.2.sem = fun _ => 0)

def quiescent_OutputNextIdeal [hOutputNextIdeal : Cert.OutputNextIdeal.Facts] : Prop :=
  ∀ (m : (ℓ : Loc Cert.OutputNextIdeal.nD Cert.OutputNextIdeal.τ Cert.OutputNextIdeal.sig) → Buf (Elt Ideal) ℓ) (g : Dev Cert.OutputNextIdeal.nD → PrngReg), Pre_OutputNextIdeal m →
    θ_run (Cert.OutputNextIdeal.defs (F := Ideal)) (onTc (τ := Cert.OutputNextIdeal.τ) (Cert.OutputNextIdeal.main (F := Ideal))) ⟨m, fun _ => 0, g⟩ (fun r => (∀ c : Dev Cert.OutputNextIdeal.nD,
      r.2.mem ((c.tc : Thread Cert.OutputNextIdeal.nD Cert.OutputNextIdeal.τ).loc Cert.OutputNextIdeal.main_arg0) = m ((c.tc : Thread Cert.OutputNextIdeal.nD Cert.OutputNextIdeal.τ).loc Cert.OutputNextIdeal.main_arg0)
      ∧ r.2.mem ((c.tc : Thread Cert.OutputNextIdeal.nD Cert.OutputNextIdeal.τ).loc Cert.OutputNextIdeal.main_arg1) = m ((c.tc : Thread Cert.OutputNextIdeal.nD Cert.OutputNextIdeal.τ).loc Cert.OutputNextIdeal.main_arg1)
      ∧ r.2.mem ((c.tc : Thread Cert.OutputNextIdeal.nD Cert.OutputNextIdeal.τ).loc Cert.OutputNextIdeal.main_arg2) = m ((c.tc : Thread Cert.OutputNextIdeal.nD Cert.OutputNextIdeal.τ).loc Cert.OutputNextIdeal.main_arg2)
      ∧ r.2.mem ((c.tc : Thread Cert.OutputNextIdeal.nD Cert.OutputNextIdeal.τ).loc Cert.OutputNextIdeal.main_arg3) = m ((c.tc : Thread Cert.OutputNextIdeal.nD Cert.OutputNextIdeal.τ).loc Cert.OutputNextIdeal.main_arg3)
      ∧ r.2.mem ((c.tc : Thread Cert.OutputNextIdeal.nD Cert.OutputNextIdeal.τ).loc Cert.OutputNextIdeal.main_arg4) = m ((c.tc : Thread Cert.OutputNextIdeal.nD Cert.OutputNextIdeal.τ).loc Cert.OutputNextIdeal.main_arg4)
      ∧ r.2.mem ((c.tc : Thread Cert.OutputNextIdeal.nD Cert.OutputNextIdeal.τ).loc Cert.OutputNextIdeal.main_arg5) = m ((c.tc : Thread Cert.OutputNextIdeal.nD Cert.OutputNextIdeal.τ).loc Cert.OutputNextIdeal.main_arg5)
      ∧ r.2.mem ((c.tc : Thread Cert.OutputNextIdeal.nD Cert.OutputNextIdeal.τ).loc Cert.OutputNextIdeal.main_arg6) = m ((c.tc : Thread Cert.OutputNextIdeal.nD Cert.OutputNextIdeal.τ).loc Cert.OutputNextIdeal.main_arg6)
      ∧ r.2.mem ((c.tc : Thread Cert.OutputNextIdeal.nD Cert.OutputNextIdeal.τ).loc Cert.OutputNextIdeal.main_arg7) = m ((c.tc : Thread Cert.OutputNextIdeal.nD Cert.OutputNextIdeal.τ).loc Cert.OutputNextIdeal.main_arg7))
      ∧ r.2.sem = fun _ => 0)

def quiescent_OutputNextReferenceIdeal [hOutputNextReferenceIdeal : Cert.OutputNextReferenceIdeal.Facts] : Prop :=
  ∀ (m : (ℓ : Loc Cert.OutputNextReferenceIdeal.nD Cert.OutputNextReferenceIdeal.τ Cert.OutputNextReferenceIdeal.sig) → Buf (Elt Ideal) ℓ) (g : Dev Cert.OutputNextReferenceIdeal.nD → PrngReg), Pre_OutputNextReferenceIdeal m →
    θ_run (Cert.OutputNextReferenceIdeal.defs (F := Ideal)) (onTc (τ := Cert.OutputNextReferenceIdeal.τ) (Cert.OutputNextReferenceIdeal.main (F := Ideal))) ⟨m, fun _ => 0, g⟩ (fun r => (∀ c : Dev Cert.OutputNextReferenceIdeal.nD,
      r.2.mem ((c.tc : Thread Cert.OutputNextReferenceIdeal.nD Cert.OutputNextReferenceIdeal.τ).loc Cert.OutputNextReferenceIdeal.main_arg0) = m ((c.tc : Thread Cert.OutputNextReferenceIdeal.nD Cert.OutputNextReferenceIdeal.τ).loc Cert.OutputNextReferenceIdeal.main_arg0)
      ∧ r.2.mem ((c.tc : Thread Cert.OutputNextReferenceIdeal.nD Cert.OutputNextReferenceIdeal.τ).loc Cert.OutputNextReferenceIdeal.main_arg1) = m ((c.tc : Thread Cert.OutputNextReferenceIdeal.nD Cert.OutputNextReferenceIdeal.τ).loc Cert.OutputNextReferenceIdeal.main_arg1)
      ∧ r.2.mem ((c.tc : Thread Cert.OutputNextReferenceIdeal.nD Cert.OutputNextReferenceIdeal.τ).loc Cert.OutputNextReferenceIdeal.main_arg2) = m ((c.tc : Thread Cert.OutputNextReferenceIdeal.nD Cert.OutputNextReferenceIdeal.τ).loc Cert.OutputNextReferenceIdeal.main_arg2)
      ∧ r.2.mem ((c.tc : Thread Cert.OutputNextReferenceIdeal.nD Cert.OutputNextReferenceIdeal.τ).loc Cert.OutputNextReferenceIdeal.main_arg3) = m ((c.tc : Thread Cert.OutputNextReferenceIdeal.nD Cert.OutputNextReferenceIdeal.τ).loc Cert.OutputNextReferenceIdeal.main_arg3)
      ∧ r.2.mem ((c.tc : Thread Cert.OutputNextReferenceIdeal.nD Cert.OutputNextReferenceIdeal.τ).loc Cert.OutputNextReferenceIdeal.main_arg4) = m ((c.tc : Thread Cert.OutputNextReferenceIdeal.nD Cert.OutputNextReferenceIdeal.τ).loc Cert.OutputNextReferenceIdeal.main_arg4)
      ∧ r.2.mem ((c.tc : Thread Cert.OutputNextReferenceIdeal.nD Cert.OutputNextReferenceIdeal.τ).loc Cert.OutputNextReferenceIdeal.main_arg5) = m ((c.tc : Thread Cert.OutputNextReferenceIdeal.nD Cert.OutputNextReferenceIdeal.τ).loc Cert.OutputNextReferenceIdeal.main_arg5)
      ∧ r.2.mem ((c.tc : Thread Cert.OutputNextReferenceIdeal.nD Cert.OutputNextReferenceIdeal.τ).loc Cert.OutputNextReferenceIdeal.main_arg6) = m ((c.tc : Thread Cert.OutputNextReferenceIdeal.nD Cert.OutputNextReferenceIdeal.τ).loc Cert.OutputNextReferenceIdeal.main_arg6)
      ∧ r.2.mem ((c.tc : Thread Cert.OutputNextReferenceIdeal.nD Cert.OutputNextReferenceIdeal.τ).loc Cert.OutputNextReferenceIdeal.main_arg7) = m ((c.tc : Thread Cert.OutputNextReferenceIdeal.nD Cert.OutputNextReferenceIdeal.τ).loc Cert.OutputNextReferenceIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1))
      ∧ r.2.sem = fun _ => 0)

def quiescent_ProjectWide [hProjectWide : Cert.ProjectWide.Facts] : Prop :=
  ∀ (m : (ℓ : Loc Cert.ProjectWide.nD Cert.ProjectWide.τ Cert.ProjectWide.sig) → Buf (Elt Bits) ℓ) (g : Dev Cert.ProjectWide.nD → PrngReg), Pre_ProjectWide m →
    θ_run (Cert.ProjectWide.defs (F := Bits)) (onTc (τ := Cert.ProjectWide.τ) (Cert.ProjectWide.main (F := Bits))) ⟨m, fun _ => 0, g⟩ (fun r => (∀ c : Dev Cert.ProjectWide.nD,
      r.2.mem ((c.tc : Thread Cert.ProjectWide.nD Cert.ProjectWide.τ).loc Cert.ProjectWide.main_arg0) = m ((c.tc : Thread Cert.ProjectWide.nD Cert.ProjectWide.τ).loc Cert.ProjectWide.main_arg0)
      ∧ r.2.mem ((c.tc : Thread Cert.ProjectWide.nD Cert.ProjectWide.τ).loc Cert.ProjectWide.main_arg1) = m ((c.tc : Thread Cert.ProjectWide.nD Cert.ProjectWide.τ).loc Cert.ProjectWide.main_arg1))
      ∧ r.2.sem = fun _ => 0)

def quiescent_ProjectWideIdeal [hProjectWideIdeal : Cert.ProjectWideIdeal.Facts] : Prop :=
  ∀ (m : (ℓ : Loc Cert.ProjectWideIdeal.nD Cert.ProjectWideIdeal.τ Cert.ProjectWideIdeal.sig) → Buf (Elt Ideal) ℓ) (g : Dev Cert.ProjectWideIdeal.nD → PrngReg), Pre_ProjectWideIdeal m →
    θ_run (Cert.ProjectWideIdeal.defs (F := Ideal)) (onTc (τ := Cert.ProjectWideIdeal.τ) (Cert.ProjectWideIdeal.main (F := Ideal))) ⟨m, fun _ => 0, g⟩ (fun r => (∀ c : Dev Cert.ProjectWideIdeal.nD,
      r.2.mem ((c.tc : Thread Cert.ProjectWideIdeal.nD Cert.ProjectWideIdeal.τ).loc Cert.ProjectWideIdeal.main_arg0) = m ((c.tc : Thread Cert.ProjectWideIdeal.nD Cert.ProjectWideIdeal.τ).loc Cert.ProjectWideIdeal.main_arg0)
      ∧ r.2.mem ((c.tc : Thread Cert.ProjectWideIdeal.nD Cert.ProjectWideIdeal.τ).loc Cert.ProjectWideIdeal.main_arg1) = m ((c.tc : Thread Cert.ProjectWideIdeal.nD Cert.ProjectWideIdeal.τ).loc Cert.ProjectWideIdeal.main_arg1))
      ∧ r.2.sem = fun _ => 0)

def quiescent_ProjectWideReferenceIdeal [hProjectWideReferenceIdeal : Cert.ProjectWideReferenceIdeal.Facts] : Prop :=
  ∀ (m : (ℓ : Loc Cert.ProjectWideReferenceIdeal.nD Cert.ProjectWideReferenceIdeal.τ Cert.ProjectWideReferenceIdeal.sig) → Buf (Elt Ideal) ℓ) (g : Dev Cert.ProjectWideReferenceIdeal.nD → PrngReg), Pre_ProjectWideReferenceIdeal m →
    θ_run (Cert.ProjectWideReferenceIdeal.defs (F := Ideal)) (onTc (τ := Cert.ProjectWideReferenceIdeal.τ) (Cert.ProjectWideReferenceIdeal.main (F := Ideal))) ⟨m, fun _ => 0, g⟩ (fun r => (∀ c : Dev Cert.ProjectWideReferenceIdeal.nD,
      r.2.mem ((c.tc : Thread Cert.ProjectWideReferenceIdeal.nD Cert.ProjectWideReferenceIdeal.τ).loc Cert.ProjectWideReferenceIdeal.main_arg0) = m ((c.tc : Thread Cert.ProjectWideReferenceIdeal.nD Cert.ProjectWideReferenceIdeal.τ).loc Cert.ProjectWideReferenceIdeal.main_arg0)
      ∧ r.2.mem ((c.tc : Thread Cert.ProjectWideReferenceIdeal.nD Cert.ProjectWideReferenceIdeal.τ).loc Cert.ProjectWideReferenceIdeal.main_arg1) = m ((c.tc : Thread Cert.ProjectWideReferenceIdeal.nD Cert.ProjectWideReferenceIdeal.τ).loc Cert.ProjectWideReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_OutputFirst [hOutputFirst : Cert.OutputFirst.Facts] : Prop :=
  ∀ (m : (ℓ : Loc Cert.OutputFirst.nD Cert.OutputFirst.τ Cert.OutputFirst.sig) → Buf (Elt Bits) ℓ) (g : Dev Cert.OutputFirst.nD → PrngReg), Pre_OutputFirst m →
    θ_run (Cert.OutputFirst.defs (F := Bits)) (onTc (τ := Cert.OutputFirst.τ) (Cert.OutputFirst.main (F := Bits))) ⟨m, fun _ => 0, g⟩ (fun r => (∀ c : Dev Cert.OutputFirst.nD,
      r.2.mem ((c.tc : Thread Cert.OutputFirst.nD Cert.OutputFirst.τ).loc Cert.OutputFirst.main_arg0) = m ((c.tc : Thread Cert.OutputFirst.nD Cert.OutputFirst.τ).loc Cert.OutputFirst.main_arg0)
      ∧ r.2.mem ((c.tc : Thread Cert.OutputFirst.nD Cert.OutputFirst.τ).loc Cert.OutputFirst.main_arg1) = m ((c.tc : Thread Cert.OutputFirst.nD Cert.OutputFirst.τ).loc Cert.OutputFirst.main_arg1)
      ∧ r.2.mem ((c.tc : Thread Cert.OutputFirst.nD Cert.OutputFirst.τ).loc Cert.OutputFirst.main_arg2) = m ((c.tc : Thread Cert.OutputFirst.nD Cert.OutputFirst.τ).loc Cert.OutputFirst.main_arg2)
      ∧ r.2.mem ((c.tc : Thread Cert.OutputFirst.nD Cert.OutputFirst.τ).loc Cert.OutputFirst.main_arg3) = m ((c.tc : Thread Cert.OutputFirst.nD Cert.OutputFirst.τ).loc Cert.OutputFirst.main_arg3)
      ∧ r.2.mem ((c.tc : Thread Cert.OutputFirst.nD Cert.OutputFirst.τ).loc Cert.OutputFirst.main_arg4) = m ((c.tc : Thread Cert.OutputFirst.nD Cert.OutputFirst.τ).loc Cert.OutputFirst.main_arg4)
      ∧ r.2.mem ((c.tc : Thread Cert.OutputFirst.nD Cert.OutputFirst.τ).loc Cert.OutputFirst.main_arg5) = m ((c.tc : Thread Cert.OutputFirst.nD Cert.OutputFirst.τ).loc Cert.OutputFirst.main_arg5)
      ∧ r.2.mem ((c.tc : Thread Cert.OutputFirst.nD Cert.OutputFirst.τ).loc Cert.OutputFirst.main_arg6) = m ((c.tc : Thread Cert.OutputFirst.nD Cert.OutputFirst.τ).loc Cert.OutputFirst.main_arg6)
      ∧ r.2.mem ((c.tc : Thread Cert.OutputFirst.nD Cert.OutputFirst.τ).loc Cert.OutputFirst.main_arg7) = m ((c.tc : Thread Cert.OutputFirst.nD Cert.OutputFirst.τ).loc Cert.OutputFirst.main_arg7))
      ∧ r.2.sem = fun _ => 0)

def quiescent_OutputFirstIdeal [hOutputFirstIdeal : Cert.OutputFirstIdeal.Facts] : Prop :=
  ∀ (m : (ℓ : Loc Cert.OutputFirstIdeal.nD Cert.OutputFirstIdeal.τ Cert.OutputFirstIdeal.sig) → Buf (Elt Ideal) ℓ) (g : Dev Cert.OutputFirstIdeal.nD → PrngReg), Pre_OutputFirstIdeal m →
    θ_run (Cert.OutputFirstIdeal.defs (F := Ideal)) (onTc (τ := Cert.OutputFirstIdeal.τ) (Cert.OutputFirstIdeal.main (F := Ideal))) ⟨m, fun _ => 0, g⟩ (fun r => (∀ c : Dev Cert.OutputFirstIdeal.nD,
      r.2.mem ((c.tc : Thread Cert.OutputFirstIdeal.nD Cert.OutputFirstIdeal.τ).loc Cert.OutputFirstIdeal.main_arg0) = m ((c.tc : Thread Cert.OutputFirstIdeal.nD Cert.OutputFirstIdeal.τ).loc Cert.OutputFirstIdeal.main_arg0)
      ∧ r.2.mem ((c.tc : Thread Cert.OutputFirstIdeal.nD Cert.OutputFirstIdeal.τ).loc Cert.OutputFirstIdeal.main_arg1) = m ((c.tc : Thread Cert.OutputFirstIdeal.nD Cert.OutputFirstIdeal.τ).loc Cert.OutputFirstIdeal.main_arg1)
      ∧ r.2.mem ((c.tc : Thread Cert.OutputFirstIdeal.nD Cert.OutputFirstIdeal.τ).loc Cert.OutputFirstIdeal.main_arg2) = m ((c.tc : Thread Cert.OutputFirstIdeal.nD Cert.OutputFirstIdeal.τ).loc Cert.OutputFirstIdeal.main_arg2)
      ∧ r.2.mem ((c.tc : Thread Cert.OutputFirstIdeal.nD Cert.OutputFirstIdeal.τ).loc Cert.OutputFirstIdeal.main_arg3) = m ((c.tc : Thread Cert.OutputFirstIdeal.nD Cert.OutputFirstIdeal.τ).loc Cert.OutputFirstIdeal.main_arg3)
      ∧ r.2.mem ((c.tc : Thread Cert.OutputFirstIdeal.nD Cert.OutputFirstIdeal.τ).loc Cert.OutputFirstIdeal.main_arg4) = m ((c.tc : Thread Cert.OutputFirstIdeal.nD Cert.OutputFirstIdeal.τ).loc Cert.OutputFirstIdeal.main_arg4)
      ∧ r.2.mem ((c.tc : Thread Cert.OutputFirstIdeal.nD Cert.OutputFirstIdeal.τ).loc Cert.OutputFirstIdeal.main_arg5) = m ((c.tc : Thread Cert.OutputFirstIdeal.nD Cert.OutputFirstIdeal.τ).loc Cert.OutputFirstIdeal.main_arg5)
      ∧ r.2.mem ((c.tc : Thread Cert.OutputFirstIdeal.nD Cert.OutputFirstIdeal.τ).loc Cert.OutputFirstIdeal.main_arg6) = m ((c.tc : Thread Cert.OutputFirstIdeal.nD Cert.OutputFirstIdeal.τ).loc Cert.OutputFirstIdeal.main_arg6)
      ∧ r.2.mem ((c.tc : Thread Cert.OutputFirstIdeal.nD Cert.OutputFirstIdeal.τ).loc Cert.OutputFirstIdeal.main_arg7) = m ((c.tc : Thread Cert.OutputFirstIdeal.nD Cert.OutputFirstIdeal.τ).loc Cert.OutputFirstIdeal.main_arg7))
      ∧ r.2.sem = fun _ => 0)

def quiescent_OutputFirstReferenceIdeal [hOutputFirstReferenceIdeal : Cert.OutputFirstReferenceIdeal.Facts] : Prop :=
  ∀ (m : (ℓ : Loc Cert.OutputFirstReferenceIdeal.nD Cert.OutputFirstReferenceIdeal.τ Cert.OutputFirstReferenceIdeal.sig) → Buf (Elt Ideal) ℓ) (g : Dev Cert.OutputFirstReferenceIdeal.nD → PrngReg), Pre_OutputFirstReferenceIdeal m →
    θ_run (Cert.OutputFirstReferenceIdeal.defs (F := Ideal)) (onTc (τ := Cert.OutputFirstReferenceIdeal.τ) (Cert.OutputFirstReferenceIdeal.main (F := Ideal))) ⟨m, fun _ => 0, g⟩ (fun r => (∀ c : Dev Cert.OutputFirstReferenceIdeal.nD,
      r.2.mem ((c.tc : Thread Cert.OutputFirstReferenceIdeal.nD Cert.OutputFirstReferenceIdeal.τ).loc Cert.OutputFirstReferenceIdeal.main_arg0) = m ((c.tc : Thread Cert.OutputFirstReferenceIdeal.nD Cert.OutputFirstReferenceIdeal.τ).loc Cert.OutputFirstReferenceIdeal.main_arg0)
      ∧ r.2.mem ((c.tc : Thread Cert.OutputFirstReferenceIdeal.nD Cert.OutputFirstReferenceIdeal.τ).loc Cert.OutputFirstReferenceIdeal.main_arg1) = m ((c.tc : Thread Cert.OutputFirstReferenceIdeal.nD Cert.OutputFirstReferenceIdeal.τ).loc Cert.OutputFirstReferenceIdeal.main_arg1)
      ∧ r.2.mem ((c.tc : Thread Cert.OutputFirstReferenceIdeal.nD Cert.OutputFirstReferenceIdeal.τ).loc Cert.OutputFirstReferenceIdeal.main_arg2) = m ((c.tc : Thread Cert.OutputFirstReferenceIdeal.nD Cert.OutputFirstReferenceIdeal.τ).loc Cert.OutputFirstReferenceIdeal.main_arg2)
      ∧ r.2.mem ((c.tc : Thread Cert.OutputFirstReferenceIdeal.nD Cert.OutputFirstReferenceIdeal.τ).loc Cert.OutputFirstReferenceIdeal.main_arg3) = m ((c.tc : Thread Cert.OutputFirstReferenceIdeal.nD Cert.OutputFirstReferenceIdeal.τ).loc Cert.OutputFirstReferenceIdeal.main_arg3)
      ∧ r.2.mem ((c.tc : Thread Cert.OutputFirstReferenceIdeal.nD Cert.OutputFirstReferenceIdeal.τ).loc Cert.OutputFirstReferenceIdeal.main_arg4) = m ((c.tc : Thread Cert.OutputFirstReferenceIdeal.nD Cert.OutputFirstReferenceIdeal.τ).loc Cert.OutputFirstReferenceIdeal.main_arg4)
      ∧ r.2.mem ((c.tc : Thread Cert.OutputFirstReferenceIdeal.nD Cert.OutputFirstReferenceIdeal.τ).loc Cert.OutputFirstReferenceIdeal.main_arg5) = m ((c.tc : Thread Cert.OutputFirstReferenceIdeal.nD Cert.OutputFirstReferenceIdeal.τ).loc Cert.OutputFirstReferenceIdeal.main_arg5)
      ∧ r.2.mem ((c.tc : Thread Cert.OutputFirstReferenceIdeal.nD Cert.OutputFirstReferenceIdeal.τ).loc Cert.OutputFirstReferenceIdeal.main_arg6) = m ((c.tc : Thread Cert.OutputFirstReferenceIdeal.nD Cert.OutputFirstReferenceIdeal.τ).loc Cert.OutputFirstReferenceIdeal.main_arg6)
      ∧ r.2.mem ((c.tc : Thread Cert.OutputFirstReferenceIdeal.nD Cert.OutputFirstReferenceIdeal.τ).loc Cert.OutputFirstReferenceIdeal.main_arg7) = m ((c.tc : Thread Cert.OutputFirstReferenceIdeal.nD Cert.OutputFirstReferenceIdeal.τ).loc Cert.OutputFirstReferenceIdeal.main_arg7))
      ∧ r.2.sem = fun _ => 0)

def quiescent_OutputFirstSample [hOutputFirstSample : Cert.OutputFirstSample.Facts] : Prop :=
  ∀ (m : (ℓ : Loc Cert.OutputFirstSample.nD Cert.OutputFirstSample.τ Cert.OutputFirstSample.sig) → Buf (Elt Bits) ℓ) (g : Dev Cert.OutputFirstSample.nD → PrngReg), Pre_OutputFirstSample m →
    θ_run (Cert.OutputFirstSample.defs (F := Bits)) (onTc (τ := Cert.OutputFirstSample.τ) (Cert.OutputFirstSample.main (F := Bits))) ⟨m, fun _ => 0, g⟩ (fun r => (∀ c : Dev Cert.OutputFirstSample.nD,
      r.2.mem ((c.tc : Thread Cert.OutputFirstSample.nD Cert.OutputFirstSample.τ).loc Cert.OutputFirstSample.main_arg0) = m ((c.tc : Thread Cert.OutputFirstSample.nD Cert.OutputFirstSample.τ).loc Cert.OutputFirstSample.main_arg0)
      ∧ r.2.mem ((c.tc : Thread Cert.OutputFirstSample.nD Cert.OutputFirstSample.τ).loc Cert.OutputFirstSample.main_arg1) = m ((c.tc : Thread Cert.OutputFirstSample.nD Cert.OutputFirstSample.τ).loc Cert.OutputFirstSample.main_arg1)
      ∧ r.2.mem ((c.tc : Thread Cert.OutputFirstSample.nD Cert.OutputFirstSample.τ).loc Cert.OutputFirstSample.main_arg2) = m ((c.tc : Thread Cert.OutputFirstSample.nD Cert.OutputFirstSample.τ).loc Cert.OutputFirstSample.main_arg2)
      ∧ r.2.mem ((c.tc : Thread Cert.OutputFirstSample.nD Cert.OutputFirstSample.τ).loc Cert.OutputFirstSample.main_arg3) = m ((c.tc : Thread Cert.OutputFirstSample.nD Cert.OutputFirstSample.τ).loc Cert.OutputFirstSample.main_arg3)
      ∧ r.2.mem ((c.tc : Thread Cert.OutputFirstSample.nD Cert.OutputFirstSample.τ).loc Cert.OutputFirstSample.main_arg4) = m ((c.tc : Thread Cert.OutputFirstSample.nD Cert.OutputFirstSample.τ).loc Cert.OutputFirstSample.main_arg4)
      ∧ r.2.mem ((c.tc : Thread Cert.OutputFirstSample.nD Cert.OutputFirstSample.τ).loc Cert.OutputFirstSample.main_arg5) = m ((c.tc : Thread Cert.OutputFirstSample.nD Cert.OutputFirstSample.τ).loc Cert.OutputFirstSample.main_arg5)
      ∧ r.2.mem ((c.tc : Thread Cert.OutputFirstSample.nD Cert.OutputFirstSample.τ).loc Cert.OutputFirstSample.main_arg6) = m ((c.tc : Thread Cert.OutputFirstSample.nD Cert.OutputFirstSample.τ).loc Cert.OutputFirstSample.main_arg6)
      ∧ r.2.mem ((c.tc : Thread Cert.OutputFirstSample.nD Cert.OutputFirstSample.τ).loc Cert.OutputFirstSample.main_arg7) = m ((c.tc : Thread Cert.OutputFirstSample.nD Cert.OutputFirstSample.τ).loc Cert.OutputFirstSample.main_arg7))
      ∧ r.2.sem = fun _ => 0)

def quiescent_OutputFirstSampleIdeal [hOutputFirstSampleIdeal : Cert.OutputFirstSampleIdeal.Facts] : Prop :=
  ∀ (m : (ℓ : Loc Cert.OutputFirstSampleIdeal.nD Cert.OutputFirstSampleIdeal.τ Cert.OutputFirstSampleIdeal.sig) → Buf (Elt Ideal) ℓ) (g : Dev Cert.OutputFirstSampleIdeal.nD → PrngReg), Pre_OutputFirstSampleIdeal m →
    θ_run (Cert.OutputFirstSampleIdeal.defs (F := Ideal)) (onTc (τ := Cert.OutputFirstSampleIdeal.τ) (Cert.OutputFirstSampleIdeal.main (F := Ideal))) ⟨m, fun _ => 0, g⟩ (fun r => (∀ c : Dev Cert.OutputFirstSampleIdeal.nD,
      r.2.mem ((c.tc : Thread Cert.OutputFirstSampleIdeal.nD Cert.OutputFirstSampleIdeal.τ).loc Cert.OutputFirstSampleIdeal.main_arg0) = m ((c.tc : Thread Cert.OutputFirstSampleIdeal.nD Cert.OutputFirstSampleIdeal.τ).loc Cert.OutputFirstSampleIdeal.main_arg0)
      ∧ r.2.mem ((c.tc : Thread Cert.OutputFirstSampleIdeal.nD Cert.OutputFirstSampleIdeal.τ).loc Cert.OutputFirstSampleIdeal.main_arg1) = m ((c.tc : Thread Cert.OutputFirstSampleIdeal.nD Cert.OutputFirstSampleIdeal.τ).loc Cert.OutputFirstSampleIdeal.main_arg1)
      ∧ r.2.mem ((c.tc : Thread Cert.OutputFirstSampleIdeal.nD Cert.OutputFirstSampleIdeal.τ).loc Cert.OutputFirstSampleIdeal.main_arg2) = m ((c.tc : Thread Cert.OutputFirstSampleIdeal.nD Cert.OutputFirstSampleIdeal.τ).loc Cert.OutputFirstSampleIdeal.main_arg2)
      ∧ r.2.mem ((c.tc : Thread Cert.OutputFirstSampleIdeal.nD Cert.OutputFirstSampleIdeal.τ).loc Cert.OutputFirstSampleIdeal.main_arg3) = m ((c.tc : Thread Cert.OutputFirstSampleIdeal.nD Cert.OutputFirstSampleIdeal.τ).loc Cert.OutputFirstSampleIdeal.main_arg3)
      ∧ r.2.mem ((c.tc : Thread Cert.OutputFirstSampleIdeal.nD Cert.OutputFirstSampleIdeal.τ).loc Cert.OutputFirstSampleIdeal.main_arg4) = m ((c.tc : Thread Cert.OutputFirstSampleIdeal.nD Cert.OutputFirstSampleIdeal.τ).loc Cert.OutputFirstSampleIdeal.main_arg4)
      ∧ r.2.mem ((c.tc : Thread Cert.OutputFirstSampleIdeal.nD Cert.OutputFirstSampleIdeal.τ).loc Cert.OutputFirstSampleIdeal.main_arg5) = m ((c.tc : Thread Cert.OutputFirstSampleIdeal.nD Cert.OutputFirstSampleIdeal.τ).loc Cert.OutputFirstSampleIdeal.main_arg5)
      ∧ r.2.mem ((c.tc : Thread Cert.OutputFirstSampleIdeal.nD Cert.OutputFirstSampleIdeal.τ).loc Cert.OutputFirstSampleIdeal.main_arg6) = m ((c.tc : Thread Cert.OutputFirstSampleIdeal.nD Cert.OutputFirstSampleIdeal.τ).loc Cert.OutputFirstSampleIdeal.main_arg6)
      ∧ r.2.mem ((c.tc : Thread Cert.OutputFirstSampleIdeal.nD Cert.OutputFirstSampleIdeal.τ).loc Cert.OutputFirstSampleIdeal.main_arg7) = m ((c.tc : Thread Cert.OutputFirstSampleIdeal.nD Cert.OutputFirstSampleIdeal.τ).loc Cert.OutputFirstSampleIdeal.main_arg7))
      ∧ r.2.sem = fun _ => 0)

def quiescent_OutputFirstSampleReferenceIdeal [hOutputFirstSampleReferenceIdeal : Cert.OutputFirstSampleReferenceIdeal.Facts] : Prop :=
  ∀ (m : (ℓ : Loc Cert.OutputFirstSampleReferenceIdeal.nD Cert.OutputFirstSampleReferenceIdeal.τ Cert.OutputFirstSampleReferenceIdeal.sig) → Buf (Elt Ideal) ℓ) (g : Dev Cert.OutputFirstSampleReferenceIdeal.nD → PrngReg), Pre_OutputFirstSampleReferenceIdeal m →
    θ_run (Cert.OutputFirstSampleReferenceIdeal.defs (F := Ideal)) (onTc (τ := Cert.OutputFirstSampleReferenceIdeal.τ) (Cert.OutputFirstSampleReferenceIdeal.main (F := Ideal))) ⟨m, fun _ => 0, g⟩ (fun r => (∀ c : Dev Cert.OutputFirstSampleReferenceIdeal.nD,
      r.2.mem ((c.tc : Thread Cert.OutputFirstSampleReferenceIdeal.nD Cert.OutputFirstSampleReferenceIdeal.τ).loc Cert.OutputFirstSampleReferenceIdeal.main_arg0) = m ((c.tc : Thread Cert.OutputFirstSampleReferenceIdeal.nD Cert.OutputFirstSampleReferenceIdeal.τ).loc Cert.OutputFirstSampleReferenceIdeal.main_arg0)
      ∧ r.2.mem ((c.tc : Thread Cert.OutputFirstSampleReferenceIdeal.nD Cert.OutputFirstSampleReferenceIdeal.τ).loc Cert.OutputFirstSampleReferenceIdeal.main_arg1) = m ((c.tc : Thread Cert.OutputFirstSampleReferenceIdeal.nD Cert.OutputFirstSampleReferenceIdeal.τ).loc Cert.OutputFirstSampleReferenceIdeal.main_arg1)
      ∧ r.2.mem ((c.tc : Thread Cert.OutputFirstSampleReferenceIdeal.nD Cert.OutputFirstSampleReferenceIdeal.τ).loc Cert.OutputFirstSampleReferenceIdeal.main_arg2) = m ((c.tc : Thread Cert.OutputFirstSampleReferenceIdeal.nD Cert.OutputFirstSampleReferenceIdeal.τ).loc Cert.OutputFirstSampleReferenceIdeal.main_arg2)
      ∧ r.2.mem ((c.tc : Thread Cert.OutputFirstSampleReferenceIdeal.nD Cert.OutputFirstSampleReferenceIdeal.τ).loc Cert.OutputFirstSampleReferenceIdeal.main_arg3) = m ((c.tc : Thread Cert.OutputFirstSampleReferenceIdeal.nD Cert.OutputFirstSampleReferenceIdeal.τ).loc Cert.OutputFirstSampleReferenceIdeal.main_arg3)
      ∧ r.2.mem ((c.tc : Thread Cert.OutputFirstSampleReferenceIdeal.nD Cert.OutputFirstSampleReferenceIdeal.τ).loc Cert.OutputFirstSampleReferenceIdeal.main_arg4) = m ((c.tc : Thread Cert.OutputFirstSampleReferenceIdeal.nD Cert.OutputFirstSampleReferenceIdeal.τ).loc Cert.OutputFirstSampleReferenceIdeal.main_arg4)
      ∧ r.2.mem ((c.tc : Thread Cert.OutputFirstSampleReferenceIdeal.nD Cert.OutputFirstSampleReferenceIdeal.τ).loc Cert.OutputFirstSampleReferenceIdeal.main_arg5) = m ((c.tc : Thread Cert.OutputFirstSampleReferenceIdeal.nD Cert.OutputFirstSampleReferenceIdeal.τ).loc Cert.OutputFirstSampleReferenceIdeal.main_arg5)
      ∧ r.2.mem ((c.tc : Thread Cert.OutputFirstSampleReferenceIdeal.nD Cert.OutputFirstSampleReferenceIdeal.τ).loc Cert.OutputFirstSampleReferenceIdeal.main_arg6) = m ((c.tc : Thread Cert.OutputFirstSampleReferenceIdeal.nD Cert.OutputFirstSampleReferenceIdeal.τ).loc Cert.OutputFirstSampleReferenceIdeal.main_arg6)
      ∧ r.2.mem ((c.tc : Thread Cert.OutputFirstSampleReferenceIdeal.nD Cert.OutputFirstSampleReferenceIdeal.τ).loc Cert.OutputFirstSampleReferenceIdeal.main_arg7) = m ((c.tc : Thread Cert.OutputFirstSampleReferenceIdeal.nD Cert.OutputFirstSampleReferenceIdeal.τ).loc Cert.OutputFirstSampleReferenceIdeal.main_arg7))
      ∧ r.2.sem = fun _ => 0)

def quiescent_OutputNextSample [hOutputNextSample : Cert.OutputNextSample.Facts] : Prop :=
  ∀ (m : (ℓ : Loc Cert.OutputNextSample.nD Cert.OutputNextSample.τ Cert.OutputNextSample.sig) → Buf (Elt Bits) ℓ) (g : Dev Cert.OutputNextSample.nD → PrngReg), Pre_OutputNextSample m →
    θ_run (Cert.OutputNextSample.defs (F := Bits)) (onTc (τ := Cert.OutputNextSample.τ) (Cert.OutputNextSample.main (F := Bits))) ⟨m, fun _ => 0, g⟩ (fun r => (∀ c : Dev Cert.OutputNextSample.nD,
      r.2.mem ((c.tc : Thread Cert.OutputNextSample.nD Cert.OutputNextSample.τ).loc Cert.OutputNextSample.main_arg0) = m ((c.tc : Thread Cert.OutputNextSample.nD Cert.OutputNextSample.τ).loc Cert.OutputNextSample.main_arg0)
      ∧ r.2.mem ((c.tc : Thread Cert.OutputNextSample.nD Cert.OutputNextSample.τ).loc Cert.OutputNextSample.main_arg1) = m ((c.tc : Thread Cert.OutputNextSample.nD Cert.OutputNextSample.τ).loc Cert.OutputNextSample.main_arg1)
      ∧ r.2.mem ((c.tc : Thread Cert.OutputNextSample.nD Cert.OutputNextSample.τ).loc Cert.OutputNextSample.main_arg2) = m ((c.tc : Thread Cert.OutputNextSample.nD Cert.OutputNextSample.τ).loc Cert.OutputNextSample.main_arg2)
      ∧ r.2.mem ((c.tc : Thread Cert.OutputNextSample.nD Cert.OutputNextSample.τ).loc Cert.OutputNextSample.main_arg3) = m ((c.tc : Thread Cert.OutputNextSample.nD Cert.OutputNextSample.τ).loc Cert.OutputNextSample.main_arg3)
      ∧ r.2.mem ((c.tc : Thread Cert.OutputNextSample.nD Cert.OutputNextSample.τ).loc Cert.OutputNextSample.main_arg4) = m ((c.tc : Thread Cert.OutputNextSample.nD Cert.OutputNextSample.τ).loc Cert.OutputNextSample.main_arg4)
      ∧ r.2.mem ((c.tc : Thread Cert.OutputNextSample.nD Cert.OutputNextSample.τ).loc Cert.OutputNextSample.main_arg5) = m ((c.tc : Thread Cert.OutputNextSample.nD Cert.OutputNextSample.τ).loc Cert.OutputNextSample.main_arg5)
      ∧ r.2.mem ((c.tc : Thread Cert.OutputNextSample.nD Cert.OutputNextSample.τ).loc Cert.OutputNextSample.main_arg6) = m ((c.tc : Thread Cert.OutputNextSample.nD Cert.OutputNextSample.τ).loc Cert.OutputNextSample.main_arg6)
      ∧ r.2.mem ((c.tc : Thread Cert.OutputNextSample.nD Cert.OutputNextSample.τ).loc Cert.OutputNextSample.main_arg7) = m ((c.tc : Thread Cert.OutputNextSample.nD Cert.OutputNextSample.τ).loc Cert.OutputNextSample.main_arg7))
      ∧ r.2.sem = fun _ => 0)

def quiescent_OutputNextSampleIdeal [hOutputNextSampleIdeal : Cert.OutputNextSampleIdeal.Facts] : Prop :=
  ∀ (m : (ℓ : Loc Cert.OutputNextSampleIdeal.nD Cert.OutputNextSampleIdeal.τ Cert.OutputNextSampleIdeal.sig) → Buf (Elt Ideal) ℓ) (g : Dev Cert.OutputNextSampleIdeal.nD → PrngReg), Pre_OutputNextSampleIdeal m →
    θ_run (Cert.OutputNextSampleIdeal.defs (F := Ideal)) (onTc (τ := Cert.OutputNextSampleIdeal.τ) (Cert.OutputNextSampleIdeal.main (F := Ideal))) ⟨m, fun _ => 0, g⟩ (fun r => (∀ c : Dev Cert.OutputNextSampleIdeal.nD,
      r.2.mem ((c.tc : Thread Cert.OutputNextSampleIdeal.nD Cert.OutputNextSampleIdeal.τ).loc Cert.OutputNextSampleIdeal.main_arg0) = m ((c.tc : Thread Cert.OutputNextSampleIdeal.nD Cert.OutputNextSampleIdeal.τ).loc Cert.OutputNextSampleIdeal.main_arg0)
      ∧ r.2.mem ((c.tc : Thread Cert.OutputNextSampleIdeal.nD Cert.OutputNextSampleIdeal.τ).loc Cert.OutputNextSampleIdeal.main_arg1) = m ((c.tc : Thread Cert.OutputNextSampleIdeal.nD Cert.OutputNextSampleIdeal.τ).loc Cert.OutputNextSampleIdeal.main_arg1)
      ∧ r.2.mem ((c.tc : Thread Cert.OutputNextSampleIdeal.nD Cert.OutputNextSampleIdeal.τ).loc Cert.OutputNextSampleIdeal.main_arg2) = m ((c.tc : Thread Cert.OutputNextSampleIdeal.nD Cert.OutputNextSampleIdeal.τ).loc Cert.OutputNextSampleIdeal.main_arg2)
      ∧ r.2.mem ((c.tc : Thread Cert.OutputNextSampleIdeal.nD Cert.OutputNextSampleIdeal.τ).loc Cert.OutputNextSampleIdeal.main_arg3) = m ((c.tc : Thread Cert.OutputNextSampleIdeal.nD Cert.OutputNextSampleIdeal.τ).loc Cert.OutputNextSampleIdeal.main_arg3)
      ∧ r.2.mem ((c.tc : Thread Cert.OutputNextSampleIdeal.nD Cert.OutputNextSampleIdeal.τ).loc Cert.OutputNextSampleIdeal.main_arg4) = m ((c.tc : Thread Cert.OutputNextSampleIdeal.nD Cert.OutputNextSampleIdeal.τ).loc Cert.OutputNextSampleIdeal.main_arg4)
      ∧ r.2.mem ((c.tc : Thread Cert.OutputNextSampleIdeal.nD Cert.OutputNextSampleIdeal.τ).loc Cert.OutputNextSampleIdeal.main_arg5) = m ((c.tc : Thread Cert.OutputNextSampleIdeal.nD Cert.OutputNextSampleIdeal.τ).loc Cert.OutputNextSampleIdeal.main_arg5)
      ∧ r.2.mem ((c.tc : Thread Cert.OutputNextSampleIdeal.nD Cert.OutputNextSampleIdeal.τ).loc Cert.OutputNextSampleIdeal.main_arg6) = m ((c.tc : Thread Cert.OutputNextSampleIdeal.nD Cert.OutputNextSampleIdeal.τ).loc Cert.OutputNextSampleIdeal.main_arg6)
      ∧ r.2.mem ((c.tc : Thread Cert.OutputNextSampleIdeal.nD Cert.OutputNextSampleIdeal.τ).loc Cert.OutputNextSampleIdeal.main_arg7) = m ((c.tc : Thread Cert.OutputNextSampleIdeal.nD Cert.OutputNextSampleIdeal.τ).loc Cert.OutputNextSampleIdeal.main_arg7))
      ∧ r.2.sem = fun _ => 0)

def quiescent_OutputNextSampleReferenceIdeal [hOutputNextSampleReferenceIdeal : Cert.OutputNextSampleReferenceIdeal.Facts] : Prop :=
  ∀ (m : (ℓ : Loc Cert.OutputNextSampleReferenceIdeal.nD Cert.OutputNextSampleReferenceIdeal.τ Cert.OutputNextSampleReferenceIdeal.sig) → Buf (Elt Ideal) ℓ) (g : Dev Cert.OutputNextSampleReferenceIdeal.nD → PrngReg), Pre_OutputNextSampleReferenceIdeal m →
    θ_run (Cert.OutputNextSampleReferenceIdeal.defs (F := Ideal)) (onTc (τ := Cert.OutputNextSampleReferenceIdeal.τ) (Cert.OutputNextSampleReferenceIdeal.main (F := Ideal))) ⟨m, fun _ => 0, g⟩ (fun r => (∀ c : Dev Cert.OutputNextSampleReferenceIdeal.nD,
      r.2.mem ((c.tc : Thread Cert.OutputNextSampleReferenceIdeal.nD Cert.OutputNextSampleReferenceIdeal.τ).loc Cert.OutputNextSampleReferenceIdeal.main_arg0) = m ((c.tc : Thread Cert.OutputNextSampleReferenceIdeal.nD Cert.OutputNextSampleReferenceIdeal.τ).loc Cert.OutputNextSampleReferenceIdeal.main_arg0)
      ∧ r.2.mem ((c.tc : Thread Cert.OutputNextSampleReferenceIdeal.nD Cert.OutputNextSampleReferenceIdeal.τ).loc Cert.OutputNextSampleReferenceIdeal.main_arg1) = m ((c.tc : Thread Cert.OutputNextSampleReferenceIdeal.nD Cert.OutputNextSampleReferenceIdeal.τ).loc Cert.OutputNextSampleReferenceIdeal.main_arg1)
      ∧ r.2.mem ((c.tc : Thread Cert.OutputNextSampleReferenceIdeal.nD Cert.OutputNextSampleReferenceIdeal.τ).loc Cert.OutputNextSampleReferenceIdeal.main_arg2) = m ((c.tc : Thread Cert.OutputNextSampleReferenceIdeal.nD Cert.OutputNextSampleReferenceIdeal.τ).loc Cert.OutputNextSampleReferenceIdeal.main_arg2)
      ∧ r.2.mem ((c.tc : Thread Cert.OutputNextSampleReferenceIdeal.nD Cert.OutputNextSampleReferenceIdeal.τ).loc Cert.OutputNextSampleReferenceIdeal.main_arg3) = m ((c.tc : Thread Cert.OutputNextSampleReferenceIdeal.nD Cert.OutputNextSampleReferenceIdeal.τ).loc Cert.OutputNextSampleReferenceIdeal.main_arg3)
      ∧ r.2.mem ((c.tc : Thread Cert.OutputNextSampleReferenceIdeal.nD Cert.OutputNextSampleReferenceIdeal.τ).loc Cert.OutputNextSampleReferenceIdeal.main_arg4) = m ((c.tc : Thread Cert.OutputNextSampleReferenceIdeal.nD Cert.OutputNextSampleReferenceIdeal.τ).loc Cert.OutputNextSampleReferenceIdeal.main_arg4)
      ∧ r.2.mem ((c.tc : Thread Cert.OutputNextSampleReferenceIdeal.nD Cert.OutputNextSampleReferenceIdeal.τ).loc Cert.OutputNextSampleReferenceIdeal.main_arg5) = m ((c.tc : Thread Cert.OutputNextSampleReferenceIdeal.nD Cert.OutputNextSampleReferenceIdeal.τ).loc Cert.OutputNextSampleReferenceIdeal.main_arg5)
      ∧ r.2.mem ((c.tc : Thread Cert.OutputNextSampleReferenceIdeal.nD Cert.OutputNextSampleReferenceIdeal.τ).loc Cert.OutputNextSampleReferenceIdeal.main_arg6) = m ((c.tc : Thread Cert.OutputNextSampleReferenceIdeal.nD Cert.OutputNextSampleReferenceIdeal.τ).loc Cert.OutputNextSampleReferenceIdeal.main_arg6)
      ∧ r.2.mem ((c.tc : Thread Cert.OutputNextSampleReferenceIdeal.nD Cert.OutputNextSampleReferenceIdeal.τ).loc Cert.OutputNextSampleReferenceIdeal.main_arg7) = m ((c.tc : Thread Cert.OutputNextSampleReferenceIdeal.nD Cert.OutputNextSampleReferenceIdeal.τ).loc Cert.OutputNextSampleReferenceIdeal.main_arg7))
      ∧ r.2.sem = fun _ => 0)

def quiescent_ProjectGate [hProjectGate : Cert.ProjectGate.Facts] : Prop :=
  ∀ (m : (ℓ : Loc Cert.ProjectGate.nD Cert.ProjectGate.τ Cert.ProjectGate.sig) → Buf (Elt Bits) ℓ) (g : Dev Cert.ProjectGate.nD → PrngReg), Pre_ProjectGate m →
    θ_run (Cert.ProjectGate.defs (F := Bits)) (onTc (τ := Cert.ProjectGate.τ) (Cert.ProjectGate.main (F := Bits))) ⟨m, fun _ => 0, g⟩ (fun r => (∀ c : Dev Cert.ProjectGate.nD,
      r.2.mem ((c.tc : Thread Cert.ProjectGate.nD Cert.ProjectGate.τ).loc Cert.ProjectGate.main_arg0) = m ((c.tc : Thread Cert.ProjectGate.nD Cert.ProjectGate.τ).loc Cert.ProjectGate.main_arg0)
      ∧ r.2.mem ((c.tc : Thread Cert.ProjectGate.nD Cert.ProjectGate.τ).loc Cert.ProjectGate.main_arg1) = m ((c.tc : Thread Cert.ProjectGate.nD Cert.ProjectGate.τ).loc Cert.ProjectGate.main_arg1))
      ∧ r.2.sem = fun _ => 0)

def quiescent_ProjectGateIdeal [hProjectGateIdeal : Cert.ProjectGateIdeal.Facts] : Prop :=
  ∀ (m : (ℓ : Loc Cert.ProjectGateIdeal.nD Cert.ProjectGateIdeal.τ Cert.ProjectGateIdeal.sig) → Buf (Elt Ideal) ℓ) (g : Dev Cert.ProjectGateIdeal.nD → PrngReg), Pre_ProjectGateIdeal m →
    θ_run (Cert.ProjectGateIdeal.defs (F := Ideal)) (onTc (τ := Cert.ProjectGateIdeal.τ) (Cert.ProjectGateIdeal.main (F := Ideal))) ⟨m, fun _ => 0, g⟩ (fun r => (∀ c : Dev Cert.ProjectGateIdeal.nD,
      r.2.mem ((c.tc : Thread Cert.ProjectGateIdeal.nD Cert.ProjectGateIdeal.τ).loc Cert.ProjectGateIdeal.main_arg0) = m ((c.tc : Thread Cert.ProjectGateIdeal.nD Cert.ProjectGateIdeal.τ).loc Cert.ProjectGateIdeal.main_arg0)
      ∧ r.2.mem ((c.tc : Thread Cert.ProjectGateIdeal.nD Cert.ProjectGateIdeal.τ).loc Cert.ProjectGateIdeal.main_arg1) = m ((c.tc : Thread Cert.ProjectGateIdeal.nD Cert.ProjectGateIdeal.τ).loc Cert.ProjectGateIdeal.main_arg1))
      ∧ r.2.sem = fun _ => 0)

def quiescent_ProjectGateReferenceIdeal [hProjectGateReferenceIdeal : Cert.ProjectGateReferenceIdeal.Facts] : Prop :=
  ∀ (m : (ℓ : Loc Cert.ProjectGateReferenceIdeal.nD Cert.ProjectGateReferenceIdeal.τ Cert.ProjectGateReferenceIdeal.sig) → Buf (Elt Ideal) ℓ) (g : Dev Cert.ProjectGateReferenceIdeal.nD → PrngReg), Pre_ProjectGateReferenceIdeal m →
    θ_run (Cert.ProjectGateReferenceIdeal.defs (F := Ideal)) (onTc (τ := Cert.ProjectGateReferenceIdeal.τ) (Cert.ProjectGateReferenceIdeal.main (F := Ideal))) ⟨m, fun _ => 0, g⟩ (fun r => (∀ c : Dev Cert.ProjectGateReferenceIdeal.nD,
      r.2.mem ((c.tc : Thread Cert.ProjectGateReferenceIdeal.nD Cert.ProjectGateReferenceIdeal.τ).loc Cert.ProjectGateReferenceIdeal.main_arg0) = m ((c.tc : Thread Cert.ProjectGateReferenceIdeal.nD Cert.ProjectGateReferenceIdeal.τ).loc Cert.ProjectGateReferenceIdeal.main_arg0)
      ∧ r.2.mem ((c.tc : Thread Cert.ProjectGateReferenceIdeal.nD Cert.ProjectGateReferenceIdeal.τ).loc Cert.ProjectGateReferenceIdeal.main_arg1) = m ((c.tc : Thread Cert.ProjectGateReferenceIdeal.nD Cert.ProjectGateReferenceIdeal.τ).loc Cert.ProjectGateReferenceIdeal.main_arg1))
      ∧ r.2.sem = fun _ => 0)

def quiescent_ProjectStep [hProjectStep : Cert.ProjectStep.Facts] : Prop :=
  ∀ (m : (ℓ : Loc Cert.ProjectStep.nD Cert.ProjectStep.τ Cert.ProjectStep.sig) → Buf (Elt Bits) ℓ) (g : Dev Cert.ProjectStep.nD → PrngReg), Pre_ProjectStep m →
    θ_run (Cert.ProjectStep.defs (F := Bits)) (onTc (τ := Cert.ProjectStep.τ) (Cert.ProjectStep.main (F := Bits))) ⟨m, fun _ => 0, g⟩ (fun r => (∀ c : Dev Cert.ProjectStep.nD,
      r.2.mem ((c.tc : Thread Cert.ProjectStep.nD Cert.ProjectStep.τ).loc Cert.ProjectStep.main_arg0) = m ((c.tc : Thread Cert.ProjectStep.nD Cert.ProjectStep.τ).loc Cert.ProjectStep.main_arg0)
      ∧ r.2.mem ((c.tc : Thread Cert.ProjectStep.nD Cert.ProjectStep.τ).loc Cert.ProjectStep.main_arg1) = m ((c.tc : Thread Cert.ProjectStep.nD Cert.ProjectStep.τ).loc Cert.ProjectStep.main_arg1))
      ∧ r.2.sem = fun _ => 0)

def quiescent_ProjectStepIdeal [hProjectStepIdeal : Cert.ProjectStepIdeal.Facts] : Prop :=
  ∀ (m : (ℓ : Loc Cert.ProjectStepIdeal.nD Cert.ProjectStepIdeal.τ Cert.ProjectStepIdeal.sig) → Buf (Elt Ideal) ℓ) (g : Dev Cert.ProjectStepIdeal.nD → PrngReg), Pre_ProjectStepIdeal m →
    θ_run (Cert.ProjectStepIdeal.defs (F := Ideal)) (onTc (τ := Cert.ProjectStepIdeal.τ) (Cert.ProjectStepIdeal.main (F := Ideal))) ⟨m, fun _ => 0, g⟩ (fun r => (∀ c : Dev Cert.ProjectStepIdeal.nD,
      r.2.mem ((c.tc : Thread Cert.ProjectStepIdeal.nD Cert.ProjectStepIdeal.τ).loc Cert.ProjectStepIdeal.main_arg0) = m ((c.tc : Thread Cert.ProjectStepIdeal.nD Cert.ProjectStepIdeal.τ).loc Cert.ProjectStepIdeal.main_arg0)
      ∧ r.2.mem ((c.tc : Thread Cert.ProjectStepIdeal.nD Cert.ProjectStepIdeal.τ).loc Cert.ProjectStepIdeal.main_arg1) = m ((c.tc : Thread Cert.ProjectStepIdeal.nD Cert.ProjectStepIdeal.τ).loc Cert.ProjectStepIdeal.main_arg1))
      ∧ r.2.sem = fun _ => 0)

def quiescent_ProjectStepReferenceIdeal [hProjectStepReferenceIdeal : Cert.ProjectStepReferenceIdeal.Facts] : Prop :=
  ∀ (m : (ℓ : Loc Cert.ProjectStepReferenceIdeal.nD Cert.ProjectStepReferenceIdeal.τ Cert.ProjectStepReferenceIdeal.sig) → Buf (Elt Ideal) ℓ) (g : Dev Cert.ProjectStepReferenceIdeal.nD → PrngReg), Pre_ProjectStepReferenceIdeal m →
    θ_run (Cert.ProjectStepReferenceIdeal.defs (F := Ideal)) (onTc (τ := Cert.ProjectStepReferenceIdeal.τ) (Cert.ProjectStepReferenceIdeal.main (F := Ideal))) ⟨m, fun _ => 0, g⟩ (fun r => (∀ c : Dev Cert.ProjectStepReferenceIdeal.nD,
      r.2.mem ((c.tc : Thread Cert.ProjectStepReferenceIdeal.nD Cert.ProjectStepReferenceIdeal.τ).loc Cert.ProjectStepReferenceIdeal.main_arg0) = m ((c.tc : Thread Cert.ProjectStepReferenceIdeal.nD Cert.ProjectStepReferenceIdeal.τ).loc Cert.ProjectStepReferenceIdeal.main_arg0)
      ∧ r.2.mem ((c.tc : Thread Cert.ProjectStepReferenceIdeal.nD Cert.ProjectStepReferenceIdeal.τ).loc Cert.ProjectStepReferenceIdeal.main_arg1) = m ((c.tc : Thread Cert.ProjectStepReferenceIdeal.nD Cert.ProjectStepReferenceIdeal.τ).loc Cert.ProjectStepReferenceIdeal.main_arg1))
      ∧ r.2.sem = fun _ => 0)

def quiescent_ProjectWideSample [hProjectWideSample : Cert.ProjectWideSample.Facts] : Prop :=
  ∀ (m : (ℓ : Loc Cert.ProjectWideSample.nD Cert.ProjectWideSample.τ Cert.ProjectWideSample.sig) → Buf (Elt Bits) ℓ) (g : Dev Cert.ProjectWideSample.nD → PrngReg), Pre_ProjectWideSample m →
    θ_run (Cert.ProjectWideSample.defs (F := Bits)) (onTc (τ := Cert.ProjectWideSample.τ) (Cert.ProjectWideSample.main (F := Bits))) ⟨m, fun _ => 0, g⟩ (fun r => (∀ c : Dev Cert.ProjectWideSample.nD,
      r.2.mem ((c.tc : Thread Cert.ProjectWideSample.nD Cert.ProjectWideSample.τ).loc Cert.ProjectWideSample.main_arg0) = m ((c.tc : Thread Cert.ProjectWideSample.nD Cert.ProjectWideSample.τ).loc Cert.ProjectWideSample.main_arg0)
      ∧ r.2.mem ((c.tc : Thread Cert.ProjectWideSample.nD Cert.ProjectWideSample.τ).loc Cert.ProjectWideSample.main_arg1) = m ((c.tc : Thread Cert.ProjectWideSample.nD Cert.ProjectWideSample.τ).loc Cert.ProjectWideSample.main_arg1))
      ∧ r.2.sem = fun _ => 0)

def quiescent_ProjectWideSampleIdeal [hProjectWideSampleIdeal : Cert.ProjectWideSampleIdeal.Facts] : Prop :=
  ∀ (m : (ℓ : Loc Cert.ProjectWideSampleIdeal.nD Cert.ProjectWideSampleIdeal.τ Cert.ProjectWideSampleIdeal.sig) → Buf (Elt Ideal) ℓ) (g : Dev Cert.ProjectWideSampleIdeal.nD → PrngReg), Pre_ProjectWideSampleIdeal m →
    θ_run (Cert.ProjectWideSampleIdeal.defs (F := Ideal)) (onTc (τ := Cert.ProjectWideSampleIdeal.τ) (Cert.ProjectWideSampleIdeal.main (F := Ideal))) ⟨m, fun _ => 0, g⟩ (fun r => (∀ c : Dev Cert.ProjectWideSampleIdeal.nD,
      r.2.mem ((c.tc : Thread Cert.ProjectWideSampleIdeal.nD Cert.ProjectWideSampleIdeal.τ).loc Cert.ProjectWideSampleIdeal.main_arg0) = m ((c.tc : Thread Cert.ProjectWideSampleIdeal.nD Cert.ProjectWideSampleIdeal.τ).loc Cert.ProjectWideSampleIdeal.main_arg0)
      ∧ r.2.mem ((c.tc : Thread Cert.ProjectWideSampleIdeal.nD Cert.ProjectWideSampleIdeal.τ).loc Cert.ProjectWideSampleIdeal.main_arg1) = m ((c.tc : Thread Cert.ProjectWideSampleIdeal.nD Cert.ProjectWideSampleIdeal.τ).loc Cert.ProjectWideSampleIdeal.main_arg1))
      ∧ r.2.sem = fun _ => 0)

def quiescent_ProjectWideSampleReferenceIdeal [hProjectWideSampleReferenceIdeal : Cert.ProjectWideSampleReferenceIdeal.Facts] : Prop :=
  ∀ (m : (ℓ : Loc Cert.ProjectWideSampleReferenceIdeal.nD Cert.ProjectWideSampleReferenceIdeal.τ Cert.ProjectWideSampleReferenceIdeal.sig) → Buf (Elt Ideal) ℓ) (g : Dev Cert.ProjectWideSampleReferenceIdeal.nD → PrngReg), Pre_ProjectWideSampleReferenceIdeal m →
    θ_run (Cert.ProjectWideSampleReferenceIdeal.defs (F := Ideal)) (onTc (τ := Cert.ProjectWideSampleReferenceIdeal.τ) (Cert.ProjectWideSampleReferenceIdeal.main (F := Ideal))) ⟨m, fun _ => 0, g⟩ (fun r => (∀ c : Dev Cert.ProjectWideSampleReferenceIdeal.nD,
      r.2.mem ((c.tc : Thread Cert.ProjectWideSampleReferenceIdeal.nD Cert.ProjectWideSampleReferenceIdeal.τ).loc Cert.ProjectWideSampleReferenceIdeal.main_arg0) = m ((c.tc : Thread Cert.ProjectWideSampleReferenceIdeal.nD Cert.ProjectWideSampleReferenceIdeal.τ).loc Cert.ProjectWideSampleReferenceIdeal.main_arg0)
      ∧ r.2.mem ((c.tc : Thread Cert.ProjectWideSampleReferenceIdeal.nD Cert.ProjectWideSampleReferenceIdeal.τ).loc Cert.ProjectWideSampleReferenceIdeal.main_arg1) = m ((c.tc : Thread Cert.ProjectWideSampleReferenceIdeal.nD Cert.ProjectWideSampleReferenceIdeal.τ).loc Cert.ProjectWideSampleReferenceIdeal.main_arg1))
      ∧ r.2.sem = fun _ => 0)

def quiescent_ProjectGateSample [hProjectGateSample : Cert.ProjectGateSample.Facts] : Prop :=
  ∀ (m : (ℓ : Loc Cert.ProjectGateSample.nD Cert.ProjectGateSample.τ Cert.ProjectGateSample.sig) → Buf (Elt Bits) ℓ) (g : Dev Cert.ProjectGateSample.nD → PrngReg), Pre_ProjectGateSample m →
    θ_run (Cert.ProjectGateSample.defs (F := Bits)) (onTc (τ := Cert.ProjectGateSample.τ) (Cert.ProjectGateSample.main (F := Bits))) ⟨m, fun _ => 0, g⟩ (fun r => (∀ c : Dev Cert.ProjectGateSample.nD,
      r.2.mem ((c.tc : Thread Cert.ProjectGateSample.nD Cert.ProjectGateSample.τ).loc Cert.ProjectGateSample.main_arg0) = m ((c.tc : Thread Cert.ProjectGateSample.nD Cert.ProjectGateSample.τ).loc Cert.ProjectGateSample.main_arg0)
      ∧ r.2.mem ((c.tc : Thread Cert.ProjectGateSample.nD Cert.ProjectGateSample.τ).loc Cert.ProjectGateSample.main_arg1) = m ((c.tc : Thread Cert.ProjectGateSample.nD Cert.ProjectGateSample.τ).loc Cert.ProjectGateSample.main_arg1))
      ∧ r.2.sem = fun _ => 0)

def quiescent_ProjectGateSampleIdeal [hProjectGateSampleIdeal : Cert.ProjectGateSampleIdeal.Facts] : Prop :=
  ∀ (m : (ℓ : Loc Cert.ProjectGateSampleIdeal.nD Cert.ProjectGateSampleIdeal.τ Cert.ProjectGateSampleIdeal.sig) → Buf (Elt Ideal) ℓ) (g : Dev Cert.ProjectGateSampleIdeal.nD → PrngReg), Pre_ProjectGateSampleIdeal m →
    θ_run (Cert.ProjectGateSampleIdeal.defs (F := Ideal)) (onTc (τ := Cert.ProjectGateSampleIdeal.τ) (Cert.ProjectGateSampleIdeal.main (F := Ideal))) ⟨m, fun _ => 0, g⟩ (fun r => (∀ c : Dev Cert.ProjectGateSampleIdeal.nD,
      r.2.mem ((c.tc : Thread Cert.ProjectGateSampleIdeal.nD Cert.ProjectGateSampleIdeal.τ).loc Cert.ProjectGateSampleIdeal.main_arg0) = m ((c.tc : Thread Cert.ProjectGateSampleIdeal.nD Cert.ProjectGateSampleIdeal.τ).loc Cert.ProjectGateSampleIdeal.main_arg0)
      ∧ r.2.mem ((c.tc : Thread Cert.ProjectGateSampleIdeal.nD Cert.ProjectGateSampleIdeal.τ).loc Cert.ProjectGateSampleIdeal.main_arg1) = m ((c.tc : Thread Cert.ProjectGateSampleIdeal.nD Cert.ProjectGateSampleIdeal.τ).loc Cert.ProjectGateSampleIdeal.main_arg1))
      ∧ r.2.sem = fun _ => 0)

def quiescent_ProjectGateSampleReferenceIdeal [hProjectGateSampleReferenceIdeal : Cert.ProjectGateSampleReferenceIdeal.Facts] : Prop :=
  ∀ (m : (ℓ : Loc Cert.ProjectGateSampleReferenceIdeal.nD Cert.ProjectGateSampleReferenceIdeal.τ Cert.ProjectGateSampleReferenceIdeal.sig) → Buf (Elt Ideal) ℓ) (g : Dev Cert.ProjectGateSampleReferenceIdeal.nD → PrngReg), Pre_ProjectGateSampleReferenceIdeal m →
    θ_run (Cert.ProjectGateSampleReferenceIdeal.defs (F := Ideal)) (onTc (τ := Cert.ProjectGateSampleReferenceIdeal.τ) (Cert.ProjectGateSampleReferenceIdeal.main (F := Ideal))) ⟨m, fun _ => 0, g⟩ (fun r => (∀ c : Dev Cert.ProjectGateSampleReferenceIdeal.nD,
      r.2.mem ((c.tc : Thread Cert.ProjectGateSampleReferenceIdeal.nD Cert.ProjectGateSampleReferenceIdeal.τ).loc Cert.ProjectGateSampleReferenceIdeal.main_arg0) = m ((c.tc : Thread Cert.ProjectGateSampleReferenceIdeal.nD Cert.ProjectGateSampleReferenceIdeal.τ).loc Cert.ProjectGateSampleReferenceIdeal.main_arg0)
      ∧ r.2.mem ((c.tc : Thread Cert.ProjectGateSampleReferenceIdeal.nD Cert.ProjectGateSampleReferenceIdeal.τ).loc Cert.ProjectGateSampleReferenceIdeal.main_arg1) = m ((c.tc : Thread Cert.ProjectGateSampleReferenceIdeal.nD Cert.ProjectGateSampleReferenceIdeal.τ).loc Cert.ProjectGateSampleReferenceIdeal.main_arg1))
      ∧ r.2.sem = fun _ => 0)

def quiescent_ProjectStepSample [hProjectStepSample : Cert.ProjectStepSample.Facts] : Prop :=
  ∀ (m : (ℓ : Loc Cert.ProjectStepSample.nD Cert.ProjectStepSample.τ Cert.ProjectStepSample.sig) → Buf (Elt Bits) ℓ) (g : Dev Cert.ProjectStepSample.nD → PrngReg), Pre_ProjectStepSample m →
    θ_run (Cert.ProjectStepSample.defs (F := Bits)) (onTc (τ := Cert.ProjectStepSample.τ) (Cert.ProjectStepSample.main (F := Bits))) ⟨m, fun _ => 0, g⟩ (fun r => (∀ c : Dev Cert.ProjectStepSample.nD,
      r.2.mem ((c.tc : Thread Cert.ProjectStepSample.nD Cert.ProjectStepSample.τ).loc Cert.ProjectStepSample.main_arg0) = m ((c.tc : Thread Cert.ProjectStepSample.nD Cert.ProjectStepSample.τ).loc Cert.ProjectStepSample.main_arg0)
      ∧ r.2.mem ((c.tc : Thread Cert.ProjectStepSample.nD Cert.ProjectStepSample.τ).loc Cert.ProjectStepSample.main_arg1) = m ((c.tc : Thread Cert.ProjectStepSample.nD Cert.ProjectStepSample.τ).loc Cert.ProjectStepSample.main_arg1))
      ∧ r.2.sem = fun _ => 0)

def quiescent_ProjectStepSampleIdeal [hProjectStepSampleIdeal : Cert.ProjectStepSampleIdeal.Facts] : Prop :=
  ∀ (m : (ℓ : Loc Cert.ProjectStepSampleIdeal.nD Cert.ProjectStepSampleIdeal.τ Cert.ProjectStepSampleIdeal.sig) → Buf (Elt Ideal) ℓ) (g : Dev Cert.ProjectStepSampleIdeal.nD → PrngReg), Pre_ProjectStepSampleIdeal m →
    θ_run (Cert.ProjectStepSampleIdeal.defs (F := Ideal)) (onTc (τ := Cert.ProjectStepSampleIdeal.τ) (Cert.ProjectStepSampleIdeal.main (F := Ideal))) ⟨m, fun _ => 0, g⟩ (fun r => (∀ c : Dev Cert.ProjectStepSampleIdeal.nD,
      r.2.mem ((c.tc : Thread Cert.ProjectStepSampleIdeal.nD Cert.ProjectStepSampleIdeal.τ).loc Cert.ProjectStepSampleIdeal.main_arg0) = m ((c.tc : Thread Cert.ProjectStepSampleIdeal.nD Cert.ProjectStepSampleIdeal.τ).loc Cert.ProjectStepSampleIdeal.main_arg0)
      ∧ r.2.mem ((c.tc : Thread Cert.ProjectStepSampleIdeal.nD Cert.ProjectStepSampleIdeal.τ).loc Cert.ProjectStepSampleIdeal.main_arg1) = m ((c.tc : Thread Cert.ProjectStepSampleIdeal.nD Cert.ProjectStepSampleIdeal.τ).loc Cert.ProjectStepSampleIdeal.main_arg1))
      ∧ r.2.sem = fun _ => 0)

def quiescent_ProjectStepSampleReferenceIdeal [hProjectStepSampleReferenceIdeal : Cert.ProjectStepSampleReferenceIdeal.Facts] : Prop :=
  ∀ (m : (ℓ : Loc Cert.ProjectStepSampleReferenceIdeal.nD Cert.ProjectStepSampleReferenceIdeal.τ Cert.ProjectStepSampleReferenceIdeal.sig) → Buf (Elt Ideal) ℓ) (g : Dev Cert.ProjectStepSampleReferenceIdeal.nD → PrngReg), Pre_ProjectStepSampleReferenceIdeal m →
    θ_run (Cert.ProjectStepSampleReferenceIdeal.defs (F := Ideal)) (onTc (τ := Cert.ProjectStepSampleReferenceIdeal.τ) (Cert.ProjectStepSampleReferenceIdeal.main (F := Ideal))) ⟨m, fun _ => 0, g⟩ (fun r => (∀ c : Dev Cert.ProjectStepSampleReferenceIdeal.nD,
      r.2.mem ((c.tc : Thread Cert.ProjectStepSampleReferenceIdeal.nD Cert.ProjectStepSampleReferenceIdeal.τ).loc Cert.ProjectStepSampleReferenceIdeal.main_arg0) = m ((c.tc : Thread Cert.ProjectStepSampleReferenceIdeal.nD Cert.ProjectStepSampleReferenceIdeal.τ).loc Cert.ProjectStepSampleReferenceIdeal.main_arg0)
      ∧ r.2.mem ((c.tc : Thread Cert.ProjectStepSampleReferenceIdeal.nD Cert.ProjectStepSampleReferenceIdeal.τ).loc Cert.ProjectStepSampleReferenceIdeal.main_arg1) = m ((c.tc : Thread Cert.ProjectStepSampleReferenceIdeal.nD Cert.ProjectStepSampleReferenceIdeal.τ).loc Cert.ProjectStepSampleReferenceIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleReferenceIdeal [hNormSampleReferenceIdeal : Cert.NormSampleReferenceIdeal.Facts] : Prop :=
  ∀ (m : (ℓ : Loc Cert.NormSampleReferenceIdeal.nD Cert.NormSampleReferenceIdeal.τ Cert.NormSampleReferenceIdeal.sig) → Buf (Elt Ideal) ℓ) (g : Dev Cert.NormSampleReferenceIdeal.nD → PrngReg), Pre_NormSampleReferenceIdeal m →
    θ_run (Cert.NormSampleReferenceIdeal.defs (F := Ideal)) (onTc (τ := Cert.NormSampleReferenceIdeal.τ) (Cert.NormSampleReferenceIdeal.main (F := Ideal))) ⟨m, fun _ => 0, g⟩ (fun r => (∀ c : Dev Cert.NormSampleReferenceIdeal.nD,
      r.2.mem ((c.tc : Thread Cert.NormSampleReferenceIdeal.nD Cert.NormSampleReferenceIdeal.τ).loc Cert.NormSampleReferenceIdeal.main_arg0) = m ((c.tc : Thread Cert.NormSampleReferenceIdeal.nD Cert.NormSampleReferenceIdeal.τ).loc Cert.NormSampleReferenceIdeal.main_arg0)
      ∧ r.2.mem ((c.tc : Thread Cert.NormSampleReferenceIdeal.nD Cert.NormSampleReferenceIdeal.τ).loc Cert.NormSampleReferenceIdeal.main_arg1) = m ((c.tc : Thread Cert.NormSampleReferenceIdeal.nD Cert.NormSampleReferenceIdeal.τ).loc Cert.NormSampleReferenceIdeal.main_arg1))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5)
      ∧ r.2.mem ((c.tc : Thread Cert.ConvSample.nD Cert.ConvSample.τ).loc Cert.ConvSample.main_arg6) = m ((c.tc : Thread Cert.ConvSample.nD Cert.ConvSample.τ).loc Cert.ConvSample.main_arg6)
      ∧ r.2.mem ((c.tc : Thread Cert.ConvSample.nD Cert.ConvSample.τ).loc Cert.ConvSample.main_arg7) = m ((c.tc : Thread Cert.ConvSample.nD Cert.ConvSample.τ).loc Cert.ConvSample.main_arg7))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
      ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6)
      ∧ r.2.mem ((c.tc : Thread Cert.ConvSampleIdeal.nD Cert.ConvSampleIdeal.τ).loc Cert.ConvSampleIdeal.main_arg7) = m ((c.tc : Thread Cert.ConvSampleIdeal.nD Cert.ConvSampleIdeal.τ).loc Cert.ConvSampleIdeal.main_arg7))
      ∧ r.2.sem = fun _ => 0)

def quiescent_ConvSampleReferenceIdeal [hConvSampleReferenceIdeal : Cert.ConvSampleReferenceIdeal.Facts] : Prop :=
  ∀ (m : (ℓ : Loc Cert.ConvSampleReferenceIdeal.nD Cert.ConvSampleReferenceIdeal.τ Cert.ConvSampleReferenceIdeal.sig) → Buf (Elt Ideal) ℓ) (g : Dev Cert.ConvSampleReferenceIdeal.nD → PrngReg), Pre_ConvSampleReferenceIdeal m →
    θ_run (Cert.ConvSampleReferenceIdeal.defs (F := Ideal)) (onTc (τ := Cert.ConvSampleReferenceIdeal.τ) (Cert.ConvSampleReferenceIdeal.main (F := Ideal))) ⟨m, fun _ => 0, g⟩ (fun r => (∀ c : Dev Cert.ConvSampleReferenceIdeal.nD,
      r.2.mem ((c.tc : Thread Cert.ConvSampleReferenceIdeal.nD Cert.ConvSampleReferenceIdeal.τ).loc Cert.ConvSampleReferenceIdeal.main_arg0) = m ((c.tc : Thread Cert.ConvSampleReferenceIdeal.nD Cert.ConvSampleReferenceIdeal.τ).loc Cert.ConvSampleReferenceIdeal.main_arg0)
      ∧ r.2.mem ((c.tc : Thread Cert.ConvSampleReferenceIdeal.nD Cert.ConvSampleReferenceIdeal.τ).loc Cert.ConvSampleReferenceIdeal.main_arg1) = m ((c.tc : Thread Cert.ConvSampleReferenceIdeal.nD Cert.ConvSampleReferenceIdeal.τ).loc Cert.ConvSampleReferenceIdeal.main_arg1)
      ∧ r.2.mem ((c.tc : Thread Cert.ConvSampleReferenceIdeal.nD Cert.ConvSampleReferenceIdeal.τ).loc Cert.ConvSampleReferenceIdeal.main_arg2) = m ((c.tc : Thread Cert.ConvSampleReferenceIdeal.nD Cert.ConvSampleReferenceIdeal.τ).loc Cert.ConvSampleReferenceIdeal.main_arg2)
      ∧ r.2.mem ((c.tc : Thread Cert.ConvSampleReferenceIdeal.nD Cert.ConvSampleReferenceIdeal.τ).loc Cert.ConvSampleReferenceIdeal.main_arg3) = m ((c.tc : Thread Cert.ConvSampleReferenceIdeal.nD Cert.ConvSampleReferenceIdeal.τ).loc Cert.ConvSampleReferenceIdeal.main_arg3)
      ∧ r.2.mem ((c.tc : Thread Cert.ConvSampleReferenceIdeal.nD Cert.ConvSampleReferenceIdeal.τ).loc Cert.ConvSampleReferenceIdeal.main_arg4) = m ((c.tc : Thread Cert.ConvSampleReferenceIdeal.nD Cert.ConvSampleReferenceIdeal.τ).loc Cert.ConvSampleReferenceIdeal.main_arg4)
      ∧ r.2.mem ((c.tc : Thread Cert.ConvSampleReferenceIdeal.nD Cert.ConvSampleReferenceIdeal.τ).loc Cert.ConvSampleReferenceIdeal.main_arg5) = m ((c.tc : Thread Cert.ConvSampleReferenceIdeal.nD Cert.ConvSampleReferenceIdeal.τ).loc Cert.ConvSampleReferenceIdeal.main_arg5)
      ∧ r.2.mem ((c.tc : Thread Cert.ConvSampleReferenceIdeal.nD Cert.ConvSampleReferenceIdeal.τ).loc Cert.ConvSampleReferenceIdeal.main_arg6) = m ((c.tc : Thread Cert.ConvSampleReferenceIdeal.nD Cert.ConvSampleReferenceIdeal.τ).loc Cert.ConvSampleReferenceIdeal.main_arg6)
      ∧ r.2.mem ((c.tc : Thread Cert.ConvSampleReferenceIdeal.nD Cert.ConvSampleReferenceIdeal.τ).loc Cert.ConvSampleReferenceIdeal.main_arg7) = m ((c.tc : Thread Cert.ConvSampleReferenceIdeal.nD Cert.ConvSampleReferenceIdeal.τ).loc Cert.ConvSampleReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)) →
    ∃ (v0 : (c : Dev Cert.OutputIdeal.nD) → Buf (Elt Ideal) ((c.tc : Thread Cert.OutputIdeal.nD Cert.OutputIdeal.τ).loc Cert.OutputIdeal.main_v4)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v4) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v25) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6))

def preserves_OutputSample_OutputSampleIdeal : Prop :=
  True

def algebraic_OutputSampleIdeal_OutputSampleReferenceIdeal [hOutputSampleIdeal : Cert.OutputSampleIdeal.Facts] [hOutputSampleReferenceIdeal : Cert.OutputSampleReferenceIdeal.Facts] : Prop :=
  ∀ (m : (ℓ : Loc Cert.OutputSampleIdeal.nD Cert.OutputSampleIdeal.τ Cert.OutputSampleIdeal.sig) → Buf (Elt Ideal) ℓ) (g : Dev Cert.OutputSampleIdeal.nD → PrngReg)
    (m' : (ℓ : Loc Cert.OutputSampleReferenceIdeal.nD Cert.OutputSampleReferenceIdeal.τ Cert.OutputSampleReferenceIdeal.sig) → Buf (Elt Ideal) ℓ) (g' : Dev Cert.OutputSampleReferenceIdeal.nD → PrngReg), Pre_OutputSampleIdeal m →
    (∀ c : Dev Cert.OutputSampleIdeal.nD,
      m' ((c.tc : Thread Cert.OutputSampleReferenceIdeal.nD Cert.OutputSampleReferenceIdeal.τ).loc Cert.OutputSampleReferenceIdeal.main_arg0) = m ((c.tc : Thread Cert.OutputSampleIdeal.nD Cert.OutputSampleIdeal.τ).loc Cert.OutputSampleIdeal.main_arg0)
      ∧ m' ((c.tc : Thread Cert.OutputSampleReferenceIdeal.nD Cert.OutputSampleReferenceIdeal.τ).loc Cert.OutputSampleReferenceIdeal.main_arg1) = m ((c.tc : Thread Cert.OutputSampleIdeal.nD Cert.OutputSampleIdeal.τ).loc Cert.OutputSampleIdeal.main_arg1)
      ∧ m' ((c.tc : Thread Cert.OutputSampleReferenceIdeal.nD Cert.OutputSampleReferenceIdeal.τ).loc Cert.OutputSampleReferenceIdeal.main_arg2) = m ((c.tc : Thread Cert.OutputSampleIdeal.nD Cert.OutputSampleIdeal.τ).loc Cert.OutputSampleIdeal.main_arg2)
      ∧ m' ((c.tc : Thread Cert.OutputSampleReferenceIdeal.nD Cert.OutputSampleReferenceIdeal.τ).loc Cert.OutputSampleReferenceIdeal.main_arg3) = m ((c.tc : Thread Cert.OutputSampleIdeal.nD Cert.OutputSampleIdeal.τ).loc Cert.OutputSampleIdeal.main_arg3)
      ∧ m' ((c.tc : Thread Cert.OutputSampleReferenceIdeal.nD Cert.OutputSampleReferenceIdeal.τ).loc Cert.OutputSampleReferenceIdeal.main_arg4) = m ((c.tc : Thread Cert.OutputSampleIdeal.nD Cert.OutputSampleIdeal.τ).loc Cert.OutputSampleIdeal.main_arg4)
      ∧ m' ((c.tc : Thread Cert.OutputSampleReferenceIdeal.nD Cert.OutputSampleReferenceIdeal.τ).loc Cert.OutputSampleReferenceIdeal.main_arg5) = m ((c.tc : Thread Cert.OutputSampleIdeal.nD Cert.OutputSampleIdeal.τ).loc Cert.OutputSampleIdeal.main_arg5)
      ∧ m' ((c.tc : Thread Cert.OutputSampleReferenceIdeal.nD Cert.OutputSampleReferenceIdeal.τ).loc Cert.OutputSampleReferenceIdeal.main_arg6) = m ((c.tc : Thread Cert.OutputSampleIdeal.nD Cert.OutputSampleIdeal.τ).loc Cert.OutputSampleIdeal.main_arg6)) →
    ∃ (v0 : (c : Dev Cert.OutputSampleIdeal.nD) → Buf (Elt Ideal) ((c.tc : Thread Cert.OutputSampleIdeal.nD Cert.OutputSampleIdeal.τ).loc Cert.OutputSampleIdeal.main_v4)),
      θ_run (Cert.OutputSampleIdeal.defs (F := Ideal)) (onTc (τ := Cert.OutputSampleIdeal.τ) (Cert.OutputSampleIdeal.main (F := Ideal))) ⟨m, fun _ => 0, g⟩ (fun r => ∀ c : Dev Cert.OutputSampleIdeal.nD,
          r.2.mem ((c.tc : Thread Cert.OutputSampleIdeal.nD Cert.OutputSampleIdeal.τ).loc Cert.OutputSampleIdeal.main_v4) = v0 c
          ∧ r.2.mem ((c.tc : Thread Cert.OutputSampleIdeal.nD Cert.OutputSampleIdeal.τ).loc Cert.OutputSampleIdeal.main_arg0) = m ((c.tc : Thread Cert.OutputSampleIdeal.nD Cert.OutputSampleIdeal.τ).loc Cert.OutputSampleIdeal.main_arg0)
          ∧ r.2.mem ((c.tc : Thread Cert.OutputSampleIdeal.nD Cert.OutputSampleIdeal.τ).loc Cert.OutputSampleIdeal.main_arg1) = m ((c.tc : Thread Cert.OutputSampleIdeal.nD Cert.OutputSampleIdeal.τ).loc Cert.OutputSampleIdeal.main_arg1)
          ∧ r.2.mem ((c.tc : Thread Cert.OutputSampleIdeal.nD Cert.OutputSampleIdeal.τ).loc Cert.OutputSampleIdeal.main_arg2) = m ((c.tc : Thread Cert.OutputSampleIdeal.nD Cert.OutputSampleIdeal.τ).loc Cert.OutputSampleIdeal.main_arg2)
          ∧ r.2.mem ((c.tc : Thread Cert.OutputSampleIdeal.nD Cert.OutputSampleIdeal.τ).loc Cert.OutputSampleIdeal.main_arg3) = m ((c.tc : Thread Cert.OutputSampleIdeal.nD Cert.OutputSampleIdeal.τ).loc Cert.OutputSampleIdeal.main_arg3)
          ∧ r.2.mem ((c.tc : Thread Cert.OutputSampleIdeal.nD Cert.OutputSampleIdeal.τ).loc Cert.OutputSampleIdeal.main_arg4) = m ((c.tc : Thread Cert.OutputSampleIdeal.nD Cert.OutputSampleIdeal.τ).loc Cert.OutputSampleIdeal.main_arg4)
          ∧ r.2.mem ((c.tc : Thread Cert.OutputSampleIdeal.nD Cert.OutputSampleIdeal.τ).loc Cert.OutputSampleIdeal.main_arg5) = m ((c.tc : Thread Cert.OutputSampleIdeal.nD Cert.OutputSampleIdeal.τ).loc Cert.OutputSampleIdeal.main_arg5)
          ∧ r.2.mem ((c.tc : Thread Cert.OutputSampleIdeal.nD Cert.OutputSampleIdeal.τ).loc Cert.OutputSampleIdeal.main_arg6) = m ((c.tc : Thread Cert.OutputSampleIdeal.nD Cert.OutputSampleIdeal.τ).loc Cert.OutputSampleIdeal.main_arg6))
      ∧ θ_run (Cert.OutputSampleReferenceIdeal.defs (F := Ideal)) (onTc (τ := Cert.OutputSampleReferenceIdeal.τ) (Cert.OutputSampleReferenceIdeal.main (F := Ideal))) ⟨m', fun _ => 0, g'⟩ (fun r => ∀ c : Dev Cert.OutputSampleReferenceIdeal.nD,
          r.2.mem ((c.tc : Thread Cert.OutputSampleReferenceIdeal.nD Cert.OutputSampleReferenceIdeal.τ).loc Cert.OutputSampleReferenceIdeal.main_v24) = v0 c
          ∧ r.2.mem ((c.tc : Thread Cert.OutputSampleReferenceIdeal.nD Cert.OutputSampleReferenceIdeal.τ).loc Cert.OutputSampleReferenceIdeal.main_arg0) = m' ((c.tc : Thread Cert.OutputSampleReferenceIdeal.nD Cert.OutputSampleReferenceIdeal.τ).loc Cert.OutputSampleReferenceIdeal.main_arg0)
          ∧ r.2.mem ((c.tc : Thread Cert.OutputSampleReferenceIdeal.nD Cert.OutputSampleReferenceIdeal.τ).loc Cert.OutputSampleReferenceIdeal.main_arg1) = m' ((c.tc : Thread Cert.OutputSampleReferenceIdeal.nD Cert.OutputSampleReferenceIdeal.τ).loc Cert.OutputSampleReferenceIdeal.main_arg1)
          ∧ r.2.mem ((c.tc : Thread Cert.OutputSampleReferenceIdeal.nD Cert.OutputSampleReferenceIdeal.τ).loc Cert.OutputSampleReferenceIdeal.main_arg2) = m' ((c.tc : Thread Cert.OutputSampleReferenceIdeal.nD Cert.OutputSampleReferenceIdeal.τ).loc Cert.OutputSampleReferenceIdeal.main_arg2)
          ∧ r.2.mem ((c.tc : Thread Cert.OutputSampleReferenceIdeal.nD Cert.OutputSampleReferenceIdeal.τ).loc Cert.OutputSampleReferenceIdeal.main_arg3) = m' ((c.tc : Thread Cert.OutputSampleReferenceIdeal.nD Cert.OutputSampleReferenceIdeal.τ).loc Cert.OutputSampleReferenceIdeal.main_arg3)
          ∧ r.2.mem ((c.tc : Thread Cert.OutputSampleReferenceIdeal.nD Cert.OutputSampleReferenceIdeal.τ).loc Cert.OutputSampleReferenceIdeal.main_arg4) = m' ((c.tc : Thread Cert.OutputSampleReferenceIdeal.nD Cert.OutputSampleReferenceIdeal.τ).loc Cert.OutputSampleReferenceIdeal.main_arg4)
          ∧ r.2.mem ((c.tc : Thread Cert.OutputSampleReferenceIdeal.nD Cert.OutputSampleReferenceIdeal.τ).loc Cert.OutputSampleReferenceIdeal.main_arg5) = m' ((c.tc : Thread Cert.OutputSampleReferenceIdeal.nD Cert.OutputSampleReferenceIdeal.τ).loc Cert.OutputSampleReferenceIdeal.main_arg5)
          ∧ r.2.mem ((c.tc : Thread Cert.OutputSampleReferenceIdeal.nD Cert.OutputSampleReferenceIdeal.τ).loc Cert.OutputSampleReferenceIdeal.main_arg6) = m' ((c.tc : Thread Cert.OutputSampleReferenceIdeal.nD Cert.OutputSampleReferenceIdeal.τ).loc Cert.OutputSampleReferenceIdeal.main_arg6))

def preserves_OutputNext_OutputNextIdeal : Prop :=
  True

def algebraic_OutputNextIdeal_OutputNextReferenceIdeal [hOutputNextIdeal : Cert.OutputNextIdeal.Facts] [hOutputNextReferenceIdeal : Cert.OutputNextReferenceIdeal.Facts] : Prop :=
  ∀ (m : (ℓ : Loc Cert.OutputNextIdeal.nD Cert.OutputNextIdeal.τ Cert.OutputNextIdeal.sig) → Buf (Elt Ideal) ℓ) (g : Dev Cert.OutputNextIdeal.nD → PrngReg)
    (m' : (ℓ : Loc Cert.OutputNextReferenceIdeal.nD Cert.OutputNextReferenceIdeal.τ Cert.OutputNextReferenceIdeal.sig) → Buf (Elt Ideal) ℓ) (g' : Dev Cert.OutputNextReferenceIdeal.nD → PrngReg), Pre_OutputNextIdeal m →
    (∀ c : Dev Cert.OutputNextIdeal.nD,
      m' ((c.tc : Thread Cert.OutputNextReferenceIdeal.nD Cert.OutputNextReferenceIdeal.τ).loc Cert.OutputNextReferenceIdeal.main_arg0) = m ((c.tc : Thread Cert.OutputNextIdeal.nD Cert.OutputNextIdeal.τ).loc Cert.OutputNextIdeal.main_arg0)
      ∧ m' ((c.tc : Thread Cert.OutputNextReferenceIdeal.nD Cert.OutputNextReferenceIdeal.τ).loc Cert.OutputNextReferenceIdeal.main_arg1) = m ((c.tc : Thread Cert.OutputNextIdeal.nD Cert.OutputNextIdeal.τ).loc Cert.OutputNextIdeal.main_arg1)
      ∧ m' ((c.tc : Thread Cert.OutputNextReferenceIdeal.nD Cert.OutputNextReferenceIdeal.τ).loc Cert.OutputNextReferenceIdeal.main_arg2) = m ((c.tc : Thread Cert.OutputNextIdeal.nD Cert.OutputNextIdeal.τ).loc Cert.OutputNextIdeal.main_arg2)
      ∧ m' ((c.tc : Thread Cert.OutputNextReferenceIdeal.nD Cert.OutputNextReferenceIdeal.τ).loc Cert.OutputNextReferenceIdeal.main_arg3) = m ((c.tc : Thread Cert.OutputNextIdeal.nD Cert.OutputNextIdeal.τ).loc Cert.OutputNextIdeal.main_arg3)
      ∧ m' ((c.tc : Thread Cert.OutputNextReferenceIdeal.nD Cert.OutputNextReferenceIdeal.τ).loc Cert.OutputNextReferenceIdeal.main_arg4) = m ((c.tc : Thread Cert.OutputNextIdeal.nD Cert.OutputNextIdeal.τ).loc Cert.OutputNextIdeal.main_arg4)
      ∧ m' ((c.tc : Thread Cert.OutputNextReferenceIdeal.nD Cert.OutputNextReferenceIdeal.τ).loc Cert.OutputNextReferenceIdeal.main_arg5) = m ((c.tc : Thread Cert.OutputNextIdeal.nD Cert.OutputNextIdeal.τ).loc Cert.OutputNextIdeal.main_arg5)
      ∧ m' ((c.tc : Thread Cert.OutputNextReferenceIdeal.nD Cert.OutputNextReferenceIdeal.τ).loc Cert.OutputNextReferenceIdeal.main_arg6) = m ((c.tc : Thread Cert.OutputNextIdeal.nD Cert.OutputNextIdeal.τ).loc Cert.OutputNextIdeal.main_arg6)
      ∧ m' ((c.tc : Thread Cert.OutputNextReferenceIdeal.nD Cert.OutputNextReferenceIdeal.τ).loc Cert.OutputNextReferenceIdeal.main_arg7) = m ((c.tc : Thread Cert.OutputNextIdeal.nD Cert.OutputNextIdeal.τ).loc Cert.OutputNextIdeal.main_arg7)) →
    ∃ (v0 : (c : Dev Cert.OutputNextIdeal.nD) → Buf (Elt Ideal) ((c.tc : Thread Cert.OutputNextIdeal.nD Cert.OutputNextIdeal.τ).loc Cert.OutputNextIdeal.main_v5_0)) (v1 : (c : Dev Cert.OutputNextIdeal.nD) → Buf (Elt Ideal) ((c.tc : Thread Cert.OutputNextIdeal.nD Cert.OutputNextIdeal.τ).loc Cert.OutputNextIdeal.main_v5_1)),
      θ_run (Cert.OutputNextIdeal.defs (F := Ideal)) (onTc (τ := Cert.OutputNextIdeal.τ) (Cert.OutputNextIdeal.main (F := Ideal))) ⟨m, fun _ => 0, g⟩ (fun r => ∀ c : Dev Cert.OutputNextIdeal.nD,
          r.2.mem ((c.tc : Thread Cert.OutputNextIdeal.nD Cert.OutputNextIdeal.τ).loc Cert.OutputNextIdeal.main_v5_0) = v0 c
          ∧ r.2.mem ((c.tc : Thread Cert.OutputNextIdeal.nD Cert.OutputNextIdeal.τ).loc Cert.OutputNextIdeal.main_v5_1) = v1 c
          ∧ r.2.mem ((c.tc : Thread Cert.OutputNextIdeal.nD Cert.OutputNextIdeal.τ).loc Cert.OutputNextIdeal.main_arg0) = m ((c.tc : Thread Cert.OutputNextIdeal.nD Cert.OutputNextIdeal.τ).loc Cert.OutputNextIdeal.main_arg0)
          ∧ r.2.mem ((c.tc : Thread Cert.OutputNextIdeal.nD Cert.OutputNextIdeal.τ).loc Cert.OutputNextIdeal.main_arg1) = m ((c.tc : Thread Cert.OutputNextIdeal.nD Cert.OutputNextIdeal.τ).loc Cert.OutputNextIdeal.main_arg1)
          ∧ r.2.mem ((c.tc : Thread Cert.OutputNextIdeal.nD Cert.OutputNextIdeal.τ).loc Cert.OutputNextIdeal.main_arg2) = m ((c.tc : Thread Cert.OutputNextIdeal.nD Cert.OutputNextIdeal.τ).loc Cert.OutputNextIdeal.main_arg2)
          ∧ r.2.mem ((c.tc : Thread Cert.OutputNextIdeal.nD Cert.OutputNextIdeal.τ).loc Cert.OutputNextIdeal.main_arg3) = m ((c.tc : Thread Cert.OutputNextIdeal.nD Cert.OutputNextIdeal.τ).loc Cert.OutputNextIdeal.main_arg3)
          ∧ r.2.mem ((c.tc : Thread Cert.OutputNextIdeal.nD Cert.OutputNextIdeal.τ).loc Cert.OutputNextIdeal.main_arg4) = m ((c.tc : Thread Cert.OutputNextIdeal.nD Cert.OutputNextIdeal.τ).loc Cert.OutputNextIdeal.main_arg4)
          ∧ r.2.mem ((c.tc : Thread Cert.OutputNextIdeal.nD Cert.OutputNextIdeal.τ).loc Cert.OutputNextIdeal.main_arg5) = m ((c.tc : Thread Cert.OutputNextIdeal.nD Cert.OutputNextIdeal.τ).loc Cert.OutputNextIdeal.main_arg5)
          ∧ r.2.mem ((c.tc : Thread Cert.OutputNextIdeal.nD Cert.OutputNextIdeal.τ).loc Cert.OutputNextIdeal.main_arg6) = m ((c.tc : Thread Cert.OutputNextIdeal.nD Cert.OutputNextIdeal.τ).loc Cert.OutputNextIdeal.main_arg6)
          ∧ r.2.mem ((c.tc : Thread Cert.OutputNextIdeal.nD Cert.OutputNextIdeal.τ).loc Cert.OutputNextIdeal.main_arg7) = m ((c.tc : Thread Cert.OutputNextIdeal.nD Cert.OutputNextIdeal.τ).loc Cert.OutputNextIdeal.main_arg7))
      ∧ θ_run (Cert.OutputNextReferenceIdeal.defs (F := Ideal)) (onTc (τ := Cert.OutputNextReferenceIdeal.τ) (Cert.OutputNextReferenceIdeal.main (F := Ideal))) ⟨m', fun _ => 0, g'⟩ (fun r => ∀ c : Dev Cert.OutputNextReferenceIdeal.nD,
          r.2.mem ((c.tc : Thread Cert.OutputNextReferenceIdeal.nD Cert.OutputNextReferenceIdeal.τ).loc Cert.OutputNextReferenceIdeal.main_v25) = v0 c
          ∧ r.2.mem ((c.tc : Thread Cert.OutputNextReferenceIdeal.nD Cert.OutputNextReferenceIdeal.τ).loc Cert.OutputNextReferenceIdeal.main_v39) = v1 c
          ∧ r.2.mem ((c.tc : Thread Cert.OutputNextReferenceIdeal.nD Cert.OutputNextReferenceIdeal.τ).loc Cert.OutputNextReferenceIdeal.main_arg0) = m' ((c.tc : Thread Cert.OutputNextReferenceIdeal.nD Cert.OutputNextReferenceIdeal.τ).loc Cert.OutputNextReferenceIdeal.main_arg0)
          ∧ r.2.mem ((c.tc : Thread Cert.OutputNextReferenceIdeal.nD Cert.OutputNextReferenceIdeal.τ).loc Cert.OutputNextReferenceIdeal.main_arg1) = m' ((c.tc : Thread Cert.OutputNextReferenceIdeal.nD Cert.OutputNextReferenceIdeal.τ).loc Cert.OutputNextReferenceIdeal.main_arg1)
          ∧ r.2.mem ((c.tc : Thread Cert.OutputNextReferenceIdeal.nD Cert.OutputNextReferenceIdeal.τ).loc Cert.OutputNextReferenceIdeal.main_arg2) = m' ((c.tc : Thread Cert.OutputNextReferenceIdeal.nD Cert.OutputNextReferenceIdeal.τ).loc Cert.OutputNextReferenceIdeal.main_arg2)
          ∧ r.2.mem ((c.tc : Thread Cert.OutputNextReferenceIdeal.nD Cert.OutputNextReferenceIdeal.τ).loc Cert.OutputNextReferenceIdeal.main_arg3) = m' ((c.tc : Thread Cert.OutputNextReferenceIdeal.nD Cert.OutputNextReferenceIdeal.τ).loc Cert.OutputNextReferenceIdeal.main_arg3)
          ∧ r.2.mem ((c.tc : Thread Cert.OutputNextReferenceIdeal.nD Cert.OutputNextReferenceIdeal.τ).loc Cert.OutputNextReferenceIdeal.main_arg4) = m' ((c.tc : Thread Cert.OutputNextReferenceIdeal.nD Cert.OutputNextReferenceIdeal.τ).loc Cert.OutputNextReferenceIdeal.main_arg4)
          ∧ r.2.mem ((c.tc : Thread Cert.OutputNextReferenceIdeal.nD Cert.OutputNextReferenceIdeal.τ).loc Cert.OutputNextReferenceIdeal.main_arg5) = m' ((c.tc : Thread Cert.OutputNextReferenceIdeal.nD Cert.OutputNextReferenceIdeal.τ).loc Cert.OutputNextReferenceIdeal.main_arg5)
          ∧ r.2.mem ((c.tc : Thread Cert.OutputNextReferenceIdeal.nD Cert.OutputNextReferenceIdeal.τ).loc Cert.OutputNextReferenceIdeal.main_arg6) = m' ((c.tc : Thread Cert.OutputNextReferenceIdeal.nD Cert.OutputNextReferenceIdeal.τ).loc Cert.OutputNextReferenceIdeal.main_arg6)
          ∧ r.2.mem ((c.tc : Thread Cert.OutputNextReferenceIdeal.nD Cert.OutputNextReferenceIdeal.τ).loc Cert.OutputNextReferenceIdeal.main_arg7) = m' ((c.tc : Thread Cert.OutputNextReferenceIdeal.nD Cert.OutputNextReferenceIdeal.τ).loc Cert.OutputNextReferenceIdeal.main_arg7))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v1) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)) →
    ∃ (v0 : (c : Dev Cert.ProjectSampleIdeal.nD) → Buf (Elt Ideal) ((c.tc : Thread Cert.ProjectSampleIdeal.nD Cert.ProjectSampleIdeal.τ).loc Cert.ProjectSampleIdeal.main_v1)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v1) = v0 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v1) = v0 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1))

def preserves_ProjectWide_ProjectWideIdeal : Prop :=
  True

def algebraic_ProjectWideIdeal_ProjectWideReferenceIdeal [hProjectWideIdeal : Cert.ProjectWideIdeal.Facts] [hProjectWideReferenceIdeal : Cert.ProjectWideReferenceIdeal.Facts] : Prop :=
  ∀ (m : (ℓ : Loc Cert.ProjectWideIdeal.nD Cert.ProjectWideIdeal.τ Cert.ProjectWideIdeal.sig) → Buf (Elt Ideal) ℓ) (g : Dev Cert.ProjectWideIdeal.nD → PrngReg)
    (m' : (ℓ : Loc Cert.ProjectWideReferenceIdeal.nD Cert.ProjectWideReferenceIdeal.τ Cert.ProjectWideReferenceIdeal.sig) → Buf (Elt Ideal) ℓ) (g' : Dev Cert.ProjectWideReferenceIdeal.nD → PrngReg), Pre_ProjectWideIdeal m →
    (∀ c : Dev Cert.ProjectWideIdeal.nD,
      m' ((c.tc : Thread Cert.ProjectWideReferenceIdeal.nD Cert.ProjectWideReferenceIdeal.τ).loc Cert.ProjectWideReferenceIdeal.main_arg0) = m ((c.tc : Thread Cert.ProjectWideIdeal.nD Cert.ProjectWideIdeal.τ).loc Cert.ProjectWideIdeal.main_arg0)
      ∧ m' ((c.tc : Thread Cert.ProjectWideReferenceIdeal.nD Cert.ProjectWideReferenceIdeal.τ).loc Cert.ProjectWideReferenceIdeal.main_arg1) = m ((c.tc : Thread Cert.ProjectWideIdeal.nD Cert.ProjectWideIdeal.τ).loc Cert.ProjectWideIdeal.main_arg1)) →
    ∃ (v0 : (c : Dev Cert.ProjectWideIdeal.nD) → Buf (Elt Ideal) ((c.tc : Thread Cert.ProjectWideIdeal.nD Cert.ProjectWideIdeal.τ).loc Cert.ProjectWideIdeal.main_v1)),
      θ_run (Cert.ProjectWideIdeal.defs (F := Ideal)) (onTc (τ := Cert.ProjectWideIdeal.τ) (Cert.ProjectWideIdeal.main (F := Ideal))) ⟨m, fun _ => 0, g⟩ (fun r => ∀ c : Dev Cert.ProjectWideIdeal.nD,
          r.2.mem ((c.tc : Thread Cert.ProjectWideIdeal.nD Cert.ProjectWideIdeal.τ).loc Cert.ProjectWideIdeal.main_v1) = v0 c
          ∧ r.2.mem ((c.tc : Thread Cert.ProjectWideIdeal.nD Cert.ProjectWideIdeal.τ).loc Cert.ProjectWideIdeal.main_arg0) = m ((c.tc : Thread Cert.ProjectWideIdeal.nD Cert.ProjectWideIdeal.τ).loc Cert.ProjectWideIdeal.main_arg0)
          ∧ r.2.mem ((c.tc : Thread Cert.ProjectWideIdeal.nD Cert.ProjectWideIdeal.τ).loc Cert.ProjectWideIdeal.main_arg1) = m ((c.tc : Thread Cert.ProjectWideIdeal.nD Cert.ProjectWideIdeal.τ).loc Cert.ProjectWideIdeal.main_arg1))
      ∧ θ_run (Cert.ProjectWideReferenceIdeal.defs (F := Ideal)) (onTc (τ := Cert.ProjectWideReferenceIdeal.τ) (Cert.ProjectWideReferenceIdeal.main (F := Ideal))) ⟨m', fun _ => 0, g'⟩ (fun r => ∀ c : Dev Cert.ProjectWideReferenceIdeal.nD,
          r.2.mem ((c.tc : Thread Cert.ProjectWideReferenceIdeal.nD Cert.ProjectWideReferenceIdeal.τ).loc Cert.ProjectWideReferenceIdeal.main_v1) = v0 c
          ∧ r.2.mem ((c.tc : Thread Cert.ProjectWideReferenceIdeal.nD Cert.ProjectWideReferenceIdeal.τ).loc Cert.ProjectWideReferenceIdeal.main_arg0) = m' ((c.tc : Thread Cert.ProjectWideReferenceIdeal.nD Cert.ProjectWideReferenceIdeal.τ).loc Cert.ProjectWideReferenceIdeal.main_arg0)
          ∧ r.2.mem ((c.tc : Thread Cert.ProjectWideReferenceIdeal.nD Cert.ProjectWideReferenceIdeal.τ).loc Cert.ProjectWideReferenceIdeal.main_arg1) = m' ((c.tc : Thread Cert.ProjectWideReferenceIdeal.nD Cert.ProjectWideReferenceIdeal.τ).loc Cert.ProjectWideReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_OutputFirst_OutputFirstIdeal : Prop :=
  True

def algebraic_OutputFirstIdeal_OutputFirstReferenceIdeal [hOutputFirstIdeal : Cert.OutputFirstIdeal.Facts] [hOutputFirstReferenceIdeal : Cert.OutputFirstReferenceIdeal.Facts] : Prop :=
  ∀ (m : (ℓ : Loc Cert.OutputFirstIdeal.nD Cert.OutputFirstIdeal.τ Cert.OutputFirstIdeal.sig) → Buf (Elt Ideal) ℓ) (g : Dev Cert.OutputFirstIdeal.nD → PrngReg)
    (m' : (ℓ : Loc Cert.OutputFirstReferenceIdeal.nD Cert.OutputFirstReferenceIdeal.τ Cert.OutputFirstReferenceIdeal.sig) → Buf (Elt Ideal) ℓ) (g' : Dev Cert.OutputFirstReferenceIdeal.nD → PrngReg), Pre_OutputFirstIdeal m →
    (∀ c : Dev Cert.OutputFirstIdeal.nD,
      m' ((c.tc : Thread Cert.OutputFirstReferenceIdeal.nD Cert.OutputFirstReferenceIdeal.τ).loc Cert.OutputFirstReferenceIdeal.main_arg0) = m ((c.tc : Thread Cert.OutputFirstIdeal.nD Cert.OutputFirstIdeal.τ).loc Cert.OutputFirstIdeal.main_arg0)
      ∧ m' ((c.tc : Thread Cert.OutputFirstReferenceIdeal.nD Cert.OutputFirstReferenceIdeal.τ).loc Cert.OutputFirstReferenceIdeal.main_arg1) = m ((c.tc : Thread Cert.OutputFirstIdeal.nD Cert.OutputFirstIdeal.τ).loc Cert.OutputFirstIdeal.main_arg1)
      ∧ m' ((c.tc : Thread Cert.OutputFirstReferenceIdeal.nD Cert.OutputFirstReferenceIdeal.τ).loc Cert.OutputFirstReferenceIdeal.main_arg2) = m ((c.tc : Thread Cert.OutputFirstIdeal.nD Cert.OutputFirstIdeal.τ).loc Cert.OutputFirstIdeal.main_arg2)
      ∧ m' ((c.tc : Thread Cert.OutputFirstReferenceIdeal.nD Cert.OutputFirstReferenceIdeal.τ).loc Cert.OutputFirstReferenceIdeal.main_arg3) = m ((c.tc : Thread Cert.OutputFirstIdeal.nD Cert.OutputFirstIdeal.τ).loc Cert.OutputFirstIdeal.main_arg3)
      ∧ m' ((c.tc : Thread Cert.OutputFirstReferenceIdeal.nD Cert.OutputFirstReferenceIdeal.τ).loc Cert.OutputFirstReferenceIdeal.main_arg4) = m ((c.tc : Thread Cert.OutputFirstIdeal.nD Cert.OutputFirstIdeal.τ).loc Cert.OutputFirstIdeal.main_arg4)
      ∧ m' ((c.tc : Thread Cert.OutputFirstReferenceIdeal.nD Cert.OutputFirstReferenceIdeal.τ).loc Cert.OutputFirstReferenceIdeal.main_arg5) = m ((c.tc : Thread Cert.OutputFirstIdeal.nD Cert.OutputFirstIdeal.τ).loc Cert.OutputFirstIdeal.main_arg5)
      ∧ m' ((c.tc : Thread Cert.OutputFirstReferenceIdeal.nD Cert.OutputFirstReferenceIdeal.τ).loc Cert.OutputFirstReferenceIdeal.main_arg6) = m ((c.tc : Thread Cert.OutputFirstIdeal.nD Cert.OutputFirstIdeal.τ).loc Cert.OutputFirstIdeal.main_arg6)
      ∧ m' ((c.tc : Thread Cert.OutputFirstReferenceIdeal.nD Cert.OutputFirstReferenceIdeal.τ).loc Cert.OutputFirstReferenceIdeal.main_arg7) = m ((c.tc : Thread Cert.OutputFirstIdeal.nD Cert.OutputFirstIdeal.τ).loc Cert.OutputFirstIdeal.main_arg7)) →
    ∃ (v0 : (c : Dev Cert.OutputFirstIdeal.nD) → Buf (Elt Ideal) ((c.tc : Thread Cert.OutputFirstIdeal.nD Cert.OutputFirstIdeal.τ).loc Cert.OutputFirstIdeal.main_v5_0)) (v1 : (c : Dev Cert.OutputFirstIdeal.nD) → Buf (Elt Ideal) ((c.tc : Thread Cert.OutputFirstIdeal.nD Cert.OutputFirstIdeal.τ).loc Cert.OutputFirstIdeal.main_v5_1)),
      θ_run (Cert.OutputFirstIdeal.defs (F := Ideal)) (onTc (τ := Cert.OutputFirstIdeal.τ) (Cert.OutputFirstIdeal.main (F := Ideal))) ⟨m, fun _ => 0, g⟩ (fun r => ∀ c : Dev Cert.OutputFirstIdeal.nD,
          r.2.mem ((c.tc : Thread Cert.OutputFirstIdeal.nD Cert.OutputFirstIdeal.τ).loc Cert.OutputFirstIdeal.main_v5_0) = v0 c
          ∧ r.2.mem ((c.tc : Thread Cert.OutputFirstIdeal.nD Cert.OutputFirstIdeal.τ).loc Cert.OutputFirstIdeal.main_v5_1) = v1 c
          ∧ r.2.mem ((c.tc : Thread Cert.OutputFirstIdeal.nD Cert.OutputFirstIdeal.τ).loc Cert.OutputFirstIdeal.main_arg0) = m ((c.tc : Thread Cert.OutputFirstIdeal.nD Cert.OutputFirstIdeal.τ).loc Cert.OutputFirstIdeal.main_arg0)
          ∧ r.2.mem ((c.tc : Thread Cert.OutputFirstIdeal.nD Cert.OutputFirstIdeal.τ).loc Cert.OutputFirstIdeal.main_arg1) = m ((c.tc : Thread Cert.OutputFirstIdeal.nD Cert.OutputFirstIdeal.τ).loc Cert.OutputFirstIdeal.main_arg1)
          ∧ r.2.mem ((c.tc : Thread Cert.OutputFirstIdeal.nD Cert.OutputFirstIdeal.τ).loc Cert.OutputFirstIdeal.main_arg2) = m ((c.tc : Thread Cert.OutputFirstIdeal.nD Cert.OutputFirstIdeal.τ).loc Cert.OutputFirstIdeal.main_arg2)
          ∧ r.2.mem ((c.tc : Thread Cert.OutputFirstIdeal.nD Cert.OutputFirstIdeal.τ).loc Cert.OutputFirstIdeal.main_arg3) = m ((c.tc : Thread Cert.OutputFirstIdeal.nD Cert.OutputFirstIdeal.τ).loc Cert.OutputFirstIdeal.main_arg3)
          ∧ r.2.mem ((c.tc : Thread Cert.OutputFirstIdeal.nD Cert.OutputFirstIdeal.τ).loc Cert.OutputFirstIdeal.main_arg4) = m ((c.tc : Thread Cert.OutputFirstIdeal.nD Cert.OutputFirstIdeal.τ).loc Cert.OutputFirstIdeal.main_arg4)
          ∧ r.2.mem ((c.tc : Thread Cert.OutputFirstIdeal.nD Cert.OutputFirstIdeal.τ).loc Cert.OutputFirstIdeal.main_arg5) = m ((c.tc : Thread Cert.OutputFirstIdeal.nD Cert.OutputFirstIdeal.τ).loc Cert.OutputFirstIdeal.main_arg5)
          ∧ r.2.mem ((c.tc : Thread Cert.OutputFirstIdeal.nD Cert.OutputFirstIdeal.τ).loc Cert.OutputFirstIdeal.main_arg6) = m ((c.tc : Thread Cert.OutputFirstIdeal.nD Cert.OutputFirstIdeal.τ).loc Cert.OutputFirstIdeal.main_arg6)
          ∧ r.2.mem ((c.tc : Thread Cert.OutputFirstIdeal.nD Cert.OutputFirstIdeal.τ).loc Cert.OutputFirstIdeal.main_arg7) = m ((c.tc : Thread Cert.OutputFirstIdeal.nD Cert.OutputFirstIdeal.τ).loc Cert.OutputFirstIdeal.main_arg7))
      ∧ θ_run (Cert.OutputFirstReferenceIdeal.defs (F := Ideal)) (onTc (τ := Cert.OutputFirstReferenceIdeal.τ) (Cert.OutputFirstReferenceIdeal.main (F := Ideal))) ⟨m', fun _ => 0, g'⟩ (fun r => ∀ c : Dev Cert.OutputFirstReferenceIdeal.nD,
          r.2.mem ((c.tc : Thread Cert.OutputFirstReferenceIdeal.nD Cert.OutputFirstReferenceIdeal.τ).loc Cert.OutputFirstReferenceIdeal.main_v25) = v0 c
          ∧ r.2.mem ((c.tc : Thread Cert.OutputFirstReferenceIdeal.nD Cert.OutputFirstReferenceIdeal.τ).loc Cert.OutputFirstReferenceIdeal.main_v39) = v1 c
          ∧ r.2.mem ((c.tc : Thread Cert.OutputFirstReferenceIdeal.nD Cert.OutputFirstReferenceIdeal.τ).loc Cert.OutputFirstReferenceIdeal.main_arg0) = m' ((c.tc : Thread Cert.OutputFirstReferenceIdeal.nD Cert.OutputFirstReferenceIdeal.τ).loc Cert.OutputFirstReferenceIdeal.main_arg0)
          ∧ r.2.mem ((c.tc : Thread Cert.OutputFirstReferenceIdeal.nD Cert.OutputFirstReferenceIdeal.τ).loc Cert.OutputFirstReferenceIdeal.main_arg1) = m' ((c.tc : Thread Cert.OutputFirstReferenceIdeal.nD Cert.OutputFirstReferenceIdeal.τ).loc Cert.OutputFirstReferenceIdeal.main_arg1)
          ∧ r.2.mem ((c.tc : Thread Cert.OutputFirstReferenceIdeal.nD Cert.OutputFirstReferenceIdeal.τ).loc Cert.OutputFirstReferenceIdeal.main_arg2) = m' ((c.tc : Thread Cert.OutputFirstReferenceIdeal.nD Cert.OutputFirstReferenceIdeal.τ).loc Cert.OutputFirstReferenceIdeal.main_arg2)
          ∧ r.2.mem ((c.tc : Thread Cert.OutputFirstReferenceIdeal.nD Cert.OutputFirstReferenceIdeal.τ).loc Cert.OutputFirstReferenceIdeal.main_arg3) = m' ((c.tc : Thread Cert.OutputFirstReferenceIdeal.nD Cert.OutputFirstReferenceIdeal.τ).loc Cert.OutputFirstReferenceIdeal.main_arg3)
          ∧ r.2.mem ((c.tc : Thread Cert.OutputFirstReferenceIdeal.nD Cert.OutputFirstReferenceIdeal.τ).loc Cert.OutputFirstReferenceIdeal.main_arg4) = m' ((c.tc : Thread Cert.OutputFirstReferenceIdeal.nD Cert.OutputFirstReferenceIdeal.τ).loc Cert.OutputFirstReferenceIdeal.main_arg4)
          ∧ r.2.mem ((c.tc : Thread Cert.OutputFirstReferenceIdeal.nD Cert.OutputFirstReferenceIdeal.τ).loc Cert.OutputFirstReferenceIdeal.main_arg5) = m' ((c.tc : Thread Cert.OutputFirstReferenceIdeal.nD Cert.OutputFirstReferenceIdeal.τ).loc Cert.OutputFirstReferenceIdeal.main_arg5)
          ∧ r.2.mem ((c.tc : Thread Cert.OutputFirstReferenceIdeal.nD Cert.OutputFirstReferenceIdeal.τ).loc Cert.OutputFirstReferenceIdeal.main_arg6) = m' ((c.tc : Thread Cert.OutputFirstReferenceIdeal.nD Cert.OutputFirstReferenceIdeal.τ).loc Cert.OutputFirstReferenceIdeal.main_arg6)
          ∧ r.2.mem ((c.tc : Thread Cert.OutputFirstReferenceIdeal.nD Cert.OutputFirstReferenceIdeal.τ).loc Cert.OutputFirstReferenceIdeal.main_arg7) = m' ((c.tc : Thread Cert.OutputFirstReferenceIdeal.nD Cert.OutputFirstReferenceIdeal.τ).loc Cert.OutputFirstReferenceIdeal.main_arg7))

def preserves_OutputFirstSample_OutputFirstSampleIdeal : Prop :=
  True

def algebraic_OutputFirstSampleIdeal_OutputFirstSampleReferenceIdeal [hOutputFirstSampleIdeal : Cert.OutputFirstSampleIdeal.Facts] [hOutputFirstSampleReferenceIdeal : Cert.OutputFirstSampleReferenceIdeal.Facts] : Prop :=
  ∀ (m : (ℓ : Loc Cert.OutputFirstSampleIdeal.nD Cert.OutputFirstSampleIdeal.τ Cert.OutputFirstSampleIdeal.sig) → Buf (Elt Ideal) ℓ) (g : Dev Cert.OutputFirstSampleIdeal.nD → PrngReg)
    (m' : (ℓ : Loc Cert.OutputFirstSampleReferenceIdeal.nD Cert.OutputFirstSampleReferenceIdeal.τ Cert.OutputFirstSampleReferenceIdeal.sig) → Buf (Elt Ideal) ℓ) (g' : Dev Cert.OutputFirstSampleReferenceIdeal.nD → PrngReg), Pre_OutputFirstSampleIdeal m →
    (∀ c : Dev Cert.OutputFirstSampleIdeal.nD,
      m' ((c.tc : Thread Cert.OutputFirstSampleReferenceIdeal.nD Cert.OutputFirstSampleReferenceIdeal.τ).loc Cert.OutputFirstSampleReferenceIdeal.main_arg0) = m ((c.tc : Thread Cert.OutputFirstSampleIdeal.nD Cert.OutputFirstSampleIdeal.τ).loc Cert.OutputFirstSampleIdeal.main_arg0)
      ∧ m' ((c.tc : Thread Cert.OutputFirstSampleReferenceIdeal.nD Cert.OutputFirstSampleReferenceIdeal.τ).loc Cert.OutputFirstSampleReferenceIdeal.main_arg1) = m ((c.tc : Thread Cert.OutputFirstSampleIdeal.nD Cert.OutputFirstSampleIdeal.τ).loc Cert.OutputFirstSampleIdeal.main_arg1)
      ∧ m' ((c.tc : Thread Cert.OutputFirstSampleReferenceIdeal.nD Cert.OutputFirstSampleReferenceIdeal.τ).loc Cert.OutputFirstSampleReferenceIdeal.main_arg2) = m ((c.tc : Thread Cert.OutputFirstSampleIdeal.nD Cert.OutputFirstSampleIdeal.τ).loc Cert.OutputFirstSampleIdeal.main_arg2)
      ∧ m' ((c.tc : Thread Cert.OutputFirstSampleReferenceIdeal.nD Cert.OutputFirstSampleReferenceIdeal.τ).loc Cert.OutputFirstSampleReferenceIdeal.main_arg3) = m ((c.tc : Thread Cert.OutputFirstSampleIdeal.nD Cert.OutputFirstSampleIdeal.τ).loc Cert.OutputFirstSampleIdeal.main_arg3)
      ∧ m' ((c.tc : Thread Cert.OutputFirstSampleReferenceIdeal.nD Cert.OutputFirstSampleReferenceIdeal.τ).loc Cert.OutputFirstSampleReferenceIdeal.main_arg4) = m ((c.tc : Thread Cert.OutputFirstSampleIdeal.nD Cert.OutputFirstSampleIdeal.τ).loc Cert.OutputFirstSampleIdeal.main_arg4)
      ∧ m' ((c.tc : Thread Cert.OutputFirstSampleReferenceIdeal.nD Cert.OutputFirstSampleReferenceIdeal.τ).loc Cert.OutputFirstSampleReferenceIdeal.main_arg5) = m ((c.tc : Thread Cert.OutputFirstSampleIdeal.nD Cert.OutputFirstSampleIdeal.τ).loc Cert.OutputFirstSampleIdeal.main_arg5)
      ∧ m' ((c.tc : Thread Cert.OutputFirstSampleReferenceIdeal.nD Cert.OutputFirstSampleReferenceIdeal.τ).loc Cert.OutputFirstSampleReferenceIdeal.main_arg6) = m ((c.tc : Thread Cert.OutputFirstSampleIdeal.nD Cert.OutputFirstSampleIdeal.τ).loc Cert.OutputFirstSampleIdeal.main_arg6)
      ∧ m' ((c.tc : Thread Cert.OutputFirstSampleReferenceIdeal.nD Cert.OutputFirstSampleReferenceIdeal.τ).loc Cert.OutputFirstSampleReferenceIdeal.main_arg7) = m ((c.tc : Thread Cert.OutputFirstSampleIdeal.nD Cert.OutputFirstSampleIdeal.τ).loc Cert.OutputFirstSampleIdeal.main_arg7)) →
    ∃ (v0 : (c : Dev Cert.OutputFirstSampleIdeal.nD) → Buf (Elt Ideal) ((c.tc : Thread Cert.OutputFirstSampleIdeal.nD Cert.OutputFirstSampleIdeal.τ).loc Cert.OutputFirstSampleIdeal.main_v5_0)) (v1 : (c : Dev Cert.OutputFirstSampleIdeal.nD) → Buf (Elt Ideal) ((c.tc : Thread Cert.OutputFirstSampleIdeal.nD Cert.OutputFirstSampleIdeal.τ).loc Cert.OutputFirstSampleIdeal.main_v5_1)),
      θ_run (Cert.OutputFirstSampleIdeal.defs (F := Ideal)) (onTc (τ := Cert.OutputFirstSampleIdeal.τ) (Cert.OutputFirstSampleIdeal.main (F := Ideal))) ⟨m, fun _ => 0, g⟩ (fun r => ∀ c : Dev Cert.OutputFirstSampleIdeal.nD,
          r.2.mem ((c.tc : Thread Cert.OutputFirstSampleIdeal.nD Cert.OutputFirstSampleIdeal.τ).loc Cert.OutputFirstSampleIdeal.main_v5_0) = v0 c
          ∧ r.2.mem ((c.tc : Thread Cert.OutputFirstSampleIdeal.nD Cert.OutputFirstSampleIdeal.τ).loc Cert.OutputFirstSampleIdeal.main_v5_1) = v1 c
          ∧ r.2.mem ((c.tc : Thread Cert.OutputFirstSampleIdeal.nD Cert.OutputFirstSampleIdeal.τ).loc Cert.OutputFirstSampleIdeal.main_arg0) = m ((c.tc : Thread Cert.OutputFirstSampleIdeal.nD Cert.OutputFirstSampleIdeal.τ).loc Cert.OutputFirstSampleIdeal.main_arg0)
          ∧ r.2.mem ((c.tc : Thread Cert.OutputFirstSampleIdeal.nD Cert.OutputFirstSampleIdeal.τ).loc Cert.OutputFirstSampleIdeal.main_arg1) = m ((c.tc : Thread Cert.OutputFirstSampleIdeal.nD Cert.OutputFirstSampleIdeal.τ).loc Cert.OutputFirstSampleIdeal.main_arg1)
          ∧ r.2.mem ((c.tc : Thread Cert.OutputFirstSampleIdeal.nD Cert.OutputFirstSampleIdeal.τ).loc Cert.OutputFirstSampleIdeal.main_arg2) = m ((c.tc : Thread Cert.OutputFirstSampleIdeal.nD Cert.OutputFirstSampleIdeal.τ).loc Cert.OutputFirstSampleIdeal.main_arg2)
          ∧ r.2.mem ((c.tc : Thread Cert.OutputFirstSampleIdeal.nD Cert.OutputFirstSampleIdeal.τ).loc Cert.OutputFirstSampleIdeal.main_arg3) = m ((c.tc : Thread Cert.OutputFirstSampleIdeal.nD Cert.OutputFirstSampleIdeal.τ).loc Cert.OutputFirstSampleIdeal.main_arg3)
          ∧ r.2.mem ((c.tc : Thread Cert.OutputFirstSampleIdeal.nD Cert.OutputFirstSampleIdeal.τ).loc Cert.OutputFirstSampleIdeal.main_arg4) = m ((c.tc : Thread Cert.OutputFirstSampleIdeal.nD Cert.OutputFirstSampleIdeal.τ).loc Cert.OutputFirstSampleIdeal.main_arg4)
          ∧ r.2.mem ((c.tc : Thread Cert.OutputFirstSampleIdeal.nD Cert.OutputFirstSampleIdeal.τ).loc Cert.OutputFirstSampleIdeal.main_arg5) = m ((c.tc : Thread Cert.OutputFirstSampleIdeal.nD Cert.OutputFirstSampleIdeal.τ).loc Cert.OutputFirstSampleIdeal.main_arg5)
          ∧ r.2.mem ((c.tc : Thread Cert.OutputFirstSampleIdeal.nD Cert.OutputFirstSampleIdeal.τ).loc Cert.OutputFirstSampleIdeal.main_arg6) = m ((c.tc : Thread Cert.OutputFirstSampleIdeal.nD Cert.OutputFirstSampleIdeal.τ).loc Cert.OutputFirstSampleIdeal.main_arg6)
          ∧ r.2.mem ((c.tc : Thread Cert.OutputFirstSampleIdeal.nD Cert.OutputFirstSampleIdeal.τ).loc Cert.OutputFirstSampleIdeal.main_arg7) = m ((c.tc : Thread Cert.OutputFirstSampleIdeal.nD Cert.OutputFirstSampleIdeal.τ).loc Cert.OutputFirstSampleIdeal.main_arg7))
      ∧ θ_run (Cert.OutputFirstSampleReferenceIdeal.defs (F := Ideal)) (onTc (τ := Cert.OutputFirstSampleReferenceIdeal.τ) (Cert.OutputFirstSampleReferenceIdeal.main (F := Ideal))) ⟨m', fun _ => 0, g'⟩ (fun r => ∀ c : Dev Cert.OutputFirstSampleReferenceIdeal.nD,
          r.2.mem ((c.tc : Thread Cert.OutputFirstSampleReferenceIdeal.nD Cert.OutputFirstSampleReferenceIdeal.τ).loc Cert.OutputFirstSampleReferenceIdeal.main_v24) = v0 c
          ∧ r.2.mem ((c.tc : Thread Cert.OutputFirstSampleReferenceIdeal.nD Cert.OutputFirstSampleReferenceIdeal.τ).loc Cert.OutputFirstSampleReferenceIdeal.main_v38) = v1 c
          ∧ r.2.mem ((c.tc : Thread Cert.OutputFirstSampleReferenceIdeal.nD Cert.OutputFirstSampleReferenceIdeal.τ).loc Cert.OutputFirstSampleReferenceIdeal.main_arg0) = m' ((c.tc : Thread Cert.OutputFirstSampleReferenceIdeal.nD Cert.OutputFirstSampleReferenceIdeal.τ).loc Cert.OutputFirstSampleReferenceIdeal.main_arg0)
          ∧ r.2.mem ((c.tc : Thread Cert.OutputFirstSampleReferenceIdeal.nD Cert.OutputFirstSampleReferenceIdeal.τ).loc Cert.OutputFirstSampleReferenceIdeal.main_arg1) = m' ((c.tc : Thread Cert.OutputFirstSampleReferenceIdeal.nD Cert.OutputFirstSampleReferenceIdeal.τ).loc Cert.OutputFirstSampleReferenceIdeal.main_arg1)
          ∧ r.2.mem ((c.tc : Thread Cert.OutputFirstSampleReferenceIdeal.nD Cert.OutputFirstSampleReferenceIdeal.τ).loc Cert.OutputFirstSampleReferenceIdeal.main_arg2) = m' ((c.tc : Thread Cert.OutputFirstSampleReferenceIdeal.nD Cert.OutputFirstSampleReferenceIdeal.τ).loc Cert.OutputFirstSampleReferenceIdeal.main_arg2)
          ∧ r.2.mem ((c.tc : Thread Cert.OutputFirstSampleReferenceIdeal.nD Cert.OutputFirstSampleReferenceIdeal.τ).loc Cert.OutputFirstSampleReferenceIdeal.main_arg3) = m' ((c.tc : Thread Cert.OutputFirstSampleReferenceIdeal.nD Cert.OutputFirstSampleReferenceIdeal.τ).loc Cert.OutputFirstSampleReferenceIdeal.main_arg3)
          ∧ r.2.mem ((c.tc : Thread Cert.OutputFirstSampleReferenceIdeal.nD Cert.OutputFirstSampleReferenceIdeal.τ).loc Cert.OutputFirstSampleReferenceIdeal.main_arg4) = m' ((c.tc : Thread Cert.OutputFirstSampleReferenceIdeal.nD Cert.OutputFirstSampleReferenceIdeal.τ).loc Cert.OutputFirstSampleReferenceIdeal.main_arg4)
          ∧ r.2.mem ((c.tc : Thread Cert.OutputFirstSampleReferenceIdeal.nD Cert.OutputFirstSampleReferenceIdeal.τ).loc Cert.OutputFirstSampleReferenceIdeal.main_arg5) = m' ((c.tc : Thread Cert.OutputFirstSampleReferenceIdeal.nD Cert.OutputFirstSampleReferenceIdeal.τ).loc Cert.OutputFirstSampleReferenceIdeal.main_arg5)
          ∧ r.2.mem ((c.tc : Thread Cert.OutputFirstSampleReferenceIdeal.nD Cert.OutputFirstSampleReferenceIdeal.τ).loc Cert.OutputFirstSampleReferenceIdeal.main_arg6) = m' ((c.tc : Thread Cert.OutputFirstSampleReferenceIdeal.nD Cert.OutputFirstSampleReferenceIdeal.τ).loc Cert.OutputFirstSampleReferenceIdeal.main_arg6)
          ∧ r.2.mem ((c.tc : Thread Cert.OutputFirstSampleReferenceIdeal.nD Cert.OutputFirstSampleReferenceIdeal.τ).loc Cert.OutputFirstSampleReferenceIdeal.main_arg7) = m' ((c.tc : Thread Cert.OutputFirstSampleReferenceIdeal.nD Cert.OutputFirstSampleReferenceIdeal.τ).loc Cert.OutputFirstSampleReferenceIdeal.main_arg7))

def preserves_OutputNextSample_OutputNextSampleIdeal : Prop :=
  True

def algebraic_OutputNextSampleIdeal_OutputNextSampleReferenceIdeal [hOutputNextSampleIdeal : Cert.OutputNextSampleIdeal.Facts] [hOutputNextSampleReferenceIdeal : Cert.OutputNextSampleReferenceIdeal.Facts] : Prop :=
  ∀ (m : (ℓ : Loc Cert.OutputNextSampleIdeal.nD Cert.OutputNextSampleIdeal.τ Cert.OutputNextSampleIdeal.sig) → Buf (Elt Ideal) ℓ) (g : Dev Cert.OutputNextSampleIdeal.nD → PrngReg)
    (m' : (ℓ : Loc Cert.OutputNextSampleReferenceIdeal.nD Cert.OutputNextSampleReferenceIdeal.τ Cert.OutputNextSampleReferenceIdeal.sig) → Buf (Elt Ideal) ℓ) (g' : Dev Cert.OutputNextSampleReferenceIdeal.nD → PrngReg), Pre_OutputNextSampleIdeal m →
    (∀ c : Dev Cert.OutputNextSampleIdeal.nD,
      m' ((c.tc : Thread Cert.OutputNextSampleReferenceIdeal.nD Cert.OutputNextSampleReferenceIdeal.τ).loc Cert.OutputNextSampleReferenceIdeal.main_arg0) = m ((c.tc : Thread Cert.OutputNextSampleIdeal.nD Cert.OutputNextSampleIdeal.τ).loc Cert.OutputNextSampleIdeal.main_arg0)
      ∧ m' ((c.tc : Thread Cert.OutputNextSampleReferenceIdeal.nD Cert.OutputNextSampleReferenceIdeal.τ).loc Cert.OutputNextSampleReferenceIdeal.main_arg1) = m ((c.tc : Thread Cert.OutputNextSampleIdeal.nD Cert.OutputNextSampleIdeal.τ).loc Cert.OutputNextSampleIdeal.main_arg1)
      ∧ m' ((c.tc : Thread Cert.OutputNextSampleReferenceIdeal.nD Cert.OutputNextSampleReferenceIdeal.τ).loc Cert.OutputNextSampleReferenceIdeal.main_arg2) = m ((c.tc : Thread Cert.OutputNextSampleIdeal.nD Cert.OutputNextSampleIdeal.τ).loc Cert.OutputNextSampleIdeal.main_arg2)
      ∧ m' ((c.tc : Thread Cert.OutputNextSampleReferenceIdeal.nD Cert.OutputNextSampleReferenceIdeal.τ).loc Cert.OutputNextSampleReferenceIdeal.main_arg3) = m ((c.tc : Thread Cert.OutputNextSampleIdeal.nD Cert.OutputNextSampleIdeal.τ).loc Cert.OutputNextSampleIdeal.main_arg3)
      ∧ m' ((c.tc : Thread Cert.OutputNextSampleReferenceIdeal.nD Cert.OutputNextSampleReferenceIdeal.τ).loc Cert.OutputNextSampleReferenceIdeal.main_arg4) = m ((c.tc : Thread Cert.OutputNextSampleIdeal.nD Cert.OutputNextSampleIdeal.τ).loc Cert.OutputNextSampleIdeal.main_arg4)
      ∧ m' ((c.tc : Thread Cert.OutputNextSampleReferenceIdeal.nD Cert.OutputNextSampleReferenceIdeal.τ).loc Cert.OutputNextSampleReferenceIdeal.main_arg5) = m ((c.tc : Thread Cert.OutputNextSampleIdeal.nD Cert.OutputNextSampleIdeal.τ).loc Cert.OutputNextSampleIdeal.main_arg5)
      ∧ m' ((c.tc : Thread Cert.OutputNextSampleReferenceIdeal.nD Cert.OutputNextSampleReferenceIdeal.τ).loc Cert.OutputNextSampleReferenceIdeal.main_arg6) = m ((c.tc : Thread Cert.OutputNextSampleIdeal.nD Cert.OutputNextSampleIdeal.τ).loc Cert.OutputNextSampleIdeal.main_arg6)
      ∧ m' ((c.tc : Thread Cert.OutputNextSampleReferenceIdeal.nD Cert.OutputNextSampleReferenceIdeal.τ).loc Cert.OutputNextSampleReferenceIdeal.main_arg7) = m ((c.tc : Thread Cert.OutputNextSampleIdeal.nD Cert.OutputNextSampleIdeal.τ).loc Cert.OutputNextSampleIdeal.main_arg7)) →
    ∃ (v0 : (c : Dev Cert.OutputNextSampleIdeal.nD) → Buf (Elt Ideal) ((c.tc : Thread Cert.OutputNextSampleIdeal.nD Cert.OutputNextSampleIdeal.τ).loc Cert.OutputNextSampleIdeal.main_v5_0)) (v1 : (c : Dev Cert.OutputNextSampleIdeal.nD) → Buf (Elt Ideal) ((c.tc : Thread Cert.OutputNextSampleIdeal.nD Cert.OutputNextSampleIdeal.τ).loc Cert.OutputNextSampleIdeal.main_v5_1)),
      θ_run (Cert.OutputNextSampleIdeal.defs (F := Ideal)) (onTc (τ := Cert.OutputNextSampleIdeal.τ) (Cert.OutputNextSampleIdeal.main (F := Ideal))) ⟨m, fun _ => 0, g⟩ (fun r => ∀ c : Dev Cert.OutputNextSampleIdeal.nD,
          r.2.mem ((c.tc : Thread Cert.OutputNextSampleIdeal.nD Cert.OutputNextSampleIdeal.τ).loc Cert.OutputNextSampleIdeal.main_v5_0) = v0 c
          ∧ r.2.mem ((c.tc : Thread Cert.OutputNextSampleIdeal.nD Cert.OutputNextSampleIdeal.τ).loc Cert.OutputNextSampleIdeal.main_v5_1) = v1 c
          ∧ r.2.mem ((c.tc : Thread Cert.OutputNextSampleIdeal.nD Cert.OutputNextSampleIdeal.τ).loc Cert.OutputNextSampleIdeal.main_arg0) = m ((c.tc : Thread Cert.OutputNextSampleIdeal.nD Cert.OutputNextSampleIdeal.τ).loc Cert.OutputNextSampleIdeal.main_arg0)
          ∧ r.2.mem ((c.tc : Thread Cert.OutputNextSampleIdeal.nD Cert.OutputNextSampleIdeal.τ).loc Cert.OutputNextSampleIdeal.main_arg1) = m ((c.tc : Thread Cert.OutputNextSampleIdeal.nD Cert.OutputNextSampleIdeal.τ).loc Cert.OutputNextSampleIdeal.main_arg1)
          ∧ r.2.mem ((c.tc : Thread Cert.OutputNextSampleIdeal.nD Cert.OutputNextSampleIdeal.τ).loc Cert.OutputNextSampleIdeal.main_arg2) = m ((c.tc : Thread Cert.OutputNextSampleIdeal.nD Cert.OutputNextSampleIdeal.τ).loc Cert.OutputNextSampleIdeal.main_arg2)
          ∧ r.2.mem ((c.tc : Thread Cert.OutputNextSampleIdeal.nD Cert.OutputNextSampleIdeal.τ).loc Cert.OutputNextSampleIdeal.main_arg3) = m ((c.tc : Thread Cert.OutputNextSampleIdeal.nD Cert.OutputNextSampleIdeal.τ).loc Cert.OutputNextSampleIdeal.main_arg3)
          ∧ r.2.mem ((c.tc : Thread Cert.OutputNextSampleIdeal.nD Cert.OutputNextSampleIdeal.τ).loc Cert.OutputNextSampleIdeal.main_arg4) = m ((c.tc : Thread Cert.OutputNextSampleIdeal.nD Cert.OutputNextSampleIdeal.τ).loc Cert.OutputNextSampleIdeal.main_arg4)
          ∧ r.2.mem ((c.tc : Thread Cert.OutputNextSampleIdeal.nD Cert.OutputNextSampleIdeal.τ).loc Cert.OutputNextSampleIdeal.main_arg5) = m ((c.tc : Thread Cert.OutputNextSampleIdeal.nD Cert.OutputNextSampleIdeal.τ).loc Cert.OutputNextSampleIdeal.main_arg5)
          ∧ r.2.mem ((c.tc : Thread Cert.OutputNextSampleIdeal.nD Cert.OutputNextSampleIdeal.τ).loc Cert.OutputNextSampleIdeal.main_arg6) = m ((c.tc : Thread Cert.OutputNextSampleIdeal.nD Cert.OutputNextSampleIdeal.τ).loc Cert.OutputNextSampleIdeal.main_arg6)
          ∧ r.2.mem ((c.tc : Thread Cert.OutputNextSampleIdeal.nD Cert.OutputNextSampleIdeal.τ).loc Cert.OutputNextSampleIdeal.main_arg7) = m ((c.tc : Thread Cert.OutputNextSampleIdeal.nD Cert.OutputNextSampleIdeal.τ).loc Cert.OutputNextSampleIdeal.main_arg7))
      ∧ θ_run (Cert.OutputNextSampleReferenceIdeal.defs (F := Ideal)) (onTc (τ := Cert.OutputNextSampleReferenceIdeal.τ) (Cert.OutputNextSampleReferenceIdeal.main (F := Ideal))) ⟨m', fun _ => 0, g'⟩ (fun r => ∀ c : Dev Cert.OutputNextSampleReferenceIdeal.nD,
          r.2.mem ((c.tc : Thread Cert.OutputNextSampleReferenceIdeal.nD Cert.OutputNextSampleReferenceIdeal.τ).loc Cert.OutputNextSampleReferenceIdeal.main_v24) = v0 c
          ∧ r.2.mem ((c.tc : Thread Cert.OutputNextSampleReferenceIdeal.nD Cert.OutputNextSampleReferenceIdeal.τ).loc Cert.OutputNextSampleReferenceIdeal.main_v38) = v1 c
          ∧ r.2.mem ((c.tc : Thread Cert.OutputNextSampleReferenceIdeal.nD Cert.OutputNextSampleReferenceIdeal.τ).loc Cert.OutputNextSampleReferenceIdeal.main_arg0) = m' ((c.tc : Thread Cert.OutputNextSampleReferenceIdeal.nD Cert.OutputNextSampleReferenceIdeal.τ).loc Cert.OutputNextSampleReferenceIdeal.main_arg0)
          ∧ r.2.mem ((c.tc : Thread Cert.OutputNextSampleReferenceIdeal.nD Cert.OutputNextSampleReferenceIdeal.τ).loc Cert.OutputNextSampleReferenceIdeal.main_arg1) = m' ((c.tc : Thread Cert.OutputNextSampleReferenceIdeal.nD Cert.OutputNextSampleReferenceIdeal.τ).loc Cert.OutputNextSampleReferenceIdeal.main_arg1)
          ∧ r.2.mem ((c.tc : Thread Cert.OutputNextSampleReferenceIdeal.nD Cert.OutputNextSampleReferenceIdeal.τ).loc Cert.OutputNextSampleReferenceIdeal.main_arg2) = m' ((c.tc : Thread Cert.OutputNextSampleReferenceIdeal.nD Cert.OutputNextSampleReferenceIdeal.τ).loc Cert.OutputNextSampleReferenceIdeal.main_arg2)
          ∧ r.2.mem ((c.tc : Thread Cert.OutputNextSampleReferenceIdeal.nD Cert.OutputNextSampleReferenceIdeal.τ).loc Cert.OutputNextSampleReferenceIdeal.main_arg3) = m' ((c.tc : Thread Cert.OutputNextSampleReferenceIdeal.nD Cert.OutputNextSampleReferenceIdeal.τ).loc Cert.OutputNextSampleReferenceIdeal.main_arg3)
          ∧ r.2.mem ((c.tc : Thread Cert.OutputNextSampleReferenceIdeal.nD Cert.OutputNextSampleReferenceIdeal.τ).loc Cert.OutputNextSampleReferenceIdeal.main_arg4) = m' ((c.tc : Thread Cert.OutputNextSampleReferenceIdeal.nD Cert.OutputNextSampleReferenceIdeal.τ).loc Cert.OutputNextSampleReferenceIdeal.main_arg4)
          ∧ r.2.mem ((c.tc : Thread Cert.OutputNextSampleReferenceIdeal.nD Cert.OutputNextSampleReferenceIdeal.τ).loc Cert.OutputNextSampleReferenceIdeal.main_arg5) = m' ((c.tc : Thread Cert.OutputNextSampleReferenceIdeal.nD Cert.OutputNextSampleReferenceIdeal.τ).loc Cert.OutputNextSampleReferenceIdeal.main_arg5)
          ∧ r.2.mem ((c.tc : Thread Cert.OutputNextSampleReferenceIdeal.nD Cert.OutputNextSampleReferenceIdeal.τ).loc Cert.OutputNextSampleReferenceIdeal.main_arg6) = m' ((c.tc : Thread Cert.OutputNextSampleReferenceIdeal.nD Cert.OutputNextSampleReferenceIdeal.τ).loc Cert.OutputNextSampleReferenceIdeal.main_arg6)
          ∧ r.2.mem ((c.tc : Thread Cert.OutputNextSampleReferenceIdeal.nD Cert.OutputNextSampleReferenceIdeal.τ).loc Cert.OutputNextSampleReferenceIdeal.main_arg7) = m' ((c.tc : Thread Cert.OutputNextSampleReferenceIdeal.nD Cert.OutputNextSampleReferenceIdeal.τ).loc Cert.OutputNextSampleReferenceIdeal.main_arg7))

def preserves_ProjectGate_ProjectGateIdeal : Prop :=
  True

def algebraic_ProjectGateIdeal_ProjectGateReferenceIdeal [hProjectGateIdeal : Cert.ProjectGateIdeal.Facts] [hProjectGateReferenceIdeal : Cert.ProjectGateReferenceIdeal.Facts] : Prop :=
  ∀ (m : (ℓ : Loc Cert.ProjectGateIdeal.nD Cert.ProjectGateIdeal.τ Cert.ProjectGateIdeal.sig) → Buf (Elt Ideal) ℓ) (g : Dev Cert.ProjectGateIdeal.nD → PrngReg)
    (m' : (ℓ : Loc Cert.ProjectGateReferenceIdeal.nD Cert.ProjectGateReferenceIdeal.τ Cert.ProjectGateReferenceIdeal.sig) → Buf (Elt Ideal) ℓ) (g' : Dev Cert.ProjectGateReferenceIdeal.nD → PrngReg), Pre_ProjectGateIdeal m →
    (∀ c : Dev Cert.ProjectGateIdeal.nD,
      m' ((c.tc : Thread Cert.ProjectGateReferenceIdeal.nD Cert.ProjectGateReferenceIdeal.τ).loc Cert.ProjectGateReferenceIdeal.main_arg0) = m ((c.tc : Thread Cert.ProjectGateIdeal.nD Cert.ProjectGateIdeal.τ).loc Cert.ProjectGateIdeal.main_arg0)
      ∧ m' ((c.tc : Thread Cert.ProjectGateReferenceIdeal.nD Cert.ProjectGateReferenceIdeal.τ).loc Cert.ProjectGateReferenceIdeal.main_arg1) = m ((c.tc : Thread Cert.ProjectGateIdeal.nD Cert.ProjectGateIdeal.τ).loc Cert.ProjectGateIdeal.main_arg1)) →
    ∃ (v0 : (c : Dev Cert.ProjectGateIdeal.nD) → Buf (Elt Ideal) ((c.tc : Thread Cert.ProjectGateIdeal.nD Cert.ProjectGateIdeal.τ).loc Cert.ProjectGateIdeal.main_v1)),
      θ_run (Cert.ProjectGateIdeal.defs (F := Ideal)) (onTc (τ := Cert.ProjectGateIdeal.τ) (Cert.ProjectGateIdeal.main (F := Ideal))) ⟨m, fun _ => 0, g⟩ (fun r => ∀ c : Dev Cert.ProjectGateIdeal.nD,
          r.2.mem ((c.tc : Thread Cert.ProjectGateIdeal.nD Cert.ProjectGateIdeal.τ).loc Cert.ProjectGateIdeal.main_v1) = v0 c
          ∧ r.2.mem ((c.tc : Thread Cert.ProjectGateIdeal.nD Cert.ProjectGateIdeal.τ).loc Cert.ProjectGateIdeal.main_arg0) = m ((c.tc : Thread Cert.ProjectGateIdeal.nD Cert.ProjectGateIdeal.τ).loc Cert.ProjectGateIdeal.main_arg0)
          ∧ r.2.mem ((c.tc : Thread Cert.ProjectGateIdeal.nD Cert.ProjectGateIdeal.τ).loc Cert.ProjectGateIdeal.main_arg1) = m ((c.tc : Thread Cert.ProjectGateIdeal.nD Cert.ProjectGateIdeal.τ).loc Cert.ProjectGateIdeal.main_arg1))
      ∧ θ_run (Cert.ProjectGateReferenceIdeal.defs (F := Ideal)) (onTc (τ := Cert.ProjectGateReferenceIdeal.τ) (Cert.ProjectGateReferenceIdeal.main (F := Ideal))) ⟨m', fun _ => 0, g'⟩ (fun r => ∀ c : Dev Cert.ProjectGateReferenceIdeal.nD,
          r.2.mem ((c.tc : Thread Cert.ProjectGateReferenceIdeal.nD Cert.ProjectGateReferenceIdeal.τ).loc Cert.ProjectGateReferenceIdeal.main_v1) = v0 c
          ∧ r.2.mem ((c.tc : Thread Cert.ProjectGateReferenceIdeal.nD Cert.ProjectGateReferenceIdeal.τ).loc Cert.ProjectGateReferenceIdeal.main_arg0) = m' ((c.tc : Thread Cert.ProjectGateReferenceIdeal.nD Cert.ProjectGateReferenceIdeal.τ).loc Cert.ProjectGateReferenceIdeal.main_arg0)
          ∧ r.2.mem ((c.tc : Thread Cert.ProjectGateReferenceIdeal.nD Cert.ProjectGateReferenceIdeal.τ).loc Cert.ProjectGateReferenceIdeal.main_arg1) = m' ((c.tc : Thread Cert.ProjectGateReferenceIdeal.nD Cert.ProjectGateReferenceIdeal.τ).loc Cert.ProjectGateReferenceIdeal.main_arg1))

def preserves_ProjectStep_ProjectStepIdeal : Prop :=
  True

def algebraic_ProjectStepIdeal_ProjectStepReferenceIdeal [hProjectStepIdeal : Cert.ProjectStepIdeal.Facts] [hProjectStepReferenceIdeal : Cert.ProjectStepReferenceIdeal.Facts] : Prop :=
  ∀ (m : (ℓ : Loc Cert.ProjectStepIdeal.nD Cert.ProjectStepIdeal.τ Cert.ProjectStepIdeal.sig) → Buf (Elt Ideal) ℓ) (g : Dev Cert.ProjectStepIdeal.nD → PrngReg)
    (m' : (ℓ : Loc Cert.ProjectStepReferenceIdeal.nD Cert.ProjectStepReferenceIdeal.τ Cert.ProjectStepReferenceIdeal.sig) → Buf (Elt Ideal) ℓ) (g' : Dev Cert.ProjectStepReferenceIdeal.nD → PrngReg), Pre_ProjectStepIdeal m →
    (∀ c : Dev Cert.ProjectStepIdeal.nD,
      m' ((c.tc : Thread Cert.ProjectStepReferenceIdeal.nD Cert.ProjectStepReferenceIdeal.τ).loc Cert.ProjectStepReferenceIdeal.main_arg0) = m ((c.tc : Thread Cert.ProjectStepIdeal.nD Cert.ProjectStepIdeal.τ).loc Cert.ProjectStepIdeal.main_arg0)
      ∧ m' ((c.tc : Thread Cert.ProjectStepReferenceIdeal.nD Cert.ProjectStepReferenceIdeal.τ).loc Cert.ProjectStepReferenceIdeal.main_arg1) = m ((c.tc : Thread Cert.ProjectStepIdeal.nD Cert.ProjectStepIdeal.τ).loc Cert.ProjectStepIdeal.main_arg1)) →
    ∃ (v0 : (c : Dev Cert.ProjectStepIdeal.nD) → Buf (Elt Ideal) ((c.tc : Thread Cert.ProjectStepIdeal.nD Cert.ProjectStepIdeal.τ).loc Cert.ProjectStepIdeal.main_v1)),
      θ_run (Cert.ProjectStepIdeal.defs (F := Ideal)) (onTc (τ := Cert.ProjectStepIdeal.τ) (Cert.ProjectStepIdeal.main (F := Ideal))) ⟨m, fun _ => 0, g⟩ (fun r => ∀ c : Dev Cert.ProjectStepIdeal.nD,
          r.2.mem ((c.tc : Thread Cert.ProjectStepIdeal.nD Cert.ProjectStepIdeal.τ).loc Cert.ProjectStepIdeal.main_v1) = v0 c
          ∧ r.2.mem ((c.tc : Thread Cert.ProjectStepIdeal.nD Cert.ProjectStepIdeal.τ).loc Cert.ProjectStepIdeal.main_arg0) = m ((c.tc : Thread Cert.ProjectStepIdeal.nD Cert.ProjectStepIdeal.τ).loc Cert.ProjectStepIdeal.main_arg0)
          ∧ r.2.mem ((c.tc : Thread Cert.ProjectStepIdeal.nD Cert.ProjectStepIdeal.τ).loc Cert.ProjectStepIdeal.main_arg1) = m ((c.tc : Thread Cert.ProjectStepIdeal.nD Cert.ProjectStepIdeal.τ).loc Cert.ProjectStepIdeal.main_arg1))
      ∧ θ_run (Cert.ProjectStepReferenceIdeal.defs (F := Ideal)) (onTc (τ := Cert.ProjectStepReferenceIdeal.τ) (Cert.ProjectStepReferenceIdeal.main (F := Ideal))) ⟨m', fun _ => 0, g'⟩ (fun r => ∀ c : Dev Cert.ProjectStepReferenceIdeal.nD,
          r.2.mem ((c.tc : Thread Cert.ProjectStepReferenceIdeal.nD Cert.ProjectStepReferenceIdeal.τ).loc Cert.ProjectStepReferenceIdeal.main_v1) = v0 c
          ∧ r.2.mem ((c.tc : Thread Cert.ProjectStepReferenceIdeal.nD Cert.ProjectStepReferenceIdeal.τ).loc Cert.ProjectStepReferenceIdeal.main_arg0) = m' ((c.tc : Thread Cert.ProjectStepReferenceIdeal.nD Cert.ProjectStepReferenceIdeal.τ).loc Cert.ProjectStepReferenceIdeal.main_arg0)
          ∧ r.2.mem ((c.tc : Thread Cert.ProjectStepReferenceIdeal.nD Cert.ProjectStepReferenceIdeal.τ).loc Cert.ProjectStepReferenceIdeal.main_arg1) = m' ((c.tc : Thread Cert.ProjectStepReferenceIdeal.nD Cert.ProjectStepReferenceIdeal.τ).loc Cert.ProjectStepReferenceIdeal.main_arg1))

def preserves_ProjectWideSample_ProjectWideSampleIdeal : Prop :=
  True

def algebraic_ProjectWideSampleIdeal_ProjectWideSampleReferenceIdeal [hProjectWideSampleIdeal : Cert.ProjectWideSampleIdeal.Facts] [hProjectWideSampleReferenceIdeal : Cert.ProjectWideSampleReferenceIdeal.Facts] : Prop :=
  ∀ (m : (ℓ : Loc Cert.ProjectWideSampleIdeal.nD Cert.ProjectWideSampleIdeal.τ Cert.ProjectWideSampleIdeal.sig) → Buf (Elt Ideal) ℓ) (g : Dev Cert.ProjectWideSampleIdeal.nD → PrngReg)
    (m' : (ℓ : Loc Cert.ProjectWideSampleReferenceIdeal.nD Cert.ProjectWideSampleReferenceIdeal.τ Cert.ProjectWideSampleReferenceIdeal.sig) → Buf (Elt Ideal) ℓ) (g' : Dev Cert.ProjectWideSampleReferenceIdeal.nD → PrngReg), Pre_ProjectWideSampleIdeal m →
    (∀ c : Dev Cert.ProjectWideSampleIdeal.nD,
      m' ((c.tc : Thread Cert.ProjectWideSampleReferenceIdeal.nD Cert.ProjectWideSampleReferenceIdeal.τ).loc Cert.ProjectWideSampleReferenceIdeal.main_arg0) = m ((c.tc : Thread Cert.ProjectWideSampleIdeal.nD Cert.ProjectWideSampleIdeal.τ).loc Cert.ProjectWideSampleIdeal.main_arg0)
      ∧ m' ((c.tc : Thread Cert.ProjectWideSampleReferenceIdeal.nD Cert.ProjectWideSampleReferenceIdeal.τ).loc Cert.ProjectWideSampleReferenceIdeal.main_arg1) = m ((c.tc : Thread Cert.ProjectWideSampleIdeal.nD Cert.ProjectWideSampleIdeal.τ).loc Cert.ProjectWideSampleIdeal.main_arg1)) →
    ∃ (v0 : (c : Dev Cert.ProjectWideSampleIdeal.nD) → Buf (Elt Ideal) ((c.tc : Thread Cert.ProjectWideSampleIdeal.nD Cert.ProjectWideSampleIdeal.τ).loc Cert.ProjectWideSampleIdeal.main_v1)),
      θ_run (Cert.ProjectWideSampleIdeal.defs (F := Ideal)) (onTc (τ := Cert.ProjectWideSampleIdeal.τ) (Cert.ProjectWideSampleIdeal.main (F := Ideal))) ⟨m, fun _ => 0, g⟩ (fun r => ∀ c : Dev Cert.ProjectWideSampleIdeal.nD,
          r.2.mem ((c.tc : Thread Cert.ProjectWideSampleIdeal.nD Cert.ProjectWideSampleIdeal.τ).loc Cert.ProjectWideSampleIdeal.main_v1) = v0 c
          ∧ r.2.mem ((c.tc : Thread Cert.ProjectWideSampleIdeal.nD Cert.ProjectWideSampleIdeal.τ).loc Cert.ProjectWideSampleIdeal.main_arg0) = m ((c.tc : Thread Cert.ProjectWideSampleIdeal.nD Cert.ProjectWideSampleIdeal.τ).loc Cert.ProjectWideSampleIdeal.main_arg0)
          ∧ r.2.mem ((c.tc : Thread Cert.ProjectWideSampleIdeal.nD Cert.ProjectWideSampleIdeal.τ).loc Cert.ProjectWideSampleIdeal.main_arg1) = m ((c.tc : Thread Cert.ProjectWideSampleIdeal.nD Cert.ProjectWideSampleIdeal.τ).loc Cert.ProjectWideSampleIdeal.main_arg1))
      ∧ θ_run (Cert.ProjectWideSampleReferenceIdeal.defs (F := Ideal)) (onTc (τ := Cert.ProjectWideSampleReferenceIdeal.τ) (Cert.ProjectWideSampleReferenceIdeal.main (F := Ideal))) ⟨m', fun _ => 0, g'⟩ (fun r => ∀ c : Dev Cert.ProjectWideSampleReferenceIdeal.nD,
          r.2.mem ((c.tc : Thread Cert.ProjectWideSampleReferenceIdeal.nD Cert.ProjectWideSampleReferenceIdeal.τ).loc Cert.ProjectWideSampleReferenceIdeal.main_v1) = v0 c
          ∧ r.2.mem ((c.tc : Thread Cert.ProjectWideSampleReferenceIdeal.nD Cert.ProjectWideSampleReferenceIdeal.τ).loc Cert.ProjectWideSampleReferenceIdeal.main_arg0) = m' ((c.tc : Thread Cert.ProjectWideSampleReferenceIdeal.nD Cert.ProjectWideSampleReferenceIdeal.τ).loc Cert.ProjectWideSampleReferenceIdeal.main_arg0)
          ∧ r.2.mem ((c.tc : Thread Cert.ProjectWideSampleReferenceIdeal.nD Cert.ProjectWideSampleReferenceIdeal.τ).loc Cert.ProjectWideSampleReferenceIdeal.main_arg1) = m' ((c.tc : Thread Cert.ProjectWideSampleReferenceIdeal.nD Cert.ProjectWideSampleReferenceIdeal.τ).loc Cert.ProjectWideSampleReferenceIdeal.main_arg1))

def preserves_ProjectGateSample_ProjectGateSampleIdeal : Prop :=
  True

def algebraic_ProjectGateSampleIdeal_ProjectGateSampleReferenceIdeal [hProjectGateSampleIdeal : Cert.ProjectGateSampleIdeal.Facts] [hProjectGateSampleReferenceIdeal : Cert.ProjectGateSampleReferenceIdeal.Facts] : Prop :=
  ∀ (m : (ℓ : Loc Cert.ProjectGateSampleIdeal.nD Cert.ProjectGateSampleIdeal.τ Cert.ProjectGateSampleIdeal.sig) → Buf (Elt Ideal) ℓ) (g : Dev Cert.ProjectGateSampleIdeal.nD → PrngReg)
    (m' : (ℓ : Loc Cert.ProjectGateSampleReferenceIdeal.nD Cert.ProjectGateSampleReferenceIdeal.τ Cert.ProjectGateSampleReferenceIdeal.sig) → Buf (Elt Ideal) ℓ) (g' : Dev Cert.ProjectGateSampleReferenceIdeal.nD → PrngReg), Pre_ProjectGateSampleIdeal m →
    (∀ c : Dev Cert.ProjectGateSampleIdeal.nD,
      m' ((c.tc : Thread Cert.ProjectGateSampleReferenceIdeal.nD Cert.ProjectGateSampleReferenceIdeal.τ).loc Cert.ProjectGateSampleReferenceIdeal.main_arg0) = m ((c.tc : Thread Cert.ProjectGateSampleIdeal.nD Cert.ProjectGateSampleIdeal.τ).loc Cert.ProjectGateSampleIdeal.main_arg0)
      ∧ m' ((c.tc : Thread Cert.ProjectGateSampleReferenceIdeal.nD Cert.ProjectGateSampleReferenceIdeal.τ).loc Cert.ProjectGateSampleReferenceIdeal.main_arg1) = m ((c.tc : Thread Cert.ProjectGateSampleIdeal.nD Cert.ProjectGateSampleIdeal.τ).loc Cert.ProjectGateSampleIdeal.main_arg1)) →
    ∃ (v0 : (c : Dev Cert.ProjectGateSampleIdeal.nD) → Buf (Elt Ideal) ((c.tc : Thread Cert.ProjectGateSampleIdeal.nD Cert.ProjectGateSampleIdeal.τ).loc Cert.ProjectGateSampleIdeal.main_v1)),
      θ_run (Cert.ProjectGateSampleIdeal.defs (F := Ideal)) (onTc (τ := Cert.ProjectGateSampleIdeal.τ) (Cert.ProjectGateSampleIdeal.main (F := Ideal))) ⟨m, fun _ => 0, g⟩ (fun r => ∀ c : Dev Cert.ProjectGateSampleIdeal.nD,
          r.2.mem ((c.tc : Thread Cert.ProjectGateSampleIdeal.nD Cert.ProjectGateSampleIdeal.τ).loc Cert.ProjectGateSampleIdeal.main_v1) = v0 c
          ∧ r.2.mem ((c.tc : Thread Cert.ProjectGateSampleIdeal.nD Cert.ProjectGateSampleIdeal.τ).loc Cert.ProjectGateSampleIdeal.main_arg0) = m ((c.tc : Thread Cert.ProjectGateSampleIdeal.nD Cert.ProjectGateSampleIdeal.τ).loc Cert.ProjectGateSampleIdeal.main_arg0)
          ∧ r.2.mem ((c.tc : Thread Cert.ProjectGateSampleIdeal.nD Cert.ProjectGateSampleIdeal.τ).loc Cert.ProjectGateSampleIdeal.main_arg1) = m ((c.tc : Thread Cert.ProjectGateSampleIdeal.nD Cert.ProjectGateSampleIdeal.τ).loc Cert.ProjectGateSampleIdeal.main_arg1))
      ∧ θ_run (Cert.ProjectGateSampleReferenceIdeal.defs (F := Ideal)) (onTc (τ := Cert.ProjectGateSampleReferenceIdeal.τ) (Cert.ProjectGateSampleReferenceIdeal.main (F := Ideal))) ⟨m', fun _ => 0, g'⟩ (fun r => ∀ c : Dev Cert.ProjectGateSampleReferenceIdeal.nD,
          r.2.mem ((c.tc : Thread Cert.ProjectGateSampleReferenceIdeal.nD Cert.ProjectGateSampleReferenceIdeal.τ).loc Cert.ProjectGateSampleReferenceIdeal.main_v1) = v0 c
          ∧ r.2.mem ((c.tc : Thread Cert.ProjectGateSampleReferenceIdeal.nD Cert.ProjectGateSampleReferenceIdeal.τ).loc Cert.ProjectGateSampleReferenceIdeal.main_arg0) = m' ((c.tc : Thread Cert.ProjectGateSampleReferenceIdeal.nD Cert.ProjectGateSampleReferenceIdeal.τ).loc Cert.ProjectGateSampleReferenceIdeal.main_arg0)
          ∧ r.2.mem ((c.tc : Thread Cert.ProjectGateSampleReferenceIdeal.nD Cert.ProjectGateSampleReferenceIdeal.τ).loc Cert.ProjectGateSampleReferenceIdeal.main_arg1) = m' ((c.tc : Thread Cert.ProjectGateSampleReferenceIdeal.nD Cert.ProjectGateSampleReferenceIdeal.τ).loc Cert.ProjectGateSampleReferenceIdeal.main_arg1))

def preserves_ProjectStepSample_ProjectStepSampleIdeal : Prop :=
  True

def algebraic_ProjectStepSampleIdeal_ProjectStepSampleReferenceIdeal [hProjectStepSampleIdeal : Cert.ProjectStepSampleIdeal.Facts] [hProjectStepSampleReferenceIdeal : Cert.ProjectStepSampleReferenceIdeal.Facts] : Prop :=
  ∀ (m : (ℓ : Loc Cert.ProjectStepSampleIdeal.nD Cert.ProjectStepSampleIdeal.τ Cert.ProjectStepSampleIdeal.sig) → Buf (Elt Ideal) ℓ) (g : Dev Cert.ProjectStepSampleIdeal.nD → PrngReg)
    (m' : (ℓ : Loc Cert.ProjectStepSampleReferenceIdeal.nD Cert.ProjectStepSampleReferenceIdeal.τ Cert.ProjectStepSampleReferenceIdeal.sig) → Buf (Elt Ideal) ℓ) (g' : Dev Cert.ProjectStepSampleReferenceIdeal.nD → PrngReg), Pre_ProjectStepSampleIdeal m →
    (∀ c : Dev Cert.ProjectStepSampleIdeal.nD,
      m' ((c.tc : Thread Cert.ProjectStepSampleReferenceIdeal.nD Cert.ProjectStepSampleReferenceIdeal.τ).loc Cert.ProjectStepSampleReferenceIdeal.main_arg0) = m ((c.tc : Thread Cert.ProjectStepSampleIdeal.nD Cert.ProjectStepSampleIdeal.τ).loc Cert.ProjectStepSampleIdeal.main_arg0)
      ∧ m' ((c.tc : Thread Cert.ProjectStepSampleReferenceIdeal.nD Cert.ProjectStepSampleReferenceIdeal.τ).loc Cert.ProjectStepSampleReferenceIdeal.main_arg1) = m ((c.tc : Thread Cert.ProjectStepSampleIdeal.nD Cert.ProjectStepSampleIdeal.τ).loc Cert.ProjectStepSampleIdeal.main_arg1)) →
    ∃ (v0 : (c : Dev Cert.ProjectStepSampleIdeal.nD) → Buf (Elt Ideal) ((c.tc : Thread Cert.ProjectStepSampleIdeal.nD Cert.ProjectStepSampleIdeal.τ).loc Cert.ProjectStepSampleIdeal.main_v1)),
      θ_run (Cert.ProjectStepSampleIdeal.defs (F := Ideal)) (onTc (τ := Cert.ProjectStepSampleIdeal.τ) (Cert.ProjectStepSampleIdeal.main (F := Ideal))) ⟨m, fun _ => 0, g⟩ (fun r => ∀ c : Dev Cert.ProjectStepSampleIdeal.nD,
          r.2.mem ((c.tc : Thread Cert.ProjectStepSampleIdeal.nD Cert.ProjectStepSampleIdeal.τ).loc Cert.ProjectStepSampleIdeal.main_v1) = v0 c
          ∧ r.2.mem ((c.tc : Thread Cert.ProjectStepSampleIdeal.nD Cert.ProjectStepSampleIdeal.τ).loc Cert.ProjectStepSampleIdeal.main_arg0) = m ((c.tc : Thread Cert.ProjectStepSampleIdeal.nD Cert.ProjectStepSampleIdeal.τ).loc Cert.ProjectStepSampleIdeal.main_arg0)
          ∧ r.2.mem ((c.tc : Thread Cert.ProjectStepSampleIdeal.nD Cert.ProjectStepSampleIdeal.τ).loc Cert.ProjectStepSampleIdeal.main_arg1) = m ((c.tc : Thread Cert.ProjectStepSampleIdeal.nD Cert.ProjectStepSampleIdeal.τ).loc Cert.ProjectStepSampleIdeal.main_arg1))
      ∧ θ_run (Cert.ProjectStepSampleReferenceIdeal.defs (F := Ideal)) (onTc (τ := Cert.ProjectStepSampleReferenceIdeal.τ) (Cert.ProjectStepSampleReferenceIdeal.main (F := Ideal))) ⟨m', fun _ => 0, g'⟩ (fun r => ∀ c : Dev Cert.ProjectStepSampleReferenceIdeal.nD,
          r.2.mem ((c.tc : Thread Cert.ProjectStepSampleReferenceIdeal.nD Cert.ProjectStepSampleReferenceIdeal.τ).loc Cert.ProjectStepSampleReferenceIdeal.main_v1) = v0 c
          ∧ r.2.mem ((c.tc : Thread Cert.ProjectStepSampleReferenceIdeal.nD Cert.ProjectStepSampleReferenceIdeal.τ).loc Cert.ProjectStepSampleReferenceIdeal.main_arg0) = m' ((c.tc : Thread Cert.ProjectStepSampleReferenceIdeal.nD Cert.ProjectStepSampleReferenceIdeal.τ).loc Cert.ProjectStepSampleReferenceIdeal.main_arg0)
          ∧ r.2.mem ((c.tc : Thread Cert.ProjectStepSampleReferenceIdeal.nD Cert.ProjectStepSampleReferenceIdeal.τ).loc Cert.ProjectStepSampleReferenceIdeal.main_arg1) = m' ((c.tc : Thread Cert.ProjectStepSampleReferenceIdeal.nD Cert.ProjectStepSampleReferenceIdeal.τ).loc Cert.ProjectStepSampleReferenceIdeal.main_arg1))

def preserves_NormSample_NormSampleIdeal : Prop :=
  True

def algebraic_NormSampleIdeal_NormSampleReferenceIdeal [hNormSampleIdeal : Cert.NormSampleIdeal.Facts] [hNormSampleReferenceIdeal : Cert.NormSampleReferenceIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleReferenceIdeal.nD Cert.NormSampleReferenceIdeal.τ Cert.NormSampleReferenceIdeal.sig) → Buf (Elt Ideal) ℓ) (g' : Dev Cert.NormSampleReferenceIdeal.nD → PrngReg), Pre_NormSampleIdeal m →
    (∀ c : Dev Cert.NormSampleIdeal.nD,
      m' ((c.tc : Thread Cert.NormSampleReferenceIdeal.nD Cert.NormSampleReferenceIdeal.τ).loc Cert.NormSampleReferenceIdeal.main_arg0) = m ((c.tc : Thread Cert.NormSampleIdeal.nD Cert.NormSampleIdeal.τ).loc Cert.NormSampleIdeal.main_arg0)
      ∧ m' ((c.tc : Thread Cert.NormSampleReferenceIdeal.nD Cert.NormSampleReferenceIdeal.τ).loc Cert.NormSampleReferenceIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleReferenceIdeal.defs (F := Ideal)) (onTc (τ := Cert.NormSampleReferenceIdeal.τ) (Cert.NormSampleReferenceIdeal.main (F := Ideal))) ⟨m', fun _ => 0, g'⟩ (fun r => ∀ c : Dev Cert.NormSampleReferenceIdeal.nD,
          r.2.mem ((c.tc : Thread Cert.NormSampleReferenceIdeal.nD Cert.NormSampleReferenceIdeal.τ).loc Cert.NormSampleReferenceIdeal.main_v13) = v0 c
          ∧ r.2.mem ((c.tc : Thread Cert.NormSampleReferenceIdeal.nD Cert.NormSampleReferenceIdeal.τ).loc Cert.NormSampleReferenceIdeal.main_arg0) = m' ((c.tc : Thread Cert.NormSampleReferenceIdeal.nD Cert.NormSampleReferenceIdeal.τ).loc Cert.NormSampleReferenceIdeal.main_arg0)
          ∧ r.2.mem ((c.tc : Thread Cert.NormSampleReferenceIdeal.nD Cert.NormSampleReferenceIdeal.τ).loc Cert.NormSampleReferenceIdeal.main_arg1) = m' ((c.tc : Thread Cert.NormSampleReferenceIdeal.nD Cert.NormSampleReferenceIdeal.τ).loc Cert.NormSampleReferenceIdeal.main_arg1))

def preserves_ConvSample_ConvSampleIdeal : Prop :=
  True

def algebraic_ConvSampleIdeal_ConvSampleReferenceIdeal [hConvSampleIdeal : Cert.ConvSampleIdeal.Facts] [hConvSampleReferenceIdeal : Cert.ConvSampleReferenceIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleReferenceIdeal.nD Cert.ConvSampleReferenceIdeal.τ Cert.ConvSampleReferenceIdeal.sig) → Buf (Elt Ideal) ℓ) (g' : Dev Cert.ConvSampleReferenceIdeal.nD → PrngReg), Pre_ConvSampleIdeal m →
    (∀ c : Dev Cert.ConvSampleIdeal.nD,
      m' ((c.tc : Thread Cert.ConvSampleReferenceIdeal.nD Cert.ConvSampleReferenceIdeal.τ).loc Cert.ConvSampleReferenceIdeal.main_arg0) = m ((c.tc : Thread Cert.ConvSampleIdeal.nD Cert.ConvSampleIdeal.τ).loc Cert.ConvSampleIdeal.main_arg0)
      ∧ m' ((c.tc : Thread Cert.ConvSampleReferenceIdeal.nD Cert.ConvSampleReferenceIdeal.τ).loc Cert.ConvSampleReferenceIdeal.main_arg1) = m ((c.tc : Thread Cert.ConvSampleIdeal.nD Cert.ConvSampleIdeal.τ).loc Cert.ConvSampleIdeal.main_arg1)
      ∧ m' ((c.tc : Thread Cert.ConvSampleReferenceIdeal.nD Cert.ConvSampleReferenceIdeal.τ).loc Cert.ConvSampleReferenceIdeal.main_arg2) = m ((c.tc : Thread Cert.ConvSampleIdeal.nD Cert.ConvSampleIdeal.τ).loc Cert.ConvSampleIdeal.main_arg2)
      ∧ m' ((c.tc : Thread Cert.ConvSampleReferenceIdeal.nD Cert.ConvSampleReferenceIdeal.τ).loc Cert.ConvSampleReferenceIdeal.main_arg3) = m ((c.tc : Thread Cert.ConvSampleIdeal.nD Cert.ConvSampleIdeal.τ).loc Cert.ConvSampleIdeal.main_arg3)
      ∧ m' ((c.tc : Thread Cert.ConvSampleReferenceIdeal.nD Cert.ConvSampleReferenceIdeal.τ).loc Cert.ConvSampleReferenceIdeal.main_arg4) = m ((c.tc : Thread Cert.ConvSampleIdeal.nD Cert.ConvSampleIdeal.τ).loc Cert.ConvSampleIdeal.main_arg4)
      ∧ m' ((c.tc : Thread Cert.ConvSampleReferenceIdeal.nD Cert.ConvSampleReferenceIdeal.τ).loc Cert.ConvSampleReferenceIdeal.main_arg5) = m ((c.tc : Thread Cert.ConvSampleIdeal.nD Cert.ConvSampleIdeal.τ).loc Cert.ConvSampleIdeal.main_arg5)
      ∧ m' ((c.tc : Thread Cert.ConvSampleReferenceIdeal.nD Cert.ConvSampleReferenceIdeal.τ).loc Cert.ConvSampleReferenceIdeal.main_arg6) = m ((c.tc : Thread Cert.ConvSampleIdeal.nD Cert.ConvSampleIdeal.τ).loc Cert.ConvSampleIdeal.main_arg6)
      ∧ m' ((c.tc : Thread Cert.ConvSampleReferenceIdeal.nD Cert.ConvSampleReferenceIdeal.τ).loc Cert.ConvSampleReferenceIdeal.main_arg7) = m ((c.tc : Thread Cert.ConvSampleIdeal.nD Cert.ConvSampleIdeal.τ).loc Cert.ConvSampleIdeal.main_arg7)) →
    ∃ (v0 : (c : Dev Cert.ConvSampleIdeal.nD) → Buf (Elt Ideal) ((c.tc : Thread Cert.ConvSampleIdeal.nD Cert.ConvSampleIdeal.τ).loc Cert.ConvSampleIdeal.main_v4_0)) (v1 : (c : Dev Cert.ConvSampleIdeal.nD) → Buf (Elt Ideal) ((c.tc : Thread Cert.ConvSampleIdeal.nD Cert.ConvSampleIdeal.τ).loc Cert.ConvSampleIdeal.main_v4_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v4_0) = v0 c
          ∧ r.2.mem ((c.tc : Thread Cert.ConvSampleIdeal.nD Cert.ConvSampleIdeal.τ).loc Cert.ConvSampleIdeal.main_v4_1) = v1 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
          ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6)
          ∧ r.2.mem ((c.tc : Thread Cert.ConvSampleIdeal.nD Cert.ConvSampleIdeal.τ).loc Cert.ConvSampleIdeal.main_arg7) = m ((c.tc : Thread Cert.ConvSampleIdeal.nD Cert.ConvSampleIdeal.τ).loc Cert.ConvSampleIdeal.main_arg7))
      ∧ θ_run (Cert.ConvSampleReferenceIdeal.defs (F := Ideal)) (onTc (τ := Cert.ConvSampleReferenceIdeal.τ) (Cert.ConvSampleReferenceIdeal.main (F := Ideal))) ⟨m', fun _ => 0, g'⟩ (fun r => ∀ c : Dev Cert.ConvSampleReferenceIdeal.nD,
          r.2.mem ((c.tc : Thread Cert.ConvSampleReferenceIdeal.nD Cert.ConvSampleReferenceIdeal.τ).loc Cert.ConvSampleReferenceIdeal.main_v257) = v0 c
          ∧ r.2.mem ((c.tc : Thread Cert.ConvSampleReferenceIdeal.nD Cert.ConvSampleReferenceIdeal.τ).loc Cert.ConvSampleReferenceIdeal.main_v258) = v1 c
          ∧ r.2.mem ((c.tc : Thread Cert.ConvSampleReferenceIdeal.nD Cert.ConvSampleReferenceIdeal.τ).loc Cert.ConvSampleReferenceIdeal.main_arg0) = m' ((c.tc : Thread Cert.ConvSampleReferenceIdeal.nD Cert.ConvSampleReferenceIdeal.τ).loc Cert.ConvSampleReferenceIdeal.main_arg0)
          ∧ r.2.mem ((c.tc : Thread Cert.ConvSampleReferenceIdeal.nD Cert.ConvSampleReferenceIdeal.τ).loc Cert.ConvSampleReferenceIdeal.main_arg1) = m' ((c.tc : Thread Cert.ConvSampleReferenceIdeal.nD Cert.ConvSampleReferenceIdeal.τ).loc Cert.ConvSampleReferenceIdeal.main_arg1)
          ∧ r.2.mem ((c.tc : Thread Cert.ConvSampleReferenceIdeal.nD Cert.ConvSampleReferenceIdeal.τ).loc Cert.ConvSampleReferenceIdeal.main_arg2) = m' ((c.tc : Thread Cert.ConvSampleReferenceIdeal.nD Cert.ConvSampleReferenceIdeal.τ).loc Cert.ConvSampleReferenceIdeal.main_arg2)
          ∧ r.2.mem ((c.tc : Thread Cert.ConvSampleReferenceIdeal.nD Cert.ConvSampleReferenceIdeal.τ).loc Cert.ConvSampleReferenceIdeal.main_arg3) = m' ((c.tc : Thread Cert.ConvSampleReferenceIdeal.nD Cert.ConvSampleReferenceIdeal.τ).loc Cert.ConvSampleReferenceIdeal.main_arg3)
          ∧ r.2.mem ((c.tc : Thread Cert.ConvSampleReferenceIdeal.nD Cert.ConvSampleReferenceIdeal.τ).loc Cert.ConvSampleReferenceIdeal.main_arg4) = m' ((c.tc : Thread Cert.ConvSampleReferenceIdeal.nD Cert.ConvSampleReferenceIdeal.τ).loc Cert.ConvSampleReferenceIdeal.main_arg4)
          ∧ r.2.mem ((c.tc : Thread Cert.ConvSampleReferenceIdeal.nD Cert.ConvSampleReferenceIdeal.τ).loc Cert.ConvSampleReferenceIdeal.main_arg5) = m' ((c.tc : Thread Cert.ConvSampleReferenceIdeal.nD Cert.ConvSampleReferenceIdeal.τ).loc Cert.ConvSampleReferenceIdeal.main_arg5)
          ∧ r.2.mem ((c.tc : Thread Cert.ConvSampleReferenceIdeal.nD Cert.ConvSampleReferenceIdeal.τ).loc Cert.ConvSampleReferenceIdeal.main_arg6) = m' ((c.tc : Thread Cert.ConvSampleReferenceIdeal.nD Cert.ConvSampleReferenceIdeal.τ).loc Cert.ConvSampleReferenceIdeal.main_arg6)
          ∧ r.2.mem ((c.tc : Thread Cert.ConvSampleReferenceIdeal.nD Cert.ConvSampleReferenceIdeal.τ).loc Cert.ConvSampleReferenceIdeal.main_arg7) = m' ((c.tc : Thread Cert.ConvSampleReferenceIdeal.nD Cert.ConvSampleReferenceIdeal.τ).loc Cert.ConvSampleReferenceIdeal.main_arg7))

def Claim : Prop :=
  ∃ (hKernel : Cert.Kernel.Facts) (hKernelIdeal : Cert.KernelIdeal.Facts) (hReferenceIdeal : Cert.ReferenceIdeal.Facts) (hOutput : Cert.Output.Facts) (hOutputIdeal : Cert.OutputIdeal.Facts) (hOutputReferenceIdeal : Cert.OutputReferenceIdeal.Facts) (hOutputSample : Cert.OutputSample.Facts) (hOutputSampleIdeal : Cert.OutputSampleIdeal.Facts) (hOutputSampleReferenceIdeal : Cert.OutputSampleReferenceIdeal.Facts) (hOutputNext : Cert.OutputNext.Facts) (hOutputNextIdeal : Cert.OutputNextIdeal.Facts) (hOutputNextReferenceIdeal : Cert.OutputNextReferenceIdeal.Facts) (hProject : Cert.Project.Facts) (hProjectIdeal : Cert.ProjectIdeal.Facts) (hProjectReferenceIdeal : Cert.ProjectReferenceIdeal.Facts) (hProjectSample : Cert.ProjectSample.Facts) (hProjectSampleIdeal : Cert.ProjectSampleIdeal.Facts) (hProjectSampleReferenceIdeal : Cert.ProjectSampleReferenceIdeal.Facts) (hProjectWide : Cert.ProjectWide.Facts) (hProjectWideIdeal : Cert.ProjectWideIdeal.Facts) (hProjectWideReferenceIdeal : Cert.ProjectWideReferenceIdeal.Facts) (hNorm : Cert.Norm.Facts) (hNormIdeal : Cert.NormIdeal.Facts) (hNormReferenceIdeal : Cert.NormReferenceIdeal.Facts) (hOutputFirst : Cert.OutputFirst.Facts) (hOutputFirstIdeal : Cert.OutputFirstIdeal.Facts) (hOutputFirstReferenceIdeal : Cert.OutputFirstReferenceIdeal.Facts) (hOutputFirstSample : Cert.OutputFirstSample.Facts) (hOutputFirstSampleIdeal : Cert.OutputFirstSampleIdeal.Facts) (hOutputFirstSampleReferenceIdeal : Cert.OutputFirstSampleReferenceIdeal.Facts) (hOutputNextSample : Cert.OutputNextSample.Facts) (hOutputNextSampleIdeal : Cert.OutputNextSampleIdeal.Facts) (hOutputNextSampleReferenceIdeal : Cert.OutputNextSampleReferenceIdeal.Facts) (hProjectGate : Cert.ProjectGate.Facts) (hProjectGateIdeal : Cert.ProjectGateIdeal.Facts) (hProjectGateReferenceIdeal : Cert.ProjectGateReferenceIdeal.Facts) (hProjectStep : Cert.ProjectStep.Facts) (hProjectStepIdeal : Cert.ProjectStepIdeal.Facts) (hProjectStepReferenceIdeal : Cert.ProjectStepReferenceIdeal.Facts) (hProjectWideSample : Cert.ProjectWideSample.Facts) (hProjectWideSampleIdeal : Cert.ProjectWideSampleIdeal.Facts) (hProjectWideSampleReferenceIdeal : Cert.ProjectWideSampleReferenceIdeal.Facts) (hProjectGateSample : Cert.ProjectGateSample.Facts) (hProjectGateSampleIdeal : Cert.ProjectGateSampleIdeal.Facts) (hProjectGateSampleReferenceIdeal : Cert.ProjectGateSampleReferenceIdeal.Facts) (hProjectStepSample : Cert.ProjectStepSample.Facts) (hProjectStepSampleIdeal : Cert.ProjectStepSampleIdeal.Facts) (hProjectStepSampleReferenceIdeal : Cert.ProjectStepSampleReferenceIdeal.Facts) (hNormSample : Cert.NormSample.Facts) (hNormSampleIdeal : Cert.NormSampleIdeal.Facts) (hNormSampleReferenceIdeal : Cert.NormSampleReferenceIdeal.Facts) (hConvSample : Cert.ConvSample.Facts) (hConvSampleIdeal : Cert.ConvSampleIdeal.Facts) (hConvSampleReferenceIdeal : Cert.ConvSampleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_OutputSample (hOutputSample := hOutputSample)
    ∧ quiescent_OutputSampleIdeal (hOutputSampleIdeal := hOutputSampleIdeal)
    ∧ quiescent_OutputSampleReferenceIdeal (hOutputSampleReferenceIdeal := hOutputSampleReferenceIdeal)
    ∧ quiescent_OutputNext (hOutputNext := hOutputNext)
    ∧ quiescent_OutputNextIdeal (hOutputNextIdeal := hOutputNextIdeal)
    ∧ quiescent_OutputNextReferenceIdeal (hOutputNextReferenceIdeal := hOutputNextReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ quiescent_ProjectWide (hProjectWide := hProjectWide)
    ∧ quiescent_ProjectWideIdeal (hProjectWideIdeal := hProjectWideIdeal)
    ∧ quiescent_ProjectWideReferenceIdeal (hProjectWideReferenceIdeal := hProjectWideReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_OutputFirst (hOutputFirst := hOutputFirst)
    ∧ quiescent_OutputFirstIdeal (hOutputFirstIdeal := hOutputFirstIdeal)
    ∧ quiescent_OutputFirstReferenceIdeal (hOutputFirstReferenceIdeal := hOutputFirstReferenceIdeal)
    ∧ quiescent_OutputFirstSample (hOutputFirstSample := hOutputFirstSample)
    ∧ quiescent_OutputFirstSampleIdeal (hOutputFirstSampleIdeal := hOutputFirstSampleIdeal)
    ∧ quiescent_OutputFirstSampleReferenceIdeal (hOutputFirstSampleReferenceIdeal := hOutputFirstSampleReferenceIdeal)
    ∧ quiescent_OutputNextSample (hOutputNextSample := hOutputNextSample)
    ∧ quiescent_OutputNextSampleIdeal (hOutputNextSampleIdeal := hOutputNextSampleIdeal)
    ∧ quiescent_OutputNextSampleReferenceIdeal (hOutputNextSampleReferenceIdeal := hOutputNextSampleReferenceIdeal)
    ∧ quiescent_ProjectGate (hProjectGate := hProjectGate)
    ∧ quiescent_ProjectGateIdeal (hProjectGateIdeal := hProjectGateIdeal)
    ∧ quiescent_ProjectGateReferenceIdeal (hProjectGateReferenceIdeal := hProjectGateReferenceIdeal)
    ∧ quiescent_ProjectStep (hProjectStep := hProjectStep)
    ∧ quiescent_ProjectStepIdeal (hProjectStepIdeal := hProjectStepIdeal)
    ∧ quiescent_ProjectStepReferenceIdeal (hProjectStepReferenceIdeal := hProjectStepReferenceIdeal)
    ∧ quiescent_ProjectWideSample (hProjectWideSample := hProjectWideSample)
    ∧ quiescent_ProjectWideSampleIdeal (hProjectWideSampleIdeal := hProjectWideSampleIdeal)
    ∧ quiescent_ProjectWideSampleReferenceIdeal (hProjectWideSampleReferenceIdeal := hProjectWideSampleReferenceIdeal)
    ∧ quiescent_ProjectGateSample (hProjectGateSample := hProjectGateSample)
    ∧ quiescent_ProjectGateSampleIdeal (hProjectGateSampleIdeal := hProjectGateSampleIdeal)
    ∧ quiescent_ProjectGateSampleReferenceIdeal (hProjectGateSampleReferenceIdeal := hProjectGateSampleReferenceIdeal)
    ∧ quiescent_ProjectStepSample (hProjectStepSample := hProjectStepSample)
    ∧ quiescent_ProjectStepSampleIdeal (hProjectStepSampleIdeal := hProjectStepSampleIdeal)
    ∧ quiescent_ProjectStepSampleReferenceIdeal (hProjectStepSampleReferenceIdeal := hProjectStepSampleReferenceIdeal)
    ∧ quiescent_NormSample (hNormSample := hNormSample)
    ∧ quiescent_NormSampleIdeal (hNormSampleIdeal := hNormSampleIdeal)
    ∧ quiescent_NormSampleReferenceIdeal (hNormSampleReferenceIdeal := hNormSampleReferenceIdeal)
    ∧ quiescent_ConvSample (hConvSample := hConvSample)
    ∧ quiescent_ConvSampleIdeal (hConvSampleIdeal := hConvSampleIdeal)
    ∧ quiescent_ConvSampleReferenceIdeal (hConvSampleReferenceIdeal := hConvSampleReferenceIdeal)
    ∧ preserves_Kernel_KernelIdeal
    ∧ algebraic_KernelIdeal_ReferenceIdeal (hKernelIdeal := hKernelIdeal) (hReferenceIdeal := hReferenceIdeal)
    ∧ preserves_Output_OutputIdeal
    ∧ algebraic_OutputIdeal_OutputReferenceIdeal (hOutputIdeal := hOutputIdeal) (hOutputReferenceIdeal := hOutputReferenceIdeal)
    ∧ preserves_OutputSample_OutputSampleIdeal
    ∧ algebraic_OutputSampleIdeal_OutputSampleReferenceIdeal (hOutputSampleIdeal := hOutputSampleIdeal) (hOutputSampleReferenceIdeal := hOutputSampleReferenceIdeal)
    ∧ preserves_OutputNext_OutputNextIdeal
    ∧ algebraic_OutputNextIdeal_OutputNextReferenceIdeal (hOutputNextIdeal := hOutputNextIdeal) (hOutputNextReferenceIdeal := hOutputNextReferenceIdeal)
    ∧ preserves_Project_ProjectIdeal
    ∧ algebraic_ProjectIdeal_ProjectReferenceIdeal (hProjectIdeal := hProjectIdeal) (hProjectReferenceIdeal := hProjectReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
    ∧ preserves_ProjectWide_ProjectWideIdeal
    ∧ algebraic_ProjectWideIdeal_ProjectWideReferenceIdeal (hProjectWideIdeal := hProjectWideIdeal) (hProjectWideReferenceIdeal := hProjectWideReferenceIdeal)
    ∧ preserves_Norm_NormIdeal
    ∧ algebraic_NormIdeal_NormReferenceIdeal (hNormIdeal := hNormIdeal) (hNormReferenceIdeal := hNormReferenceIdeal)
    ∧ preserves_OutputFirst_OutputFirstIdeal
    ∧ algebraic_OutputFirstIdeal_OutputFirstReferenceIdeal (hOutputFirstIdeal := hOutputFirstIdeal) (hOutputFirstReferenceIdeal := hOutputFirstReferenceIdeal)
    ∧ preserves_OutputFirstSample_OutputFirstSampleIdeal
    ∧ algebraic_OutputFirstSampleIdeal_OutputFirstSampleReferenceIdeal (hOutputFirstSampleIdeal := hOutputFirstSampleIdeal) (hOutputFirstSampleReferenceIdeal := hOutputFirstSampleReferenceIdeal)
    ∧ preserves_OutputNextSample_OutputNextSampleIdeal
    ∧ algebraic_OutputNextSampleIdeal_OutputNextSampleReferenceIdeal (hOutputNextSampleIdeal := hOutputNextSampleIdeal) (hOutputNextSampleReferenceIdeal := hOutputNextSampleReferenceIdeal)
    ∧ preserves_ProjectGate_ProjectGateIdeal
    ∧ algebraic_ProjectGateIdeal_ProjectGateReferenceIdeal (hProjectGateIdeal := hProjectGateIdeal) (hProjectGateReferenceIdeal := hProjectGateReferenceIdeal)
    ∧ preserves_ProjectStep_ProjectStepIdeal
    ∧ algebraic_ProjectStepIdeal_ProjectStepReferenceIdeal (hProjectStepIdeal := hProjectStepIdeal) (hProjectStepReferenceIdeal := hProjectStepReferenceIdeal)
    ∧ preserves_ProjectWideSample_ProjectWideSampleIdeal
    ∧ algebraic_ProjectWideSampleIdeal_ProjectWideSampleReferenceIdeal (hProjectWideSampleIdeal := hProjectWideSampleIdeal) (hProjectWideSampleReferenceIdeal := hProjectWideSampleReferenceIdeal)
    ∧ preserves_ProjectGateSample_ProjectGateSampleIdeal
    ∧ algebraic_ProjectGateSampleIdeal_ProjectGateSampleReferenceIdeal (hProjectGateSampleIdeal := hProjectGateSampleIdeal) (hProjectGateSampleReferenceIdeal := hProjectGateSampleReferenceIdeal)
    ∧ preserves_ProjectStepSample_ProjectStepSampleIdeal
    ∧ algebraic_ProjectStepSampleIdeal_ProjectStepSampleReferenceIdeal (hProjectStepSampleIdeal := hProjectStepSampleIdeal) (hProjectStepSampleReferenceIdeal := hProjectStepSampleReferenceIdeal)
    ∧ preserves_NormSample_NormSampleIdeal
    ∧ algebraic_NormSampleIdeal_NormSampleReferenceIdeal (hNormSampleIdeal := hNormSampleIdeal) (hNormSampleReferenceIdeal := hNormSampleReferenceIdeal)
    ∧ preserves_ConvSample_ConvSampleIdeal
    ∧ algebraic_ConvSampleIdeal_ConvSampleReferenceIdeal (hConvSampleIdeal := hConvSampleIdeal) (hConvSampleReferenceIdeal := hConvSampleReferenceIdeal)
-- ==== Kernel.lean ====
abbrev S8192x2048 : Shape := ⟨2, ![8192, 2048]⟩
abbrev S16 : Shape := ⟨1, ![16]⟩
abbrev S512x128 : Shape := ⟨2, ![512, 128]⟩
abbrev S4096x128 : Shape := ⟨2, ![4096, 128]⟩
abbrev S1x512x256 : Shape := ⟨3, ![1, 512, 256]⟩
abbrev S1x512x128 : Shape := ⟨3, ![1, 512, 128]⟩
abbrev S256x256 : Shape := ⟨2, ![256, 256]⟩
abbrev S1 : Shape := ⟨1, ![1]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 1
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S16, .f32⟩
  | .hbm, ⟨5, _⟩ => ⟨S8192x2048, .bf16⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S1x512x256, .f32⟩
  | .local _ .vmem, ⟨11, _⟩ => ⟨S1x512x256, .bf16⟩
  | .local _ .vmem, ⟨12, _⟩ => ⟨S1x512x128, .f32⟩
  | .local _ .vmem, ⟨13, _⟩ => ⟨S512x128, .f32⟩
  | .local _ .smem, ⟨0, _⟩ => ⟨S16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 8], ![false, false, false]⟩

def k0_off1 (i : grid0.Coords) : Fin 1 → Nat :=
  let arg1 : BitVec 32 := BitVec.ofNat 32 (i 1).val
  let c1_i32 : BitVec 32 := 1#32
  let v10 : BitVec 32 := Scalar.muli arg1 c1_i32
  let c0_i32 : BitVec 32 := 0#32
  let v11 : BitVec 32 := Scalar.addi v10 c0_i32
  let v12 : Index := Scalar.indexCast v11
  ![v12.toNat]
def k0_mult1 (i : grid0.Coords) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_12 : BitVec 32 := 1#32
  let v29 : BitVec 32 := Scalar.subi v28 c1_i32_12
  let c0_i32_13 : BitVec 32 := 0#32
  let v30 : BitVec 32 := Scalar.subi v29 c0_i32_13
  let c0_i32_14 : BitVec 32 := 0#32
  let v31 : BitVec 32 := Scalar.maxsi v30 c0_i32_14
  let c256_i32_15 : BitVec 32 := 256#32
  let v32 : BitVec 32 := Scalar.muli v31 c256_i32_15
  v32
def k0_off2 (i : grid0.Coords) (c0_i32_13 : BitVec 32) : Fin 2 → Nat :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_12 : BitVec 32 := 1#32
  let v29 : BitVec 32 := Scalar.subi v28 c1_i32_12
  let v30 : BitVec 32 := Scalar.subi v29 c0_i32_13
  let c0_i32_14 : BitVec 32 := 0#32
  let v31 : BitVec 32 := Scalar.maxsi v30 c0_i32_14
  let c256_i32_15 : BitVec 32 := 256#32
  let v32 : BitVec 32 := Scalar.muli v31 c256_i32_15
  let v33 : BitVec 32 := v32
  let v34 : Index := Scalar.indexCast v33
  let c0_16 : Index := 0#32
  ![v34.toNat, 0]
def k0_mult2 (i : grid0.Coords) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_43 : BitVec 32 := 1#32
  let v89 : BitVec 32 := Scalar.subi v28 c1_i32_43
  let c1_i32_44 : BitVec 32 := 1#32
  let v90 : BitVec 32 := Scalar.subi v89 c1_i32_44
  let c0_i32_45 : BitVec 32 := 0#32
  let v91 : BitVec 32 := Scalar.maxsi v90 c0_i32_45
  let c256_i32_46 : BitVec 32 := 256#32
  let v92 : BitVec 32 := Scalar.muli v91 c256_i32_46
  v92
def k0_mult3 (i : grid0.Coords) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_57 : BitVec 32 := 1#32
  let v106 : BitVec 32 := Scalar.subi v28 c1_i32_57
  let c0_i32_58 : BitVec 32 := 0#32
  let v107 : BitVec 32 := Scalar.subi v106 c0_i32_58
  let c0_i32_59 : BitVec 32 := 0#32
  let v108 : BitVec 32 := Scalar.maxsi v107 c0_i32_59
  let c256_i32_60 : BitVec 32 := 256#32
  let v109 : BitVec 32 := Scalar.muli v108 c256_i32_60
  v109
def k0_mult4 (i : grid0.Coords) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_87 : BitVec 32 := 1#32
  let v165 : BitVec 32 := Scalar.subi v28 c1_i32_87
  let c2_i32_88 : BitVec 32 := 2#32
  let v166 : BitVec 32 := Scalar.subi v165 c2_i32_88
  let c0_i32_89 : BitVec 32 := 0#32
  let v167 : BitVec 32 := Scalar.maxsi v166 c0_i32_89
  let c256_i32_90 : BitVec 32 := 256#32
  let v168 : BitVec 32 := Scalar.muli v167 c256_i32_90
  v168
@[reducible] def k0_t1_loop (i : grid0.Coords) : Scf.Loop 32 :=
  let c1_i32_96 : BitVec 32 := 1#32
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let v179 : BitVec 32 := Scalar.subi v28 c1_i32_96
  let c1_i32_98 : BitVec 32 := 1#32
  let v181 : BitVec 32 := Scalar.divsi v179 c1_i32_98
  let v182 : BitVec 32 := Scalar.muli v181 c1_i32_98
  let v183 : BitVec 32 := Scalar.addi c1_i32_96 v182
  let c1_i32_99 : BitVec 32 := 1#32
  ⟨c1_i32_96, v183, c1_i32_99⟩
def k0_mult5 (i : grid0.Coords) (k0_t1 : Fin (k0_t1_loop i).trips) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_115 : BitVec 32 := 1#32
  let v202 : BitVec 32 := Scalar.subi v28 c1_i32_115
  let c1_i32_96 : BitVec 32 := 1#32
  let c1_i32_99 : BitVec 32 := 1#32
  let arg13 : BitVec 32 := Scf.iv c1_i32_96 c1_i32_99 k0_t1
  let v203 : BitVec 32 := Scalar.subi v202 arg13
  let c0_i32_116 : BitVec 32 := 0#32
  let v204 : BitVec 32 := Scalar.maxsi v203 c0_i32_116
  let c256_i32_117 : BitVec 32 := 256#32
  let v205 : BitVec 32 := Scalar.muli v204 c256_i32_117
  v205
def k0_off3 (i : grid0.Coords) (k0_t1 : Fin (k0_t1_loop i).trips) : Fin 2 → Nat :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_115 : BitVec 32 := 1#32
  let v202 : BitVec 32 := Scalar.subi v28 c1_i32_115
  let c1_i32_96 : BitVec 32 := 1#32
  let c1_i32_99 : BitVec 32 := 1#32
  let arg13 : BitVec 32 := Scf.iv c1_i32_96 c1_i32_99 k0_t1
  let v203 : BitVec 32 := Scalar.subi v202 arg13
  let c0_i32_116 : BitVec 32 := 0#32
  let v204 : BitVec 32 := Scalar.maxsi v203 c0_i32_116
  let c256_i32_117 : BitVec 32 := 256#32
  let v205 : BitVec 32 := Scalar.muli v204 c256_i32_117
  let v206 : BitVec 32 := v205
  let v207 : Index := Scalar.indexCast v206
  let c0_118 : Index := 0#32
  ![v207.toNat, 0]
def k0_mult6 (i : grid0.Coords) (k0_t1 : Fin (k0_t1_loop i).trips) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_143 : BitVec 32 := 1#32
  let v254 : BitVec 32 := Scalar.subi v28 c1_i32_143
  let c1_i32_96 : BitVec 32 := 1#32
  let c1_i32_99 : BitVec 32 := 1#32
  let arg13 : BitVec 32 := Scf.iv c1_i32_96 c1_i32_99 k0_t1
  let c2_i32_142 : BitVec 32 := 2#32
  let v253 : BitVec 32 := Scalar.addi arg13 c2_i32_142
  let v255 : BitVec 32 := Scalar.subi v254 v253
  let c0_i32_144 : BitVec 32 := 0#32
  let v256 : BitVec 32 := Scalar.maxsi v255 c0_i32_144
  let c256_i32_145 : BitVec 32 := 256#32
  let v257 : BitVec 32 := Scalar.muli v256 c256_i32_145
  v257
def k0_off4 (i : grid0.Coords) (k0_t1 : Fin (k0_t1_loop i).trips) : Fin 2 → Nat :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_143 : BitVec 32 := 1#32
  let v254 : BitVec 32 := Scalar.subi v28 c1_i32_143
  let c1_i32_96 : BitVec 32 := 1#32
  let c1_i32_99 : BitVec 32 := 1#32
  let arg13 : BitVec 32 := Scf.iv c1_i32_96 c1_i32_99 k0_t1
  let c2_i32_142 : BitVec 32 := 2#32
  let v253 : BitVec 32 := Scalar.addi arg13 c2_i32_142
  let v255 : BitVec 32 := Scalar.subi v254 v253
  let c0_i32_144 : BitVec 32 := 0#32
  let v256 : BitVec 32 := Scalar.maxsi v255 c0_i32_144
  let c256_i32_145 : BitVec 32 := 256#32
  let v257 : BitVec 32 := Scalar.muli v256 c256_i32_145
  let v258 : BitVec 32 := v257
  let v259 : Index := Scalar.indexCast v258
  let c0_146 : Index := 0#32
  ![v259.toNat, 0]
@[reducible] def k0_t2_loop (i : grid0.Coords) : Scf.Loop 32 :=
  let c1_i32_96 : BitVec 32 := 1#32
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let v179 : BitVec 32 := Scalar.subi v28 c1_i32_96
  let c1_i32_98 : BitVec 32 := 1#32
  let v181 : BitVec 32 := Scalar.divsi v179 c1_i32_98
  let v182 : BitVec 32 := Scalar.muli v181 c1_i32_98
  let v183 : BitVec 32 := Scalar.addi c1_i32_96 v182
  let v180 : BitVec 32 := Scalar.addi c1_i32_96 v179
  let c1_i32_100 : BitVec 32 := 1#32
  ⟨v183, v180, c1_i32_100⟩
def k0_mult7 (i : grid0.Coords) (k0_t2 : Fin (k0_t2_loop i).trips) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_115 : BitVec 32 := 1#32
  let v202 : BitVec 32 := Scalar.subi v28 c1_i32_115
  let c1_i32_96 : BitVec 32 := 1#32
  let v179 : BitVec 32 := Scalar.subi v28 c1_i32_96
  let c1_i32_98 : BitVec 32 := 1#32
  let v181 : BitVec 32 := Scalar.divsi v179 c1_i32_98
  let v182 : BitVec 32 := Scalar.muli v181 c1_i32_98
  let v183 : BitVec 32 := Scalar.addi c1_i32_96 v182
  let c1_i32_100 : BitVec 32 := 1#32
  let arg13 : BitVec 32 := Scf.iv v183 c1_i32_100 k0_t2
  let v203 : BitVec 32 := Scalar.subi v202 arg13
  let c0_i32_116 : BitVec 32 := 0#32
  let v204 : BitVec 32 := Scalar.maxsi v203 c0_i32_116
  let c256_i32_117 : BitVec 32 := 256#32
  let v205 : BitVec 32 := Scalar.muli v204 c256_i32_117
  v205
def k0_off5 (i : grid0.Coords) (k0_t2 : Fin (k0_t2_loop i).trips) : Fin 2 → Nat :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_115 : BitVec 32 := 1#32
  let v202 : BitVec 32 := Scalar.subi v28 c1_i32_115
  let c1_i32_96 : BitVec 32 := 1#32
  let v179 : BitVec 32 := Scalar.subi v28 c1_i32_96
  let c1_i32_98 : BitVec 32 := 1#32
  let v181 : BitVec 32 := Scalar.divsi v179 c1_i32_98
  let v182 : BitVec 32 := Scalar.muli v181 c1_i32_98
  let v183 : BitVec 32 := Scalar.addi c1_i32_96 v182
  let c1_i32_100 : BitVec 32 := 1#32
  let arg13 : BitVec 32 := Scf.iv v183 c1_i32_100 k0_t2
  let v203 : BitVec 32 := Scalar.subi v202 arg13
  let c0_i32_116 : BitVec 32 := 0#32
  let v204 : BitVec 32 := Scalar.maxsi v203 c0_i32_116
  let c256_i32_117 : BitVec 32 := 256#32
  let v205 : BitVec 32 := Scalar.muli v204 c256_i32_117
  let v206 : BitVec 32 := v205
  let v207 : Index := Scalar.indexCast v206
  let c0_118 : Index := 0#32
  ![v207.toNat, 0]
def k0_mult8 (i : grid0.Coords) (k0_t2 : Fin (k0_t2_loop i).trips) : BitVec 32 :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_143 : BitVec 32 := 1#32
  let v254 : BitVec 32 := Scalar.subi v28 c1_i32_143
  let c1_i32_96 : BitVec 32 := 1#32
  let v179 : BitVec 32 := Scalar.subi v28 c1_i32_96
  let c1_i32_98 : BitVec 32 := 1#32
  let v181 : BitVec 32 := Scalar.divsi v179 c1_i32_98
  let v182 : BitVec 32 := Scalar.muli v181 c1_i32_98
  let v183 : BitVec 32 := Scalar.addi c1_i32_96 v182
  let c1_i32_100 : BitVec 32 := 1#32
  let arg13 : BitVec 32 := Scf.iv v183 c1_i32_100 k0_t2
  let c2_i32_142 : BitVec 32 := 2#32
  let v253 : BitVec 32 := Scalar.addi arg13 c2_i32_142
  let v255 : BitVec 32 := Scalar.subi v254 v253
  let c0_i32_144 : BitVec 32 := 0#32
  let v256 : BitVec 32 := Scalar.maxsi v255 c0_i32_144
  let c256_i32_145 : BitVec 32 := 256#32
  let v257 : BitVec 32 := Scalar.muli v256 c256_i32_145
  v257
def k0_off6 (i : grid0.Coords) (k0_t2 : Fin (k0_t2_loop i).trips) : Fin 2 → Nat :=
  let arg2 : BitVec 32 := BitVec.ofNat 32 (i 2).val
  let c1_i32_11 : BitVec 32 := 1#32
  let v27 : BitVec 32 := Scalar.addi arg2 c1_i32_11
  let c2_i32 : BitVec 32 := 2#32
  let v28 : BitVec 32 := Scalar.muli v27 c2_i32
  let c1_i32_143 : BitVec 32 := 1#32
  let v254 : BitVec 32 := Scalar.subi v28 c1_i32_143
  let c1_i32_96 : BitVec 32 := 1#32
  let v179 : BitVec 32 := Scalar.subi v28 c1_i32_96
  let c1_i32_98 : BitVec 32 := 1#32
  let v181 : BitVec 32 := Scalar.divsi v179 c1_i32_98
  let v182 : BitVec 32 := Scalar.muli v181 c1_i32_98
  let v183 : BitVec 32 := Scalar.addi c1_i32_96 v182
  let c1_i32_100 : BitVec 32 := 1#32
  let arg13 : BitVec 32 := Scf.iv v183 c1_i32_100 k0_t2
  let c2_i32_142 : BitVec 32 := 2#32
  let v253 : BitVec 32 := Scalar.addi arg13 c2_i32_142
  let v255 : BitVec 32 := Scalar.subi v254 v253
  let c0_i32_144 : BitVec 32 := 0#32
  let v256 : BitVec 32 := Scalar.maxsi v255 c0_i32_144
  let c256_i32_145 : BitVec 32 := 256#32
  let v257 : BitVec 32 := Scalar.muli v256 c256_i32_145
  let v258 : BitVec 32 := v257
  let v259 : Index := Scalar.indexCast v258
  let c0_146 : Index := 0#32
  ![v259.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S8192x2048 : Shape := ⟨2, ![8192, 2048]⟩
abbrev S16 : Shape := ⟨1, ![16]⟩
abbrev S2x4096x16x128 : Shape := ⟨4, ![2, 4096, 16, 128]⟩
abbrev S2x16x4096x4096 : Shape := ⟨4, ![2, 16, 4096, 4096]⟩
abbrev S_ : Shape := ⟨0, ![]⟩
abbrev S1x16x1x1 : Shape := ⟨4, ![1, 16, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S16, .f32⟩
  | .hbm, ⟨5, _⟩ => ⟨S2x4096x16x128, .f32⟩
  | .hbm, ⟨6, _⟩ => ⟨S2x4096x16x128, .f32⟩
  | .hbm, ⟨7, _⟩ => ⟨S2x4096x16x128, .f32⟩
  | .hbm, ⟨8, _⟩ => ⟨S2x16x4096x4096, .f32⟩
  | .hbm, ⟨9, _⟩ => ⟨S_, .f32⟩
  | .hbm, ⟨10, _⟩ => ⟨S_, .f32⟩
  | .hbm, ⟨11, _⟩ => ⟨S2x16x4096x4096, .f32⟩
  | .hbm, ⟨12, _⟩ => ⟨S2x16x4096x4096, .f32⟩
  | .hbm, ⟨13, _⟩ => ⟨S1x16x1x1, .f32⟩
  | .hbm, ⟨14, _⟩ => ⟨S2x16x4096x4096, .f32⟩
  | .hbm, ⟨15, _⟩ => ⟨S2x16x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S2x16x4096x4096, .f32⟩
  | .hbm, ⟨23, _⟩ => ⟨S2x16x4096x4096, .f32⟩
  | .hbm, ⟨24, _⟩ => ⟨S_, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .i1⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S_, .f32⟩
  | .hbm, ⟨41, _⟩ => ⟨S2x16x4096x4096, .i1⟩
  | .hbm, ⟨42, _⟩ => ⟨S2x16x4096x4096, .f32⟩
  | .hbm, ⟨43, _⟩ => ⟨S2x16x4096x4096, .f32⟩
  | .hbm, ⟨44, _⟩ => ⟨S_, .f32⟩
  | .hbm, ⟨45, _⟩ => ⟨S_, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S_, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .f32⟩
  | .hbm, ⟨54, _⟩ => ⟨S2x16x4096x4096, .i1⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S2x16x4096x4096, .f32⟩
  | .hbm, ⟨66, _⟩ => ⟨S_, .f32⟩
  | .hbm, ⟨67, _⟩ => ⟨S_, .f32⟩
  | .hbm, ⟨68, _⟩ => ⟨S2x16x4096x4096, .i1⟩
  | .hbm, ⟨69, _⟩ => ⟨S2x16x4096x4096, .f32⟩
  | .hbm, ⟨70, _⟩ => ⟨S2x16x4096x4096, .f32⟩
  | .hbm, ⟨71, _⟩ => ⟨S2x16x128x4096, .f32⟩
  | .hbm, ⟨72, _⟩ => ⟨S2x4096x16x128, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_call2_cst : Ref sig .tc := ⟨.hbm, 44, rfl⟩
abbrev main_call2_v0 : Ref sig .tc := ⟨.hbm, 45, rfl⟩
abbrev main_v19 : Ref sig .tc := ⟨.hbm, 46, rfl⟩
abbrev main_v20 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_call5_v0 : Ref sig .tc := ⟨.hbm, 74, rfl⟩
abbrev main_call5_v1 : Ref sig .tc := ⟨.hbm, 75, rfl⟩
abbrev main_call5_cst : Ref sig .tc := ⟨.hbm, 76, rfl⟩
abbrev main_call5_v2 : Ref sig .tc := ⟨.hbm, 77, rfl⟩
abbrev main_call5_v3 : Ref sig .tc := ⟨.hbm, 78, rfl⟩
abbrev main_call5_cst_0 : Ref sig .tc := ⟨.hbm, 79, rfl⟩
abbrev main_call5_v4 : Ref sig .tc := ⟨.hbm, 80, rfl⟩
abbrev main_call5_v5 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩

abbrev nD : Nat := 1
abbrev τ : Topo := Topo.v7x

variable {F : FTy → Type} [FloatOps F]
-- ==== Output.lean ====
abbrev S8192x2048 : Shape := ⟨2, ![8192, 2048]⟩
abbrev S2048x2048 : Shape := ⟨2, ![2048, 2048]⟩
abbrev S2048 : Shape := ⟨1, ![2048]⟩
abbrev S8192x256 : Shape := ⟨2, ![8192, 256]⟩
abbrev S256x2048 : Shape := ⟨2, ![256, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x256, .f32⟩
  | .hbm, ⟨5, _⟩ => ⟨S2048x2048, .f32⟩
  | .hbm, ⟨6, _⟩ => ⟨S256x2048, .f32⟩
  | .hbm, ⟨7, _⟩ => ⟨S2048x2048, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S2048x2048, .bf16⟩
  | .local _ .vmem, ⟨7, _⟩ => ⟨S256x256, .f32⟩
  | .local _ .vmem, ⟨8, _⟩ => ⟨S256x256, .f32⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutputReferenceIdeal.lean ====
abbrev S8192x2048 : Shape := ⟨2, ![8192, 2048]⟩
abbrev S2048x2048 : Shape := ⟨2, ![2048, 2048]⟩
abbrev S2048 : Shape := ⟨1, ![2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x256, .f32⟩
  | .hbm, ⟨5, _⟩ => ⟨S2048x2048, .f32⟩
  | .hbm, ⟨6, _⟩ => ⟨S256x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== OutputSample.lean ====
abbrev S64x2048 : Shape := ⟨2, ![64, 2048]⟩
abbrev S2048x2048 : Shape := ⟨2, ![2048, 2048]⟩
abbrev S2048 : Shape := ⟨1, ![2048]⟩
abbrev S64x256 : Shape := ⟨2, ![64, 256]⟩
abbrev S256x2048 : Shape := ⟨2, ![256, 2048]⟩
abbrev S1x2048 : Shape := ⟨2, ![1, 2048]⟩
abbrev S64 : Shape := ⟨1, ![64]⟩
abbrev S64x1 : Shape := ⟨2, ![64, 1]⟩

abbrev nBuf : Space → Nat
  | .hbm => 12
  | .vmem => 8
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S64x2048, .f32⟩
  | .hbm, ⟨3, _⟩ => ⟨S2048, .f32⟩
  | .hbm, ⟨4, _⟩ => ⟨S64x256, .f32⟩
  | .hbm, ⟨5, _⟩ => ⟨S2048x2048, .f32⟩
  | .hbm, ⟨6, _⟩ => ⟨S256x2048, .f32⟩
  | .hbm, ⟨7, _⟩ => ⟨S2048x2048, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S64x2048, .f32⟩
  | .local _ .vmem, ⟨0, _⟩ => ⟨S64x2048, .f32⟩
  | .local _ .vmem, ⟨1, _⟩ => ⟨S2048x2048, .bf16⟩
  | .local _ .vmem, ⟨2, _⟩ => ⟨S64x2048, .f32⟩
  | .local _ .vmem, ⟨3, _⟩ => ⟨S1x2048, .f32⟩
  | .local _ .vmem, ⟨4, _⟩ => ⟨S2048x2048, .bf16⟩
  | .local _ .vmem, ⟨5, _⟩ => ⟨S64x256, .f32⟩
  | .local _ .vmem, ⟨6, _⟩ => ⟨S256x2048, .bf16⟩
  | .local _ .vmem, ⟨7, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OutputSampleReferenceIdeal.lean ====
abbrev S64x2048 : Shape := ⟨2, ![64, 2048]⟩
abbrev S2048x2048 : Shape := ⟨2, ![2048, 2048]⟩
abbrev S2048 : Shape := ⟨1, ![2048]⟩
abbrev S64x256 : Shape := ⟨2, ![64, 256]⟩
abbrev S256x2048 : Shape := ⟨2, ![256, 2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S64x2048, .f32⟩
  | .hbm, ⟨3, _⟩ => ⟨S2048, .f32⟩
  | .hbm, ⟨4, _⟩ => ⟨S64x256, .f32⟩
  | .hbm, ⟨5, _⟩ => ⟨S2048x2048, .f32⟩
  | .hbm, ⟨6, _⟩ => ⟨S256x2048, .f32⟩
  | .hbm, ⟨7, _⟩ => ⟨S64x2048, .f32⟩
  | .hbm, ⟨8, _⟩ => ⟨S64x2048, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S64x1, .f32⟩
  | .hbm, ⟨19, _⟩ => ⟨S64x2048, .f32⟩
  | .hbm, ⟨20, _⟩ => ⟨S64x2048, .f32⟩
  | .hbm, ⟨21, _⟩ => ⟨S1x2048, .f32⟩
  | .hbm, ⟨22, _⟩ => ⟨S64x2048, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S_, .f32⟩
  | .hbm, ⟨29, _⟩ => ⟨S64x2048, .f32⟩
  | .hbm, ⟨30, _⟩ => ⟨S64x2048, .f32⟩
  | .hbm, ⟨31, _⟩ => ⟨S_, .f32⟩
  | .hbm, ⟨32, _⟩ => ⟨S64x2048, .f32⟩
  | .hbm, ⟨33, _⟩ => ⟨S64x2048, .f32⟩
  | .hbm, ⟨34, _⟩ => ⟨S64x2048, .f32⟩
  | .hbm, ⟨35, _⟩ => ⟨S64x2048, .f32⟩
  | .hbm, ⟨36, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== OutputNext.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S8192x256 : Shape := ⟨2, ![8192, 256]⟩
abbrev S2048x2048 : Shape := ⟨2, ![2048, 2048]⟩
abbrev S256x2048 : Shape := ⟨2, ![256, 2048]⟩
abbrev S1x2048 : Shape := ⟨2, ![1, 2048]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S8192x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S4096x2048, .bf16⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S2048x2048, .bf16⟩
  | .local _ .vmem, ⟨7, _⟩ => ⟨S256x256, .f32⟩
  | .local _ .vmem, ⟨8, _⟩ => ⟨S256x256, .f32⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutputNextIdeal.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S8192x256 : Shape := ⟨2, ![8192, 256]⟩
abbrev S2048x2048 : Shape := ⟨2, ![2048, 2048]⟩
abbrev S256x2048 : Shape := ⟨2, ![256, 2048]⟩
abbrev S1x2048 : Shape := ⟨2, ![1, 2048]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S8192x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S4096x2048, .bf16⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S2048x2048, .bf16⟩
  | .local _ .vmem, ⟨7, _⟩ => ⟨S256x256, .f32⟩
  | .local _ .vmem, ⟨8, _⟩ => ⟨S256x256, .f32⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutputNextReferenceIdeal.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S8192x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S8192x4096, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Project.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectIdeal.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectSample.lean ====
abbrev S64x2048 : Shape := ⟨2, ![64, 2048]⟩
abbrev S2048x2048 : Shape := ⟨2, ![2048, 2048]⟩

abbrev nBuf : Space → Nat
  | .hbm => 4
  | .vmem => 3
  | .smem => 0
  | _ => 0

abbrev bufTy : (tb : Table) → Fin (tcTables nBuf tb) → BufTy
  | .hbm, ⟨0, _⟩ => ⟨S64x2048, .bf16⟩
  | .hbm, ⟨1, _⟩ => ⟨S2048x2048, .f32⟩
  | .hbm, ⟨2, _⟩ => ⟨S2048x2048, .bf16⟩
  | .hbm, ⟨3, _⟩ => ⟨S64x2048, .f32⟩
  | .local _ .vmem, ⟨0, _⟩ => ⟨S64x2048, .bf16⟩
  | .local _ .vmem, ⟨1, _⟩ => ⟨S2048x2048, .bf16⟩
  | .local _ .vmem, ⟨2, _⟩ => ⟨S64x2048, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ProjectSampleIdeal.lean ====
abbrev S64x2048 : Shape := ⟨2, ![64, 2048]⟩
abbrev S2048x2048 : Shape := ⟨2, ![2048, 2048]⟩

abbrev nBuf : Space → Nat
  | .hbm => 4
  | .vmem => 3
  | .smem => 0
  | _ => 0

abbrev bufTy : (tb : Table) → Fin (tcTables nBuf tb) → BufTy
  | .hbm, ⟨0, _⟩ => ⟨S64x2048, .bf16⟩
  | .hbm, ⟨1, _⟩ => ⟨S2048x2048, .f32⟩
  | .hbm, ⟨2, _⟩ => ⟨S2048x2048, .bf16⟩
  | .hbm, ⟨3, _⟩ => ⟨S64x2048, .f32⟩
  | .local _ .vmem, ⟨0, _⟩ => ⟨S64x2048, .bf16⟩
  | .local _ .vmem, ⟨1, _⟩ => ⟨S2048x2048, .bf16⟩
  | .local _ .vmem, ⟨2, _⟩ => ⟨S64x2048, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ProjectSampleReferenceIdeal.lean ====
abbrev S64x2048 : Shape := ⟨2, ![64, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2048x2048, .f32⟩
  | .hbm, ⟨2, _⟩ => ⟨S64x2048, .f32⟩
  | .hbm, ⟨3, _⟩ => ⟨S64x2048, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectWide.lean ====
abbrev S8192x2048 : Shape := ⟨2, ![8192, 2048]⟩
abbrev S2048x6144 : Shape := ⟨2, ![2048, 6144]⟩
abbrev S8192x6144 : Shape := ⟨2, ![8192, 6144]⟩
abbrev S512x2048 : Shape := ⟨2, ![512, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S2048x6144, .bf16⟩
  | .hbm, ⟨3, _⟩ => ⟨S8192x6144, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectWideIdeal.lean ====
abbrev S8192x2048 : Shape := ⟨2, ![8192, 2048]⟩
abbrev S2048x6144 : Shape := ⟨2, ![2048, 6144]⟩
abbrev S8192x6144 : Shape := ⟨2, ![8192, 6144]⟩
abbrev S512x2048 : Shape := ⟨2, ![512, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S2048x6144, .bf16⟩
  | .hbm, ⟨3, _⟩ => ⟨S8192x6144, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectWideReferenceIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutputFirst.lean ====
abbrev S8192x2048 : Shape := ⟨2, ![8192, 2048]⟩
abbrev S2048x2048 : Shape := ⟨2, ![2048, 2048]⟩
abbrev S2048 : Shape := ⟨1, ![2048]⟩
abbrev S8192x256 : Shape := ⟨2, ![8192, 256]⟩
abbrev S256x2048 : Shape := ⟨2, ![256, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S2048x2048, .bf16⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S2048x2048, .bf16⟩
  | .local _ .vmem, ⟨7, _⟩ => ⟨S256x256, .f32⟩
  | .local _ .vmem, ⟨8, _⟩ => ⟨S256x256, .f32⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutputFirstReferenceIdeal.lean ====
abbrev S8192x2048 : Shape := ⟨2, ![8192, 2048]⟩
abbrev S2048x2048 : Shape := ⟨2, ![2048, 2048]⟩
abbrev S2048 : Shape := ⟨1, ![2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== OutputFirstSample.lean ====
abbrev S64x2048 : Shape := ⟨2, ![64, 2048]⟩
abbrev S2048x2048 : Shape := ⟨2, ![2048, 2048]⟩
abbrev S2048 : Shape := ⟨1, ![2048]⟩
abbrev S64x256 : Shape := ⟨2, ![64, 256]⟩
abbrev S256x2048 : Shape := ⟨2, ![256, 2048]⟩
abbrev S1x2048 : Shape := ⟨2, ![1, 2048]⟩
abbrev S64 : Shape := ⟨1, ![64]⟩
abbrev S64x1 : Shape := ⟨2, ![64, 1]⟩

abbrev nBuf : Space → Nat
  | .hbm => 15
  | .vmem => 10
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S64x2048, .f32⟩
  | .hbm, ⟨3, _⟩ => ⟨S2048, .f32⟩
  | .hbm, ⟨4, _⟩ => ⟨S64x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S2048x2048, .bf16⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S64x2048, .f32⟩
  | .hbm, ⟨14, _⟩ => ⟨S64x2048, .bf16⟩
  | .local _ .vmem, ⟨0, _⟩ => ⟨S64x2048, .f32⟩
  | .local _ .vmem, ⟨1, _⟩ => ⟨S2048x2048, .bf16⟩
  | .local _ .vmem, ⟨2, _⟩ => ⟨S64x2048, .f32⟩
  | .local _ .vmem, ⟨3, _⟩ => ⟨S1x2048, .f32⟩
  | .local _ .vmem, ⟨4, _⟩ => ⟨S2048x2048, .bf16⟩
  | .local _ .vmem, ⟨5, _⟩ => ⟨S64x256, .f32⟩
  | .local _ .vmem, ⟨6, _⟩ => ⟨S256x2048, .bf16⟩
  | .local _ .vmem, ⟨7, _⟩ => ⟨S1x2048, .f32⟩
  | .local _ .vmem, ⟨8, _⟩ => ⟨S64x2048, .f32⟩
  | .local _ .vmem, ⟨9, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== OutputFirstSampleIdeal.lean ====
abbrev S64x2048 : Shape := ⟨2, ![64, 2048]⟩
abbrev S2048x2048 : Shape := ⟨2, ![2048, 2048]⟩
abbrev S2048 : Shape := ⟨1, ![2048]⟩
abbrev S64x256 : Shape := ⟨2, ![64, 256]⟩
abbrev S256x2048 : Shape := ⟨2, ![256, 2048]⟩
abbrev S1x2048 : Shape := ⟨2, ![1, 2048]⟩
abbrev S64 : Shape := ⟨1, ![64]⟩
abbrev S64x1 : Shape := ⟨2, ![64, 1]⟩

abbrev nBuf : Space → Nat
  | .hbm => 15
  | .vmem => 10
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S64x2048, .f32⟩
  | .hbm, ⟨3, _⟩ => ⟨S2048, .f32⟩
  | .hbm, ⟨4, _⟩ => ⟨S64x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S2048x2048, .bf16⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S64x2048, .f32⟩
  | .hbm, ⟨14, _⟩ => ⟨S64x2048, .bf16⟩
  | .local _ .vmem, ⟨0, _⟩ => ⟨S64x2048, .f32⟩
  | .local _ .vmem, ⟨1, _⟩ => ⟨S2048x2048, .bf16⟩
  | .local _ .vmem, ⟨2, _⟩ => ⟨S64x2048, .f32⟩
  | .local _ .vmem, ⟨3, _⟩ => ⟨S1x2048, .f32⟩
  | .local _ .vmem, ⟨4, _⟩ => ⟨S2048x2048, .bf16⟩
  | .local _ .vmem, ⟨5, _⟩ => ⟨S64x256, .f32⟩
  | .local _ .vmem, ⟨6, _⟩ => ⟨S256x2048, .bf16⟩
  | .local _ .vmem, ⟨7, _⟩ => ⟨S1x2048, .f32⟩
  | .local _ .vmem, ⟨8, _⟩ => ⟨S64x2048, .f32⟩
  | .local _ .vmem, ⟨9, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== OutputFirstSampleReferenceIdeal.lean ====
abbrev S64x2048 : Shape := ⟨2, ![64, 2048]⟩
abbrev S2048x2048 : Shape := ⟨2, ![2048, 2048]⟩
abbrev S2048 : Shape := ⟨1, ![2048]⟩
abbrev S64x256 : Shape := ⟨2, ![64, 256]⟩
abbrev S256x2048 : Shape := ⟨2, ![256, 2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S64x2048, .f32⟩
  | .hbm, ⟨3, _⟩ => ⟨S2048, .f32⟩
  | .hbm, ⟨4, _⟩ => ⟨S64x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S64x2048, .f32⟩
  | .hbm, ⟨9, _⟩ => ⟨S64x2048, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x2048, .f32⟩
  | .hbm, ⟨21, _⟩ => ⟨S64x2048, .f32⟩
  | .hbm, ⟨22, _⟩ => ⟨S1x2048, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S64x2048, .f32⟩
  | .hbm, ⟨36, _⟩ => ⟨S64x2048, .f32⟩
  | .hbm, ⟨37, _⟩ => ⟨S64x2048, .f32⟩
  | .hbm, ⟨38, _⟩ => ⟨S64x2048, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S64x2048, .f32⟩
  | .hbm, ⟨50, _⟩ => ⟨S64x2048, .f32⟩
  | .hbm, ⟨51, _⟩ => ⟨S1x2048, .f32⟩
  | .hbm, ⟨52, _⟩ => ⟨S64x2048, .f32⟩
  | .hbm, ⟨53, _⟩ => ⟨S64x2048, .f32⟩
  | .hbm, ⟨54, _⟩ => ⟨S64x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== OutputNextSample.lean ====
abbrev S64x4096 : Shape := ⟨2, ![64, 4096]⟩
abbrev S4096x2048 : Shape := ⟨2, ![4096, 2048]⟩
abbrev S64x2048 : Shape := ⟨2, ![64, 2048]⟩
abbrev S2048 : Shape := ⟨1, ![2048]⟩
abbrev S64x256 : Shape := ⟨2, ![64, 256]⟩
abbrev S2048x2048 : Shape := ⟨2, ![2048, 2048]⟩
abbrev S256x2048 : Shape := ⟨2, ![256, 2048]⟩
abbrev S1x2048 : Shape := ⟨2, ![1, 2048]⟩
abbrev S64 : Shape := ⟨1, ![64]⟩
abbrev S64x1 : Shape := ⟨2, ![64, 1]⟩

abbrev nBuf : Space → Nat
  | .hbm => 15
  | .vmem => 10
  | .smem => 0
  | _ => 0

abbrev bufTy : (tb : Table) → Fin (tcTables nBuf tb) → BufTy
  | .hbm, ⟨0, _⟩ => ⟨S64x4096, .f32⟩
  | .hbm, ⟨1, _⟩ => ⟨S4096x2048, .f32⟩
  | .hbm, ⟨2, _⟩ => ⟨S64x2048, .f32⟩
  | .hbm, ⟨3, _⟩ => ⟨S2048, .f32⟩
  | .hbm, ⟨4, _⟩ => ⟨S64x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S4096x2048, .bf16⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S64x2048, .f32⟩
  | .hbm, ⟨14, _⟩ => ⟨S64x2048, .bf16⟩
  | .local _ .vmem, ⟨0, _⟩ => ⟨S64x4096, .f32⟩
  | .local _ .vmem, ⟨1, _⟩ => ⟨S4096x2048, .bf16⟩
  | .local _ .vmem, ⟨2, _⟩ => ⟨S64x2048, .f32⟩
  | .local _ .vmem, ⟨3, _⟩ => ⟨S1x2048, .f32⟩
  | .local _ .vmem, ⟨4, _⟩ => ⟨S2048x2048, .bf16⟩
  | .local _ .vmem, ⟨5, _⟩ => ⟨S64x256, .f32⟩
  | .local _ .vmem, ⟨6, _⟩ => ⟨S256x2048, .bf16⟩
  | .local _ .vmem, ⟨7, _⟩ => ⟨S1x2048, .f32⟩
  | .local _ .vmem, ⟨8, _⟩ => ⟨S64x2048, .f32⟩
  | .local _ .vmem, ⟨9, _⟩ => ⟨S64x2048, .bf16⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== OutputNextSampleReferenceIdeal.lean ====
abbrev S64x4096 : Shape := ⟨2, ![64, 4096]⟩
abbrev S4096x2048 : Shape := ⟨2, ![4096, 2048]⟩
abbrev S64x2048 : Shape := ⟨2, ![64, 2048]⟩
abbrev S2048 : Shape := ⟨1, ![2048]⟩
abbrev S64x256 : Shape := ⟨2, ![64, 256]⟩
abbrev S2048x2048 : Shape := ⟨2, ![2048, 2048]⟩
abbrev S256x2048 : Shape := ⟨2, ![256, 2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x2048, .f32⟩
  | .hbm, ⟨2, _⟩ => ⟨S64x2048, .f32⟩
  | .hbm, ⟨3, _⟩ => ⟨S2048, .f32⟩
  | .hbm, ⟨4, _⟩ => ⟨S64x256, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S64x2048, .f32⟩
  | .hbm, ⟨9, _⟩ => ⟨S64x2048, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x2048, .f32⟩
  | .hbm, ⟨21, _⟩ => ⟨S64x2048, .f32⟩
  | .hbm, ⟨22, _⟩ => ⟨S1x2048, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S64x2048, .f32⟩
  | .hbm, ⟨36, _⟩ => ⟨S64x2048, .f32⟩
  | .hbm, ⟨37, _⟩ => ⟨S64x2048, .f32⟩
  | .hbm, ⟨38, _⟩ => ⟨S64x2048, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S64x2048, .f32⟩
  | .hbm, ⟨50, _⟩ => ⟨S64x2048, .f32⟩
  | .hbm, ⟨51, _⟩ => ⟨S1x2048, .f32⟩
  | .hbm, ⟨52, _⟩ => ⟨S64x2048, .f32⟩
  | .hbm, ⟨53, _⟩ => ⟨S64x2048, .f32⟩
  | .hbm, ⟨54, _⟩ => ⟨S64x2048, .bf16⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== ProjectGate.lean ====
abbrev S8192x2048 : Shape := ⟨2, ![8192, 2048]⟩
abbrev S2048x4096 : Shape := ⟨2, ![2048, 4096]⟩
abbrev S8192x4096 : Shape := ⟨2, ![8192, 4096]⟩
abbrev S512x2048 : Shape := ⟨2, ![512, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S2048x4096, .bf16⟩
  | .hbm, ⟨3, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectGateReferenceIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .f32⟩
  | .hbm, ⟨3, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectStep.lean ====
abbrev S8192x2048 : Shape := ⟨2, ![8192, 2048]⟩
abbrev S2048x128 : Shape := ⟨2, ![2048, 128]⟩
abbrev S8192x128 : Shape := ⟨2, ![8192, 128]⟩
abbrev S512x2048 : Shape := ⟨2, ![512, 2048]⟩
abbrev S512x128 : Shape := ⟨2, ![512, 128]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .f32⟩
  | .hbm, ⟨2, _⟩ => ⟨S2048x128, .bf16⟩
  | .hbm, ⟨3, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectStepReferenceIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .f32⟩
  | .hbm, ⟨2, _⟩ => ⟨S8192x2048, .f32⟩
  | .hbm, ⟨3, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectWideSample.lean ====
abbrev S64x2048 : Shape := ⟨2, ![64, 2048]⟩
abbrev S2048x6144 : Shape := ⟨2, ![2048, 6144]⟩
abbrev S64x6144 : Shape := ⟨2, ![64, 6144]⟩
abbrev S2048x2048 : Shape := ⟨2, ![2048, 2048]⟩

abbrev nBuf : Space → Nat
  | .hbm => 4
  | .vmem => 5
  | .smem => 0
  | _ => 0

abbrev bufTy : (tb : Table) → Fin (tcTables nBuf tb) → BufTy
  | .hbm, ⟨0, _⟩ => ⟨S64x2048, .bf16⟩
  | .hbm, ⟨1, _⟩ => ⟨S2048x6144, .f32⟩
  | .hbm, ⟨2, _⟩ => ⟨S2048x6144, .bf16⟩
  | .hbm, ⟨3, _⟩ => ⟨S64x6144, .f32⟩
  | .local _ .vmem, ⟨0, _⟩ => ⟨S64x2048, .bf16⟩
  | .local _ .vmem, ⟨1, _⟩ => ⟨S2048x2048, .bf16⟩
  | .local _ .vmem, ⟨2, _⟩ => ⟨S2048x2048, .bf16⟩
  | .local _ .vmem, ⟨3, _⟩ => ⟨S64x2048, .f32⟩
  | .local _ .vmem, ⟨4, _⟩ => ⟨S64x2048, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectWideSampleIdeal.lean ====
abbrev S64x2048 : Shape := ⟨2, ![64, 2048]⟩
abbrev S2048x6144 : Shape := ⟨2, ![2048, 6144]⟩
abbrev S64x6144 : Shape := ⟨2, ![64, 6144]⟩
abbrev S2048x2048 : Shape := ⟨2, ![2048, 2048]⟩

abbrev nBuf : Space → Nat
  | .hbm => 4
  | .vmem => 5
  | .smem => 0
  | _ => 0

abbrev bufTy : (tb : Table) → Fin (tcTables nBuf tb) → BufTy
  | .hbm, ⟨0, _⟩ => ⟨S64x2048, .bf16⟩
  | .hbm, ⟨1, _⟩ => ⟨S2048x6144, .f32⟩
  | .hbm, ⟨2, _⟩ => ⟨S2048x6144, .bf16⟩
  | .hbm, ⟨3, _⟩ => ⟨S64x6144, .f32⟩
  | .local _ .vmem, ⟨0, _⟩ => ⟨S64x2048, .bf16⟩
  | .local _ .vmem, ⟨1, _⟩ => ⟨S2048x2048, .bf16⟩
  | .local _ .vmem, ⟨2, _⟩ => ⟨S2048x2048, .bf16⟩
  | .local _ .vmem, ⟨3, _⟩ => ⟨S64x2048, .f32⟩
  | .local _ .vmem, ⟨4, _⟩ => ⟨S64x2048, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectWideSampleReferenceIdeal.lean ====
abbrev S64x2048 : Shape := ⟨2, ![64, 2048]⟩
abbrev S2048x6144 : Shape := ⟨2, ![2048, 6144]⟩
abbrev S64x6144 : Shape := ⟨2, ![64, 6144]⟩

abbrev nBuf : Space → Nat
  | .hbm => 4
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2048x6144, .f32⟩
  | .hbm, ⟨2, _⟩ => ⟨S64x2048, .f32⟩
  | .hbm, ⟨3, _⟩ => ⟨S64x6144, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectGateSample.lean ====
abbrev S64x2048 : Shape := ⟨2, ![64, 2048]⟩
abbrev S2048x4096 : Shape := ⟨2, ![2048, 4096]⟩
abbrev S64x4096 : Shape := ⟨2, ![64, 4096]⟩
abbrev S2048x2048 : Shape := ⟨2, ![2048, 2048]⟩

abbrev nBuf : Space → Nat
  | .hbm => 4
  | .vmem => 5
  | .smem => 0
  | _ => 0

abbrev bufTy : (tb : Table) → Fin (tcTables nBuf tb) → BufTy
  | .hbm, ⟨0, _⟩ => ⟨S64x2048, .bf16⟩
  | .hbm, ⟨1, _⟩ => ⟨S2048x4096, .f32⟩
  | .hbm, ⟨2, _⟩ => ⟨S2048x4096, .bf16⟩
  | .hbm, ⟨3, _⟩ => ⟨S64x4096, .f32⟩
  | .local _ .vmem, ⟨0, _⟩ => ⟨S64x2048, .bf16⟩
  | .local _ .vmem, ⟨1, _⟩ => ⟨S2048x2048, .bf16⟩
  | .local _ .vmem, ⟨2, _⟩ => ⟨S2048x2048, .bf16⟩
  | .local _ .vmem, ⟨3, _⟩ => ⟨S64x2048, .f32⟩
  | .local _ .vmem, ⟨4, _⟩ => ⟨S64x2048, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectGateSampleReferenceIdeal.lean ====
abbrev S64x2048 : Shape := ⟨2, ![64, 2048]⟩
abbrev S2048x4096 : Shape := ⟨2, ![2048, 4096]⟩
abbrev S64x4096 : Shape := ⟨2, ![64, 4096]⟩

abbrev nBuf : Space → Nat
  | .hbm => 4
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2048x4096, .f32⟩
  | .hbm, ⟨2, _⟩ => ⟨S64x2048, .f32⟩
  | .hbm, ⟨3, _⟩ => ⟨S64x4096, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectStepSample.lean ====
abbrev S64x2048 : Shape := ⟨2, ![64, 2048]⟩
abbrev S2048x128 : Shape := ⟨2, ![2048, 128]⟩
abbrev S64x128 : Shape := ⟨2, ![64, 128]⟩

abbrev nBuf : Space → Nat
  | .hbm => 4
  | .vmem => 3
  | .smem => 0
  | _ => 0

abbrev bufTy : (tb : Table) → Fin (tcTables nBuf tb) → BufTy
  | .hbm, ⟨0, _⟩ => ⟨S64x2048, .bf16⟩
  | .hbm, ⟨1, _⟩ => ⟨S2048x128, .f32⟩
  | .hbm, ⟨2, _⟩ => ⟨S2048x128, .bf16⟩
  | .hbm, ⟨3, _⟩ => ⟨S64x128, .f32⟩
  | .local _ .vmem, ⟨0, _⟩ => ⟨S64x2048, .bf16⟩
  | .local _ .vmem, ⟨1, _⟩ => ⟨S2048x128, .bf16⟩
  | .local _ .vmem, ⟨2, _⟩ => ⟨S64x128, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ProjectStepSampleReferenceIdeal.lean ====
abbrev S64x2048 : Shape := ⟨2, ![64, 2048]⟩
abbrev S2048x128 : Shape := ⟨2, ![2048, 128]⟩
abbrev S64x128 : Shape := ⟨2, ![64, 128]⟩

abbrev nBuf : Space → Nat
  | .hbm => 4
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2048x128, .f32⟩
  | .hbm, ⟨2, _⟩ => ⟨S64x2048, .f32⟩
  | .hbm, ⟨3, _⟩ => ⟨S64x128, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormSample.lean ====
abbrev S64x2048 : Shape := ⟨2, ![64, 2048]⟩
abbrev S2048 : Shape := ⟨1, ![2048]⟩
abbrev S1x2048 : Shape := ⟨2, ![1, 2048]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S1x2048, .f32⟩
  | .hbm, ⟨3, _⟩ => ⟨S64x2048, .bf16⟩
  | .local _ .vmem, ⟨0, _⟩ => ⟨S64x2048, .f32⟩
  | .local _ .vmem, ⟨1, _⟩ => ⟨S1x2048, .f32⟩
  | .local _ .vmem, ⟨2, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSampleReferenceIdeal.lean ====
abbrev S64x2048 : Shape := ⟨2, ![64, 2048]⟩
abbrev S2048 : Shape := ⟨1, ![2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S64x2048, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x2048, .f32⟩
  | .hbm, ⟨14, _⟩ => ⟨S64x2048, .f32⟩
  | .hbm, ⟨15, _⟩ => ⟨S1x2048, .f32⟩
  | .hbm, ⟨16, _⟩ => ⟨S64x2048, .f32⟩
  | .hbm, ⟨17, _⟩ => ⟨S64x2048, .f32⟩
  | .hbm, ⟨18, _⟩ => ⟨S64x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvSample.lean ====
abbrev S64x2048 : Shape := ⟨2, ![64, 2048]⟩
abbrev S8x30x2048 : Shape := ⟨3, ![8, 30, 2048]⟩
abbrev S31x2048 : Shape := ⟨2, ![31, 2048]⟩
abbrev S2048 : Shape := ⟨1, ![2048]⟩
abbrev S_ : Shape := ⟨0, ![]⟩
abbrev S8x32x2048 : Shape := ⟨3, ![8, 32, 2048]⟩
abbrev S1x2048 : Shape := ⟨2, ![1, 2048]⟩
abbrev S8x2048 : Shape := ⟨2, ![8, 2048]⟩
abbrev S1x32x2048 : Shape := ⟨3, ![1, 32, 2048]⟩
abbrev S1x30x2048 : Shape := ⟨3, ![1, 30, 2048]⟩
abbrev S40x2048 : Shape := ⟨2, ![40, 2048]⟩
abbrev S40x128 : Shape := ⟨2, ![40, 128]⟩
abbrev S32x2048 : Shape := ⟨2, ![32, 2048]⟩
abbrev S1x128 : Shape := ⟨2, ![1, 128]⟩
abbrev S8x128 : Shape := ⟨2, ![8, 128]⟩
abbrev S32x128 : Shape := ⟨2, ![32, 128]⟩
abbrev S24x128 : Shape := ⟨2, ![24, 128]⟩
abbrev S8 : Shape := ⟨1, ![8]⟩
abbrev S8x1 : Shape := ⟨2, ![8, 1]⟩
abbrev S30x2048 : Shape := ⟨2, ![30, 2048]⟩

abbrev nBuf : Space → Nat
  | .hbm => 16
  | .vmem => 19
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x2048, .f32⟩
  | .hbm, ⟨3, _⟩ => ⟨S8x30x2048, .f32⟩
  | .hbm, ⟨4, _⟩ => ⟨S31x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .i32⟩
  | .hbm, ⟨9, _⟩ => ⟨S_, .f32⟩
  | .hbm, ⟨10, _⟩ => ⟨S8x32x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S64x2048, .f32⟩
  | .hbm, ⟨15, _⟩ => ⟨S8x30x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1x32x2048, .f32⟩
  | .local _ .vmem, ⟨7, _⟩ => ⟨S1x32x2048, .f32⟩
  | .local _ .vmem, ⟨8, _⟩ => ⟨S31x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S8x2048, .f32⟩
  | .local _ .vmem, ⟨13, _⟩ => ⟨S8x2048, .f32⟩
  | .local _ .vmem, ⟨14, _⟩ => ⟨S1x30x2048, .f32⟩
  | .local _ .vmem, ⟨15, _⟩ => ⟨S1x30x2048, .f32⟩
  | .local _ .vmem, ⟨16, _⟩ => ⟨S40x2048, .f32⟩
  | .local _ .vmem, ⟨17, _⟩ => ⟨S8x2048, .f32⟩
  | .local _ .vmem, ⟨18, _⟩ => ⟨S40x128, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_7 : BitVec 32 := 0#32
  let c16_i32 : BitVec 32 := 16#32
  let v16 : BitVec 32 := Scalar.addi c0_i32_7 c16_i32
  let c1_i32 : BitVec 32 := 1#32
  ⟨c0_i32_7, v16, c1_i32⟩
def k0_mult1 (k0_t1 : Fin k0_t1_loop.trips) : BitVec 32 :=
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  v68
def k0_off1 (k0_t1 : Fin k0_t1_loop.trips) : Fin 2 → Nat :=
  let c0_35 : Index := 0#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v70 : Index := Scalar.indexCast v69
  ![0, v70.toNat]
def k0_off2 (k0_t1 : Fin k0_t1_loop.trips) : Fin 2 → Nat :=
  let c8_36 : Index := 8#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v75 : Index := Scalar.indexCast v69
  ![8, v75.toNat]
def k0_off3 (k0_t1 : Fin k0_t1_loop.trips) : Fin 2 → Nat :=
  let c6 : Index := 6#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v81 : Index := Scalar.indexCast v69
  ![6, v81.toNat]
def k0_off4 (k0_t1 : Fin k0_t1_loop.trips) : Fin 2 → Nat :=
  let c14 : Index := 14#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v87 : Index := Scalar.indexCast v69
  ![14, v87.toNat]
def k0_off5 (k0_t1 : Fin k0_t1_loop.trips) : Fin 2 → Nat :=
  let c22 : Index := 22#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v93 : Index := Scalar.indexCast v69
  ![22, v93.toNat]
def k0_off6 (k0_t1 : Fin k0_t1_loop.trips) : Fin 2 → Nat :=
  let c30 : Index := 30#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v99 : Index := Scalar.indexCast v69
  ![30, v99.toNat]
def k0_off7 (k0_t1 : Fin k0_t1_loop.trips) : Fin 2 → Nat :=
  let c9 : Index := 9#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v104 : Index := Scalar.indexCast v69
  ![9, v104.toNat]
def k0_off8 (k0_t1 : Fin k0_t1_loop.trips) : Fin 2 → Nat :=
  let c7 : Index := 7#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v110 : Index := Scalar.indexCast v69
  ![7, v110.toNat]
def k0_off9 (k0_t1 : Fin k0_t1_loop.trips) : Fin 2 → Nat :=
  let c15 : Index := 15#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v116 : Index := Scalar.indexCast v69
  ![15, v116.toNat]
def k0_off10 (k0_t1 : Fin k0_t1_loop.trips) : Fin 2 → Nat :=
  let c23 : Index := 23#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v122 : Index := Scalar.indexCast v69
  ![23, v122.toNat]
def k0_off11 (k0_t1 : Fin k0_t1_loop.trips) : Fin 2 → Nat :=
  let c2 : Index := 2#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v127 : Index := Scalar.indexCast v69
  ![2, v127.toNat]
def k0_off12 (k0_t1 : Fin k0_t1_loop.trips) : Fin 2 → Nat :=
  let c0_57 : Index := 0#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v133 : Index := Scalar.indexCast v69
  ![0, v133.toNat]
def k0_off13 (k0_t1 : Fin k0_t1_loop.trips) : Fin 2 → Nat :=
  let c8_60 : Index := 8#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v139 : Index := Scalar.indexCast v69
  ![8, v139.toNat]
def k0_off14 (k0_t1 : Fin k0_t1_loop.trips) : Fin 2 → Nat :=
  let c16_63 : Index := 16#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v145 : Index := Scalar.indexCast v69
  ![16, v145.toNat]
def k0_off15 (k0_t1 : Fin k0_t1_loop.trips) : Fin 2 → Nat :=
  let c24_66 : Index := 24#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v151 : Index := Scalar.indexCast v69
  ![24, v151.toNat]
def k0_off16 (k0_t1 : Fin k0_t1_loop.trips) : Fin 2 → Nat :=
  let c3 : Index := 3#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v156 : Index := Scalar.indexCast v69
  ![3, v156.toNat]
def k0_off17 (k0_t1 : Fin k0_t1_loop.trips) : Fin 2 → Nat :=
  let c1 : Index := 1#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v162 : Index := Scalar.indexCast v69
  ![1, v162.toNat]
def k0_off18 (k0_t1 : Fin k0_t1_loop.trips) : Fin 2 → Nat :=
  let c9_73 : Index := 9#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v168 : Index := Scalar.indexCast v69
  ![9, v168.toNat]
def k0_off19 (k0_t1 : Fin k0_t1_loop.trips) : Fin 2 → Nat :=
  let c17 : Index := 17#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v174 : Index := Scalar.indexCast v69
  ![17, v174.toNat]
def k0_off20 (k0_t1 : Fin k0_t1_loop.trips) : Fin 2 → Nat :=
  let c25 : Index := 25#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v180 : Index := Scalar.indexCast v69
  ![25, v180.toNat]
def k0_off21 (k0_t1 : Fin k0_t1_loop.trips) : Fin 2 → Nat :=
  let c4 : Index := 4#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v185 : Index := Scalar.indexCast v69
  ![4, v185.toNat]
def k0_off22 (k0_t1 : Fin k0_t1_loop.trips) : Fin 2 → Nat :=
  let c2_82 : Index := 2#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v191 : Index := Scalar.indexCast v69
  ![2, v191.toNat]
def k0_off23 (k0_t1 : Fin k0_t1_loop.trips) : Fin 2 → Nat :=
  let c10 : Index := 10#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v197 : Index := Scalar.indexCast v69
  ![10, v197.toNat]
def k0_off24 (k0_t1 : Fin k0_t1_loop.trips) : Fin 2 → Nat :=
  let c18 : Index := 18#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v203 : Index := Scalar.indexCast v69
  ![18, v203.toNat]
def k0_off25 (k0_t1 : Fin k0_t1_loop.trips) : Fin 2 → Nat :=
  let c26 : Index := 26#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v209 : Index := Scalar.indexCast v69
  ![26, v209.toNat]
def k0_off26 (k0_t1 : Fin k0_t1_loop.trips) : Fin 2 → Nat :=
  let c5 : Index := 5#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v214 : Index := Scalar.indexCast v69
  ![5, v214.toNat]
def k0_off27 (k0_t1 : Fin k0_t1_loop.trips) : Fin 2 → Nat :=
  let c3_93 : Index := 3#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v220 : Index := Scalar.indexCast v69
  ![3, v220.toNat]
def k0_off28 (k0_t1 : Fin k0_t1_loop.trips) : Fin 2 → Nat :=
  let c11 : Index := 11#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v226 : Index := Scalar.indexCast v69
  ![11, v226.toNat]
def k0_off29 (k0_t1 : Fin k0_t1_loop.trips) : Fin 2 → Nat :=
  let c19 : Index := 19#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v232 : Index := Scalar.indexCast v69
  ![19, v232.toNat]
def k0_off30 (k0_t1 : Fin k0_t1_loop.trips) : Fin 2 → Nat :=
  let c27 : Index := 27#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v238 : Index := Scalar.indexCast v69
  ![27, v238.toNat]
def k0_off31 (k0_t1 : Fin k0_t1_loop.trips) : Fin 2 → Nat :=
  let c6_100 : Index := 6#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v243 : Index := Scalar.indexCast v69
  ![6, v243.toNat]
def k0_off32 (k0_t1 : Fin k0_t1_loop.trips) : Fin 2 → Nat :=
  let c4_105 : Index := 4#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v249 : Index := Scalar.indexCast v69
  ![4, v249.toNat]
def k0_off33 (k0_t1 : Fin k0_t1_loop.trips) : Fin 2 → Nat :=
  let c12 : Index := 12#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v255 : Index := Scalar.indexCast v69
  ![12, v255.toNat]
def k0_off34 (k0_t1 : Fin k0_t1_loop.trips) : Fin 2 → Nat :=
  let c20 : Index := 20#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v261 : Index := Scalar.indexCast v69
  ![20, v261.toNat]
def k0_off35 (k0_t1 : Fin k0_t1_loop.trips) : Fin 2 → Nat :=
  let c28 : Index := 28#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v267 : Index := Scalar.indexCast v69
  ![28, v267.toNat]
def k0_off36 (k0_t1 : Fin k0_t1_loop.trips) : Fin 2 → Nat :=
  let c7_112 : Index := 7#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v272 : Index := Scalar.indexCast v69
  ![7, v272.toNat]
def k0_off37 (k0_t1 : Fin k0_t1_loop.trips) : Fin 2 → Nat :=
  let c5_117 : Index := 5#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v278 : Index := Scalar.indexCast v69
  ![5, v278.toNat]
def k0_off38 (k0_t1 : Fin k0_t1_loop.trips) : Fin 2 → Nat :=
  let c13 : Index := 13#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v284 : Index := Scalar.indexCast v69
  ![13, v284.toNat]
def k0_off39 (k0_t1 : Fin k0_t1_loop.trips) : Fin 2 → Nat :=
  let c21 : Index := 21#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v290 : Index := Scalar.indexCast v69
  ![21, v290.toNat]
def k0_off40 (k0_t1 : Fin k0_t1_loop.trips) : Fin 2 → Nat :=
  let c29 : Index := 29#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v296 : Index := Scalar.indexCast v69
  ![29, v296.toNat]
def k0_off41 (k0_t1 : Fin k0_t1_loop.trips) : Fin 2 → Nat :=
  let c0_124 : Index := 0#32
  let c0_i32_7 : BitVec 32 := 0#32
  let c1_i32 : BitVec 32 := 1#32
  let arg15 : BitVec 32 := Scf.iv c0_i32_7 c1_i32 k0_t1
  let c128_i32 : BitVec 32 := 128#32
  let v68 : BitVec 32 := Scalar.muli arg15 c128_i32
  let v69 : BitVec 32 := v68
  let v301 : Index := Scalar.indexCast v69
  ![0, v301.toNat]
def k0_cond2 (i : grid0.Coords) : BitVec 1 :=
  let arg1 : BitVec 32 := BitVec.ofNat 32 (i 1).val
  let c0_i32_30 : BitVec 32 := 0#32
  let v61 : BitVec 1 := Scalar.cmpi .eq arg1 c0_i32_30
  let v62 : BitVec 32 := Scalar.extui v61
  let c0_i32_31 : BitVec 32 := 0#32
  let v63 : BitVec 1 := Scalar.cmpi .ne v62 c0_i32_31
  v63

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S31x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x30x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvSampleReferenceIdeal.lean ====
abbrev S64x2048 : Shape := ⟨2, ![64, 2048]⟩
abbrev S8x30x2048 : Shape := ⟨3, ![8, 30, 2048]⟩
abbrev S31x2048 : Shape := ⟨2, ![31, 2048]⟩
abbrev S2048 : Shape := ⟨1, ![2048]⟩
abbrev S_ : Shape := ⟨0, ![]⟩
abbrev S8x8x2048 : Shape := ⟨3, ![8, 8, 2048]⟩
abbrev S8x38x2048 : Shape := ⟨3, ![8, 38, 2048]⟩
abbrev S1x2048 : Shape := ⟨2, ![1, 2048]⟩
abbrev S1x1x2048 : Shape := ⟨3, ![1, 1, 2048]⟩
abbrev S8x8 : Shape := ⟨2, ![8, 8]⟩
abbrev S8x8x1 : Shape := ⟨3, ![8, 8, 1]⟩

abbrev nBuf : Space → Nat
  | .hbm => 291
  | .vmem => 0
  | .smem => 0
  | _ => 0

abbrev hbmTy0_0 (i : Nat) : BufTy := match i % 128 with
  | 0 => ⟨S64x2048, .f32⟩
  | 1 => ⟨S64x2048, .f32⟩
  | 2 => ⟨S64x2048, .f32⟩
  | 3 => ⟨S8x30x2048, .f32⟩
  | 4 => ⟨S31x2048, .f32⟩
  | 5 => ⟨S2048, .f32⟩
  | 6 => ⟨S2048, .f32⟩
  | 7 => ⟨S2048, .f32⟩
  | 8 => ⟨S64x2048, .f32⟩
  | 9 => ⟨S64x2048, .f32⟩
  | 10 => ⟨S_, .f32⟩
  | 11 => ⟨S64x2048, .f32⟩
  | 12 => ⟨S64x2048, .f32⟩
  | 13 => ⟨S_, .f32⟩
  | 14 => ⟨S64x2048, .f32⟩
  | 15 => ⟨S64x2048, .f32⟩
  | 16 => ⟨S64x2048, .f32⟩
  | 17 => ⟨S8x8x2048, .f32⟩
  | 18 => ⟨S8x38x2048, .f32⟩
  | 19 => ⟨S8x8x2048, .f32⟩
  | 20 => ⟨S1x2048, .f32⟩
  | 21 => ⟨S2048, .f32⟩
  | 22 => ⟨S1x1x2048, .f32⟩
  | 23 => ⟨S8x8x2048, .f32⟩
  | 24 => ⟨S8x8x2048, .f32⟩
  | 25 => ⟨S_, .f32⟩
  | 26 => ⟨S8x8x2048, .f32⟩
  | 27 => ⟨S8x8x2048, .f32⟩
  | 28 => ⟨S8x8x2048, .f32⟩
  | 29 => ⟨S1x2048, .f32⟩
  | 30 => ⟨S2048, .f32⟩
  | 31 => ⟨S1x1x2048, .f32⟩
  | 32 => ⟨S8x8x2048, .f32⟩
  | 33 => ⟨S8x8x2048, .f32⟩
  | 34 => ⟨S8x8x2048, .f32⟩
  | 35 => ⟨S8x8x2048, .f32⟩
  | 36 => ⟨S1x2048, .f32⟩
  | 37 => ⟨S2048, .f32⟩
  | 38 => ⟨S1x1x2048, .f32⟩
  | 39 => ⟨S8x8x2048, .f32⟩
  | 40 => ⟨S8x8x2048, .f32⟩
  | 41 => ⟨S8x8x2048, .f32⟩
  | 42 => ⟨S8x8x2048, .f32⟩
  | 43 => ⟨S1x2048, .f32⟩
  | 44 => ⟨S2048, .f32⟩
  | 45 => ⟨S1x1x2048, .f32⟩
  | 46 => ⟨S8x8x2048, .f32⟩
  | 47 => ⟨S8x8x2048, .f32⟩
  | 48 => ⟨S8x8x2048, .f32⟩
  | 49 => ⟨S8x8x2048, .f32⟩
  | 50 => ⟨S1x2048, .f32⟩
  | 51 => ⟨S2048, .f32⟩
  | 52 => ⟨S1x1x2048, .f32⟩
  | 53 => ⟨S8x8x2048, .f32⟩
  | 54 => ⟨S8x8x2048, .f32⟩
  | 55 => ⟨S8x8x2048, .f32⟩
  | 56 => ⟨S8x8x2048, .f32⟩
  | 57 => ⟨S1x2048, .f32⟩
  | 58 => ⟨S2048, .f32⟩
  | 59 => ⟨S1x1x2048, .f32⟩
  | 60 => ⟨S8x8x2048, .f32⟩
  | 61 => ⟨S8x8x2048, .f32⟩
  | 62 => ⟨S8x8x2048, .f32⟩
  | 63 => ⟨S8x8x2048, .f32⟩
  | 64 => ⟨S1x2048, .f32⟩
  | 65 => ⟨S2048, .f32⟩
  | 66 => ⟨S1x1x2048, .f32⟩
  | 67 => ⟨S8x8x2048, .f32⟩
  | 68 => ⟨S8x8x2048, .f32⟩
  | 69 => ⟨S8x8x2048, .f32⟩
  | 70 => ⟨S8x8x2048, .f32⟩
  | 71 => ⟨S1x2048, .f32⟩
  | 72 => ⟨S2048, .f32⟩
  | 73 => ⟨S1x1x2048, .f32⟩
  | 74 => ⟨S8x8x2048, .f32⟩
  | 75 => ⟨S8x8x2048, .f32⟩
  | 76 => ⟨S8x8x2048, .f32⟩
  | 77 => ⟨S8x8x2048, .f32⟩
  | 78 => ⟨S1x2048, .f32⟩
  | 79 => ⟨S2048, .f32⟩
  | 80 => ⟨S1x1x2048, .f32⟩
  | 81 => ⟨S8x8x2048, .f32⟩
  | 82 => ⟨S8x8x2048, .f32⟩
  | 83 => ⟨S8x8x2048, .f32⟩
  | 84 => ⟨S8x8x2048, .f32⟩
  | 85 => ⟨S1x2048, .f32⟩
  | 86 => ⟨S2048, .f32⟩
  | 87 => ⟨S1x1x2048, .f32⟩
  | 88 => ⟨S8x8x2048, .f32⟩
  | 89 => ⟨S8x8x2048, .f32⟩
  | 90 => ⟨S8x8x2048, .f32⟩
  | 91 => ⟨S8x8x2048, .f32⟩
  | 92 => ⟨S1x2048, .f32⟩
  | 93 => ⟨S2048, .f32⟩
  | 94 => ⟨S1x1x2048, .f32⟩
  | 95 => ⟨S8x8x2048, .f32⟩
  | 96 => ⟨S8x8x2048, .f32⟩
  | 97 => ⟨S8x8x2048, .f32⟩
  | 98 => ⟨S8x8x2048, .f32⟩
  | 99 => ⟨S1x2048, .f32⟩
  | 100 => ⟨S2048, .f32⟩
  | 101 => ⟨S1x1x2048, .f32⟩
  | 102 => ⟨S8x8x2048, .f32⟩
  | 103 => ⟨S8x8x2048, .f32⟩
  | 104 => ⟨S8x8x2048, .f32⟩
  | 105 => ⟨S8x8x2048, .f32⟩
  | 106 => ⟨S1x2048, .f32⟩
  | 107 => ⟨S2048, .f32⟩
  | 108 => ⟨S1x1x2048, .f32⟩
  | 109 => ⟨S8x8x2048, .f32⟩
  | 110 => ⟨S8x8x2048, .f32⟩
  | 111 => ⟨S8x8x2048, .f32⟩
  | 112 => ⟨S8x8x2048, .f32⟩
  | 113 => ⟨S1x2048, .f32⟩
  | 114 => ⟨S2048, .f32⟩
  | 115 => ⟨S1x1x2048, .f32⟩
  | 116 => ⟨S8x8x2048, .f32⟩
  | 117 => ⟨S8x8x2048, .f32⟩
  | 118 => ⟨S8x8x2048, .f32⟩
  | 119 => ⟨S8x8x2048, .f32⟩
  | 120 => ⟨S1x2048, .f32⟩
  | 121 => ⟨S2048, .f32⟩
  | 122 => ⟨S1x1x2048, .f32⟩
  | 123 => ⟨S8x8x2048, .f32⟩
  | 124 => ⟨S8x8x2048, .f32⟩
  | 125 => ⟨S8x8x2048, .f32⟩
  | 126 => ⟨S8x8x2048, .f32⟩
  | 127 => ⟨S1x2048, .f32⟩
  | _ => ⟨S64x2048, .f32⟩

abbrev hbmTy0_1 (i : Nat) : BufTy := match i % 128 with
  | 0 => ⟨S2048, .f32⟩
  | 1 => ⟨S1x1x2048, .f32⟩
  | 2 => ⟨S8x8x2048, .f32⟩
  | 3 => ⟨S8x8x2048, .f32⟩
  | 4 => ⟨S8x8x2048, .f32⟩
  | 5 => ⟨S8x8x2048, .f32⟩
  | 6 => ⟨S1x2048, .f32⟩
  | 7 => ⟨S2048, .f32⟩
  | 8 => ⟨S1x1x2048, .f32⟩
  | 9 => ⟨S8x8x2048, .f32⟩
  | 10 => ⟨S8x8x2048, .f32⟩
  | 11 => ⟨S8x8x2048, .f32⟩
  | 12 => ⟨S8x8x2048, .f32⟩
  | 13 => ⟨S1x2048, .f32⟩
  | 14 => ⟨S2048, .f32⟩
  | 15 => ⟨S1x1x2048, .f32⟩
  | 16 => ⟨S8x8x2048, .f32⟩
  | 17 => ⟨S8x8x2048, .f32⟩
  | 18 => ⟨S8x8x2048, .f32⟩
  | 19 => ⟨S8x8x2048, .f32⟩
  | 20 => ⟨S1x2048, .f32⟩
  | 21 => ⟨S2048, .f32⟩
  | 22 => ⟨S1x1x2048, .f32⟩
  | 23 => ⟨S8x8x2048, .f32⟩
  | 24 => ⟨S8x8x2048, .f32⟩
  | 25 => ⟨S8x8x2048, .f32⟩
  | 26 => ⟨S8x8x2048, .f32⟩
  | 27 => ⟨S1x2048, .f32⟩
  | 28 => ⟨S2048, .f32⟩
  | 29 => ⟨S1x1x2048, .f32⟩
  | 30 => ⟨S8x8x2048, .f32⟩
  | 31 => ⟨S8x8x2048, .f32⟩
  | 32 => ⟨S8x8x2048, .f32⟩
  | 33 => ⟨S8x8x2048, .f32⟩
  | 34 => ⟨S1x2048, .f32⟩
  | 35 => ⟨S2048, .f32⟩
  | 36 => ⟨S1x1x2048, .f32⟩
  | 37 => ⟨S8x8x2048, .f32⟩
  | 38 => ⟨S8x8x2048, .f32⟩
  | 39 => ⟨S8x8x2048, .f32⟩
  | 40 => ⟨S8x8x2048, .f32⟩
  | 41 => ⟨S1x2048, .f32⟩
  | 42 => ⟨S2048, .f32⟩
  | 43 => ⟨S1x1x2048, .f32⟩
  | 44 => ⟨S8x8x2048, .f32⟩
  | 45 => ⟨S8x8x2048, .f32⟩
  | 46 => ⟨S8x8x2048, .f32⟩
  | 47 => ⟨S8x8x2048, .f32⟩
  | 48 => ⟨S1x2048, .f32⟩
  | 49 => ⟨S2048, .f32⟩
  | 50 => ⟨S1x1x2048, .f32⟩
  | 51 => ⟨S8x8x2048, .f32⟩
  | 52 => ⟨S8x8x2048, .f32⟩
  | 53 => ⟨S8x8x2048, .f32⟩
  | 54 => ⟨S8x8x2048, .f32⟩
  | 55 => ⟨S1x2048, .f32⟩
  | 56 => ⟨S2048, .f32⟩
  | 57 => ⟨S1x1x2048, .f32⟩
  | 58 => ⟨S8x8x2048, .f32⟩
  | 59 => ⟨S8x8x2048, .f32⟩
  | 60 => ⟨S8x8x2048, .f32⟩
  | 61 => ⟨S8x8x2048, .f32⟩
  | 62 => ⟨S1x2048, .f32⟩
  | 63 => ⟨S2048, .f32⟩
  | 64 => ⟨S1x1x2048, .f32⟩
  | 65 => ⟨S8x8x2048, .f32⟩
  | 66 => ⟨S8x8x2048, .f32⟩
  | 67 => ⟨S8x8x2048, .f32⟩
  | 68 => ⟨S8x8x2048, .f32⟩
  | 69 => ⟨S1x2048, .f32⟩
  | 70 => ⟨S2048, .f32⟩
  | 71 => ⟨S1x1x2048, .f32⟩
  | 72 => ⟨S8x8x2048, .f32⟩
  | 73 => ⟨S8x8x2048, .f32⟩
  | 74 => ⟨S8x8x2048, .f32⟩
  | 75 => ⟨S8x8x2048, .f32⟩
  | 76 => ⟨S1x2048, .f32⟩
  | 77 => ⟨S2048, .f32⟩
  | 78 => ⟨S1x1x2048, .f32⟩
  | 79 => ⟨S8x8x2048, .f32⟩
  | 80 => ⟨S8x8x2048, .f32⟩
  | 81 => ⟨S8x8x2048, .f32⟩
  | 82 => ⟨S8x8x2048, .f32⟩
  | 83 => ⟨S1x2048, .f32⟩
  | 84 => ⟨S2048, .f32⟩
  | 85 => ⟨S1x1x2048, .f32⟩
  | 86 => ⟨S8x8x2048, .f32⟩
  | 87 => ⟨S8x8x2048, .f32⟩
  | 88 => ⟨S8x8x2048, .f32⟩
  | 89 => ⟨S8x8x2048, .f32⟩
  | 90 => ⟨S1x2048, .f32⟩
  | 91 => ⟨S2048, .f32⟩
  | 92 => ⟨S1x1x2048, .f32⟩
  | 93 => ⟨S8x8x2048, .f32⟩
  | 94 => ⟨S8x8x2048, .f32⟩
  | 95 => ⟨S8x8x2048, .f32⟩
  | 96 => ⟨S8x8x2048, .f32⟩
  | 97 => ⟨S1x2048, .f32⟩
  | 98 => ⟨S2048, .f32⟩
  | 99 => ⟨S1x1x2048, .f32⟩
  | 100 => ⟨S8x8x2048, .f32⟩
  | 101 => ⟨S8x8x2048, .f32⟩
  | 102 => ⟨S8x8x2048, .f32⟩
  | 103 => ⟨S8x8x2048, .f32⟩
  | 104 => ⟨S1x2048, .f32⟩
  | 105 => ⟨S2048, .f32⟩
  | 106 => ⟨S1x1x2048, .f32⟩
  | 107 => ⟨S8x8x2048, .f32⟩
  | 108 => ⟨S8x8x2048, .f32⟩
  | 109 => ⟨S8x8x2048, .f32⟩
  | 110 => ⟨S1x1x2048, .f32⟩
  | 111 => ⟨S8x8x2048, .f32⟩
  | 112 => ⟨S8x8x2048, .f32⟩
  | 113 => ⟨S_, .f32⟩
  | 114 => ⟨S8x8, .f32⟩
  | 115 => ⟨S8x8x1, .f32⟩
  | 116 => ⟨S_, .f32⟩
  | 117 => ⟨S8x8x1, .f32⟩
  | 118 => ⟨S8x8x1, .f32⟩
  | 119 => ⟨S8x8x2048, .f32⟩
  | 120 => ⟨S8x8x2048, .f32⟩
  | 121 => ⟨S8x8x2048, .f32⟩
  | 122 => ⟨S_, .f32⟩
  | 123 => ⟨S8x8, .f32⟩
  | 124 => ⟨S8x8x1, .f32⟩
  | 125 => ⟨S_, .f32⟩
  | 126 => ⟨S8x8x1, .f32⟩
  | 127 => ⟨S8x8x1, .f32⟩
  | _ => ⟨S64x2048, .f32⟩

abbrev hbmTy0_2 (i : Nat) : BufTy := match i % 128 with
  | 0 => ⟨S8x8x2048, .f32⟩
  | 1 => ⟨S8x8x2048, .f32⟩
  | 2 => ⟨S_, .f32⟩
  | 3 => ⟨S8x8x1, .f32⟩
  | 4 => ⟨S8x8x1, .f32⟩
  | 5 => ⟨S8x8x1, .f32⟩
  | 6 => ⟨S8x8x2048, .f32⟩
  | 7 => ⟨S8x8x2048, .f32⟩
  | 8 => ⟨S1x1x2048, .f32⟩
  | 9 => ⟨S8x8x2048, .f32⟩
  | 10 => ⟨S8x8x2048, .f32⟩
  | 11 => ⟨S1x1x2048, .f32⟩
  | 12 => ⟨S8x8x2048, .f32⟩
  | 13 => ⟨S8x8x2048, .f32⟩
  | 14 => ⟨S8x8x2048, .f32⟩
  | 15 => ⟨S8x8x2048, .f32⟩
  | 16 => ⟨S_, .f32⟩
  | 17 => ⟨S8x8x2048, .f32⟩
  | 18 => ⟨S8x8x2048, .f32⟩
  | 19 => ⟨S_, .f32⟩
  | 20 => ⟨S8x8x2048, .f32⟩
  | 21 => ⟨S8x8x2048, .f32⟩
  | 22 => ⟨S8x8x2048, .f32⟩
  | 23 => ⟨S64x2048, .f32⟩
  | 24 => ⟨S64x2048, .f32⟩
  | 25 => ⟨S64x2048, .f32⟩
  | 26 => ⟨S_, .f32⟩
  | 27 => ⟨S64x2048, .f32⟩
  | 28 => ⟨S64x2048, .f32⟩
  | 29 => ⟨S_, .f32⟩
  | 30 => ⟨S64x2048, .f32⟩
  | 31 => ⟨S64x2048, .f32⟩
  | 32 => ⟨S64x2048, .f32⟩
  | 33 => ⟨S64x2048, .f32⟩
  | 34 => ⟨S8x30x2048, .f32⟩
  | _ => ⟨S64x2048, .f32⟩

abbrev hbmTy (i : Nat) : BufTy := match i / 128 with
  | 0 => hbmTy0_0 i
  | 1 => hbmTy0_1 i
  | 2 => hbmTy0_2 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_cst_2 : Ref sig .tc := ⟨.hbm, 241, rfl⟩
abbrev main_v230 : Ref sig .tc := ⟨.hbm, 242, rfl⟩
abbrev main_v231 : Ref sig .tc := ⟨.hbm, 243, rfl⟩
abbrev main_cst_3 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_cst_4 : Ref sig .tc := ⟨.hbm, 250, rfl⟩
abbrev main_v237 : Ref sig .tc := ⟨.hbm, 251, rfl⟩
abbrev main_v238 : Ref sig .tc := ⟨.hbm, 252, rfl⟩
abbrev main_cst_5 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_cst_6 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v254 : Ref sig .tc := ⟨.hbm, 278, rfl⟩
abbrev main_v255 : Ref sig .tc := ⟨.hbm, 279, rfl⟩
abbrev main_call1_v0 : Ref sig .tc := ⟨.hbm, 280, rfl⟩
abbrev main_call1_v1 : Ref sig .tc := ⟨.hbm, 281, rfl⟩
abbrev main_call1_cst : Ref sig .tc := ⟨.hbm, 282, rfl⟩
abbrev main_call1_v2 : Ref sig .tc := ⟨.hbm, 283, rfl⟩
abbrev main_call1_v3 : Ref sig .tc := ⟨.hbm, 284, rfl⟩
abbrev main_call1_cst_0 : Ref sig .tc := ⟨.hbm, 285, rfl⟩
abbrev main_call1_v4 : Ref sig .tc := ⟨.hbm, 286, rfl⟩
abbrev main_call1_v5 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩

abbrev nD : Nat := 1
abbrev τ : Topo := Topo.v7x

variable {F : FTy → Type} [FloatOps F]
-- ==== Proof.Sweep.lean ====
module

public import proofs.«01_k».proof.Proof.Gen.KernelIdeal.Value
public import Idealize.ShloMosaic.Lib.Pipeline.ValueKit
public import Idealize.ShloMosaic.Lib.Pipeline.ReadBack
public import Idealize.ShloMosaic.Lib.VecWindow

/-!
# The backward sweep over the key blocks

The kernel keeps four scratch buffers: the logits of the block in hand, the weights of the block before, the running
(negated) sum of the log-keeps, and the accumulator. One turn of its loop rewrites all four whole; here the turn is read
as a step of a plain state, and the loop as its iteration.
-/

@[expose] public section

set_option maxRecDepth 16384

noncomputable section

namespace Cert.KernelIdeal.Sweep

open Cert.KernelIdeal Cert.KernelIdeal.Gen Idealize.ShloMosaic Idealize.ShloMosaic.TcCoe Idealize.SL.Sem Idealize.ShloMosaic.Tactic

/-- What the four scratch buffers hold. -/
structure St where
  z : Vec Ideal S1x512x256 .f32
  w : Vec Ideal S1x512x256 .bf16
  c : Vec Ideal S1x512x128 .f32
  a : Vec Ideal S512x128 .f32

/-- Block `j` of 256 consecutive rows. -/
def rows (x : Vec Ideal S4096x128 .f32) (j : Fin 16) : Vec Ideal S256x128 .f32 :=
  fun y => x (ix2 (n0 := 4096) (n1 := 128) ⟨256 * j.val + (y 0).val, by have h : (y 0).val < 256 := (y 0).isLt; have := j.isLt; omega⟩ (y 1))

/-- The key block met at turn `t` of query block `i`, counted from the diagonal backwards (the first block again once they are all met). -/
def blkAt (i : grid0.Coords) (t : ℕ) : Fin 16 := ⟨2 * (i 2).val + 1 - t, by have : (i 2).val < 8 := (i 2).isLt; omega⟩

/-- One turn. -/
def step (v9 : FVec Ideal S256x256 .bf16) (v14 : Ideal .f32) (v18 : FVec Ideal S512x128 .bf16) (kb vb : Vec Ideal S256x128 .f32) (s : St) : St where
  z := k0_pay4 v14 v18 kb
  w := k0_pay2 (k0_pay11 s.z) (k0_pay12 s.z) (k0_pay13 v9 s.z) s.c
  c := k0_pay3 (k0_pay14 s.z) (FloatOps.ofBits .f32 0#32) s.c
  a := k0_pay10 s.a s.w vb

/-- The state before turn `k`. -/
def iter (i : grid0.Coords) (v9 : FVec Ideal S256x256 .bf16) (v14 : Ideal .f32) (v18 : FVec Ideal S512x128 .bf16) (x2 x3 : Vec Ideal S4096x128 .f32) (s : St) : ℕ → St
  | 0 => s
  | k + 1 => step v9 v14 v18 (rows x2 (blkAt i (k + 3))) (rows x3 (blkAt i (k + 1))) (iter i v9 v14 v18 x2 x3 s k)

theorem trips1 (i : grid0.Coords) : (k0_t1_loop i).trips = 2 * (i 2).val + 1 := by
  unfold k0_t1_loop
  dsimp only
  generalize i 2 = q
  revert q
  decide +kernel

theorem trips2 (i : grid0.Coords) : (k0_t2_loop i).trips = 0 := Nat.le_zero.mp (k0_t2_abs i).2.1

theorem off3_eq (i : grid0.Coords) (k : Fin (k0_t1_loop i).trips) : k0_off3 i k = ![256 * (blkAt i (k.val + 1)).val, 0] := by
  have hk : k.val < 15 := Nat.lt_of_lt_of_le k.isLt (k0_t1_abs i).2.1
  unfold k0_off3 blkAt
  obtain ⟨k, hk'⟩ := k
  dsimp only at hk ⊢
  clear hk'
  generalize i 2 = q
  have h : ∀ q : Fin 8, ∀ k : Fin 15, (Scalar.indexCast (Scalar.muli (Scalar.maxsi (Scalar.subi (Scalar.subi (Scalar.muli (Scalar.addi (BitVec.ofNat 32 q.val) 1#32) 2#32) 1#32) (Scf.iv 1#32 1#32 k.val)) 0#32) 256#32)).toNat = 256 * (2 * q.val + 1 - (k.val + 1)) := by decide +kernel
  exact congrArg (![·, 0]) (h q ⟨k, hk⟩)

theorem off4_eq (i : grid0.Coords) (k : Fin (k0_t1_loop i).trips) : k0_off4 i k = ![256 * (blkAt i (k.val + 3)).val, 0] := by
  have hk : k.val < 15 := Nat.lt_of_lt_of_le k.isLt (k0_t1_abs i).2.1
  unfold k0_off4 blkAt
  obtain ⟨k, hk'⟩ := k
  dsimp only at hk ⊢
  clear hk'
  generalize i 2 = q
  have h : ∀ q : Fin 8, ∀ k : Fin 15, (Scalar.indexCast (Scalar.muli (Scalar.maxsi (Scalar.subi (Scalar.subi (Scalar.muli (Scalar.addi (BitVec.ofNat 32 q.val) 1#32) 2#32) 1#32) (Scalar.addi (Scf.iv 1#32 1#32 k.val) 2#32)) 0#32) 256#32)).toNat = 256 * (2 * q.val + 1 - (k.val + 3)) := by decide +kernel
  exact congrArg (![·, 0]) (h q ⟨k, hk⟩)

theorem ld_rows (x : Vec Ideal S4096x128 .f32) (off : Fin 2 → ℕ) (j : Fin 16) (h : off = ![256 * j.val, 0]) (inb : ∀ a, off a + S256x128.size a ≤ S4096x128.size a) :
    View.ld x (Rect.unit off S256x128.size inb) = rows x j := by
  subst h
  funext y
  unfold View.ld rows
  refine congrArg x (funext fun a => Fin.ext ?_)
  match a with
  | 0 => show _ + 1 * _ = _; simp [ix2]
  | 1 => show _ + 1 * _ = _; simp [ix2]

/-- A load of the whole buffer. -/
theorem ld_whole {S : Shape} {e : EltTy} (x : S.Idx → Elt Ideal e) {off : Fin S.rank → ℕ} (inb : ∀ a, off a + S.size a ≤ S.size a) :
    View.ld x (Rect.unit off S.size inb) = x :=
  funext fun y => congrArg x (Rect.emb_unit_full inb y)

/-- What one turn stores. -/
theorem trip1 (c : Dev nD) (i : grid0.Coords)
  (arg3 : Memref sig .tc .smem S16 .f32) (harg3 : arg3.IsWhole)
  (arg4 : Memref sig .tc .vmem S512x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S512x128 .f32) (harg7 : arg7.IsWhole)
  (arg8 : Memref sig .tc .vmem S512x128 .bf16) (harg8 : arg8.IsWhole)
  (arg9 : Memref sig .tc .vmem S1x512x256 .f32) (harg9 : arg9.IsWhole)
  (arg10 : Memref sig .tc .vmem S1x512x256 .bf16) (harg10 : arg10.IsWhole)
  (arg11 : Memref sig .tc .vmem S1x512x128 .f32) (harg11 : arg11.IsWhole)
  (arg12 : Memref sig .tc .vmem S512x128 .f32) (harg12 : arg12.IsWhole)
  (v9 : FVec Ideal S256x256 .bf16) (v14 : Ideal .f32) (v18 : FVec Ideal S512x128 .bf16) (v28 c1 : BitVec 32)
    (X5 : BufTy.Contents (Elt Ideal) arg5.view.ty) (X6 : BufTy.Contents (Elt Ideal) arg6.view.ty) (k : Fin (k0_t1_loop i).trips) (acc : BitVec 32)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty)
    (s : St) (h9 : arg9.view.read (Elt Ideal) f9 = s.z) (h10 : arg10.view.read (Elt Ideal) f10 = s.w) (h11 : arg11.view.read (Elt Ideal) f11 = s.c) (h12 : arg12.view.read (Elt Ideal) f12 = s.a)
    (x2 x3 : Vec Ideal S4096x128 .f32) (h5 : arg5.view.read (Elt Ideal) X5 = x2) (h6 : arg6.view.read (Elt Ideal) X6 = x3) (s' : St)
    (hs' : s' = step v9 v14 v18 (rows x2 (blkAt i (k.val + 3))) (rows x3 (blkAt i (k.val + 1))) s) :
    (tripL_k0_t1 (F := Ideal) Variants.none c none i arg3 harg3 arg4 harg4 arg5 harg5 arg6 harg6 arg7 harg7 arg8 harg8 arg9 harg9 arg10 harg10 arg11 harg11 arg12 harg12 v9 v14 v18 v28 c1 X5 X6 k acc f9 f10 f11 f12)
      = ([⟨Rect.unit ![0, 0, 0] ![1, 512, 256] inb_S1x512x256_S1x512x256_0_0_0, s'.z⟩],
         [⟨Rect.unit ![0, 0, 0] ![1, 512, 256] inb_S1x512x256_S1x512x256_0_0_0, s'.w⟩],
         [⟨Rect.unit ![0, 0, 0] ![1, 512, 128] inb_S1x512x128_S1x512x128_0_0_0, s'.c⟩],
         [⟨Rect.unit ![0, 0] ![512, 128] inb_S512x128_S512x128_0_0, s'.a⟩]) := by
  have e5 := fun (inb : ∀ a, k0_off4 i k a + S256x128.size a ≤ S4096x128.size a) => ld_rows x2 (k0_off4 i k) _ (off4_eq i k) inb
  have e6 := fun (inb : ∀ a, k0_off3 i k a + S256x128.size a ≤ S4096x128.size a) => ld_rows x3 (k0_off3 i k) _ (off3_eq i k) inb
  have e9 := fun (inb : ∀ a, (![0, 0, 0] : Fin 3 → ℕ) a + S1x512x256.size a ≤ S1x512x256.size a) => ld_whole s.z inb
  have e10 := fun (inb : ∀ a, (![0, 0, 0] : Fin 3 → ℕ) a + S1x512x256.size a ≤ S1x512x256.size a) => ld_whole s.w inb
  have e11 := fun (inb : ∀ a, (![0, 0, 0] : Fin 3 → ℕ) a + S1x512x128.size a ≤ S1x512x128.size a) => ld_whole s.c inb
  have e12 := fun (inb : ∀ a, (![0, 0] : Fin 2 → ℕ) a + S512x128.size a ≤ S512x128.size a) => ld_whole s.a inb
  subst hs'
  unfold tripL_k0_t1 trip_k0_t1 step
  dsimp only
  sl_unfold_words
  simp only [View.readAt_eq_ld, h5, h6, h9, h10, h11, h12]
  refine Prod.ext ?_ (Prod.ext ?_ (Prod.ext ?_ ?_)) <;> dsimp only
  · exact congrArg (fun u => [(⟨Rect.unit ![0, 0, 0] ![1, 512, 256] inb_S1x512x256_S1x512x256_0_0_0, k0_pay4 v14 v18 u⟩ : View.Piece (Elt Ideal) S1x512x256 .f32)]) (e5 _)
  · exact congrArg₂ (fun u v => [(⟨Rect.unit ![0, 0, 0] ![1, 512, 256] inb_S1x512x256_S1x512x256_0_0_0, k0_pay2 (k0_pay11 u) (k0_pay12 u) (k0_pay13 v9 u) v⟩ : View.Piece (Elt Ideal) S1x512x256 .bf16)]) (e9 _) (e11 _)
  · exact congrArg₂ (fun u v => [(⟨Rect.unit ![0, 0, 0] ![1, 512, 128] inb_S1x512x128_S1x512x128_0_0_0, k0_pay3 (k0_pay14 u) (FloatOps.ofBits .f32 0#32) v⟩ : View.Piece (Elt Ideal) S1x512x128 .f32)]) (e9 _) (e11 _)
  · refine congrArg (fun u => [(⟨Rect.unit ![0, 0] ![512, 128] inb_S512x128_S512x128_0_0, u⟩ : View.Piece (Elt Ideal) S512x128 .f32)]) ?_
    exact (congrArg₂ (fun u v => k0_pay10 u v _) (e12 _) (e10 _)).trans (congrArg (k0_pay10 s.a s.w) (e6 _))

/-- The loop, read: after `k` turns the buffers hold the iteration's state. -/
theorem st1_read (c : Dev nD) (i : grid0.Coords)
  (arg3 : Memref sig .tc .smem S16 .f32) (harg3 : arg3.IsWhole)
  (arg4 : Memref sig .tc .vmem S512x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S512x128 .f32) (harg7 : arg7.IsWhole)
  (arg8 : Memref sig .tc .vmem S512x128 .bf16) (harg8 : arg8.IsWhole)
  (arg9 : Memref sig .tc .vmem S1x512x256 .f32) (harg9 : arg9.IsWhole)
  (arg10 : Memref sig .tc .vmem S1x512x256 .bf16) (harg10 : arg10.IsWhole)
  (arg11 : Memref sig .tc .vmem S1x512x128 .f32) (harg11 : arg11.IsWhole)
  (arg12 : Memref sig .tc .vmem S512x128 .f32) (harg12 : arg12.IsWhole)
  (v9 : FVec Ideal S256x256 .bf16) (v14 : Ideal .f32) (v18 : FVec Ideal S512x128 .bf16) (v28 c1 : BitVec 32)
    (X5 : BufTy.Contents (Elt Ideal) arg5.view.ty) (X6 : BufTy.Contents (Elt Ideal) arg6.view.ty) (init : BitVec 32)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty)
    (s : St) (h9 : arg9.view.read (Elt Ideal) f9 = s.z) (h10 : arg10.view.read (Elt Ideal) f10 = s.w) (h11 : arg11.view.read (Elt Ideal) f11 = s.c) (h12 : arg12.view.read (Elt Ideal) f12 = s.a)
    (x2 x3 : Vec Ideal S4096x128 .f32) (h5 : arg5.view.read (Elt Ideal) X5 = x2) (h6 : arg6.view.read (Elt Ideal) X6 = x3) :
    ∀ k : ℕ, k ≤ (k0_t1_loop i).trips →
    (arg9.view.read (Elt Ideal) (arg9.view.writes (Elt Ideal) f9 (st_k0_t1 (F := Ideal) Variants.none c none i arg3 harg3 arg4 harg4 arg5 harg5 arg6 harg6 arg7 harg7 arg8 harg8 arg9 harg9 arg10 harg10 arg11 harg11 arg12 harg12 v9 v14 v18 v28 c1 X5 X6 f9 f10 f11 f12 init k).2.1) = (iter i v9 v14 v18 x2 x3 s k).z
    ∧ arg10.view.read (Elt Ideal) (arg10.view.writes (Elt Ideal) f10 (st_k0_t1 (F := Ideal) Variants.none c none i arg3 harg3 arg4 harg4 arg5 harg5 arg6 harg6 arg7 harg7 arg8 harg8 arg9 harg9 arg10 harg10 arg11 harg11 arg12 harg12 v9 v14 v18 v28 c1 X5 X6 f9 f10 f11 f12 init k).2.2.1) = (iter i v9 v14 v18 x2 x3 s k).w)
    ∧ (arg11.view.read (Elt Ideal) (arg11.view.writes (Elt Ideal) f11 (st_k0_t1 (F := Ideal) Variants.none c none i arg3 harg3 arg4 harg4 arg5 harg5 arg6 harg6 arg7 harg7 arg8 harg8 arg9 harg9 arg10 harg10 arg11 harg11 arg12 harg12 v9 v14 v18 v28 c1 X5 X6 f9 f10 f11 f12 init k).2.2.2.1) = (iter i v9 v14 v18 x2 x3 s k).c
    ∧ arg12.view.read (Elt Ideal) (arg12.view.writes (Elt Ideal) f12 (st_k0_t1 (F := Ideal) Variants.none c none i arg3 harg3 arg4 harg4 arg5 harg5 arg6 harg6 arg7 harg7 arg8 harg8 arg9 harg9 arg10 harg10 arg11 harg11 arg12 harg12 v9 v14 v18 v28 c1 X5 X6 f9 f10 f11 f12 init k).2.2.2.2) = (iter i v9 v14 v18 x2 x3 s k).a) := by
  intro k
  induction k with
  | zero => intro _; exact ⟨⟨h9, h10⟩, h11, h12⟩
  | succ k ih =>
    intro hk
    obtain ⟨⟨i9, i10⟩, i11, i12⟩ := ih (Nat.le_of_succ_le hk)
    rw [st_k0_t1_succ (F := Ideal) Variants.none c none i arg3 harg3 arg4 harg4 arg5 harg5 arg6 harg6 arg7 harg7 arg8 harg8 arg9 harg9 arg10 harg10 arg11 harg11 arg12 harg12 v9 v14 v18 v28 c1 X5 X6 f9 f10 f11 f12 init ⟨k, hk⟩]
    rw [trip1 c i arg3 harg3 arg4 harg4 arg5 harg5 arg6 harg6 arg7 harg7 arg8 harg8 arg9 harg9 arg10 harg10 arg11 harg11 arg12 harg12 v9 v14 v18 v28 c1 X5 X6 ⟨k, hk⟩ _ _ _ _ _ _ i9 i10 i11 i12 x2 x3 h5 h6 (iter i v9 v14 v18 x2 x3 s (k + 1)) rfl]
    exact ⟨⟨View.read_writes_full (s := S1x512x256) arg9.view _ _ _ _, View.read_writes_full (s := S1x512x256) arg10.view _ _ _ _⟩,
      View.read_writes_full (s := S1x512x128) arg11.view _ _ _ _, View.read_writes_full (s := S512x128) arg12.view _ _ _ _⟩

end Cert.KernelIdeal.Sweep
-- ==== Proof.Block.lean ====
module

public import proofs.«01_k».proof.Proof.Sweep

/-!
# One grid point's output block

The straight-line opening (the two blocks on the diagonal) sets up the sweep's first state; the loop turns over it; the
block stored is the gated accumulator.
-/

@[expose] public section

set_option maxRecDepth 16384

noncomputable section

namespace Cert.KernelIdeal.Sweep

open Cert.KernelIdeal Cert.KernelIdeal.Gen Idealize.ShloMosaic Idealize.ShloMosaic.TcCoe Idealize.SL.Sem Idealize.ShloMosaic.Tactic

/-- This head's bias, scaled. -/
def hb (i : grid0.Coords) (x0 : Vec Ideal S16 .f32) : Ideal .f32 := k0_pay21 (x0 (ix1 (n0 := 16) (i 1)))

/-- The logits of one key block. -/
def zOf (i : grid0.Coords) (x0 : Vec Ideal S16 .f32) (x1 : Vec Ideal S512x128 .f32) (x2 : Vec Ideal S4096x128 .f32) (t : ℕ) : Vec Ideal S1x512x256 .f32 :=
  k0_pay4 (hb i x0) (k0_pay22 x1) (rows x2 (blkAt i t))

/-- The running sum after the first diagonal block. -/
def c1Of (z0 : Vec Ideal S1x512x256 .f32) : Vec Ideal S1x512x128 .f32 := k0_pay34 (k0_pay30 z0) (k0_pay23 (F := Ideal))

/-- The state the loop starts from. -/
def start (v9 : FVec Ideal S256x256 .bf16) (z0 z1 z2 : Vec Ideal S1x512x256 .f32) (vb : Vec Ideal S256x128 .f32) : St where
  z := z2
  w := k0_pay45 k0_pay38 (k0_pay39 z1) (k0_pay40 z1) (k0_pay42 v9 z1) (c1Of z0)
  c := k0_pay46 (k0_pay43 z1) (c1Of z0)
  a := k0_pay37 (k0_pay24 (F := Ideal)) (k0_pay36 (k0_pay33 k0_pay26 (k0_pay31 v9 z0) (k0_pay23 (F := Ideal)))) vb

/-- The block a grid point stores. -/
def blockOut (i : grid0.Coords) (x0 : Vec Ideal S16 .f32) (x1 : Vec Ideal S512x128 .f32) (x2 x3 : Vec Ideal S4096x128 .f32) (x4 : Vec Ideal S512x128 .f32) : Vec Ideal S512x128 .bf16 :=
  k0_pay9 (F := Ideal) (iter i (k0_pay20 (F := Ideal)) (hb i x0) (k0_pay22 x1) x2 x3
    (start (k0_pay20 (F := Ideal)) (zOf i x0 x1 x2 0) (zOf i x0 x1 x2 1) (zOf i x0 x1 x2 2) (rows x3 (blkAt i 0))) (2 * (i 2).val + 1)).a x4

theorem off2_eq (i : grid0.Coords) (r : Fin 3) : k0_off2 i (BitVec.ofNat 32 r.val) = ![256 * (blkAt i r.val).val, 0] := by
  unfold k0_off2 blkAt
  dsimp only
  generalize i 2 = q
  have h : ∀ q : Fin 8, ∀ r : Fin 3, (Scalar.indexCast (Scalar.muli (Scalar.maxsi (Scalar.subi (Scalar.subi (Scalar.muli (Scalar.addi (BitVec.ofNat 32 q.val) 1#32) 2#32) 1#32) (BitVec.ofNat 32 r.val)) 0#32) 256#32)).toNat = 256 * (2 * q.val + 1 - r.val) := by decide +kernel
  exact congrArg (![·, 0]) (h q r)

theorem read_last {sig : RefSig} {κ : Kind} {sp : Space} {S : Shape} {e : EltTy} (v : View sig κ sp S e) (L2 L1 L : List (View.Piece (Elt Ideal) S e)) (h2 : L2 = []) {off : Fin S.rank → ℕ}
    (inb : ∀ a, off a + S.size a ≤ S.size a) :
    v.readCov (L2 ++ (L1 ++ L)) (Rect.unit off S.size inb).toLoadRect = v.read (Elt Ideal) (v.writes (Elt Ideal) (v.writes (Elt Ideal) v.junk L) L1) := by
  subst h2
  rw [List.nil_append]
  unfold View.readCov
  rw [View.readAt_full, View.writes_append]

theorem hb_eq (i : grid0.Coords) (arg3 : Memref sig .tc .smem S16 .f32) (harg3 : arg3.IsWhole) (x0 : Vec Ideal S16 .f32) (inb : ∀ a, k0_off1 i a + S1.size a ≤ S16.size a)
    (j : (Rect.unit (s := S16) (k0_off1 i) S1.size inb).shape.Idx) :
    k0_pay21 (F := Ideal) (View.readAt (Elt Ideal) arg3.view (Rect.unit (s := S16) (k0_off1 i) S1.size inb).toLoadRect (harg3.unread x0) j) = hb i x0 := by
  unfold hb
  refine congrArg _ ?_
  rw [View.readAt_eq_ld, harg3.read_unread]
  refine congrArg x0 (funext fun a => Fin.ext ?_)
  match a with
  | 0 =>
    have h : ∀ q : Fin 16, (Scalar.indexCast (Scalar.addi (Scalar.muli (BitVec.ofNat 32 q.val) 1#32) 0#32)).toNat = q.val := by decide +kernel
    have hj : (j 0).val < 1 := (j 0).isLt
    show k0_off1 i 0 + 1 * (j 0).val = (i 1).val
    have h0 : k0_off1 i 0 = (i 1).val := h (i 1)
    omega

theorem x_eq {S : Shape} {e : EltTy} {κ : Kind} {sp : Space} (m : Memref sig κ sp S e) (hm : m.IsWhole) (x : Vec Ideal S e) {off : Fin S.rank → ℕ} (inb : ∀ a, off a + S.size a ≤ S.size a) :
    View.readAt (Elt Ideal) m.view (Rect.unit off S.size inb).toLoadRect (hm.unread x) = x := by
  rw [View.readAt_full, hm.read_unread]

theorem rows_eq (i : grid0.Coords) {κ : Kind} {sp : Space} (m : Memref sig κ sp S4096x128 .f32) (hm : m.IsWhole) (x : Vec Ideal S4096x128 .f32) (r : Fin 3)
    (inb : ∀ a, k0_off2 i (BitVec.ofNat 32 r.val) a + S256x128.size a ≤ S4096x128.size a) :
    View.readAt (Elt Ideal) m.view (Rect.unit (s := S4096x128) (k0_off2 i (BitVec.ofNat 32 r.val)) S256x128.size inb).toLoadRect (hm.unread x) = rows x (blkAt i r.val) := by
  rw [View.readAt_eq_ld, hm.read_unread]
  exact ld_rows x _ _ (off2_eq i r) inb

theorem z_eq {a a' : Ideal .f32} {b b' : FVec Ideal S512x128 .bf16} {k k' : Vec Ideal S256x128 .f32} (ha : a = a') (hb : b = b') (hk : k = k') :
    k0_pay25 a b k = k0_pay4 a' b' k' := by subst ha hb hk; rfl

theorem w_eq {z0 z0' z1 z1' : Vec Ideal S1x512x256 .f32} (h0 : z0 = z0') (h1 : z1 = z1') :
    k0_pay45 k0_pay38 (k0_pay39 z1) (k0_pay40 z1) (k0_pay42 (k0_pay20 (F := Ideal)) z1) (k0_pay34 (k0_pay30 z0) (k0_pay23 (F := Ideal)))
      = k0_pay45 k0_pay38 (k0_pay39 z1') (k0_pay40 z1') (k0_pay42 (k0_pay20 (F := Ideal)) z1') (c1Of z0') := by subst h0 h1; rfl

theorem c_eq {z0 z0' z1 z1' : Vec Ideal S1x512x256 .f32} (h0 : z0 = z0') (h1 : z1 = z1') :
    k0_pay46 (k0_pay43 z1) (k0_pay34 (k0_pay30 z0) (k0_pay23 (F := Ideal))) = k0_pay46 (k0_pay43 z1') (c1Of z0') := by subst h0 h1; rfl

theorem a_eq {z0 z0' : Vec Ideal S1x512x256 .f32} {k k' : Vec Ideal S256x128 .f32} (h0 : z0 = z0') (hk : k = k') :
    k0_pay37 (k0_pay24 (F := Ideal)) (k0_pay36 (k0_pay33 k0_pay26 (k0_pay31 (k0_pay20 (F := Ideal)) z0) (k0_pay23 (F := Ideal)))) k
      = k0_pay37 (k0_pay24 (F := Ideal)) (k0_pay36 (k0_pay33 k0_pay26 (k0_pay31 (k0_pay20 (F := Ideal)) z0') (k0_pay23 (F := Ideal)))) k' := by subst h0 hk; rfl

theorem iter_eq (i : grid0.Coords) {a a' : Ideal .f32} {b b' : FVec Ideal S512x128 .bf16} {n n' : ℕ} (x2 x3 : Vec Ideal S4096x128 .f32) (s : St) (ha : a = a') (hb : b = b') (hn : n = n') :
    (iter i (k0_pay20 (F := Ideal)) a b x2 x3 s n).a = (iter i (k0_pay20 (F := Ideal)) a' b' x2 x3 s n').a := by subst ha hb hn; rfl

/-- A loop of no turns stores nothing. -/
theorem st2_nil (c : Dev nD) (i : grid0.Coords)
  (arg3 : Memref sig .tc .smem S16 .f32) (harg3 : arg3.IsWhole)
  (arg4 : Memref sig .tc .vmem S512x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S512x128 .f32) (harg7 : arg7.IsWhole)
  (arg8 : Memref sig .tc .vmem S512x128 .bf16) (harg8 : arg8.IsWhole)
  (arg9 : Memref sig .tc .vmem S1x512x256 .f32) (harg9 : arg9.IsWhole)
  (arg10 : Memref sig .tc .vmem S1x512x256 .bf16) (harg10 : arg10.IsWhole)
  (arg11 : Memref sig .tc .vmem S1x512x128 .f32) (harg11 : arg11.IsWhole)
  (arg12 : Memref sig .tc .vmem S512x128 .f32) (harg12 : arg12.IsWhole)
  (v9 : FVec Ideal S256x256 .bf16) (v14 : Ideal .f32) (v18 : FVec Ideal S512x128 .bf16) (v28 c1 : BitVec 32)
    (X5 : BufTy.Contents (Elt Ideal) arg5.view.ty) (X6 : BufTy.Contents (Elt Ideal) arg6.view.ty)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (init : BitVec 32) :
    (st_k0_t2 (F := Ideal) Variants.none c none i arg3 harg3 arg4 harg4 arg5 harg5 arg6 harg6 arg7 harg7 arg8 harg8 arg9 harg9 arg10 harg10 arg11 harg11 arg12 harg12 v9 v14 v18 v28 c1 X5 X6 f9 f10 f11 f12 init (k0_t2_loop i).trips).2.2.2.2 = [] := by
  rw [trips2]; rfl

theorem out_eq (c : Dev nD) (i : grid0.Coords)
  (arg3 : Memref sig .tc .smem S16 .f32) (harg3 : arg3.IsWhole)
  (arg4 : Memref sig .tc .vmem S512x128 .f32) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S512x128 .f32) (harg7 : arg7.IsWhole)
  (arg8 : Memref sig .tc .vmem S512x128 .bf16) (harg8 : arg8.IsWhole)
  (arg9 : Memref sig .tc .vmem S1x512x256 .f32) (harg9 : arg9.IsWhole)
  (arg10 : Memref sig .tc .vmem S1x512x256 .bf16) (harg10 : arg10.IsWhole)
  (arg11 : Memref sig .tc .vmem S1x512x128 .f32) (harg11 : arg11.IsWhole)
  (arg12 : Memref sig .tc .vmem S512x128 .f32) (harg12 : arg12.IsWhole)
    (x0 : Vec Ideal S16 .f32) (x1 : Vec Ideal S512x128 .f32) (x2 : Vec Ideal S4096x128 .f32) (x3 : Vec Ideal S4096x128 .f32) (x4 : Vec Ideal S512x128 .f32) :
    out0_A_5 (F := Ideal) c i arg3 harg3 arg4 harg4 arg5 harg5 arg6 harg6 arg7 harg7 arg8 harg8 arg9 harg9 arg10 harg10 arg11 harg11 arg12 harg12 x0 x1 x2 x3 x4 = blockOut i x0 x1 x2 x3 x4 := by
  unfold out0_A_5
  rw [View.read_writes_junk_eq_canon]; unfold kernelRun0_A
  dsimp only
  sl_unfold_words
  simp only [↓ View.readCov_cons_toLoadRect]
  rw [View.canon_unit_zero (S := S512x128) (by decide)]
  unfold blockOut
  refine congrArg₂ (k0_pay9 (F := Ideal)) ?_ ?_
  · refine (read_last (S := S512x128) arg12.view _ _ _ ?_ _).trans ?_
    · exact st2_nil c i arg3 harg3 arg4 harg4 arg5 harg5 arg6 harg6 arg7 harg7 arg8 harg8 arg9 harg9 arg10 harg10 arg11 harg11 arg12 harg12 _ _ _ _ _ _ _ _ _ _ _ _
    · have h14 := fun j => hb_eq i arg3 harg3 x0 (k0_off1_inb i) j
      have h18 : k0_pay22 (F := Ideal) (View.readAt (Elt Ideal) arg4.view (Rect.unit (s := S512x128) ![0, 0] S512x128.size inb_S512x128_S512x128_0_0).toLoadRect (harg4.unread x1)) = k0_pay22 (F := Ideal) x1 :=
        congrArg _ (x_eq arg4 harg4 x1 inb_S512x128_S512x128_0_0)
      have hk := fun r : Fin 3 => fun inb => rows_eq i arg5 harg5 x2 r inb
      have hz := fun r : Fin 3 => fun inb j => z_eq (h14 j) h18 (hk r inb)
      refine (st1_read c i arg3 harg3 arg4 harg4 arg5 harg5 arg6 harg6 arg7 harg7 arg8 harg8 arg9 harg9 arg10 harg10 arg11 harg11 arg12 harg12 _ _ _ _ _ _ _ _ _ _ _ _ (start (k0_pay20 (F := Ideal)) (zOf i x0 x1 x2 0) (zOf i x0 x1 x2 1) (zOf i x0 x1 x2 2) (rows x3 (blkAt i 0))) ?_ ?_ ?_ ?_ x2 x3 ?_ ?_ (k0_t1_loop i).trips le_rfl).2.2.trans ?_
      · exact (View.read_writes_full (s := S1x512x256) arg9.view _ _ _ _).trans (hz 2 _ _)
      · exact (View.read_writes_full (s := S1x512x256) arg10.view _ _ _ _).trans (w_eq (hz 0 _ _) (hz 1 _ _))
      · exact (View.read_writes_full (s := S1x512x128) arg11.view _ _ _ _).trans (c_eq (hz 0 _ _) (hz 1 _ _))
      · exact (View.read_writes_full (s := S512x128) arg12.view _ _ _ _).trans (a_eq (hz 0 _ _) (rows_eq i arg6 harg6 x3 0 _))
      · exact harg5.read_unread x2
      · exact harg6.read_unread x3
      · exact iter_eq i x2 x3 _ (h14 _) h18 (trips1 i)
  · exact x_eq arg7 harg7 x4 _

end Cert.KernelIdeal.Sweep
-- ==== Proof.Tile.lean ====
module

public import proofs.«01_k».proof.Proof.Block
public import Idealize.ShloMosaic.Lib.Pointwise

/-!
# The tile arithmetic, entry by entry

Each stored tile read at a row `r` of the query block and a column `k` of the key block. A turn with a mask on it (the
two diagonal blocks) and a turn without one are the same formulas, the mask being all true for the second.
-/

@[expose] public section

set_option maxRecDepth 16384

noncomputable section

namespace Cert.KernelIdeal.Sweep

open Cert.KernelIdeal Cert.KernelIdeal.Gen Idealize.ShloMosaic Idealize.ShloMosaic.TcCoe Idealize.SL.Sem Idealize.ShloMosaic.Tactic

/-- `1 / log 2`. -/
def L2 : EReal := (((Real.log 2)⁻¹ : ℝ) : EReal)

/-- `1 / (√128 · log 2)`. -/
def QS : EReal := (((Real.sqrt 128)⁻¹ * (Real.log 2)⁻¹ : ℝ) : EReal)

/-- The softplus in base two. -/
def sp2 (z : EReal) : EReal := max z 0 + Ideal.log (1 + Ideal.exp2 (0 - max z (-z))) * L2

/-- The strictly lower triangle of minus ones. -/
def tri (x k : Fin 256) : EReal := if k < x then -1 else 0

/-- A masked tile of softpluses. -/
def spm (M : Fin 512 → Fin 256 → Prop) [∀ r k, Decidable (M r k)] (Z : Fin 512 → Fin 256 → EReal) (r : Fin 512) (k : Fin 256) : EReal :=
  if M r k then sp2 (Z r k) else 0

/-- A tile of weights. -/
def wt (M : Fin 512 → Fin 256 → Prop) [∀ r k, Decidable (M r k)] (Z : Fin 512 → Fin 256 → EReal) (C : Fin 512 → EReal) (r : Fin 512) (k : Fin 256) : EReal :=
  if M r k then Ideal.exp2 (Z r k - sp2 (Z r k) + (∑ x : Fin 256, spm M Z r x * tri x k) + C r) else 0

/-- The running sum moved past a tile. -/
def cs (M : Fin 512 → Fin 256 → Prop) [∀ r k, Decidable (M r k)] (Z : Fin 512 → Fin 256 → EReal) (C : Fin 512 → EReal) (r : Fin 512) : EReal :=
  C r + (0 - ∑ k : Fin 256, spm M Z r k)

/-- A tile of logits. -/
def lg (a : EReal) (q : FVec Ideal S512x128 .bf16) (K : Vec Ideal S256x128 .f32) (r : Fin 512) (k : Fin 256) : EReal :=
  (∑ d : Fin 128, q (ix2 r d) * K (ix2 k d)) + a

/-- The accumulator moved past a tile. -/
def ac (A : Fin 512 → Fin 128 → EReal) (W : Fin 512 → Fin 256 → EReal) (V : Vec Ideal S256x128 .f32) (r : Fin 512) (d : Fin 128) : EReal :=
  A r d + ∑ k : Fin 256, W r k * V (ix2 k d)

/-- The masks of the two diagonal blocks, and of the others. -/
def M0 (r : Fin 512) (k : Fin 256) : Prop := k.val + 256 < r.val
def M1 (r : Fin 512) (k : Fin 256) : Prop := k.val < r.val
def M2 (_ : Fin 512) (_ : Fin 256) : Prop := True
instance (r : Fin 512) (k : Fin 256) : Decidable (M0 r k) := inferInstanceAs (Decidable (_ < _))
instance (r : Fin 512) (k : Fin 256) : Decidable (M1 r k) := inferInstanceAs (Decidable (_ < _))
instance (r : Fin 512) (k : Fin 256) : Decidable (M2 r k) := inferInstanceAs (Decidable True)

/-- The four buffers from their entries. -/
def mk (Z W : Fin 512 → Fin 256 → EReal) (C : Fin 512 → EReal) (A : Fin 512 → Fin 128 → EReal) : St where
  z := fun j => Z (j 1) (j 2)
  w := fun j => W (j 1) (j 2)
  c := fun j => C (j 1)
  a := fun j => A (j 0) (j 1)

theorem named_log2e : (Named.named κ "log2e" 0x3FB8AA3B#32 : Ideal .f32) = L2 := IdealRules.named_const.ideal_named_scalar _ _ _ _ rfl
theorem named_qscale : (Named.named κ "qscale" 0x3E0293EE#32 : Ideal .f32) = QS := IdealRules.named_const.ideal_named_scalar _ _ _ _ rfl

theorem ofBits_neg_one : Ideal.ofBits FTy.f32 0xBF800000#32 = -1 := by
  simp [Ideal.ofBits, Ideal.ieee]
  rw [← EReal.coe_mul]
  norm_num

theorem tri_apply (x k : Fin 256) : k0_pay20 (F := Ideal) (ix2 x k) = tri x k := by
  unfold k0_pay20 tri
  pointwise
  have h : ∀ x k : Fin 256, (IntOp.ori (IntOp.cmpi CmpIPredicate.sgt (BitVec.ofNat 32 x.val) (BitVec.ofNat 32 k.val))
        (IntOp.cmpi CmpIPredicate.sge (BitVec.ofNat 32 k.val) 256#32)) = if k < x then 1#1 else 0#1 := by
    intro x k
    rw [WordCmp.cmpi_sgt_ofNat (by omega) (by omega), WordCmp.cmpi_sge_ofNat (by omega) (by omega), decide_eq_false (p := 256 ≤ k.val) (by omega)]
    by_cases hx : k < x
    · rw [if_pos hx, decide_eq_true (p := k.val < x.val) hx]; rfl
    · rw [if_neg hx, decide_eq_false (p := k.val < x.val) hx]; rfl
  rw [h, ofBits_neg_one]
  split <;> rfl

theorem mask0 (r : Fin 512) (k : Fin 256) : k0_pay26 (ix2 r k) = if M0 r k then 1#1 else 0#1 := by
  unfold k0_pay26
  pointwise
  have h : IntOp.addi (BitVec.ofNat 32 k.val) 256#32 = BitVec.ofNat 32 (k.val + 256) := by
    show BitVec.ofNat 32 k.val + BitVec.ofNat 32 256 = _
    rw [← BitVec.ofNat_add]
  rw [h, WordCmp.cmpi_slt_ofNat (by omega) (by omega)]
  by_cases hx : k.val + 256 < r.val
  · rw [if_pos (by simpa [M0] using hx), decide_eq_true hx]; rfl
  · rw [if_neg (by simpa [M0] using hx), decide_eq_false hx]; rfl

theorem mask1 (r : Fin 512) (k : Fin 256) : k0_pay38 (ix2 r k) = if M1 r k then 1#1 else 0#1 := by
  unfold k0_pay38
  pointwise
  have h : IntOp.addi (BitVec.ofNat 32 k.val) 0#32 = BitVec.ofNat 32 (k.val + 0) := by
    show BitVec.ofNat 32 k.val + BitVec.ofNat 32 0 = _
    rw [← BitVec.ofNat_add]
  rw [h, WordCmp.cmpi_slt_ofNat (by omega) (by omega)]
  by_cases hx : k.val + 0 < r.val
  · rw [if_pos (by simpa [M1] using hx), decide_eq_true hx]; rfl
  · rw [if_neg (by simpa [M1] using hx), decide_eq_false hx]; rfl

theorem pay4_apply (a : Ideal .f32) (q : FVec Ideal S512x128 .bf16) (K : Vec Ideal S256x128 .f32) (r : Fin 512) (k : Fin 256) :
    k0_pay4 a q K (ix3 (n0 := 1) 0 r k) = lg a q K r k := by
  unfold k0_pay4 lg
  pointwise

theorem pay12_apply (z : Vec Ideal S1x512x256 .f32) (r : Fin 512) (k : Fin 256) :
    k0_pay12 z (ix2 r k) = sp2 (z (ix3 (n0 := 1) 0 r k)) := by
  unfold k0_pay12 k0_pay11 sp2
  pointwise [named_log2e]
  rfl

theorem select_if {α : Type} (p : Prop) [Decidable p] (a b : α) : Scalar.select (if p then 1#1 else 0#1) a b = if p then a else b := by
  split <;> rfl

theorem pay29_apply (z : Vec Ideal S1x512x256 .f32) (r : Fin 512) (k : Fin 256) :
    k0_pay29 z (ix2 r k) = if M0 r k then sp2 (z (ix3 (n0 := 1) 0 r k)) else 0 := by
  have h : k0_pay28 z = k0_pay12 z := rfl
  unfold k0_pay29
  pointwise [mask0, h, pay12_apply, select_if]

theorem pay41_apply (z : Vec Ideal S1x512x256 .f32) (r : Fin 512) (k : Fin 256) :
    k0_pay41 z (ix2 r k) = if M1 r k then sp2 (z (ix3 (n0 := 1) 0 r k)) else 0 := by
  have h : k0_pay40 z = k0_pay12 z := rfl
  unfold k0_pay41
  pointwise [mask1, h, pay12_apply, select_if]

theorem step_mk (v14 : Ideal .f32) (v18 : FVec Ideal S512x128 .bf16) (kb vb : Vec Ideal S256x128 .f32) (Z W : Fin 512 → Fin 256 → EReal) (C : Fin 512 → EReal) (A : Fin 512 → Fin 128 → EReal) :
    step (k0_pay20 (F := Ideal)) v14 v18 kb vb (mk Z W C A) = mk (lg v14 v18 kb) (wt M2 Z C) (cs M2 Z C) (ac A W vb) := by
  unfold step mk
  congr 1
  · funext j
    rw [eq_ix3 (n0 := 1) (n1 := 512) (n2 := 256) j, Subsingleton.elim (α := Fin 1) (j 0) 0]
    exact pay4_apply _ _ _ _ _
  · funext j
    rw [eq_ix3 (n0 := 1) (n1 := 512) (n2 := 256) j, Subsingleton.elim (α := Fin 1) (j 0) 0]
    unfold k0_pay2 k0_pay1 k0_pay11 k0_pay13 wt spm
    pointwise [pay12_apply, tri_apply]
    simp [M2]
    rfl
  · funext j
    rw [eq_ix3 (n0 := 1) (n1 := 512) (n2 := 128) j, Subsingleton.elim (α := Fin 1) (j 0) 0]
    unfold k0_pay3 k0_pay1 k0_pay14 cs spm
    pointwise [pay12_apply]
    simp [M2]
  · funext j
    rw [eq_ix2 (n0 := 512) (n1 := 128) j]
    unfold k0_pay10 ac
    pointwise

theorem start_mk (Z0 Z1 Z2 : Fin 512 → Fin 256 → EReal) (vb : Vec Ideal S256x128 .f32) :
    start (k0_pay20 (F := Ideal)) (fun j => Z0 (j 1) (j 2)) (fun j => Z1 (j 1) (j 2)) (fun j => Z2 (j 1) (j 2)) vb
      = mk Z2 (wt M1 Z1 (cs M0 Z0 fun _ => 0)) (cs M1 Z1 (cs M0 Z0 fun _ => 0)) (ac (fun _ _ => 0) (wt M0 Z0 fun _ => 0) vb) := by
  unfold start mk c1Of
  congr 1
  · funext j
    rw [eq_ix3 (n0 := 1) (n1 := 512) (n2 := 256) j, Subsingleton.elim (α := Fin 1) (j 0) 0]
    unfold k0_pay45 k0_pay44 k0_pay39 k0_pay42 k0_pay34 k0_pay32 k0_pay30 k0_pay23 wt cs spm
    have h : ∀ z, k0_pay40 (F := Ideal) z = k0_pay12 z := fun _ => rfl
    pointwise [pay12_apply, tri_apply, mask1, h, pay29_apply, pay41_apply, select_if]
    simp
    rfl
  · funext j
    rw [eq_ix3 (n0 := 1) (n1 := 512) (n2 := 128) j, Subsingleton.elim (α := Fin 1) (j 0) 0]
    unfold k0_pay46 k0_pay44 k0_pay43 k0_pay34 k0_pay32 k0_pay30 k0_pay23 cs spm
    pointwise [pay29_apply, pay41_apply]
  · funext j
    rw [eq_ix2 (n0 := 512) (n1 := 128) j]
    have e : k0_pay36 (k0_pay33 k0_pay26 (k0_pay31 (k0_pay20 (F := Ideal)) (fun j => Z0 (j 1) (j 2))) (k0_pay23 (F := Ideal))) = fun j : S512x256.Idx => wt M0 Z0 (fun _ => 0) (j 0) (j 1) := by
      funext j
      rw [eq_ix2 (n0 := 512) (n1 := 256) j]
      generalize (j 0 : Fin 512) = r
      generalize (j 1 : Fin 256) = k
      have h : ∀ z, k0_pay28 (F := Ideal) z = k0_pay12 z := fun _ => rfl
      unfold k0_pay36 k0_pay33 k0_pay32 k0_pay31 k0_pay27 k0_pay23 wt spm
      pointwise [pay12_apply, tri_apply, mask0, h, pay29_apply, select_if]
      simp
      rfl
    rw [e]
    unfold k0_pay37 k0_pay24 ac
    pointwise

end Cert.KernelIdeal.Sweep
-- ==== Proof.Math.lean ====
module

public import Idealize.ShloMosaic.Lib.Pointwise
public import Mathlib.Analysis.SpecialFunctions.Pow.Real

/-!
# The mathematics of one row

Extended-real arithmetic: a positive real factor goes through sums, the base-two softplus of a scaled logit is the scaled
softplus, and a sweep over blocks from the diagonal backwards, carrying a running sum, gives the same row as the whole
suffix sum.
-/

@[expose] public section

noncomputable section

namespace Cert.Row

open Idealize.ShloMosaic

/-- The softplus. -/
def sp (z : EReal) : EReal := max z 0 + Ideal.log (1 + Ideal.exp (-(max z (-z))))

/-- The softplus in base two. -/
def spb (L z : EReal) : EReal := max z 0 + Ideal.log (1 + Ideal.exp2 (0 - max z (-z))) * L

theorem mul_add_pos {c : ℝ} (hc : 0 < c) (x y : EReal) : (c : EReal) * (x + y) = c * x + c * y := by
  induction x with
  | bot => simp [EReal.coe_mul_bot_of_pos hc]
  | top =>
    induction y with
    | bot => simp [EReal.coe_mul_bot_of_pos hc]
    | top => simp [EReal.coe_mul_top_of_pos hc]
    | coe y => rw [EReal.top_add_coe, EReal.coe_mul_top_of_pos hc, ← EReal.coe_mul, EReal.top_add_coe]
  | coe x =>
    induction y with
    | bot => simp [EReal.coe_mul_bot_of_pos hc]
    | top => rw [EReal.coe_add_top, EReal.coe_mul_top_of_pos hc, ← EReal.coe_mul, EReal.coe_add_top]
    | coe y => norm_cast; rw [mul_add]

theorem mul_sum_pos {c : ℝ} (hc : 0 < c) {ι : Type} (s : Finset ι) (f : ι → EReal) : (c : EReal) * ∑ i ∈ s, f i = ∑ i ∈ s, (c : EReal) * f i := by
  classical
  induction s using Finset.induction_on with
  | empty => simp
  | insert a s ha ih => rw [Finset.sum_insert ha, Finset.sum_insert ha, mul_add_pos hc, ih]

theorem neg_add_nonneg {x y : EReal} (hx : 0 ≤ x) (hy : 0 ≤ y) : -(x + y) = -x + -y := by
  rw [EReal.neg_add (Or.inl (by rintro rfl; exact absurd hx (by decide))) (Or.inr (by rintro rfl; exact absurd hy (by decide))), sub_eq_add_neg]

theorem neg_sum_nonneg {ι : Type} (s : Finset ι) (f : ι → EReal) (hf : ∀ i, 0 ≤ f i) : ∑ i ∈ s, -f i = -∑ i ∈ s, f i := by
  classical
  induction s using Finset.induction_on with
  | empty => simp
  | insert a s ha ih => rw [Finset.sum_insert ha, Finset.sum_insert ha, ih, neg_add_nonneg (hf a) (Finset.sum_nonneg fun i _ => hf i)]

theorem log_one : Ideal.log (1 + 0) = 0 := by
  rw [add_zero]
  show (if (1 : ℝ) ≤ 0 then ⊥ else ((Real.log 1 : ℝ) : EReal)) = 0
  rw [if_neg (by norm_num), Real.log_one]; rfl

theorem sp_bot : sp ⊥ = 0 := by
  unfold sp
  rw [EReal.neg_bot, max_eq_right bot_le, max_eq_right bot_le, EReal.neg_top]
  show 0 + Ideal.log (1 + 0) = 0
  rw [log_one, add_zero]

theorem sp_top : sp ⊤ = ⊤ := by
  unfold sp
  rw [EReal.neg_top, max_eq_left bot_le, max_eq_left le_top, EReal.neg_top]
  show ⊤ + Ideal.log (1 + 0) = ⊤
  rw [log_one, add_zero]

theorem sp_coe (z : ℝ) : sp (z : EReal) = ((max z 0 + Real.log (1 + Real.exp (-(max z (-z)))) : ℝ) : EReal) := by
  unfold sp
  have h : (-(max (z : EReal) (-(z : EReal)))) = ((-(max z (-z)) : ℝ) : EReal) := by
    rw [EReal.coe_neg, EReal.coe_strictMono.monotone.map_max, EReal.coe_neg]
  rw [h]
  show max (z : EReal) ((0 : ℝ) : EReal) + Ideal.log (((1 : ℝ) : EReal) + ((Real.exp (-(max z (-z))) : ℝ) : EReal)) = _
  rw [← EReal.coe_strictMono.monotone.map_max, ← EReal.coe_add 1]
  show _ + (if (1 + Real.exp (-(max z (-z)))) ≤ 0 then ⊥ else ((Real.log (1 + Real.exp (-(max z (-z)))) : ℝ) : EReal)) = _
  rw [if_neg (by have := Real.exp_pos (-(max z (-z))); linarith), EReal.coe_add]

theorem sp_nonneg (z : EReal) : 0 ≤ sp z := by
  induction z with
  | bot => rw [sp_bot]
  | top => rw [sp_top]; exact le_top
  | coe z =>
    rw [sp_coe]
    refine EReal.coe_nonneg.mpr (add_nonneg (le_max_right _ _) (Real.log_nonneg ?_))
    have := Real.exp_pos (-(max z (-z)))
    linarith

theorem sp_neg (z : EReal) (hz : z ≠ ⊤) : -sp (-z) = z - sp z := by
  induction z with
  | bot => rw [EReal.neg_bot, sp_top, sp_bot, EReal.neg_top]; rfl
  | top => exact absurd rfl hz
  | coe z =>
    rw [← EReal.coe_neg, sp_coe, sp_coe, ← EReal.coe_neg, ← EReal.coe_sub]
    refine congrArg _ ?_
    rw [neg_neg, max_comm (-z) z]
    have : max (-z) 0 = max z 0 - z := by
      rcases le_total z 0 with h | h
      · rw [max_eq_left (by linarith), max_eq_right h]; ring
      · rw [max_eq_right (by linarith), max_eq_left h]; ring
    rw [this]
    ring

/-- The log-weight as written, from the softplus and the later sum. -/
theorem expo (z T : EReal) : -sp (-z) + ((-sp z + T) - -sp z) = z - sp z + T := by
  by_cases hz : z = ⊤
  · subst hz
    rw [sp_top, EReal.neg_top]
    show _ + ((⊥ + T) - ⊥) = ⊤ + -⊤ + T
    rw [EReal.neg_top, EReal.bot_add, EReal.bot_sub, EReal.add_bot, EReal.add_bot, EReal.bot_add]
  · rw [sp_neg z hz]
    refine congrArg _ ?_
    induction z with
    | bot => rw [sp_bot]; simp
    | top => exact absurd rfl hz
    | coe z =>
      rw [sp_coe, ← EReal.coe_neg]
      generalize -(max z 0 + Real.log (1 + Real.exp (-(max z (-z))))) = a
      induction T with
      | bot => simp
      | top => simp
      | coe t => norm_cast; ring

/-- Base two against base e. -/
theorem exp2_scale (x : EReal) : Ideal.exp2 ((((Real.log 2)⁻¹ : ℝ) : EReal) * x) = Ideal.exp x := by
  have hl : 0 < Real.log 2 := Real.log_pos (by norm_num)
  induction x with
  | bot => rw [EReal.coe_mul_bot_of_pos (inv_pos.mpr hl)]; rfl
  | top => rw [EReal.coe_mul_top_of_pos (inv_pos.mpr hl)]; rfl
  | coe x =>
    rw [← EReal.coe_mul]
    show ((Real.rpow 2 ((Real.log 2)⁻¹ * x) : ℝ) : EReal) = ((Real.exp x : ℝ) : EReal)
    refine congrArg _ ?_
    show (2 : ℝ) ^ ((Real.log 2)⁻¹ * x) = _
    rw [Real.rpow_def_of_pos (by norm_num), ← mul_assoc, mul_inv_cancel₀ hl.ne', one_mul]

/-- The base-two softplus of a scaled logit. -/
theorem spb_scale (z : EReal) : spb (((Real.log 2)⁻¹ : ℝ) : EReal) ((((Real.log 2)⁻¹ : ℝ) : EReal) * z) = (((Real.log 2)⁻¹ : ℝ) : EReal) * sp z := by
  have hl : 0 < (Real.log 2)⁻¹ := inv_pos.mpr (Real.log_pos (by norm_num))
  have hm : StrictMono fun x : EReal => (((Real.log 2)⁻¹ : ℝ) : EReal) * x := by
    intro x y h
    induction x with
    | top => exact absurd h not_top_lt
    | bot =>
      induction y with
      | bot => exact absurd h (lt_irrefl _)
      | top => simp only [EReal.coe_mul_bot_of_pos hl, EReal.coe_mul_top_of_pos hl]; exact h
      | coe y => simp only [EReal.coe_mul_bot_of_pos hl, ← EReal.coe_mul]; exact EReal.bot_lt_coe _
    | coe x =>
      induction y with
      | bot => exact absurd h not_lt_bot
      | top => simp only [EReal.coe_mul_top_of_pos hl, ← EReal.coe_mul]; exact EReal.coe_lt_top _
      | coe y => simp only [← EReal.coe_mul]; exact EReal.coe_lt_coe_iff.mpr (mul_lt_mul_of_pos_left (EReal.coe_lt_coe_iff.mp h) hl)
  unfold spb sp
  have h1 : max ((((Real.log 2)⁻¹ : ℝ) : EReal) * z) 0 = (((Real.log 2)⁻¹ : ℝ) : EReal) * max z 0 := by
    have := hm.monotone.map_max (a := z) (b := 0)
    simp only [mul_zero] at this
    exact this.symm
  have h2 : 0 - max ((((Real.log 2)⁻¹ : ℝ) : EReal) * z) (-((((Real.log 2)⁻¹ : ℝ) : EReal) * z)) = (((Real.log 2)⁻¹ : ℝ) : EReal) * -(max z (-z)) := by
    have := hm.monotone.map_max (a := z) (b := -z)
    simp only [mul_neg] at this
    rw [← this, zero_sub, mul_neg]
  rw [h1, h2, exp2_scale, mul_add_pos hl, mul_comm (Ideal.log _)]

end Cert.Row
-- ==== Proof.Row.lean ====
module

public import proofs.«01_k».proof.Proof.Math

/-!
# One row, swept block by block

Sixteen blocks of 256 columns. The sweep starts at block `p`, the last with a column before `q`, and goes backwards.
-/

@[expose] public section

noncomputable section

namespace Cert.Row

open Idealize.ShloMosaic

/-- `1 / log 2`. -/
def L : EReal := (((Real.log 2)⁻¹ : ℝ) : EReal)

/-- The gate. -/
def gate (g : EReal) : EReal := g * Ideal.div 1 (1 + Ideal.exp (-g))

theorem L_pos : 0 < (Real.log 2)⁻¹ := inv_pos.mpr (Real.log_pos (by norm_num))

/-- Column `k` of block `j`. -/
def col (j : Fin 16) (k : Fin 256) : Fin 4096 := ⟨256 * j.val + k.val, by omega⟩

/-- The block met at turn `t`. -/
def blk (p : ℕ) (hp : p < 16) (t : ℕ) : Fin 16 := ⟨p - t, by omega⟩

theorem sum_col (f : Fin 4096 → EReal) : ∑ s, f s = ∑ j : Fin 16, ∑ k : Fin 256, f (col j k) := by
  rw [← Fintype.sum_prod_type']
  refine (Fintype.sum_equiv (finProdFinEquiv (m := 16) (n := 256)) _ _ fun x => ?_).symm
  refine congrArg f (Fin.ext ?_)
  show 256 * x.1.val + x.2.val = x.2.val + 256 * x.1.val
  omega

theorem sum_blk (p : ℕ) (hp : p < 16) (h : Fin 16 → EReal) (hz : ∀ j : Fin 16, p < j.val → h j = 0) (T : ℕ) (hT : T ≤ p + 1) :
    (∑ j : Fin 16, if p < j.val + T then h j else 0) = ∑ t ∈ Finset.range T, h (blk p hp t) := by
  induction T with
  | zero =>
    rw [Finset.range_zero, Finset.sum_empty]
    refine Finset.sum_eq_zero fun j _ => ?_
    split
    · next hj => exact hz j (by omega)
    · rfl
  | succ T ih =>
    rw [Finset.sum_range_succ, ← ih (by omega)]
    have e : ∀ j : Fin 16, (if p < j.val + (T + 1) then h j else 0) = (if p < j.val + T then h j else 0) + if j = blk p hp T then h j else 0 := by
      intro j
      have hb : j = blk p hp T ↔ j.val = p - T := Fin.ext_iff
      by_cases h1 : p < j.val + T
      · rw [if_pos (by omega), if_pos h1, if_neg (by rw [hb]; omega), add_zero]
      · by_cases h2 : j.val = p - T
        · rw [if_pos (by omega), if_neg h1, if_pos (hb.mpr h2), zero_add]
        · rw [if_neg (by omega), if_neg h1, if_neg (by rw [hb]; exact h2), add_zero]
    rw [Finset.sum_congr rfl fun j _ => e j, Finset.sum_add_distrib, Finset.sum_ite_eq' Finset.univ (blk p hp T) h, if_pos (Finset.mem_univ _)]

/-- The softpluses of the columns before `q`. -/
def g (z : Fin 4096 → EReal) (q : ℕ) (s : Fin 4096) : EReal := if s.val < q then sp (z s) else 0

theorem g_nonneg (z : Fin 4096 → EReal) (q : ℕ) (s : Fin 4096) : 0 ≤ g z q s := by
  unfold g
  split
  · exact sp_nonneg _
  · exact le_refl _

theorem ite_nonneg {P : Prop} [Decidable P] {a : EReal} (h : 0 ≤ a) : 0 ≤ if P then a else 0 := by
  split
  · exact h
  · exact le_refl _

/-- The sum of the later columns. -/
def later (f : Fin 4096 → EReal) (s : Fin 4096) : EReal := ∑ s' : Fin 4096, if s < s' then f s' else 0

theorem later_col (f : Fin 4096 → EReal) (j0 : Fin 16) (k0 : Fin 256) :
    later f (col j0 k0) = (∑ k : Fin 256, if k0 < k then f (col j0 k) else 0) + ∑ j : Fin 16, if j0 < j then ∑ k : Fin 256, f (col j k) else 0 := by
  unfold later
  rw [sum_col]
  have e : ∀ j : Fin 16, (∑ k : Fin 256, if col j0 k0 < col j k then f (col j k) else 0)
      = (if j = j0 then ∑ k : Fin 256, (if k0 < k then f (col j k) else 0) else 0) + if j0 < j then ∑ k : Fin 256, f (col j k) else 0 := by
    intro j
    have hc : ∀ k : Fin 256, col j0 k0 < col j k ↔ 256 * j0.val + k0.val < 256 * j.val + k.val := fun k => Fin.lt_def
    rcases lt_trichotomy j0 j with h | h | h
    · have h' : j0.val < j.val := h
      rw [if_neg (by omega), if_pos h, zero_add]
      exact Finset.sum_congr rfl fun k _ => if_pos ((hc k).mpr (by omega))
    · subst h
      rw [if_pos rfl, if_neg (lt_irrefl _), add_zero]
      refine Finset.sum_congr rfl fun k _ => if_congr ?_ rfl rfl
      rw [hc k, Fin.lt_def]
      omega
    · have h' : j.val < j0.val := h
      rw [if_neg (by omega), if_neg (by omega), zero_add]
      exact Finset.sum_eq_zero fun k _ => if_neg (by rw [hc k]; omega)
  rw [Finset.sum_congr rfl fun j _ => e j, Finset.sum_add_distrib, Finset.sum_ite_eq' Finset.univ j0, if_pos (Finset.mem_univ _)]

/-- The running sum before turn `t`. -/
def run (p : ℕ) (hp : p < 16) (z : Fin 4096 → EReal) (q t : ℕ) : EReal := L * -∑ t' ∈ Finset.range t, ∑ k : Fin 256, g z q (col (blk p hp t') k)

theorem block_nonneg (z : Fin 4096 → EReal) (q : ℕ) (j : Fin 16) : 0 ≤ ∑ k : Fin 256, g z q (col j k) := Finset.sum_nonneg fun k _ => g_nonneg z q _

theorem gb_eq (z : Fin 4096 → EReal) (q : ℕ) (s : Fin 4096) : (if s.val < q then spb L (L * z s) else 0) = L * g z q s := by
  unfold g
  split
  · exact spb_scale _
  · rw [mul_zero]

theorem run_zero (p : ℕ) (hp : p < 16) (z : Fin 4096 → EReal) (q : ℕ) : run p hp z q 0 = 0 := by simp [run]

theorem run_succ (p : ℕ) (hp : p < 16) (z : Fin 4096 → EReal) (q t : ℕ) :
    run p hp z q (t + 1) = run p hp z q t + (0 - ∑ k : Fin 256, if (col (blk p hp t) k).val < q then spb L (L * z (col (blk p hp t) k)) else 0) := by
  simp only [gb_eq]
  unfold run L
  rw [Finset.sum_range_succ, neg_add_nonneg (Finset.sum_nonneg fun i _ => block_nonneg z q _) (block_nonneg z q _), mul_add_pos L_pos, zero_sub,
    ← mul_sum_pos L_pos, mul_neg _ (∑ k : Fin 256, g z q (col (blk p hp t) k))]

/-- The base-two log-weight, assembled from a block and the running sum, is the scaled log-weight. -/
theorem kexp (p : ℕ) (hp : p < 16) (z : Fin 4096 → EReal) (q : ℕ) (hq : q ≤ 256 * (p + 1)) (t : ℕ) (ht : t ≤ p) (k : Fin 256) :
    L * z (col (blk p hp t) k) - spb L (L * z (col (blk p hp t) k))
        + (∑ x : Fin 256, (if (col (blk p hp t) x).val < q then spb L (L * z (col (blk p hp t) x)) else 0) * (if k < x then -1 else 0)) + run p hp z q t
      = L * (z (col (blk p hp t) k) - sp (z (col (blk p hp t) k)) + -later (g z q) (col (blk p hp t) k)) := by
  have e1 : ∀ x : Fin 256, (if (col (blk p hp t) x).val < q then spb L (L * z (col (blk p hp t) x)) else 0) * (if k < x then -1 else 0)
      = L * -(if k < x then g z q (col (blk p hp t) x) else 0) := by
    intro x
    rw [gb_eq]
    split
    · rw [mul_neg, mul_one, mul_neg]
    · rw [neg_zero, mul_zero, mul_zero]
  rw [Finset.sum_congr rfl fun x _ => e1 x]
  rw [later_col]
  have e2 : (∑ j : Fin 16, if blk p hp t < j then ∑ k : Fin 256, g z q (col j k) else 0) = ∑ t' ∈ Finset.range t, ∑ k : Fin 256, g z q (col (blk p hp t') k) := by
    rw [← sum_blk p hp (fun j => ∑ k : Fin 256, g z q (col j k)) (fun j hj => Finset.sum_eq_zero fun k _ => if_neg (by show ¬ (256 * j.val + k.val < q); omega)) t (by omega)]
    refine Finset.sum_congr rfl fun j _ => if_congr ?_ rfl rfl
    rw [Fin.lt_def]
    show p - t < j.val ↔ _
    omega
  rw [e2, neg_add_nonneg (Finset.sum_nonneg fun x _ => ite_nonneg (g_nonneg z q _)) (Finset.sum_nonneg fun x _ => block_nonneg z q _)]
  unfold run
  rw [show spb L (L * z (col (blk p hp t) k)) = L * sp (z (col (blk p hp t) k)) from spb_scale _]
  unfold L
  rw [mul_add_pos L_pos, mul_add_pos L_pos, sub_eq_add_neg, sub_eq_add_neg, mul_add_pos L_pos, mul_neg _ (sp _), ← neg_sum_nonneg _ _ (fun x => ite_nonneg (g_nonneg z q _)),
    mul_sum_pos L_pos, add_assoc]

/-- The log-weight as the whole row writes it. -/
def lw (z : Fin 4096 → EReal) (q : ℕ) (s : Fin 4096) : EReal :=
  -sp (-z s) + ((∑ s' : Fin 4096, if s ≤ s' then (if s'.val < q then -sp (z s') else 0) else 0) - (if s.val < q then -sp (z s) else 0))

theorem lw_eq (z : Fin 4096 → EReal) (q : ℕ) (s : Fin 4096) (hs : s.val < q) : lw z q s = z s - sp (z s) + -later (g z q) s := by
  unfold lw
  rw [if_pos hs, ← expo]
  refine congrArg (fun a => -sp (-z s) + (a - -sp (z s))) ?_
  have e : ∀ s' : Fin 4096, (if s ≤ s' then (if s'.val < q then -sp (z s') else 0) else 0) = (if s' = s then -g z q s' else 0) + -(if s < s' then g z q s' else 0) := by
    intro s'
    have hg : (if s'.val < q then -sp (z s') else 0) = -g z q s' := by
      unfold g
      split
      · rfl
      · rw [neg_zero]
    rw [hg]
    rcases lt_trichotomy s s' with h | h | h
    · rw [if_pos h.le, if_neg h.ne', if_pos h, zero_add]
    · subst h
      rw [if_pos (le_refl _), if_pos rfl, if_neg (lt_irrefl _), neg_zero, add_zero]
    · rw [if_neg (not_le.mpr h), if_neg h.ne, if_neg (lt_asymm h), neg_zero, add_zero]
  rw [Finset.sum_congr rfl fun s' _ => e s', Finset.sum_add_distrib, Finset.sum_ite_eq' Finset.univ s, if_pos (Finset.mem_univ _),
    neg_sum_nonneg _ _ fun x => ite_nonneg (g_nonneg z q _)]
  unfold later
  rw [show g z q s = sp (z s) from if_pos hs]

/-- The sweep's weighted sum is the row's. -/
theorem sweep (p : ℕ) (hp : p < 16) (z v : Fin 4096 → EReal) (q : ℕ) (hq : q ≤ 256 * (p + 1)) :
    (∑ t ∈ Finset.range (p + 1), ∑ k : Fin 256, (if (col (blk p hp t) k).val < q then Ideal.exp2 (L * z (col (blk p hp t) k) - spb L (L * z (col (blk p hp t) k))
        + (∑ x : Fin 256, (if (col (blk p hp t) x).val < q then spb L (L * z (col (blk p hp t) x)) else 0) * (if k < x then -1 else 0)) + run p hp z q t) else 0) * v (col (blk p hp t) k))
      = ∑ s : Fin 4096, v s * (if s.val < q then Ideal.exp (lw z q s) else 0) := by
  have e : ∀ t ∈ Finset.range (p + 1), (∑ k : Fin 256, (if (col (blk p hp t) k).val < q then Ideal.exp2 (L * z (col (blk p hp t) k) - spb L (L * z (col (blk p hp t) k))
        + (∑ x : Fin 256, (if (col (blk p hp t) x).val < q then spb L (L * z (col (blk p hp t) x)) else 0) * (if k < x then -1 else 0)) + run p hp z q t) else 0) * v (col (blk p hp t) k))
      = ∑ k : Fin 256, v (col (blk p hp t) k) * (if (col (blk p hp t) k).val < q then Ideal.exp (lw z q (col (blk p hp t) k)) else 0) := by
    intro t ht
    have ht' : t ≤ p := by have := Finset.mem_range.mp ht; omega
    refine Finset.sum_congr rfl fun k _ => ?_
    rw [mul_comm]
    refine congrArg _ ?_
    split
    · next hs => rw [kexp p hp z q hq t ht' k, lw_eq z q _ hs]; exact exp2_scale _
    · rfl
  rw [Finset.sum_congr rfl e, sum_col, ← sum_blk p hp (fun j => ∑ k : Fin 256, v (col j k) * (if (col j k).val < q then Ideal.exp (lw z q (col j k)) else 0)) (fun j hj => Finset.sum_eq_zero fun k _ => by
    rw [if_neg (by show ¬ (256 * j.val + k.val < q); omega), mul_zero]) (p + 1) (le_refl _)]
  exact Finset.sum_congr rfl fun j _ => if_pos (by omega)

end Cert.Row
-- ==== Proof.Fold.lean ====
module

public import proofs.«01_k».proof.Proof.Tile
public import proofs.«01_k».proof.Proof.Row

/-!
# A grid point's block, entry by entry

The sweep's state before each turn, and the stored block read at an entry as the whole row's weighted sum.
-/

@[expose] public section

set_option maxRecDepth 16384

noncomputable section

namespace Cert.KernelIdeal.Sweep

open Cert.KernelIdeal Cert.KernelIdeal.Gen Idealize.ShloMosaic Idealize.ShloMosaic.TcCoe Idealize.SL.Sem Idealize.ShloMosaic.Tactic
open Cert.Row

/-- The mask of turn `t`. -/
def Mt (t : ℕ) (r : Fin 512) (k : Fin 256) : Prop := (t = 0 → M0 r k) ∧ (t = 1 → M1 r k)
instance (t : ℕ) (r : Fin 512) (k : Fin 256) : Decidable (Mt t r k) := inferInstanceAs (Decidable (_ ∧ _))

theorem spm_congr {M M' : Fin 512 → Fin 256 → Prop} [∀ r k, Decidable (M r k)] [∀ r k, Decidable (M' r k)] (h : ∀ r k, M r k ↔ M' r k) (Z : Fin 512 → Fin 256 → EReal) : spm M Z = spm M' Z := by
  funext r k
  unfold spm
  exact if_congr (h r k) rfl rfl

theorem wt_congr {M M' : Fin 512 → Fin 256 → Prop} [∀ r k, Decidable (M r k)] [∀ r k, Decidable (M' r k)] (h : ∀ r k, M r k ↔ M' r k) (Z : Fin 512 → Fin 256 → EReal) (C : Fin 512 → EReal) : wt M Z C = wt M' Z C := by
  funext r k
  unfold wt
  rw [spm_congr h]
  exact if_congr (h r k) rfl rfl

theorem cs_congr {M M' : Fin 512 → Fin 256 → Prop} [∀ r k, Decidable (M r k)] [∀ r k, Decidable (M' r k)] (h : ∀ r k, M r k ↔ M' r k) (Z : Fin 512 → Fin 256 → EReal) (C : Fin 512 → EReal) : cs M Z C = cs M' Z C := by
  unfold cs
  rw [spm_congr h]

theorem M0_iff (r : Fin 512) (k : Fin 256) : M0 r k ↔ Mt 0 r k := by simp [Mt]
theorem M1_iff (r : Fin 512) (k : Fin 256) : M1 r k ↔ Mt 1 r k := by simp [Mt]
theorem M2_iff (t : ℕ) (r : Fin 512) (k : Fin 256) : M2 r k ↔ Mt (t + 2) r k := by simp [Mt, M2]

section
variable (i : grid0.Coords) (a : Ideal .f32) (q : FVec Ideal S512x128 .bf16) (x2 x3 : Vec Ideal S4096x128 .f32)

/-- The logits, the running sum, the weights and the accumulator at turn `t`. -/
def Zt (t : ℕ) : Fin 512 → Fin 256 → EReal := lg a q (rows x2 (blkAt i t))
def Ct : ℕ → Fin 512 → EReal
  | 0 => fun _ => 0
  | t + 1 => cs (Mt t) (Zt i a q x2 t) (Ct t)
def Wt (t : ℕ) : Fin 512 → Fin 256 → EReal := wt (Mt t) (Zt i a q x2 t) (Ct i a q x2 t)
def At : ℕ → Fin 512 → Fin 128 → EReal
  | 0 => fun _ _ => 0
  | t + 1 => ac (At t) (Wt i a q x2 t) (rows x3 (blkAt i t))

theorem zt_fun (t : ℕ) : (k0_pay4 a q (rows x2 (blkAt i t)) : Vec Ideal S1x512x256 .f32) = fun j => Zt i a q x2 t (j 1) (j 2) := by
  funext j
  rw [eq_ix3 (n0 := 1) (n1 := 512) (n2 := 256) j, Subsingleton.elim (α := Fin 1) (j 0) 0]
  exact pay4_apply _ _ _ _ _

theorem start_eq :
    start (k0_pay20 (F := Ideal)) (k0_pay4 a q (rows x2 (blkAt i 0))) (k0_pay4 a q (rows x2 (blkAt i 1))) (k0_pay4 a q (rows x2 (blkAt i 2))) (rows x3 (blkAt i 0))
      = mk (Zt i a q x2 2) (Wt i a q x2 1) (Ct i a q x2 2) (At i a q x2 x3 1) := by
  rw [zt_fun, zt_fun, zt_fun, start_mk]
  simp only [wt_congr M0_iff, wt_congr M1_iff, cs_congr M0_iff, cs_congr M1_iff]
  rfl

/-- The state before turn `k` of the loop. -/
theorem iter_mk (k : ℕ) :
    iter i (k0_pay20 (F := Ideal)) a q x2 x3 (mk (Zt i a q x2 2) (Wt i a q x2 1) (Ct i a q x2 2) (At i a q x2 x3 1)) k
      = mk (Zt i a q x2 (k + 2)) (Wt i a q x2 (k + 1)) (Ct i a q x2 (k + 2)) (At i a q x2 x3 (k + 1)) := by
  induction k with
  | zero => rfl
  | succ k ih =>
    show step _ _ _ _ _ (iter i _ _ _ _ _ _ k) = _
    rw [ih, step_mk]
    simp only [wt_congr (M2_iff k), cs_congr (M2_iff k)]
    rfl

theorem At_eq (t : ℕ) (r : Fin 512) (d : Fin 128) :
    At i a q x2 x3 t r d = ∑ t' ∈ Finset.range t, ∑ k : Fin 256, Wt i a q x2 t' r k * rows x3 (blkAt i t') (ix2 k d) := by
  induction t with
  | zero => simp [At]
  | succ t ih =>
    rw [Finset.sum_range_succ, ← ih]
    rfl

end

theorem hp (i : grid0.Coords) : 2 * (i 2).val + 1 < 16 := by have : (i 2).val < 8 := (i 2).isLt; omega

theorem Mt_iff (i : grid0.Coords) (t : ℕ) (ht : t ≤ 2 * (i 2).val + 1) (r : Fin 512) (k : Fin 256) :
    Mt t r k ↔ (col (blk _ (hp i) t) k).val < 512 * (i 2).val + r.val := by
  show _ ↔ 256 * (2 * (i 2).val + 1 - t) + k.val < _
  unfold Mt M0 M1
  match t with
  | 0 => simp; omega
  | 1 => simp; omega
  | t + 2 =>
    simp
    have := k.isLt
    omega

/-- A row's logits. -/
def zrow (a : EReal) (x1 : Vec Ideal S512x128 .f32) (x2 : Vec Ideal S4096x128 .f32) (r : Fin 512) (s : Fin 4096) : EReal :=
  (((Real.sqrt 128)⁻¹ : ℝ) : EReal) * (∑ d : Fin 128, x1 (ix2 r d) * x2 (ix2 s d)) + a

theorem pay22_apply (x1 : Vec Ideal S512x128 .f32) (r : Fin 512) (d : Fin 128) : k0_pay22 x1 (ix2 r d) = x1 (ix2 r d) * QS := by
  unfold k0_pay22
  pointwise [named_qscale]

theorem pay21_eq (a : Ideal .f32) : k0_pay21 a = a * L2 := by
  unfold k0_pay21
  pointwise [named_log2e]

theorem Zt_eq (i : grid0.Coords) (a : Ideal .f32) (x1 : Vec Ideal S512x128 .f32) (x2 : Vec Ideal S4096x128 .f32) (t : ℕ) (r : Fin 512) (k : Fin 256) :
    Zt i (k0_pay21 a) (k0_pay22 x1) x2 t r k = L * zrow a x1 x2 r (col (blk _ (hp i) t) k) := by
  have hs : 0 < Real.sqrt 128 := Real.sqrt_pos.mpr (by norm_num)
  have hq : 0 < (Real.sqrt 128)⁻¹ * (Real.log 2)⁻¹ := mul_pos (inv_pos.mpr hs) L_pos
  unfold Zt lg zrow
  rw [pay21_eq, show L = (((Real.log 2)⁻¹ : ℝ) : EReal) from rfl, mul_add_pos L_pos, mul_comm a L2]
  refine congrArg (· + _) ?_
  rw [← mul_assoc, ← EReal.coe_mul, mul_comm (Real.log 2)⁻¹, mul_sum_pos hq]
  refine Finset.sum_congr rfl fun d _ => ?_
  rw [pay22_apply, mul_comm (x1 (ix2 r d)), mul_assoc]
  rfl

theorem Ct_eq (i : grid0.Coords) (a : Ideal .f32) (x1 : Vec Ideal S512x128 .f32) (x2 : Vec Ideal S4096x128 .f32) (t : ℕ) (ht : t ≤ 2 * (i 2).val + 2) (r : Fin 512) :
    Ct i (k0_pay21 a) (k0_pay22 x1) x2 t r = run _ (hp i) (zrow a x1 x2 r) (512 * (i 2).val + r.val) t := by
  induction t with
  | zero => rw [run_zero]; rfl
  | succ t ih =>
    rw [run_succ, ← ih (by omega)]
    show cs _ _ _ r = _
    unfold cs spm
    refine congrArg (fun y => _ + (0 - y)) (Finset.sum_congr rfl fun k _ => ?_)
    rw [Zt_eq]
    exact if_congr (Mt_iff i t (by omega) r k) rfl rfl

theorem Wt_eq (i : grid0.Coords) (a : Ideal .f32) (x1 : Vec Ideal S512x128 .f32) (x2 : Vec Ideal S4096x128 .f32) (t : ℕ) (ht : t ≤ 2 * (i 2).val + 1) (r : Fin 512) (k : Fin 256) :
    Wt i (k0_pay21 a) (k0_pay22 x1) x2 t r k
      = if (col (blk _ (hp i) t) k).val < 512 * (i 2).val + r.val then Ideal.exp2 (L * zrow a x1 x2 r (col (blk _ (hp i) t) k) - spb L (L * zrow a x1 x2 r (col (blk _ (hp i) t) k))
        + (∑ x : Fin 256, (if (col (blk _ (hp i) t) x).val < 512 * (i 2).val + r.val then spb L (L * zrow a x1 x2 r (col (blk _ (hp i) t) x)) else 0) * (if k < x then -1 else 0))
        + run _ (hp i) (zrow a x1 x2 r) (512 * (i 2).val + r.val) t) else 0 := by
  unfold Wt wt
  rw [Ct_eq i a x1 x2 t (by omega) r, Zt_eq]
  refine if_congr (Mt_iff i t ht r k) (congrArg (fun y => Ideal.exp2 (_ + y + _)) (Finset.sum_congr rfl fun x _ => ?_)) rfl
  unfold spm
  rw [Zt_eq]
  exact congrArg (· * _) (if_congr (Mt_iff i t ht r x) rfl rfl)

theorem pay9_apply (A x4 : Vec Ideal S512x128 .f32) (r : Fin 512) (d : Fin 128) : k0_pay9 (F := Ideal) A x4 (ix2 r d) = A (ix2 r d) * gate (x4 (ix2 r d)) := by
  unfold k0_pay9 gate
  pointwise
  rw [zero_sub]

theorem blockOut_apply (i : grid0.Coords) (x0 : Vec Ideal S16 .f32) (x1 : Vec Ideal S512x128 .f32) (x2 x3 : Vec Ideal S4096x128 .f32) (x4 : Vec Ideal S512x128 .f32) (r : Fin 512) (d : Fin 128) :
    blockOut i x0 x1 x2 x3 x4 (ix2 r d)
      = (∑ s : Fin 4096, x3 (ix2 s d) * (if s.val < 512 * (i 2).val + r.val then Ideal.exp (lw (zrow (x0 (ix1 (n0 := 16) (i 1))) x1 x2 r) (512 * (i 2).val + r.val) s) else 0))
        * gate (x4 (ix2 r d)) := by
  unfold blockOut zOf
  rw [pay9_apply, start_eq, iter_mk]
  refine congrArg (· * _) ?_
  show At i _ _ x2 x3 (2 * (i 2).val + 1 + 1) r d = _
  rw [At_eq, ← sweep _ (hp i) _ (fun s => x3 (ix2 s d)) _ (by omega)]
  refine Finset.sum_congr rfl fun t ht => Finset.sum_congr rfl fun k _ => ?_
  have ht' := Finset.mem_range.mp ht
  unfold hb
  rw [Wt_eq i _ x1 x2 t (by omega) r k]
  rfl

end Cert.KernelIdeal.Sweep
-- ==== Proof.Ref.lean ====
module

public import proofs.«01_k».proof.Proof.Row
public import proofs.«01_k».proof.Proof.Gen.ReferenceIdeal.Read
public import Idealize.ShloMosaic.Lib.WordCmp

/-!
# The reference, entry by entry
-/

@[expose] public section

set_option maxRecDepth 16384

noncomputable section

namespace Cert.ReferenceIdeal.Entry

open Cert.ReferenceIdeal Cert.ReferenceIdeal.Gen Cert.ReferenceIdeal.Read Idealize.ShloMosaic Idealize.ShloMosaic.TcCoe Idealize.SL.Sem Idealize.ShloMosaic.Tactic
open Cert.Row

/-- A reversed running sum along the last axis, as it prints: the entry's own column and every later one. -/
theorem window_last {A B Q N Nm1 : ℕ} (hN : Nm1 + 1 = N) (x : (⟨4, ![A, B, Q, N]⟩ : Shape).Idx → EReal)
    (h : (⟨4, ![A, B, Q, N]⟩ : Shape).ReduceWindows ![1, 1, 1, N] ![1, 1, 1, 1] ![0, 0, 0, 0] ![0, 0, 0, Nm1] (⟨4, ![A, B, Q, N]⟩ : Shape)) (j : (⟨4, ![A, B, Q, N]⟩ : Shape).Idx) :
    Ideal.hostReduceWindowAdd ![1, 1, 1, N] ![1, 1, 1, 1] ![0, 0, 0, 0] ![0, 0, 0, Nm1] h x 0 j
      = ∑ s : Fin N, if (j 3).val ≤ s.val then x (ix4 (n0 := A) (n1 := B) (n2 := Q) (n3 := N) (j 0) (j 1) (j 2) s) else 0 := by
  subst hN
  unfold Ideal.hostReduceWindowAdd Host.reduceWindow
  dsimp only
  have hf : ∀ (M : ℕ) (f : Fin M → EReal), (List.finRange M).foldl (fun r n => r + f n) 0 = ∑ n, f n := by
    intro M f
    rw [Fin.sum_univ_def, List.sum_eq_foldl, List.foldl_map]
  rw [hf]
  let W : Shape := ⟨4, ![1, 1, 1, Nm1 + 1]⟩
  let G : W.Idx → EReal := fun w => if hs : (j 3).val + (w 3).val < Nm1 + 1 then x (ix4 (n0 := A) (n1 := B) (n2 := Q) (n3 := Nm1 + 1) (j 0) (j 1) (j 2) ⟨(j 3).val + (w 3).val, hs⟩) else 0
  refine (Finset.sum_congr rfl fun n _ => (?_ : _ = G (W.rowMajor.symm n))).trans ?_
  · have key : ∀ w : W.Idx, (w 0).val = 0 ∧ (w 1).val = 0 ∧ (w 2).val = 0 := fun w => by
      have h0 : (w 0).val < 1 := (w 0).isLt
      have h1 : (w 1).val < 1 := (w 1).isLt
      have h2 : (w 2).val < 1 := (w 2).isLt
      omega
    obtain ⟨hw0, hw1, hw2⟩ := key (W.rowMajor.symm n)
    have h0 : (j 0).val < A := (j 0).isLt
    have h1 : (j 1).val < B := (j 1).isLt
    have h2 : (j 2).val < Q := (j 2).isLt
    show _ = if hs : (j 3).val + (W.rowMajor.symm n 3).val < Nm1 + 1 then _ else 0
    split
    · next hin =>
      have h3 := (hin 3).2
      change (j 3).val * 1 + (W.rowMajor.symm n 3).val - 0 < Nm1 + 1 at h3
      rw [dif_pos (by omega)]
      refine congrArg x (funext fun a => Fin.ext ?_)
      match a with
      | 0 => show (j 0).val * 1 + (W.rowMajor.symm n 0).val - 0 = (j 0).val; omega
      | 1 => show (j 1).val * 1 + (W.rowMajor.symm n 1).val - 0 = (j 1).val; omega
      | 2 => show (j 2).val * 1 + (W.rowMajor.symm n 2).val - 0 = (j 2).val; omega
      | 3 => show (j 3).val * 1 + (W.rowMajor.symm n 3).val - 0 = (j 3).val + (W.rowMajor.symm n 3).val; omega
    · next hin =>
      rw [dif_neg]
      intro hs
      refine hin fun a => ?_
      match a with
      | 0 => show 0 ≤ (j 0).val * 1 + (W.rowMajor.symm n 0).val ∧ (j 0).val * 1 + (W.rowMajor.symm n 0).val - 0 < A; omega
      | 1 => show 0 ≤ (j 1).val * 1 + (W.rowMajor.symm n 1).val ∧ (j 1).val * 1 + (W.rowMajor.symm n 1).val - 0 < B; omega
      | 2 => show 0 ≤ (j 2).val * 1 + (W.rowMajor.symm n 2).val ∧ (j 2).val * 1 + (W.rowMajor.symm n 2).val - 0 < Q; omega
      | 3 => show 0 ≤ (j 3).val * 1 + (W.rowMajor.symm n 3).val ∧ (j 3).val * 1 + (W.rowMajor.symm n 3).val - 0 < Nm1 + 1; omega
  rw [Equiv.sum_comp W.rowMajor.symm G]
  have e2 : ∑ w : W.Idx, G w = ∑ k : Fin (Nm1 + 1), if hs : (j 3).val + k.val < Nm1 + 1 then x (ix4 (n0 := A) (n1 := B) (n2 := Q) (n3 := Nm1 + 1) (j 0) (j 1) (j 2) ⟨(j 3).val + k.val, hs⟩) else 0 := by
    refine Finset.sum_bij' (fun w _ => (w 3 : Fin (Nm1 + 1))) (fun k _ => ix4 (n0 := 1) (n1 := 1) (n2 := 1) (n3 := Nm1 + 1) 0 0 0 k) (fun _ _ => Finset.mem_univ _) (fun _ _ => Finset.mem_univ _) ?_ (fun _ _ => rfl) (fun _ _ => rfl)
    intro w _
    refine funext fun a => ?_
    match a with
    | 0 => exact (Subsingleton.elim (α := Fin 1) _ _)
    | 1 => exact (Subsingleton.elim (α := Fin 1) _ _)
    | 2 => exact (Subsingleton.elim (α := Fin 1) _ _)
    | 3 => rfl
  rw [e2]
  have hj3 : (j 3).val < Nm1 + 1 := (j 3).isLt
  let F : ℕ → EReal := fun n => if hs : n < Nm1 + 1 then x (ix4 (n0 := A) (n1 := B) (n2 := Q) (n3 := Nm1 + 1) (j 0) (j 1) (j 2) ⟨n, hs⟩) else 0
  have l : (∑ k : Fin (Nm1 + 1), if hs : (j 3).val + k.val < Nm1 + 1 then x (ix4 (n0 := A) (n1 := B) (n2 := Q) (n3 := Nm1 + 1) (j 0) (j 1) (j 2) ⟨(j 3).val + k.val, hs⟩) else 0)
      = ∑ k ∈ Finset.range (Nm1 + 1), F ((j 3).val + k) := Fin.sum_univ_eq_sum_range (fun k => F ((j 3).val + k)) (Nm1 + 1)
  have r : (∑ s : Fin (Nm1 + 1), if (j 3).val ≤ s.val then x (ix4 (n0 := A) (n1 := B) (n2 := Q) (n3 := Nm1 + 1) (j 0) (j 1) (j 2) s) else 0)
      = ∑ n ∈ Finset.range (Nm1 + 1), if (j 3).val ≤ n then F n else 0 := by
    rw [← Fin.sum_univ_eq_sum_range (fun n => if (j 3).val ≤ n then F n else 0)]
    refine Finset.sum_congr rfl fun s _ => ?_
    have : F s.val = x (ix4 (n0 := A) (n1 := B) (n2 := Q) (n3 := Nm1 + 1) (j 0) (j 1) (j 2) s) := dif_pos s.isLt
    rw [this]
  rw [l, r]
  have a1 : ∑ k ∈ Finset.range (Nm1 + 1), F ((j 3).val + k) = ∑ k ∈ Finset.range (Nm1 + 1 - (j 3).val), F ((j 3).val + k) := by
    refine (Finset.sum_subset (Finset.range_mono (by omega)) fun k _ hk => dif_neg ?_).symm
    rw [Finset.mem_range] at hk
    omega
  rw [a1, ← Finset.sum_Ico_eq_sum_range, ← Finset.sum_filter]
  refine Finset.sum_congr (Finset.ext fun n => ?_) fun _ _ => rfl
  rw [Finset.mem_Ico, Finset.mem_filter, Finset.mem_range]
  omega

/-- A row of the flat arrays, and a lane. -/
def row (b : Fin 2) (s : Fin 4096) : Fin 8192 := ⟨4096 * b.val + s.val, by omega⟩
def lane (h : Fin 16) (d : Fin 128) : Fin 2048 := ⟨128 * h.val + d.val, by omega⟩

/-- The logits. -/
def Zr (x0 x1 : Vec Ideal S8192x2048 .f32) (x4 : Vec Ideal S16 .f32) (b : Fin 2) (h : Fin 16) (q s : Fin 4096) : EReal :=
  (((Real.sqrt 128)⁻¹ : ℝ) : EReal) * (∑ d : Fin 128, x0 (ix2 (row b q) (lane h d)) * x1 (ix2 (row b s) (lane h d))) + x4 (ix1 h)

theorem flat0 (i : S2x4096x16x128.Idx) : idx_main_v0 i = ix2 (row (i 0) (i 1)) (lane (i 2) (i 3)) := by
  have h0 : (i 0).val < 2 := (i 0).isLt
  have h1 : (i 1).val < 4096 := (i 1).isLt
  have h2 : (i 2).val < 16 := (i 2).isLt
  have h3 : (i 3).val < 128 := (i 3).isLt
  refine funext fun a => Fin.ext ?_
  match a with
  | 0 => show ((((i 0).val * 4096 + (i 1).val) * 16 + (i 2).val) * 128 + (i 3).val) / 2048 = 4096 * (i 0).val + (i 1).val; omega
  | 1 => show ((((i 0).val * 4096 + (i 1).val) * 16 + (i 2).val) * 128 + (i 3).val) % 2048 = 128 * (i 2).val + (i 3).val; omega

theorem ofBits_128 : Ideal.ofBits FTy.f32 0x43000000#32 = ((128 : ℝ) : EReal) := by
  simp [Ideal.ofBits, Ideal.ieee]
  rw [← EReal.coe_mul]
  norm_num

theorem v9_entry (x0 x1 : Vec Ideal S8192x2048 .f32) (x4 : Vec Ideal S16 .f32) (i : S2x16x4096x4096.Idx) :
    val_main_v9 (F := Ideal) x0 x1 x4 i = Zr x0 x1 x4 (i 0) (i 1) (i 2) (i 3) := by
  rw [val_main_v9_apply, val_main_v6_apply, val_main_v8_apply, val_main_v7_apply, val_main_v5_apply, val_main_v4_apply, val_main_cst_apply, val_main_v3_apply]
  have hs : Real.sqrt 128 ≠ 0 := (Real.sqrt_pos.mpr (by norm_num)).ne'
  show Ideal.div _ (Ideal.sqrt (Ideal.ofBits FTy.f32 0x43000000#32)) + x4 _ = _
  rw [ofBits_128, Ideal.sqrt_coe, if_neg (by norm_num), Ideal.div_coe hs, one_div]
  unfold Zr
  refine congrArg₂ (· + ·) ?_ (congrArg x4 (funext fun a => match a with | 0 => rfl))
  rw [mul_comm]
  refine congrArg (fun y : EReal => (((Real.sqrt 128)⁻¹ : ℝ) : EReal) * y) (Finset.sum_congr rfl fun d _ => ?_)
  rw [val_main_v0_apply, val_main_v1_apply]
  exact congrArg₂ (· * ·) (congrArg x0 (flat0 _)) (congrArg x1 (flat0 _))

theorem mask_entry (i : S4096x4096.Idx) : val_main_v15 (F := Ideal) i = if (i 1).val < (i 0).val then 1#1 else 0#1 := by
  rw [val_main_v15_apply, val_main_v13_apply, val_main_v14_apply, val_main_v11_apply, val_main_v12_apply, val_main_v10_apply, val_main_v10_apply]
  have h0 : (i 0).val < 4096 := (i 0).isLt
  have h1 : (i 1).val < 4096 := (i 1).isLt
  show IntOp.cmpi .slt (BitVec.ofNat 32 (i 1).val) (BitVec.ofNat 32 (i 0).val) = _
  rw [WordCmp.cmpi_slt_ofNat (by omega) (by omega)]
  by_cases h : (i 1).val < (i 0).val
  · rw [if_pos h, decide_eq_true h]; rfl
  · rw [if_neg h, decide_eq_false h]; rfl

theorem softplus0 (z : EReal) :
    Scalar.select (Ideal.cmp .une (z - 0) (z - 0)) (z + 0) (max z 0 + Ideal.log1p (Ideal.exp (-(max (z - 0) (-(z - 0)))))) = sp z := by
  have hc : Ideal.cmp .une (z - 0) (z - 0) = 0#1 := by
    show BitVec.ofBool (decide (z - 0 ≠ z - 0)) = _
    rw [decide_eq_false (by simp)]; rfl
  rw [hc, sub_zero]
  rfl

theorem v17_entry (x0 x1 : Vec Ideal S8192x2048 .f32) (x4 : Vec Ideal S16 .f32) (i : S2x16x4096x4096.Idx) :
    val_main_v17 (F := Ideal) x0 x1 x4 i = -sp (Zr x0 x1 x4 (i 0) (i 1) (i 2) (i 3)) := by
  rw [val_main_v17_apply, val_main_call0_v1_apply, val_main_call0_call0_v4_apply, val_main_call0_call0_v6_apply, val_main_call0_call0_v11_apply, val_main_call0_call0_v10_apply,
    val_main_call0_call0_v9_apply, val_main_call0_call0_v8_apply, val_main_call0_call0_v7_apply, val_main_call0_call0_v3_apply, val_main_call0_call0_v1_apply,
    val_main_call0_call0_v5_apply, val_main_call0_call0_v2_apply, val_main_call0_call0_v0_apply, val_main_call0_v0_apply, val_main_v16_apply, v9_entry]
  generalize Zr x0 x1 x4 (i 0) (i 1) (i 2) (i 3) = z
  refine congrArg (fun y : EReal => -y) ?_
  have h := softplus0 (- -z)
  rw [neg_neg] at h
  have hz : (val_main_call0_call0_cst (F := Ideal)) = fun _ => (0 : EReal) := funext fun _ => Ideal.ofBits_zero_f32
  rw [hz]
  refine Eq.trans ?_ h
  show Scalar.select (Ideal.cmp .une (- -z - 0) (- -z - 0)) (- -z + 0) (max (- -z) 0 + Ideal.log1p (Ideal.exp (-(max (- -z - 0) (-(- -z - 0)))))) = _
  rw [neg_neg]

theorem v21_entry (x0 x1 : Vec Ideal S8192x2048 .f32) (x4 : Vec Ideal S16 .f32) (i : S2x16x4096x4096.Idx) :
    val_main_v21 (F := Ideal) x0 x1 x4 i = -sp (-Zr x0 x1 x4 (i 0) (i 1) (i 2) (i 3)) := by
  rw [val_main_v21_apply, val_main_call3_v1_apply, val_main_call3_call0_v4_apply, val_main_call3_call0_v6_apply, val_main_call3_call0_v11_apply, val_main_call3_call0_v10_apply,
    val_main_call3_call0_v9_apply, val_main_call3_call0_v8_apply, val_main_call3_call0_v7_apply, val_main_call3_call0_v3_apply, val_main_call3_call0_v1_apply,
    val_main_call3_call0_v5_apply, val_main_call3_call0_v2_apply, val_main_call3_call0_v0_apply, val_main_call3_v0_apply, v9_entry]
  generalize Zr x0 x1 x4 (i 0) (i 1) (i 2) (i 3) = z
  have hz : (val_main_call3_call0_cst (F := Ideal)) = fun _ => (0 : EReal) := funext fun _ => Ideal.ofBits_zero_f32
  rw [hz]
  exact congrArg (fun y : EReal => -y) (softplus0 (-z))

theorem v18_entry (x0 x1 : Vec Ideal S8192x2048 .f32) (x4 : Vec Ideal S16 .f32) (i : S2x16x4096x4096.Idx) :
    val_main_v18 (F := Ideal) x0 x1 x4 i = if (i 3).val < (i 2).val then -sp (Zr x0 x1 x4 (i 0) (i 1) (i 2) (i 3)) else 0 := by
  rw [val_main_v18_apply, val_main_call1_v1_apply, mask_entry, v17_entry, val_main_call1_v2_apply, val_main_call1_v0_apply, val_main_cst_0_apply]
  show Scalar.select (if (i 3).val < (i 2).val then 1#1 else 0#1) _ _ = _
  split
  · rfl
  · exact Ideal.ofBits_zero_f32

theorem v19_entry (x0 x1 : Vec Ideal S8192x2048 .f32) (x4 : Vec Ideal S16 .f32) (i : S2x16x4096x4096.Idx) :
    val_main_v19 (F := Ideal) x0 x1 x4 i = ∑ s : Fin 4096, if (i 3).val ≤ s.val then (if s.val < (i 2).val then -sp (Zr x0 x1 x4 (i 0) (i 1) (i 2) s) else 0) else 0 := by
  unfold val_main_v19 Host.reduceWindowAdd
  have hz : val_main_call2_v0 (F := Ideal) (Shape.Idx.first h_S_) = (0 : EReal) := by
    rw [val_main_call2_v0_apply, val_main_call2_cst_apply]
    exact Ideal.ofBits_zero_f32
  rw [hz]
  refine (window_last (A := 2) (B := 16) (Q := 4096) (N := 4096) (Nm1 := 4095) rfl _ _ i).trans (Finset.sum_congr rfl fun s _ => ?_)
  rw [v18_entry]
  rfl

/-- A weight. -/
theorem v24_entry (x0 x1 : Vec Ideal S8192x2048 .f32) (x4 : Vec Ideal S16 .f32) (i : S2x16x4096x4096.Idx) :
    val_main_v24 (F := Ideal) x0 x1 x4 i = if (i 3).val < (i 2).val then Ideal.exp (lw (Zr x0 x1 x4 (i 0) (i 1) (i 2)) (i 2).val (i 3)) else 0 := by
  rw [val_main_v24_apply, val_main_call4_v1_apply, mask_entry, val_main_v23_apply, val_main_v22_apply, val_main_v20_apply, v21_entry, v19_entry, v18_entry, val_main_call4_v2_apply,
    val_main_call4_v0_apply, val_main_cst_1_apply]
  show Scalar.select (if (i 3).val < (i 2).val then 1#1 else 0#1) _ _ = _
  split
  · next hlt =>
    unfold lw
    rw [if_pos hlt]
    rfl
  · exact Ideal.ofBits_zero_f32

/-- The reference's result at an entry. -/
theorem entry (x0 x1 x2 x3 : Vec Ideal S8192x2048 .f32) (x4 : Vec Ideal S16 .f32) (b : Fin 2) (q : Fin 4096) (h : Fin 16) (d : Fin 128) :
    val_main_v30 (F := Ideal) x0 x1 x2 x3 x4 (ix2 (row b q) (lane h d))
      = (∑ s : Fin 4096, x2 (ix2 (row b s) (lane h d)) * (if s.val < q.val then Ideal.exp (lw (Zr x0 x1 x4 b h q) q.val s) else 0)) * gate (x3 (ix2 (row b q) (lane h d))) := by
  rw [val_main_v30_apply]
  show val_main_v29 (F := Ideal) x0 x1 x2 x3 x4 (ix2 (row b q) (lane h d)) = _
  rw [val_main_v29_apply, val_main_v27_apply, val_main_v26_apply, val_main_v25_apply]
  refine congrArg₂ (· * ·) ?_ ?_
  · refine Finset.sum_congr rfl fun s _ => ?_
    have hi : idx_main_v26 (idx_main_v27 (ix2 (row b q) (lane h d))) = ix4 (n0 := 2) (n1 := 16) (n2 := 128) (n3 := 4096) b h d q := by
      have hq := q.isLt
      have hd := d.isLt
      have hb := b.isLt
      have hh := h.isLt
      refine funext fun a => Fin.ext ?_
      match a with
      | 0 => show ((4096 * b.val + q.val) * 2048 + (128 * h.val + d.val)) / 8388608 = b.val; omega
      | 1 => show ((4096 * b.val + q.val) * 2048 + (128 * h.val + d.val)) / 128 % 16 = h.val; omega
      | 2 => show ((4096 * b.val + q.val) * 2048 + (128 * h.val + d.val)) % 128 = d.val; omega
      | 3 => show ((4096 * b.val + q.val) * 2048 + (128 * h.val + d.val)) / 2048 % 4096 = q.val; omega
    rw [hi, val_main_v2_apply, v24_entry]
    exact congrArg (· * _) (congrArg x2 (flat0 _))
  · rw [val_main_v28_apply, val_main_call5_v5_apply, val_main_call5_v4_apply, val_main_call5_v3_apply, val_main_call5_v2_apply, val_main_call5_v1_apply, val_main_call5_v0_apply,
      val_main_call5_cst_apply, val_main_call5_cst_0_apply]
    show x3 _ * Ideal.div (Ideal.ofBits .f32 0x3F800000#32) (Ideal.ofBits .f32 0x3F800000#32 + Ideal.exp (-x3 _)) = _
    rw [Ideal.ofBits_one_f32]
    rfl

end Cert.ReferenceIdeal.Entry
-- ==== Proof.Whole.lean ====
module

public import proofs.«01_k».proof.Proof.Fold
public import proofs.«01_k».proof.Proof.Ref
public import proofs.«01_k».proof.Proof.Gen.KernelIdeal.Value
public import Idealize.ShloMosaic.Lib.Pipeline.ValueKit

/-!
# The whole array

Every grid point's block is the reference's result over the block's rows and lanes, and the blocks tile the array.
-/

@[expose] public section

set_option maxRecDepth 16384

noncomputable section

namespace Cert.KernelIdeal.Sweep

open Cert.KernelIdeal Cert.KernelIdeal.Gen Idealize.ShloMosaic Idealize.ShloMosaic.TcCoe Idealize.SL.Sem Idealize.ShloMosaic.Tactic
open Cert.Row Cert.ReferenceIdeal.Entry

variable (m : (ℓ : Loc nD τ sig) → Buf (Elt Ideal) ℓ) (c : Dev nD)

theorem idx0 : ∀ t : Fin cfg0.N, win0_0.index t = ![0] := (by decide +kernel : ∀ t : Fin grid0.N, _)
theorem idx1 : ∀ t : Fin cfg0.N, win0_1.index t = ![8 * (grid0.coords t 0).val + (grid0.coords t 2).val, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)
theorem idx4 : ∀ t : Fin cfg0.N, win0_4.index t = ![8 * (grid0.coords t 0).val + (grid0.coords t 2).val, (grid0.coords t 1).val] := (by decide +kernel : ∀ t : Fin grid0.N, _)
theorem idx5 : ∀ t : Fin cfg0.N, win0_5.index t = ![8 * (grid0.coords t 0).val + (grid0.coords t 2).val, (grid0.coords t 1).val] := (by decide +kernel : ∀ t : Fin grid0.N, _)

/-- A row of the query block, in its sequence. -/
def qrow (i : grid0.Coords) (r : Fin 512) : Fin 4096 := ⟨512 * (i 2).val + r.val, by have : (i 2).val < 8 := (i 2).isLt; omega⟩

def arg0 : Vec Ideal S8192x2048 .f32 := m ((c : Thread nD τ).loc main_arg0)
def arg1 : Vec Ideal S8192x2048 .f32 := m ((c : Thread nD τ).loc main_arg1)
def arg2 : Vec Ideal S8192x2048 .f32 := m ((c : Thread nD τ).loc main_arg2)
def arg3 : Vec Ideal S8192x2048 .f32 := m ((c : Thread nD τ).loc main_arg3)
def arg4 : Vec Ideal S16 .f32 := m ((c : Thread nD τ).loc main_arg4)

theorem blk0 (t : Fin cfg0.N) (h : Fin 16) : iblk m c 0 t (ix1 h) = arg4 m c (ix1 h) := by
  unfold arg4
  blk_ext [iblk, V, idx0 t]

theorem blk1 (t : Fin cfg0.N) (r : Fin 512) (d : Fin 128) : iblk m c 1 t (ix2 r d) = arg0 m c (ix2 (row (grid0.coords t 0) (qrow (grid0.coords t) r)) (lane (grid0.coords t 1) d)) := by
  unfold arg0 row qrow lane
  blk_ext [iblk, V, idx1 t]

theorem blk2 (t : Fin cfg0.N) (s : Fin 4096) (d : Fin 128) : iblk m c 2 t (ix2 s d) = arg1 m c (ix2 (row (grid0.coords t 0) s) (lane (grid0.coords t 1) d)) := by
  unfold arg1 row lane
  blk_ext [iblk, V, idx2 t]

theorem blk3 (t : Fin cfg0.N) (s : Fin 4096) (d : Fin 128) : iblk m c 3 t (ix2 s d) = arg2 m c (ix2 (row (grid0.coords t 0) s) (lane (grid0.coords t 1) d)) := by
  unfold arg2 row lane
  blk_ext [iblk, V, idx3 t]

theorem blk4 (t : Fin cfg0.N) (r : Fin 512) (d : Fin 128) : iblk m c 4 t (ix2 r d) = arg3 m c (ix2 (row (grid0.coords t 0) (qrow (grid0.coords t) r)) (lane (grid0.coords t 1) d)) := by
  unfold arg3 row qrow lane
  blk_ext [iblk, V, idx4 t]

theorem emb5 (t : Fin cfg0.N) (y : S512x128.Idx) :
    ((cfg0.win 5).blk t).view.emb y = ix2 (row (grid0.coords t 0) (qrow (grid0.coords t) (y 0))) (lane (grid0.coords t 1) (y 1)) := by
  unfold row qrow lane
  blk_ext [idx5 t]

/-- The output array after the run. -/
theorem final : (dats m 0 c).arrAt 5 cfg0.N
    = Cert.ReferenceIdeal.Read.val_main_v30 (F := Ideal) (arg0 m c) (arg1 m c) (arg2 m c) (arg3 m c) (arg4 m c) := by
  refine (dats m 0 c).arrAt_eq_of_covers 5 _ (by decide +kernel) fun t hf y => ?_
  blk_simp
  rw [after0_5]
  unfold outsAt0
  rw [out_eq]
  refine Eq.trans ?_ (congrArg _ (emb5 t y)).symm
  refine Eq.trans (congrArg _ (eq_ix2 (n0 := 512) (n1 := 128) y)) ?_
  refine (blockOut_apply _ _ _ _ _ _ _ _).trans (Eq.trans ?_ (entry _ _ _ _ _ _ _ _ _).symm)
  have hz : zrow (iblk m c 0 t (ix1 (n0 := 16) (grid0.coords t 1))) (iblk m c 1 t) (iblk m c 2 t) (y 0)
      = Zr (arg0 m c) (arg1 m c) (arg4 m c) (grid0.coords t 0) (grid0.coords t 1) (qrow (grid0.coords t) (y 0)) := by
    funext s
    unfold zrow Zr
    refine congrArg₂ (· + ·) (congrArg (fun x : EReal => (((Real.sqrt 128)⁻¹ : ℝ) : EReal) * x) (Finset.sum_congr rfl fun d _ => ?_)) (blk0 m c t _)
    exact congrArg₂ (· * ·) (blk1 m c t _ _) (blk2 m c t _ _)
  refine congrArg₂ (· * ·) (Finset.sum_congr rfl fun s _ => congrArg₂ (· * ·) (blk3 m c t _ _) ?_) (congrArg gate (blk4 m c t _ _))
  exact if_congr Iff.rfl (congrArg (fun Z => Ideal.exp (lw Z _ s)) hz) rfl

end Cert.KernelIdeal.Sweep
-- ==== Proof.OutputValue.lean ====
module

public import proofs.«01_k».proof.Proof.Gen.OutputIdeal.Value
public import proofs.«01_k».proof.Proof.Gen.OutputReferenceIdeal.Read
public import Idealize.ShloMosaic.Lib.Pipeline.ValueKit
public import Idealize.ShloMosaic.Lib.Pointwise

/-!
# The output projection, the residual and the per-layer embedding

Every grid point writes 256 rows of the layer's result.
-/

@[expose] public section

set_option maxRecDepth 16384

noncomputable section

namespace Cert.OutputIdeal.Rows

open Cert.OutputIdeal Cert.OutputIdeal.Gen Idealize.ShloMosaic Idealize.ShloMosaic.TcCoe Idealize.SL.Sem Idealize.ShloMosaic.Tactic
open Cert.OutputReferenceIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![0, 0] ∧ win0_7.index t = ![t.val, 0] :=
  (by decide +kernel : ∀ t : Fin grid0.N, _)

/-- The reference's result, of the kernel's arguments. -/
abbrev result (a : FVec Ideal S8192x2048 .bf16) (w : FVec Ideal S2048x2048 .f32) (x : FVec Ideal S8192x2048 .f32) (g : FVec Ideal S2048 .f32)
    (p : FVec Ideal S8192x256 .f32) (wg : FVec Ideal S2048x2048 .f32) (wp : FVec Ideal S256x2048 .f32) : FVec Ideal S8192x2048 .f32 :=
  val_main_v25 (F := Ideal) a w x g p wg wp

/-- What a grid point writes is the result at its rows. -/
theorem point (t : Fin cfg0.N) (y : S256x2048.Idx) :
    k0_pay1 (k0_pay2 (iblk m c 0 t) (iblk m c 1 t) (iblk m c 2 t) (iblk m c 3 t)) (k0_pay3 (iblk m c 0 t) (iblk m c 1 t) (iblk m c 2 t) (iblk m c 3 t) (iblk m c 4 t))
      (k0_pay4 (iblk m c 5 t) (iblk m c 6 t)) y
    = result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (((cfg0.win 7).blk t).view.emb y) := by
  pointwise [k0_pay1, k0_pay2, k0_pay3, k0_pay4, result, val_main_v0, val_main_v1, val_main_v2, val_main_cst, val_main_v3, val_main_v4, val_main_cst_0, val_main_v5,
    val_main_v6, val_main_cst_1, val_main_v7, val_main_v8, val_main_v9, val_main_v10, val_main_v11, val_main_v12, val_main_v13, val_main_v14, val_main_v15,
    val_main_v16, val_main_v17, val_main_v18, val_main_cst_2, val_main_v19, val_main_v20, val_main_cst_3, val_main_v21, val_main_v22, val_main_v23, val_main_v24, val_main_v25, zero_sub]
  blk_point [iblk, V, idx t]

/-- The output array after the run. -/
theorem final : (dats m 0 c).arrAt 7 cfg0.N
    = result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  exact point m c t y

end Cert.OutputIdeal.Rows
-- ==== Proof.OutputSampleValue.lean ====
module

public import proofs.«01_k».proof.Proof.Gen.OutputSampleIdeal.Value
public import proofs.«01_k».proof.Proof.Gen.OutputSampleReferenceIdeal.Read
public import Idealize.ShloMosaic.Lib.Pipeline.ValueKit
public import Idealize.ShloMosaic.Lib.Pointwise

/-!
# The output projection, the residual and the per-layer embedding

The same call over the sample's 64 rows, in one grid point.
-/

@[expose] public section

set_option maxRecDepth 16384

noncomputable section

namespace Cert.OutputSampleIdeal.Rows

open Cert.OutputSampleIdeal Cert.OutputSampleIdeal.Gen Idealize.ShloMosaic Idealize.ShloMosaic.TcCoe Idealize.SL.Sem Idealize.ShloMosaic.Tactic
open Cert.OutputSampleReferenceIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The reference's result, of the kernel's arguments. -/
abbrev result (a : FVec Ideal S64x2048 .f32) (w : FVec Ideal S2048x2048 .f32) (x : FVec Ideal S64x2048 .f32) (g : FVec Ideal S2048 .f32)
    (p : FVec Ideal S64x256 .f32) (wg : FVec Ideal S2048x2048 .f32) (wp : FVec Ideal S256x2048 .f32) : FVec Ideal S64x2048 .f32 :=
  val_main_v24 (F := Ideal) a w x g p wg wp

/-- What a grid point writes is the result at its rows. -/
theorem point (t : Fin cfg0.N) (y : S64x2048.Idx) :
    k0_pay1 (k0_pay2 (iblk m c 0 t) (iblk m c 1 t) (iblk m c 2 t) (iblk m c 3 t)) (k0_pay3 (iblk m c 0 t) (iblk m c 1 t) (iblk m c 2 t) (iblk m c 3 t) (iblk m c 4 t))
      (k0_pay4 (iblk m c 5 t)) (k0_pay5 (iblk m c 6 t)) (constant S64x2048 .f32 0x00000000#32) y
    = result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (((cfg0.win 7).blk t).view.emb y) := by
  pointwise [k0_pay1, k0_pay2, k0_pay3, k0_pay4, k0_pay5, result, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_cst_2, val_main_v18, val_main_v19, val_main_cst_3, val_main_v20, val_main_v21, val_main_v22, val_main_v23, val_main_v24, zero_sub]
  blk_point [iblk, V, idx t]

/-- The output array after the run. -/
theorem final : (dats m 0 c).arrAt 7 cfg0.N
    = result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  exact point m c t y

end Cert.OutputSampleIdeal.Rows
-- ==== Proof.OutputNextValue.lean ====
module

public import proofs.«01_k».proof.Proof.Gen.OutputNextIdeal.Value
public import proofs.«01_k».proof.Proof.Gen.OutputNextReferenceIdeal.Read
public import Idealize.ShloMosaic.Lib.Pipeline.ValueKit
public import Idealize.ShloMosaic.Lib.Pointwise

/-!
# The output projection after the state space module, with the next layer's norm

Every grid point writes 256 rows of the layer's result, and of the next layer's normed input.
-/

@[expose] public section

set_option maxRecDepth 16384

noncomputable section

namespace Cert.OutputNextIdeal.Rows

open Cert.OutputNextIdeal Cert.OutputNextIdeal.Gen Idealize.ShloMosaic Idealize.ShloMosaic.TcCoe Idealize.SL.Sem Idealize.ShloMosaic.Tactic
open Cert.OutputNextReferenceIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![0, 0] ∧ win0_7.index t = ![0, 0]
    ∧ win0_8.index t = ![t.val, 0] ∧ win0_9.index t = ![t.val, 0] :=
  (by decide +kernel : ∀ t : Fin grid0.N, _)

/-- The reference's first result, of the kernel's arguments. -/
abbrev result : FVec Ideal S8192x2048 .f32 :=
  val_main_v25 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The reference's second result, of the kernel's arguments. -/
abbrev normed : FVec Ideal S8192x2048 .bf16 :=
  val_main_v39 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The residual row, the gate and the embedding that a grid point computes. -/
abbrev resid (t : Fin cfg0.N) : FVec Ideal S256x2048 .f32 := k0_pay3 (iblk m c 0 t) (iblk m c 1 t) (iblk m c 2 t) (iblk m c 3 t)
abbrev gates (t : Fin cfg0.N) : FVec Ideal S256x2048 .f32 := k0_pay4 (iblk m c 0 t) (iblk m c 1 t) (iblk m c 2 t) (iblk m c 3 t) (iblk m c 4 t)
abbrev embed (t : Fin cfg0.N) : FVec Ideal S256x2048 .f32 := k0_pay5 (iblk m c 5 t) (iblk m c 6 t)

/-- What a grid point writes first is the result at its rows. -/
theorem point (t : Fin cfg0.N) (y : S256x2048.Idx) :
    k0_pay1 (resid m c t) (gates m c t) (embed m c t) y = result m c (((cfg0.win 8).blk t).view.emb y) := by
  pointwise [k0_pay1, k0_pay3, k0_pay4, k0_pay5, resid, gates, embed, result, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22, val_main_v23, val_main_v24, val_main_v25, zero_sub]
  blk_point [iblk, V, idx t]

/-- The second payload norms the rows of the first. -/
theorem pay2 (x gt e : FVec Ideal S256x2048 .f32) (g : Vec Ideal S1x2048 .f32) (r : Fin 256) (k : Fin 2048) :
    k0_pay2 x gt e g (ix2 r k) = k0_pay1 x gt e (ix2 r k)
      * Ideal.rsqrt (Ideal.div (∑ l : Fin 2048, k0_pay1 x gt e (ix2 r l) * k0_pay1 x gt e (ix2 r l)) (Ideal.ofBits .f32 0x45000000#32) + Ideal.ofBits .f32 0x358637BD#32)
      * g (ix2 0 k) := by
  pointwise [k0_pay1, k0_pay2]

/-- The reference's second result norms the rows of the first. -/
theorem normed_apply (r : Fin 8192) (k : Fin 2048) :
    normed m c (ix2 r k) = result m c (ix2 r k)
      * Ideal.rsqrt (Ideal.div (∑ l : Fin 2048, result m c (ix2 r l) * result m c (ix2 r l)) (Ideal.ofBits .f32 0x45000000#32) + Ideal.ofBits .f32 0x358637BD#32)
      * m ((c : Thread nD τ).loc main_arg7) (ix1 k) := by
  pointwise [normed, val_main_v26, val_main_cst_4, val_main_v27, val_main_v28, val_main_cst_5, val_main_v29, val_main_v30, val_main_cst_6, val_main_v31, val_main_v32, val_main_v33, val_main_v34, val_main_v35, val_main_v36, val_main_v37, val_main_v38, val_main_v39]

/-- The row of the result that row `r` of grid point `t` is. -/
def row (t : Fin cfg0.N) (r : Fin 256) : Fin 8192 := ⟨t.val * 256 + r.val, by have : t.val < 32 := t.isLt; omega⟩

theorem emb8 (t : Fin cfg0.N) (r : Fin 256) (k : Fin 2048) : ((cfg0.win 8).blk t).view.emb (ix2 r k) = ix2 (row t r) k := by
  unfold row
  blk_ext [idx t]

theorem emb9 (t : Fin cfg0.N) (r : Fin 256) (k : Fin 2048) : ((cfg0.win 9).blk t).view.emb (ix2 r k) = ix2 (row t r) k := by
  unfold row
  blk_ext [idx t]

theorem gain (t : Fin cfg0.N) (k : Fin 2048) : iblk m c 7 t (ix2 (0 : Fin 1) k) = m ((c : Thread nD τ).loc main_arg7) (ix1 k) := by
  blk_point [iblk, V, idx t]

/-- What a grid point writes first, by rows. -/
theorem pointRow (t : Fin cfg0.N) (r : Fin 256) (k : Fin 2048) :
    k0_pay1 (resid m c t) (gates m c t) (embed m c t) (ix2 r k) = result m c (ix2 (row t r) k) :=
  (point m c t (ix2 r k)).trans (congrArg _ (emb8 t r k))

/-- What a grid point writes second is the normed result at its rows. -/
theorem point2 (t : Fin cfg0.N) (r : Fin 256) (k : Fin 2048) :
    k0_pay2 (resid m c t) (gates m c t) (embed m c t) (iblk m c 7 t) (ix2 r k) = normed m c (((cfg0.win 9).blk t).view.emb (ix2 r k)) := by
  refine Eq.trans ?_ ((congrArg _ (emb9 t r k)).trans (normed_apply m c _ _)).symm
  refine (pay2 _ _ _ _ _ _).trans ?_
  refine congrArg₂ (· * ·) (congrArg₂ (· * ·) (pointRow m c t r k) ?_) (gain m c t k)
  refine congrArg (fun x : EReal => Ideal.rsqrt (Ideal.div x _ + _)) (Finset.sum_congr rfl fun l _ => ?_)
  exact congrArg₂ (· * ·) (pointRow m c t r l) (pointRow m c t r l)

/-- The first output array after the run. -/
theorem final : (dats m 0 c).arrAt 8 cfg0.N = result m c := by
  refine (dats m 0 c).arrAt_eq_of_covers 8 _ (by decide +kernel) fun t hf y => ?_
  blk_simp
  rw [after0_8]
  unfold_out out0_8
  frame_out
  exact point m c t y

/-- The second output array after the run. -/
theorem final_next : (dats m 0 c).arrAt 9 cfg0.N = normed m c := by
  refine (dats m 0 c).arrAt_eq_of_covers 9 _ (by decide +kernel) fun t hf y => ?_
  blk_simp
  rw [after0_9]
  unfold_out out0_9
  frame_out
  rw [eq_ix2 (n0 := 256) (n1 := 2048) y]
  exact point2 m c t (y 0) (y 1)

end Cert.OutputNextIdeal.Rows
-- ==== Proof.ProjectValue.lean ====
module

public import proofs.«01_k».proof.Proof.Gen.ProjectIdeal.Value
public import proofs.«01_k».proof.Proof.Gen.ProjectReferenceIdeal.Read
public import Idealize.ShloMosaic.Lib.Pipeline.ValueKit
public import Idealize.ShloMosaic.Lib.Pointwise

/-!
# The input projection

Every grid point writes 512 rows of the product of the normed rows with the weights.
-/

@[expose] public section

set_option maxRecDepth 16384

noncomputable section

namespace Cert.ProjectIdeal.Rows

open Cert.ProjectIdeal Cert.ProjectIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The reference's product, of the kernel's arguments. -/
abbrev product (h : FVec Ideal S8192x2048 .bf16) (w : FVec Ideal S2048x2048 .f32) : FVec Ideal S8192x2048 .f32 :=
  Cert.ProjectReferenceIdeal.Read.val_main_v1 (F := Ideal) h w

/-- What a grid point writes is the product at its rows. -/
theorem point (t : Fin cfg0.N) (y : S512x2048.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectReferenceIdeal.Read.val_main_v1, Cert.ProjectReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectIdeal.Rows
-- ==== Proof.ProjectSampleValue.lean ====
module

public import proofs.«01_k».proof.Proof.Gen.ProjectSampleIdeal.Value
public import proofs.«01_k».proof.Proof.Gen.ProjectSampleReferenceIdeal.Read
public import Idealize.ShloMosaic.Lib.Pipeline.ValueKit
public import Idealize.ShloMosaic.Lib.Pointwise

/-!
# The input projection

The same call over the sample's 64 rows, in one grid point.
-/

@[expose] public section

set_option maxRecDepth 16384

noncomputable section

namespace Cert.ProjectSampleIdeal.Rows

open Cert.ProjectSampleIdeal Cert.ProjectSampleIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The reference's product, of the kernel's arguments. -/
abbrev product (h : FVec Ideal S64x2048 .bf16) (w : FVec Ideal S2048x2048 .f32) : FVec Ideal S64x2048 .f32 :=
  Cert.ProjectSampleReferenceIdeal.Read.val_main_v1 (F := Ideal) h w

/-- What a grid point writes is the product at its rows. -/
theorem point (t : Fin cfg0.N) (y : S64x2048.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectSampleReferenceIdeal.Read.val_main_v1, Cert.ProjectSampleReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectSampleIdeal.Rows
-- ==== Proof.ProjectWideValue.lean ====
module

public import proofs.«01_k».proof.Proof.Gen.ProjectWideIdeal.Value
public import proofs.«01_k».proof.Proof.Gen.ProjectWideReferenceIdeal.Read
public import Idealize.ShloMosaic.Lib.Pipeline.ValueKit
public import Idealize.ShloMosaic.Lib.Pointwise

/-!
# The input projection

The same call with 6144 columns of weights: every grid point writes 512 rows and 2048 columns of the product.
-/

@[expose] public section

set_option maxRecDepth 16384

noncomputable section

namespace Cert.ProjectWideIdeal.Rows

open Cert.ProjectWideIdeal Cert.ProjectWideIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- The reference's product, of the kernel's arguments. -/
abbrev product (h : FVec Ideal S8192x2048 .bf16) (w : FVec Ideal S2048x6144 .f32) : FVec Ideal S8192x6144 .f32 :=
  Cert.ProjectWideReferenceIdeal.Read.val_main_v1 (F := Ideal) h w

/-- What a grid point writes is the product at its rows and columns. -/
theorem point (t : Fin cfg0.N) (y : S512x2048.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectWideReferenceIdeal.Read.val_main_v1, Cert.ProjectWideReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectWideIdeal.Rows
-- ==== Proof.NormValue.lean ====
module

public import proofs.«01_k».proof.Proof.Gen.NormIdeal.Value
public import proofs.«01_k».proof.Proof.Gen.NormReferenceIdeal.Read
public import Idealize.ShloMosaic.Lib.Pipeline.ValueKit
public import Idealize.ShloMosaic.Lib.Pointwise

/-!
# The norm before the first layer

Every grid point norms 512 rows.
-/

@[expose] public section

set_option maxRecDepth 16384

noncomputable section

namespace Cert.NormIdeal.Rows

open Cert.NormIdeal Cert.NormIdeal.Gen Idealize.ShloMosaic Idealize.ShloMosaic.TcCoe Idealize.SL.Sem Idealize.ShloMosaic.Tactic
open Cert.NormReferenceIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The reference's normed rows, of the kernel's arguments. -/
abbrev normed (x : FVec Ideal S8192x2048 .f32) (g : FVec Ideal S2048 .f32) : FVec Ideal S8192x2048 .bf16 :=
  val_main_v13 (F := Ideal) x g

/-- What a grid point writes is the normed array at its rows. -/
theorem point (t : Fin cfg0.N) (y : S512x2048.Idx) : k0_pay1 (iblk m c 0 t) (iblk m c 1 t) y
    = normed (m ((c : Thread nD τ).loc main_arg0)) (m ((c : Thread nD τ).loc main_arg1)) (((cfg0.win 2).blk t).view.emb y) := by
  pointwise [k0_pay1, normed, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t]

/-- The output array after the run. -/
theorem final : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.NormIdeal.Rows
-- ==== Proof.OutputFirstValue.lean ====
module

public import proofs.«01_k».proof.Proof.Gen.OutputFirstIdeal.Value
public import proofs.«01_k».proof.Proof.Gen.OutputFirstReferenceIdeal.Read
public import Idealize.ShloMosaic.Lib.Pipeline.ValueKit
public import Idealize.ShloMosaic.Lib.Pointwise

/-!
# The output projection after the attention or the convolution module, with the next layer's norm

Every grid point writes 256 rows of the layer's result, and of the next layer's normed input.
-/

@[expose] public section

set_option maxRecDepth 16384

noncomputable section

namespace Cert.OutputFirstIdeal.Rows

open Cert.OutputFirstIdeal Cert.OutputFirstIdeal.Gen Idealize.ShloMosaic Idealize.ShloMosaic.TcCoe Idealize.SL.Sem Idealize.ShloMosaic.Tactic
open Cert.OutputFirstReferenceIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![0, 0] ∧ win0_7.index t = ![0, 0]
    ∧ win0_8.index t = ![t.val, 0] ∧ win0_9.index t = ![t.val, 0] :=
  (by decide +kernel : ∀ t : Fin grid0.N, _)

/-- The reference's first result, of the kernel's arguments. -/
abbrev result : FVec Ideal S8192x2048 .f32 :=
  val_main_v25 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The reference's second result, of the kernel's arguments. -/
abbrev normed : FVec Ideal S8192x2048 .bf16 :=
  val_main_v39 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The residual row, the gate and the embedding that a grid point computes. -/
abbrev resid (t : Fin cfg0.N) : FVec Ideal S256x2048 .f32 := k0_pay3 (iblk m c 0 t) (iblk m c 1 t) (iblk m c 2 t) (iblk m c 3 t)
abbrev gates (t : Fin cfg0.N) : FVec Ideal S256x2048 .f32 := k0_pay4 (iblk m c 0 t) (iblk m c 1 t) (iblk m c 2 t) (iblk m c 3 t) (iblk m c 4 t)
abbrev embed (t : Fin cfg0.N) : FVec Ideal S256x2048 .f32 := k0_pay5 (iblk m c 5 t) (iblk m c 6 t)

/-- What a grid point writes first is the result at its rows. -/
theorem point (t : Fin cfg0.N) (y : S256x2048.Idx) :
    k0_pay1 (resid m c t) (gates m c t) (embed m c t) y = result m c (((cfg0.win 8).blk t).view.emb y) := by
  pointwise [k0_pay1, k0_pay3, k0_pay4, k0_pay5, resid, gates, embed, result, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22, val_main_v23, val_main_v24, val_main_v25, zero_sub]
  blk_point [iblk, V, idx t]

/-- The second payload norms the rows of the first. -/
theorem pay2 (x gt e : FVec Ideal S256x2048 .f32) (g : Vec Ideal S1x2048 .f32) (r : Fin 256) (k : Fin 2048) :
    k0_pay2 x gt e g (ix2 r k) = k0_pay1 x gt e (ix2 r k)
      * Ideal.rsqrt (Ideal.div (∑ l : Fin 2048, k0_pay1 x gt e (ix2 r l) * k0_pay1 x gt e (ix2 r l)) (Ideal.ofBits .f32 0x45000000#32) + Ideal.ofBits .f32 0x358637BD#32)
      * g (ix2 0 k) := by
  pointwise [k0_pay1, k0_pay2]

/-- The reference's second result norms the rows of the first. -/
theorem normed_apply (r : Fin 8192) (k : Fin 2048) :
    normed m c (ix2 r k) = result m c (ix2 r k)
      * Ideal.rsqrt (Ideal.div (∑ l : Fin 2048, result m c (ix2 r l) * result m c (ix2 r l)) (Ideal.ofBits .f32 0x45000000#32) + Ideal.ofBits .f32 0x358637BD#32)
      * m ((c : Thread nD τ).loc main_arg7) (ix1 k) := by
  pointwise [normed, val_main_v26, val_main_cst_4, val_main_v27, val_main_v28, val_main_cst_5, val_main_v29, val_main_v30, val_main_cst_6, val_main_v31, val_main_v32, val_main_v33, val_main_v34, val_main_v35, val_main_v36, val_main_v37, val_main_v38, val_main_v39]

/-- The row of the result that row `r` of grid point `t` is. -/
def row (t : Fin cfg0.N) (r : Fin 256) : Fin 8192 := ⟨t.val * 256 + r.val, by have : t.val < 32 := t.isLt; omega⟩

theorem emb8 (t : Fin cfg0.N) (r : Fin 256) (k : Fin 2048) : ((cfg0.win 8).blk t).view.emb (ix2 r k) = ix2 (row t r) k := by
  unfold row
  blk_ext [idx t]

theorem emb9 (t : Fin cfg0.N) (r : Fin 256) (k : Fin 2048) : ((cfg0.win 9).blk t).view.emb (ix2 r k) = ix2 (row t r) k := by
  unfold row
  blk_ext [idx t]

theorem gain (t : Fin cfg0.N) (k : Fin 2048) : iblk m c 7 t (ix2 (0 : Fin 1) k) = m ((c : Thread nD τ).loc main_arg7) (ix1 k) := by
  blk_point [iblk, V, idx t]

/-- What a grid point writes first, by rows. -/
theorem pointRow (t : Fin cfg0.N) (r : Fin 256) (k : Fin 2048) :
    k0_pay1 (resid m c t) (gates m c t) (embed m c t) (ix2 r k) = result m c (ix2 (row t r) k) :=
  (point m c t (ix2 r k)).trans (congrArg _ (emb8 t r k))

/-- What a grid point writes second is the normed result at its rows. -/
theorem point2 (t : Fin cfg0.N) (r : Fin 256) (k : Fin 2048) :
    k0_pay2 (resid m c t) (gates m c t) (embed m c t) (iblk m c 7 t) (ix2 r k) = normed m c (((cfg0.win 9).blk t).view.emb (ix2 r k)) := by
  refine Eq.trans ?_ ((congrArg _ (emb9 t r k)).trans (normed_apply m c _ _)).symm
  refine (pay2 _ _ _ _ _ _).trans ?_
  refine congrArg₂ (· * ·) (congrArg₂ (· * ·) (pointRow m c t r k) ?_) (gain m c t k)
  refine congrArg (fun x : EReal => Ideal.rsqrt (Ideal.div x _ + _)) (Finset.sum_congr rfl fun l _ => ?_)
  exact congrArg₂ (· * ·) (pointRow m c t r l) (pointRow m c t r l)

/-- The first output array after the run. -/
theorem final : (dats m 0 c).arrAt 8 cfg0.N = result m c := by
  refine (dats m 0 c).arrAt_eq_of_covers 8 _ (by decide +kernel) fun t hf y => ?_
  blk_simp
  rw [after0_8]
  unfold_out out0_8
  frame_out
  exact point m c t y

/-- The second output array after the run. -/
theorem final_next : (dats m 0 c).arrAt 9 cfg0.N = normed m c := by
  refine (dats m 0 c).arrAt_eq_of_covers 9 _ (by decide +kernel) fun t hf y => ?_
  blk_simp
  rw [after0_9]
  unfold_out out0_9
  frame_out
  rw [eq_ix2 (n0 := 256) (n1 := 2048) y]
  exact point2 m c t (y 0) (y 1)

end Cert.OutputFirstIdeal.Rows
-- ==== Proof.OutputFirstSampleValue.lean ====
module

public import proofs.«01_k».proof.Proof.Gen.OutputFirstSampleIdeal.Value
public import proofs.«01_k».proof.Proof.Gen.OutputFirstSampleReferenceIdeal.Read
public import Idealize.ShloMosaic.Lib.Pipeline.ValueKit
public import Idealize.ShloMosaic.Lib.Pointwise

/-!
# The output projection after the attention or the convolution module, with the next layer's norm, over the sample

One grid point writes the layer's result and the next layer's normed input.
-/

@[expose] public section

set_option maxRecDepth 16384

noncomputable section

namespace Cert.OutputFirstSampleIdeal.Rows

open Cert.OutputFirstSampleIdeal Cert.OutputFirstSampleIdeal.Gen Idealize.ShloMosaic Idealize.ShloMosaic.TcCoe Idealize.SL.Sem Idealize.ShloMosaic.Tactic
open Cert.OutputFirstSampleReferenceIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- The reference's first result, of the kernel's arguments. -/
abbrev result : FVec Ideal S64x2048 .f32 :=
  val_main_v24 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The reference's second result, of the kernel's arguments. -/
abbrev normed : FVec Ideal S64x2048 .bf16 :=
  val_main_v38 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The residual row, the gate and the embedding that a grid point computes. -/
abbrev resid (t : Fin cfg0.N) : FVec Ideal S64x2048 .f32 := k0_pay3 (iblk m c 0 t) (iblk m c 1 t) (iblk m c 2 t) (iblk m c 3 t)
abbrev gates (t : Fin cfg0.N) : FVec Ideal S64x2048 .f32 := k0_pay4 (iblk m c 0 t) (iblk m c 1 t) (iblk m c 2 t) (iblk m c 3 t) (iblk m c 4 t)
abbrev embed (t : Fin cfg0.N) : FVec Ideal S64x256 .bf16 := k0_pay5 (iblk m c 5 t)
abbrev weights (t : Fin cfg0.N) : FVec Ideal S256x2048 .bf16 := k0_pay6 (iblk m c 6 t)

/-- What a grid point writes first is the result at its rows. -/
theorem point (t : Fin cfg0.N) (y : S64x2048.Idx) :
    k0_pay1 (resid m c t) (gates m c t) (embed m c t) (weights m c t) (constant S64x2048 .f32 0x00000000#32) y = result m c (((cfg0.win 8).blk t).view.emb y) := by
  pointwise [k0_pay1, k0_pay3, k0_pay4, k0_pay5, k0_pay6, resid, gates, embed, weights, result, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_cst_2, val_main_v18, val_main_v19, val_main_cst_3, val_main_v20, val_main_v21, val_main_v22, val_main_v23, val_main_v24, zero_sub]
  blk_point [iblk, V, idx t]

/-- The second payload norms the rows of the first. -/
theorem pay2 (x gt z : FVec Ideal S64x2048 .f32) (p : FVec Ideal S64x256 .bf16) (w : FVec Ideal S256x2048 .bf16) (g : Vec Ideal S1x2048 .f32) (r : Fin 64) (k : Fin 2048) :
    k0_pay2 x gt p w z g (ix2 r k) = k0_pay1 x gt p w z (ix2 r k)
      * Ideal.rsqrt (Ideal.div (∑ l : Fin 2048, k0_pay1 x gt p w z (ix2 r l) * k0_pay1 x gt p w z (ix2 r l)) (Ideal.ofBits .f32 0x45000000#32) + Ideal.ofBits .f32 0x358637BD#32)
      * g (ix2 0 k) := by
  pointwise [k0_pay1, k0_pay2]

/-- The reference's second result norms the rows of the first. -/
theorem normed_apply (r : Fin 64) (k : Fin 2048) :
    normed m c (ix2 r k) = result m c (ix2 r k)
      * Ideal.rsqrt (Ideal.div (∑ l : Fin 2048, result m c (ix2 r l) * result m c (ix2 r l)) (Ideal.ofBits .f32 0x45000000#32) + Ideal.ofBits .f32 0x358637BD#32)
      * m ((c : Thread nD τ).loc main_arg7) (ix1 k) := by
  pointwise [normed, val_main_v25, val_main_cst_4, val_main_v26, val_main_v27, val_main_cst_5, val_main_v28, val_main_v29, val_main_cst_6, val_main_v30, val_main_v31, val_main_v32, val_main_v33, val_main_v34, val_main_v35, val_main_v36, val_main_v37, val_main_v38]

theorem emb8 (t : Fin cfg0.N) (r : Fin 64) (k : Fin 2048) : ((cfg0.win 8).blk t).view.emb (ix2 r k) = ix2 r k := by
  blk_ext [idx t]

theorem emb9 (t : Fin cfg0.N) (r : Fin 64) (k : Fin 2048) : ((cfg0.win 9).blk t).view.emb (ix2 r k) = ix2 r k := by
  blk_ext [idx t]

theorem gain (t : Fin cfg0.N) (k : Fin 2048) : iblk m c 7 t (ix2 (0 : Fin 1) k) = m ((c : Thread nD τ).loc main_arg7) (ix1 k) := by
  blk_point [iblk, V, idx t]

/-- What a grid point writes first, by rows. -/
theorem pointRow (t : Fin cfg0.N) (r : Fin 64) (k : Fin 2048) :
    k0_pay1 (resid m c t) (gates m c t) (embed m c t) (weights m c t) (constant S64x2048 .f32 0x00000000#32) (ix2 r k) = result m c (ix2 r k) :=
  (point m c t (ix2 r k)).trans (congrArg _ (emb8 t r k))

/-- What a grid point writes second is the normed result at its rows. -/
theorem point2 (t : Fin cfg0.N) (r : Fin 64) (k : Fin 2048) :
    k0_pay2 (resid m c t) (gates m c t) (embed m c t) (weights m c t) (constant S64x2048 .f32 0x00000000#32) (iblk m c 7 t) (ix2 r k) = normed m c (((cfg0.win 9).blk t).view.emb (ix2 r k)) := by
  refine Eq.trans ?_ ((congrArg _ (emb9 t r k)).trans (normed_apply m c _ _)).symm
  refine (pay2 _ _ _ _ _ _ _ _).trans ?_
  refine congrArg₂ (· * ·) (congrArg₂ (· * ·) (pointRow m c t r k) ?_) (gain m c t k)
  refine congrArg (fun x : EReal => Ideal.rsqrt (Ideal.div x _ + _)) (Finset.sum_congr rfl fun l _ => ?_)
  exact congrArg₂ (· * ·) (pointRow m c t r l) (pointRow m c t r l)

/-- The first output array after the run. -/
theorem final : (dats m 0 c).arrAt 8 cfg0.N = result m c := by
  refine (dats m 0 c).arrAt_eq_of_covers 8 _ (by decide +kernel) fun t hf y => ?_
  blk_simp
  rw [after0_8]
  unfold_out out0_8
  frame_out
  exact point m c t y

/-- The second output array after the run. -/
theorem final_next : (dats m 0 c).arrAt 9 cfg0.N = normed m c := by
  refine (dats m 0 c).arrAt_eq_of_covers 9 _ (by decide +kernel) fun t hf y => ?_
  blk_simp
  rw [after0_9]
  unfold_out out0_9
  frame_out
  rw [eq_ix2 (n0 := 64) (n1 := 2048) y]
  exact point2 m c t (y 0) (y 1)

end Cert.OutputFirstSampleIdeal.Rows
-- ==== Proof.OutputNextSampleValue.lean ====
module

public import proofs.«01_k».proof.Proof.Gen.OutputNextSampleIdeal.Value
public import proofs.«01_k».proof.Proof.Gen.OutputNextSampleReferenceIdeal.Read
public import Idealize.ShloMosaic.Lib.Pipeline.ValueKit
public import Idealize.ShloMosaic.Lib.Pointwise

/-!
# The output projection after the state space module, with the next layer's norm, over the sample

One grid point writes the layer's result and the next layer's normed input.
-/

@[expose] public section

set_option maxRecDepth 16384

noncomputable section

namespace Cert.OutputNextSampleIdeal.Rows

open Cert.OutputNextSampleIdeal Cert.OutputNextSampleIdeal.Gen Idealize.ShloMosaic Idealize.ShloMosaic.TcCoe Idealize.SL.Sem Idealize.ShloMosaic.Tactic
open Cert.OutputNextSampleReferenceIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- The reference's first result, of the kernel's arguments. -/
abbrev result : FVec Ideal S64x2048 .f32 :=
  val_main_v24 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The reference's second result, of the kernel's arguments. -/
abbrev normed : FVec Ideal S64x2048 .bf16 :=
  val_main_v38 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The residual row, the gate and the embedding that a grid point computes. -/
abbrev resid (t : Fin cfg0.N) : FVec Ideal S64x2048 .f32 := k0_pay3 (iblk m c 0 t) (iblk m c 1 t) (iblk m c 2 t) (iblk m c 3 t)
abbrev gates (t : Fin cfg0.N) : FVec Ideal S64x2048 .f32 := k0_pay4 (iblk m c 0 t) (iblk m c 1 t) (iblk m c 2 t) (iblk m c 3 t) (iblk m c 4 t)
abbrev embed (t : Fin cfg0.N) : FVec Ideal S64x256 .bf16 := k0_pay5 (iblk m c 5 t)
abbrev weights (t : Fin cfg0.N) : FVec Ideal S256x2048 .bf16 := k0_pay6 (iblk m c 6 t)

/-- What a grid point writes first is the result at its rows. -/
theorem point (t : Fin cfg0.N) (y : S64x2048.Idx) :
    k0_pay1 (resid m c t) (gates m c t) (embed m c t) (weights m c t) (constant S64x2048 .f32 0x00000000#32) y = result m c (((cfg0.win 8).blk t).view.emb y) := by
  pointwise [k0_pay1, k0_pay3, k0_pay4, k0_pay5, k0_pay6, resid, gates, embed, weights, result, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_cst_2, val_main_v18, val_main_v19, val_main_cst_3, val_main_v20, val_main_v21, val_main_v22, val_main_v23, val_main_v24, zero_sub]
  blk_point [iblk, V, idx t]

/-- The second payload norms the rows of the first. -/
theorem pay2 (x gt z : FVec Ideal S64x2048 .f32) (p : FVec Ideal S64x256 .bf16) (w : FVec Ideal S256x2048 .bf16) (g : Vec Ideal S1x2048 .f32) (r : Fin 64) (k : Fin 2048) :
    k0_pay2 x gt p w z g (ix2 r k) = k0_pay1 x gt p w z (ix2 r k)
      * Ideal.rsqrt (Ideal.div (∑ l : Fin 2048, k0_pay1 x gt p w z (ix2 r l) * k0_pay1 x gt p w z (ix2 r l)) (Ideal.ofBits .f32 0x45000000#32) + Ideal.ofBits .f32 0x358637BD#32)
      * g (ix2 0 k) := by
  pointwise [k0_pay1, k0_pay2]

/-- The reference's second result norms the rows of the first. -/
theorem normed_apply (r : Fin 64) (k : Fin 2048) :
    normed m c (ix2 r k) = result m c (ix2 r k)
      * Ideal.rsqrt (Ideal.div (∑ l : Fin 2048, result m c (ix2 r l) * result m c (ix2 r l)) (Ideal.ofBits .f32 0x45000000#32) + Ideal.ofBits .f32 0x358637BD#32)
      * m ((c : Thread nD τ).loc main_arg7) (ix1 k) := by
  pointwise [normed, val_main_v25, val_main_cst_4, val_main_v26, val_main_v27, val_main_cst_5, val_main_v28, val_main_v29, val_main_cst_6, val_main_v30, val_main_v31, val_main_v32, val_main_v33, val_main_v34, val_main_v35, val_main_v36, val_main_v37, val_main_v38]

theorem emb8 (t : Fin cfg0.N) (r : Fin 64) (k : Fin 2048) : ((cfg0.win 8).blk t).view.emb (ix2 r k) = ix2 r k := by
  blk_ext [idx t]

theorem emb9 (t : Fin cfg0.N) (r : Fin 64) (k : Fin 2048) : ((cfg0.win 9).blk t).view.emb (ix2 r k) = ix2 r k := by
  blk_ext [idx t]

theorem gain (t : Fin cfg0.N) (k : Fin 2048) : iblk m c 7 t (ix2 (0 : Fin 1) k) = m ((c : Thread nD τ).loc main_arg7) (ix1 k) := by
  blk_point [iblk, V, idx t]

/-- What a grid point writes first, by rows. -/
theorem pointRow (t : Fin cfg0.N) (r : Fin 64) (k : Fin 2048) :
    k0_pay1 (resid m c t) (gates m c t) (embed m c t) (weights m c t) (constant S64x2048 .f32 0x00000000#32) (ix2 r k) = result m c (ix2 r k) :=
  (point m c t (ix2 r k)).trans (congrArg _ (emb8 t r k))

/-- What a grid point writes second is the normed result at its rows. -/
theorem point2 (t : Fin cfg0.N) (r : Fin 64) (k : Fin 2048) :
    k0_pay2 (resid m c t) (gates m c t) (embed m c t) (weights m c t) (constant S64x2048 .f32 0x00000000#32) (iblk m c 7 t) (ix2 r k) = normed m c (((cfg0.win 9).blk t).view.emb (ix2 r k)) := by
  refine Eq.trans ?_ ((congrArg _ (emb9 t r k)).trans (normed_apply m c _ _)).symm
  refine (pay2 _ _ _ _ _ _ _ _).trans ?_
  refine congrArg₂ (· * ·) (congrArg₂ (· * ·) (pointRow m c t r k) ?_) (gain m c t k)
  refine congrArg (fun x : EReal => Ideal.rsqrt (Ideal.div x _ + _)) (Finset.sum_congr rfl fun l _ => ?_)
  exact congrArg₂ (· * ·) (pointRow m c t r l) (pointRow m c t r l)

/-- The first output array after the run. -/
theorem final : (dats m 0 c).arrAt 8 cfg0.N = result m c := by
  refine (dats m 0 c).arrAt_eq_of_covers 8 _ (by decide +kernel) fun t hf y => ?_
  blk_simp
  rw [after0_8]
  unfold_out out0_8
  frame_out
  exact point m c t y

/-- The second output array after the run. -/
theorem final_next : (dats m 0 c).arrAt 9 cfg0.N = normed m c := by
  refine (dats m 0 c).arrAt_eq_of_covers 9 _ (by decide +kernel) fun t hf y => ?_
  blk_simp
  rw [after0_9]
  unfold_out out0_9
  frame_out
  rw [eq_ix2 (n0 := 64) (n1 := 2048) y]
  exact point2 m c t (y 0) (y 1)

end Cert.OutputNextSampleIdeal.Rows
-- ==== Proof.ProjectGateValue.lean ====
module

public import proofs.«01_k».proof.Proof.Gen.ProjectGateIdeal.Value
public import proofs.«01_k».proof.Proof.Gen.ProjectGateReferenceIdeal.Read
public import Idealize.ShloMosaic.Lib.Pipeline.ValueKit
public import Idealize.ShloMosaic.Lib.Pointwise

/-!
# The input projection

The same call with 4096 columns of weights: every grid point writes 512 rows and 2048 columns of the product.
-/

@[expose] public section

set_option maxRecDepth 16384

noncomputable section

namespace Cert.ProjectGateIdeal.Rows

open Cert.ProjectGateIdeal Cert.ProjectGateIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- The reference's product, of the kernel's arguments. -/
abbrev product (h : FVec Ideal S8192x2048 .bf16) (w : FVec Ideal S2048x4096 .f32) : FVec Ideal S8192x4096 .f32 :=
  Cert.ProjectGateReferenceIdeal.Read.val_main_v1 (F := Ideal) h w

/-- What a grid point writes is the product at its rows and columns. -/
theorem point (t : Fin cfg0.N) (y : S512x2048.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectGateReferenceIdeal.Read.val_main_v1, Cert.ProjectGateReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectGateIdeal.Rows
-- ==== Proof.ProjectStepValue.lean ====
module

public import proofs.«01_k».proof.Proof.Gen.ProjectStepIdeal.Value
public import proofs.«01_k».proof.Proof.Gen.ProjectStepReferenceIdeal.Read
public import Idealize.ShloMosaic.Lib.Pipeline.ValueKit
public import Idealize.ShloMosaic.Lib.Pointwise

/-!
# The input projection

The same call with 128 columns of weights: every grid point writes 512 rows of the product of the normed rows with the weights.
-/

@[expose] public section

set_option maxRecDepth 16384

noncomputable section

namespace Cert.ProjectStepIdeal.Rows

open Cert.ProjectStepIdeal Cert.ProjectStepIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The reference's product, of the kernel's arguments. -/
abbrev product (h : FVec Ideal S8192x2048 .bf16) (w : FVec Ideal S2048x128 .f32) : FVec Ideal S8192x128 .f32 :=
  Cert.ProjectStepReferenceIdeal.Read.val_main_v1 (F := Ideal) h w

/-- What a grid point writes is the product at its rows. -/
theorem point (t : Fin cfg0.N) (y : S512x128.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectStepReferenceIdeal.Read.val_main_v1, Cert.ProjectStepReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectStepIdeal.Rows
-- ==== Proof.ProjectWideSampleValue.lean ====
module

public import proofs.«01_k».proof.Proof.Gen.ProjectWideSampleIdeal.Value
public import proofs.«01_k».proof.Proof.Gen.ProjectWideSampleReferenceIdeal.Read
public import Idealize.ShloMosaic.Lib.Pipeline.ValueKit
public import Idealize.ShloMosaic.Lib.Pointwise

/-!
# The input projection

The same call with 6144 columns of weights, over the sample's 64 rows: every grid point writes 2048 columns of the product.
-/

@[expose] public section

set_option maxRecDepth 16384

noncomputable section

namespace Cert.ProjectWideSampleIdeal.Rows

open Cert.ProjectWideSampleIdeal Cert.ProjectWideSampleIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![0, 0] ∧ win0_1.index t = ![0, (grid0.coords t 0).val]
    ∧ win0_2.index t = ![0, (grid0.coords t 0).val] :=
  (by decide +kernel : ∀ t : Fin grid0.N, _)

/-- The reference's product, of the kernel's arguments. -/
abbrev product (h : FVec Ideal S64x2048 .bf16) (w : FVec Ideal S2048x6144 .f32) : FVec Ideal S64x6144 .f32 :=
  Cert.ProjectWideSampleReferenceIdeal.Read.val_main_v1 (F := Ideal) h w

/-- What a grid point writes is the product at its rows and columns. -/
theorem point (t : Fin cfg0.N) (y : S64x2048.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectWideSampleReferenceIdeal.Read.val_main_v1, Cert.ProjectWideSampleReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectWideSampleIdeal.Rows
-- ==== Proof.ProjectGateSampleValue.lean ====
module

public import proofs.«01_k».proof.Proof.Gen.ProjectGateSampleIdeal.Value
public import proofs.«01_k».proof.Proof.Gen.ProjectGateSampleReferenceIdeal.Read
public import Idealize.ShloMosaic.Lib.Pipeline.ValueKit
public import Idealize.ShloMosaic.Lib.Pointwise

/-!
# The input projection

The same call with 4096 columns of weights, over the sample's 64 rows: every grid point writes 2048 columns of the product.
-/

@[expose] public section

set_option maxRecDepth 16384

noncomputable section

namespace Cert.ProjectGateSampleIdeal.Rows

open Cert.ProjectGateSampleIdeal Cert.ProjectGateSampleIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![0, 0] ∧ win0_1.index t = ![0, (grid0.coords t 0).val]
    ∧ win0_2.index t = ![0, (grid0.coords t 0).val] :=
  (by decide +kernel : ∀ t : Fin grid0.N, _)

/-- The reference's product, of the kernel's arguments. -/
abbrev product (h : FVec Ideal S64x2048 .bf16) (w : FVec Ideal S2048x4096 .f32) : FVec Ideal S64x4096 .f32 :=
  Cert.ProjectGateSampleReferenceIdeal.Read.val_main_v1 (F := Ideal) h w

/-- What a grid point writes is the product at its rows and columns. -/
theorem point (t : Fin cfg0.N) (y : S64x2048.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectGateSampleReferenceIdeal.Read.val_main_v1, Cert.ProjectGateSampleReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectGateSampleIdeal.Rows
-- ==== Proof.ProjectStepSampleValue.lean ====
module

public import proofs.«01_k».proof.Proof.Gen.ProjectStepSampleIdeal.Value
public import proofs.«01_k».proof.Proof.Gen.ProjectStepSampleReferenceIdeal.Read
public import Idealize.ShloMosaic.Lib.Pipeline.ValueKit
public import Idealize.ShloMosaic.Lib.Pointwise

/-!
# The input projection

The same call with 128 columns of weights, over the sample's 64 rows, in one grid point.
-/

@[expose] public section

set_option maxRecDepth 16384

noncomputable section

namespace Cert.ProjectStepSampleIdeal.Rows

open Cert.ProjectStepSampleIdeal Cert.ProjectStepSampleIdeal.Gen Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The reference's product, of the kernel's arguments. -/
abbrev product (h : FVec Ideal S64x2048 .bf16) (w : FVec Ideal S2048x128 .f32) : FVec Ideal S64x128 .f32 :=
  Cert.ProjectStepSampleReferenceIdeal.Read.val_main_v1 (F := Ideal) h w

/-- What a grid point writes is the product at its rows. -/
theorem point (t : Fin cfg0.N) (y : S64x128.Idx) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.ProjectStepSampleReferenceIdeal.Read.val_main_v1, Cert.ProjectStepSampleReferenceIdeal.Read.val_main_v0]
  blk_point [iblk, V, idx t]

/-- The output array after the run. -/
theorem final : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.ProjectStepSampleIdeal.Rows
-- ==== Proof.NormSampleValue.lean ====
module

public import proofs.«01_k».proof.Proof.Gen.NormSampleIdeal.Value
public import proofs.«01_k».proof.Proof.Gen.NormSampleReferenceIdeal.Read
public import Idealize.ShloMosaic.Lib.Pipeline.ValueKit
public import Idealize.ShloMosaic.Lib.Pointwise

/-!
# The norm before the first layer, over the sample

One grid point norms the 64 rows.
-/

@[expose] public section

set_option maxRecDepth 16384

noncomputable section

namespace Cert.NormSampleIdeal.Rows

open Cert.NormSampleIdeal Cert.NormSampleIdeal.Gen Idealize.ShloMosaic Idealize.ShloMosaic.TcCoe Idealize.SL.Sem Idealize.ShloMosaic.Tactic
open Cert.NormSampleReferenceIdeal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The reference's normed rows, of the kernel's arguments. -/
abbrev normed (x : FVec Ideal S64x2048 .f32) (g : FVec Ideal S2048 .f32) : FVec Ideal S64x2048 .bf16 :=
  val_main_v13 (F := Ideal) x g

/-- What a grid point writes is the normed array at its rows. -/
theorem point (t : Fin cfg0.N) (y : S64x2048.Idx) : k0_pay1 (iblk m c 0 t) (iblk m c 1 t) y
    = normed (m ((c : Thread nD τ).loc main_arg0)) (m ((c : Thread nD τ).loc main_arg1)) (((cfg0.win 2).blk t).view.emb y) := by
  pointwise [k0_pay1, normed, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t]

/-- The output array after the run. -/
theorem final : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.NormSampleIdeal.Rows
-- ==== Proof.ConvSampleIdealRun.lean ====
module

public import proofs.«01_k».proof.Proof.Gen.ConvSampleIdeal.Frame
public import proofs.«01_k».proof.Proof.Gen.ConvSampleIdeal.Skeleton
public import Idealize.ShloMosaic.Lib.Exec
public import Idealize.ShloMosaic.Lib.WritesUnit
public import Idealize.ShloMosaic.Lib.Tactic
public import Idealize.ShloMosaic.Lib.Pipeline.Kit
public import Idealize.ShloMosaic.PureOps.BitExact

/-!
# One grid point of the convolution

The loop over the 16 column blocks, its trips one by one, and the whole body at a grid point.
-/

@[expose] public section

set_option maxRecDepth 8192
set_option maxHeartbeats 4000000

noncomputable section

namespace Cert.ConvSampleIdeal.Conv

open Cert.ConvSampleIdeal Cert.ConvSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- One trip of the loop: from any contents of the two buffers it writes, it leaves one column block of the accumulator. -/
def trip (𝒱 : Variants) (c : Dev nD) (bd : Option 𝒱.V) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole)
    (X6 : BufTy.Contents (Elt F) arg6.view.ty) (X7 : BufTy.Contents (Elt F) arg7.view.ty) (X12 : BufTy.Contents (Elt F) arg12.view.ty) (k : Fin k0_t1_loop.trips) :
    { Y : FVec F S8x128 .f32 // ∀ (E : Set ℕ) (f13 : BufTy.Contents (Elt F) arg13.view.ty) (f14 : BufTy.Contents (Elt F) arg14.view.ty),
      iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14))
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
          (fun _ => iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} (arg13.view.writes (Elt F) f13 [⟨Rect.unit (s := S8x2048) (k0_off41 k) S8x128.size (k0_off41_inb k), Y⟩])) ∗ (∃ g, (arg14.view.loc (c : Thread nD τ) ↦[arg14.view.set]{fullShare} g))) : PUnit → sProp (MT nD τ sig Unit (Elt F) ℕ (UR sig nD τ) ℕ)) } := by
  have hk : k.val < 16 := Nat.lt_of_lt_of_le k.isLt k0_t1_abs.2.1
  refine ⟨?_, fun E f13 f14 => ?run⟩
  case run =>
    unfold k0_t1_body
    iintro ⟨HR_arg6, HR_arg7, HR_arg12, HW_arg13, HW_arg14⟩
    sl_exec
    sl_step
    isplitl [HR_arg6]; · iexact HR_arg6
    isplitl [HR_arg7]; · iexact HR_arg7
    isplitl [HR_arg12]; · iexact HR_arg12
    isplitl [HW_arg13]; · iexact HW_arg13
    iexists _; iexact HW_arg14

/-- The staging history followed by the point's gated rows. -/
def rowsOf (h : Vec F S32x2048 .f32) (u : Vec F S8x2048 .f32) : Vec F S40x2048 .f32 := fun y =>
  if hy : (y 0).val < 32 then h (fun a => ⟨(y a).val, by revert a; exact Fin.forall_fin_two.mpr ⟨hy, (y 1).isLt⟩⟩)
  else u (fun a => ⟨(![(y 0).val - 32, (y 1).val] : Fin 2 → ℕ) a, by
    have h0 : (y 0).val < 40 := (y 0).isLt
    revert a; exact Fin.forall_fin_two.mpr ⟨show (y 0).val - 32 < 8 by omega, (y 1).isLt⟩⟩)

/-- Storing the history and then the gated rows leaves `rowsOf` of the two. -/
theorem rows_read (v : View sig .tc .vmem S40x2048 .f32) (f : v.ty.Contents (Elt F)) (h : Vec F S32x2048 .f32) (u : Vec F S8x2048 .f32) :
    v.read (Elt F) (v.writes (Elt F) f [⟨Rect.unit (s := S40x2048) ![32, 0] S8x2048.size inb_S40x2048_S8x2048_32_0, u⟩,
      ⟨Rect.unit (s := S40x2048) ![0, 0] S32x2048.size inb_S40x2048_S32x2048_0_0, h⟩]) = rowsOf h u := by
  funext y
  have h0 : (y 0).val < 40 := (y 0).isLt
  unfold rowsOf
  split
  · next hy =>
    refine (View.read_writes_cons_rows_of_not_mem (o := 32) (W := 8) v f inb_S40x2048_S8x2048_32_0 u _ y rfl rfl (Or.inl hy)).trans ?_
    exact View.read_writes_cons_rows_of_mem (o := 0) v f _ h _ y _ rfl (Nat.zero_add _).symm rfl
  · next hy =>
    exact View.read_writes_cons_rows_of_mem (o := 32) v f _ u _ y _ rfl (show (y 0).val = 32 + ((y 0).val - 32) by omega) rfl

theorem trips_eq : k0_t1_loop.trips = 16 := by decide +kernel

/-- The accumulator after the loop: each column block as its trip leaves it. -/
def accOf (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (x4 : Vec F S31x2048 .f32) (x5 : Vec F S1x2048 .f32) (e : Vec F S40x2048 .f32) : Vec F S8x2048 .f32 := fun y =>
  (trip Variants.none c none i arg2 harg2 arg3 harg3 arg4 harg4 arg5 harg5 arg6 harg6 arg7 harg7 arg8 harg8 arg9 harg9 arg10 harg10 arg11 harg11 arg12 harg12 arg13 harg13 arg14 harg14 (harg6.unread x4) (harg7.unread x5) (harg12.unread e)
    ⟨(y 1).val / 128, by have h1 : (y 1).val < 2048 := (y 1).isLt; rw [trips_eq]; omega⟩).1
    (fun a => ⟨(![(y 0).val, (y 1).val % 128] : Fin 2 → ℕ) a, by
      revert a; exact Fin.forall_fin_two.mpr ⟨(y 0).isLt, Nat.mod_lt _ (by decide)⟩⟩)

/-- Before trip `k`: the accumulator's first `k` column blocks are done. -/
def inv (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (x4 : Vec F S31x2048 .f32) (x5 : Vec F S1x2048 .f32) (e : Vec F S40x2048 .f32) (k : ℕ) (_ : PUnit) : sProp (MT nD τ sig Unit (Elt F) ℕ (UR sig nD τ) ℕ) :=
  iprop((arg6.view.loc (c : Thread nD τ) ↦[arg6.view.set]{fullShare} harg6.unread x4) ∗ (arg7.view.loc (c : Thread nD τ) ↦[arg7.view.set]{fullShare} harg7.unread x5) ∗ (arg12.view.loc (c : Thread nD τ) ↦[arg12.view.set]{fullShare} harg12.unread e) ∗ (∃ f, ⌜∀ y : S8x2048.Idx, (y 1).val < 128 * k → arg13.view.read (Elt F) f y = accOf c i arg2 harg2 arg3 harg3 arg4 harg4 arg5 harg5 arg6 harg6 arg7 harg7 arg8 harg8 arg9 harg9 arg10 harg10 arg11 harg11 arg12 harg12 arg13 harg13 arg14 harg14 x4 x5 e y⌝ ∗ (arg13.view.loc (c : Thread nD τ) ↦[arg13.view.set]{fullShare} f)) ∗ (∃ g, arg14.view.loc (c : Thread nD τ) ↦[arg14.view.set]{fullShare} g))

theorem step_read (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (x4 : Vec F S31x2048 .f32) (x5 : Vec F S1x2048 .f32) (e : Vec F S40x2048 .f32) (k : Fin k0_t1_loop.trips)
    (f : arg13.view.ty.Contents (Elt F)) (hf : ∀ y : S8x2048.Idx, (y 1).val < 128 * k.val → arg13.view.read (Elt F) f y = accOf c i arg2 harg2 arg3 harg3 arg4 harg4 arg5 harg5 arg6 harg6 arg7 harg7 arg8 harg8 arg9 harg9 arg10 harg10 arg11 harg11 arg12 harg12 arg13 harg13 arg14 harg14 x4 x5 e y)
    (y : S8x2048.Idx) (hy : (y 1).val < 128 * (k.val + 1)) :
    arg13.view.read (Elt F) (arg13.view.writes (Elt F) f [⟨Rect.unit (s := S8x2048) (k0_off41 k) S8x128.size (k0_off41_inb k),
      (trip Variants.none c none i arg2 harg2 arg3 harg3 arg4 harg4 arg5 harg5 arg6 harg6 arg7 harg7 arg8 harg8 arg9 harg9 arg10 harg10 arg11 harg11 arg12 harg12 arg13 harg13 arg14 harg14 (harg6.unread x4) (harg7.unread x5) (harg12.unread e) k).1⟩]) y = accOf c i arg2 harg2 arg3 harg3 arg4 harg4 arg5 harg5 arg6 harg6 arg7 harg7 arg8 harg8 arg9 harg9 arg10 harg10 arg11 harg11 arg12 harg12 arg13 harg13 arg14 harg14 x4 x5 e y := by
  by_cases hk : (y 1).val < 128 * k.val
  · rw [View.read_writes_cons_unit_of_not_mem arg13.view f (k0_off41_inb k) _ [] y (k0_off41_eq k) 1 (Or.inl hk)]
    exact hf y hk
  · have hq : (y 1).val / 128 = k.val := by omega
    rw [View.read_writes_cons_unit_of_mem arg13.view f (k0_off41_inb k) _ [] y (fun a => ⟨(![(y 0).val, (y 1).val % 128] : Fin 2 → ℕ) a, by
      revert a; exact Fin.forall_fin_two.mpr ⟨(y 0).isLt, Nat.mod_lt _ (by decide)⟩⟩) (k0_off41_eq k)
      (Fin.forall_fin_two.mpr ⟨(Nat.zero_add _).symm, show (y 1).val = 128 * k.val + (y 1).val % 128 by omega⟩)]
    unfold accOf
    have hk' : k = ⟨(y 1).val / 128, by rw [hq]; exact k.isLt⟩ := Fin.ext hq.symm
    exact congrArg (fun k' => (trip Variants.none c none i arg2 harg2 arg3 harg3 arg4 harg4 arg5 harg5 arg6 harg6 arg7 harg7 arg8 harg8 arg9 harg9 arg10 harg10 arg11 harg11 arg12 harg12 arg13 harg13 arg14 harg14 (harg6.unread x4) (harg7.unread x5) (harg12.unread e) k').1
      (fun a => ⟨(![(y 0).val, (y 1).val % 128] : Fin 2 → ℕ) a, by
        revert a; exact Fin.forall_fin_two.mpr ⟨(y 0).isLt, Nat.mod_lt _ (by decide)⟩⟩)) hk'

/-- Each trip keeps the invariant. -/
theorem inv_step (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (x4 : Vec F S31x2048 .f32) (x5 : Vec F S1x2048 .f32) (e : Vec F S40x2048 .f32) (E : Set ℕ) (k : Fin k0_t1_loop.trips) :
    inv c i arg2 harg2 arg3 harg3 arg4 harg4 arg5 harg5 arg6 harg6 arg7 harg7 arg8 harg8 arg9 harg9 arg10 harg10 arg11 harg11 arg12 harg12 arg13 harg13 arg14 harg14 x4 x5 e k.val PUnit.unit ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 k PUnit.unit)
      (inv c i arg2 harg2 arg3 harg3 arg4 harg4 arg5 harg5 arg6 harg6 arg7 harg7 arg8 harg8 arg9 harg9 arg10 harg10 arg11 harg11 arg12 harg12 arg13 harg13 arg14 harg14 x4 x5 e (k.val + 1)) := by
  unfold inv
  iintro ⟨H6, H7, H12, ⟨%f, %hf, H13⟩, ⟨%g, H14⟩⟩
  iapply (wp_wand_r Idealize.ShloMosaic.frame (wpE (defs₀ (F := F)) Variants.none (c : Thread nD τ) none) E)
  isplitl [H6 H7 H12 H13 H14]
  · iapply ((trip (F := F) Variants.none c none i arg2 harg2 arg3 harg3 arg4 harg4 arg5 harg5 arg6 harg6 arg7 harg7 arg8 harg8 arg9 harg9 arg10 harg10 arg11 harg11 arg12 harg12 arg13 harg13 arg14 harg14 (harg6.unread x4) (harg7.unread x5) (harg12.unread e) k).2 E f g)
    isplitl [H6]; · iexact H6
    isplitl [H7]; · iexact H7
    isplitl [H12]; · iexact H12
    isplitl [H13]; · iexact H13
    iexact H14
  iintro %_ ⟨H6, H7, H12, H13, ⟨%g', H14⟩⟩
  isplitl [H6]; · iexact H6
  isplitl [H7]; · iexact H7
  isplitl [H12]; · iexact H12
  isplitl [H13]
  · iexists _; isplitr
    swap; · iexact H13
    ipureintro; exact step_read c i arg2 harg2 arg3 harg3 arg4 harg4 arg5 harg5 arg6 harg6 arg7 harg7 arg8 harg8 arg9 harg9 arg10 harg10 arg11 harg11 arg12 harg12 arg13 harg13 arg14 harg14 x4 x5 e k f hf
  iexists _; iexact H14

set_option maxHeartbeats 4000000 in
/-- The body at a grid point: what it leaves in the two outputs, as pieces, and that it runs to them. -/
noncomputable def run (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (hc0 : (Scalar.cmpi .ne (Scalar.extui (Scalar.cmpi .eq (BitVec.ofNat 32 (i 1).val) 0#32)) 0#32) = 1#1) (hc1 : k0_cond2 i = 1#1) (x0 : Vec F S8x2048 .f32) (x1 : Vec F S8x2048 .f32) (x2 : Vec F S8x2048 .f32) (x3 : Vec F S1x32x2048 .f32) (x4 : Vec F S31x2048 .f32) (x5 : Vec F S1x2048 .f32) (x6 : Vec F S1x2048 .f32) (x7 : Vec F S1x2048 .f32) :
    Σ' (L8 : List (View.Piece (Elt F) S8x2048 .f32)), { L9 : List (View.Piece (Elt F) S1x30x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_conv_module i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_conv_module_eq_skeleton]; unfold cc0_conv_module_skel
    simp only [k0_part7_eq_skeleton]; unfold k0_part7_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    ihave HE := (Entails.of_eq (congrArg (fun f => (arg12.view.loc (c : Thread nD τ) ↦[arg12.view.set]{fullShare} f : sProp (MT nD τ sig Unit (Elt F) ℕ (UR sig nD τ) ℕ))) (harg12.eq_unread (rows_read arg12.view f10 _ _)))) $$ H10
    simp only [bind_assoc]
    sl_for (inv c i arg2 harg2 arg3 harg3 arg4 harg4 arg5 harg5 arg6 harg6 arg7 harg7 arg8 harg8 arg9 harg9 arg10 harg10 arg11 harg11 arg12 harg12 arg13 harg13 arg14 harg14 x4 x5 (rowsOf (k0_pay20 (View.readAt (Elt F) arg5.view (Rect.unit (s := S1x32x2048) ![0, 0, 0] S1x32x2048.size inb_S1x32x2048_S1x32x2048_0_0_0).toLoadRect (harg5.unread x3)))
      (k0_pay21 (View.readAt (Elt F) arg2.view (Rect.unit (s := S8x2048) ![0, 0] S8x2048.size inb_S8x2048_S8x2048_0_0).toLoadRect (harg2.unread x0)) (View.readAt (Elt F) arg3.view (Rect.unit (s := S8x2048) ![0, 0] S8x2048.size inb_S8x2048_S8x2048_0_0).toLoadRect (harg3.unread x1))))) $$ [H4 H5 HE H11 H12]
    case region =>
      intro k _
      exact inv_step c i arg2 harg2 arg3 harg3 arg4 harg4 arg5 harg5 arg6 harg6 arg7 harg7 arg8 harg8 arg9 harg9 arg10 harg10 arg11 harg11 arg12 harg12 arg13 harg13 arg14 harg14 x4 x5 _ E k
    · unfold inv
      isplitl [H4]; · iexact H4
      isplitl [H5]; · iexact H5
      isplitl [HE]; · iexact HE
      isplitl [H11]
      · iexists _; isplitr
        swap; · iexact H11
        ipureintro; exact fun y hy => absurd hy (by omega)
      iexists _; iexact H12
    iintro %_ HI
    unfold inv
    icases HI with ⟨H4, H5, HE, ⟨%f, %hf, H11⟩, ⟨%g, H12⟩⟩
    obtain rfl := harg13.eq_unread (funext fun y => hf y (show (y 1).val < 128 * k0_t1_loop.trips by rw [trips_eq]; exact (y 1).isLt))
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HE]
    · iexists _, _; isplitr; swap; · iexact HE
      ipureintro; rfl
    isplitl [H11]
    · iexists _, _; isplitr; swap; · iexact H11
      ipureintro; rfl
    iexists _, _; isplitr; swap; · iexact H12
    ipureintro; rfl

end Cert.ConvSampleIdeal.Conv
-- ==== Proof.ConvSampleIdealFrame.lean ====
module

public import proofs.«01_k».proof.Proof.ConvSampleIdealRun
public import Idealize.ShloMosaic.Lib.Pipeline.FrameBody
public import Idealize.ShloMosaic.Lib.Ring
public import Idealize.ShloMosaic.Lib.WordCmp
public import Idealize.ShloMosaic.Lib.Claim

/-!
# The convolution's grid, point by point

Every point stages its blocks, runs the body, and leaves the arguments as they were.
-/

@[expose] public section

set_option maxRecDepth 16384

noncomputable section

namespace Cert.ConvSampleIdeal.Conv

open Cert.ConvSampleIdeal Cert.ConvSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The first branch's condition at a point. -/
abbrev C0 (i : grid0.Coords) : Prop := (Scalar.cmpi .ne (Scalar.extui (Scalar.cmpi .eq (BitVec.ofNat 32 (i 1).val) 0#32)) 0#32) = 1#1
theorem hc0_all : ∀ t : Fin cfg0.N, C0 (grid0.coords t) :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [C0, e0, e1]
    word_cmp
   : ∀ t : Fin grid0.N, C0 (grid0.coords t))

/-- The second branch's condition at a point. -/
abbrev C1 (i : grid0.Coords) : Prop := k0_cond2 i = 1#1
theorem hc1_all : ∀ t : Fin cfg0.N, C1 (grid0.coords t) :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [C1, k0_cond2, e0, e1]
    word_cmp
   : ∀ t : Fin grid0.N, C1 (grid0.coords t))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, C0 (grid0.coords t) → C1 (grid0.coords t) → cfg0.idle 9 (grid0.coords t) = false := by decide +kernel

abbrev vout8 : View sig .tc .vmem S8x2048 .f32 := (Memref.whole cc0_stg8_0 : Memref sig .tc .vmem S8x2048 .f32).view
abbrev vout9 : View sig .tc .vmem S1x30x2048 .f32 := (Memref.whole cc0_stg9_0 : Memref sig .tc .vmem S1x30x2048 .f32).view
abbrev stg0 (t : Fin cfg0.N) : Memref sig .tc .vmem S8x2048 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S8x2048 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S8x2048 .f32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x32x2048 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S31x2048 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x2048 .f32 := win0_5.stage (cfg0.slots t 5)
abbrev whole5 (t : Fin cfg0.N) : (stg5 t).IsWhole := hstage0_5 ((cfg0.slots t 5).cast nbuf0_5)
abbrev stg6 (t : Fin cfg0.N) : Memref sig .tc .vmem S1x2048 .f32 := win0_6.stage (cfg0.slots t 6)
abbrev whole6 (t : Fin cfg0.N) : (stg6 t).IsWhole := hstage0_6 ((cfg0.slots t 6).cast nbuf0_6)
abbrev stg7 (t : Fin cfg0.N) : Memref sig .tc .vmem S1x2048 .f32 := win0_7.stage (cfg0.slots t 7)
abbrev whole7 (t : Fin cfg0.N) : (stg7 t).IsWhole := hstage0_7 ((cfg0.slots t 7).cast nbuf0_7)
abbrev stg8 (t : Fin cfg0.N) : Memref sig .tc .vmem S8x2048 .f32 := win0_8.stage (cfg0.slots t 8)
abbrev whole8 (t : Fin cfg0.N) : (stg8 t).IsWhole := hstage0_8 ((cfg0.slots t 8).cast nbuf0_8)
abbrev stg9 (t : Fin cfg0.N) : Memref sig .tc .vmem S1x30x2048 .f32 := win0_9.stage (cfg0.slots t 9)
abbrev whole9 (t : Fin cfg0.N) : (stg9 t).IsWhole := hstage0_9 ((cfg0.slots t 9).cast nbuf0_9)
abbrev scr0 : Memref sig .tc .vmem S40x2048 .f32 := Memref.whole cc0_scratch0
abbrev scr1 : Memref sig .tc .vmem S8x2048 .f32 := Memref.whole cc0_scratch1
abbrev scr2 : Memref sig .tc .vmem S40x128 .f32 := Memref.whole cc0_scratch2

/-- What is held between the points: the three scratch buffers at some contents. -/
theorem inv_eq (c : Dev nD) :
    (Pipeline.ΦA spec0 c : sProp (MT nD τ sig Unit (Elt F) ℕ (UR sig nD τ) ℕ))
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The stores into the first output fill it. -/
theorem cover8 (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (hc0 : C0 i) (hc1 : C1 i)
    (x0 : Vec F S8x2048 .f32) (x1 : Vec F S8x2048 .f32) (x2 : Vec F S8x2048 .f32) (x3 : Vec F S1x32x2048 .f32) (x4 : Vec F S31x2048 .f32) (x5 : Vec F S1x2048 .f32) (x6 : Vec F S1x2048 .f32) (x7 : Vec F S1x2048 .f32) (y : S8x2048.Idx) :
    ∃ pc ∈ (run c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S8x2048.size (by sl_kernel_rfl) y

/-- What a point leaves in the first output. -/
def out8 (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (hc0 : C0 i) (hc1 : C1 i)
    (x0 : Vec F S8x2048 .f32) (x1 : Vec F S8x2048 .f32) (x2 : Vec F S8x2048 .f32) (x3 : Vec F S1x32x2048 .f32) (x4 : Vec F S31x2048 .f32) (x5 : Vec F S1x2048 .f32) (x6 : Vec F S1x2048 .f32) (x7 : Vec F S1x2048 .f32) : Vec F S8x2048 .f32 :=
  vout8.read (Elt F) (vout8.writes (Elt F) vout8.junk (run c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)

/-- The stores into the second output fill it. -/
theorem cover9 (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (hc0 : C0 i) (hc1 : C1 i)
    (x0 : Vec F S8x2048 .f32) (x1 : Vec F S8x2048 .f32) (x2 : Vec F S8x2048 .f32) (x3 : Vec F S1x32x2048 .f32) (x4 : Vec F S31x2048 .f32) (x5 : Vec F S1x2048 .f32) (x6 : Vec F S1x2048 .f32) (x7 : Vec F S1x2048 .f32) (y : S1x30x2048.Idx) :
    ∃ pc ∈ (run c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL (run c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 S1x30x2048.size (by sl_kernel_rfl) y

/-- What a point leaves in the second output. -/
def out9 (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (hc0 : C0 i) (hc1 : C1 i)
    (x0 : Vec F S8x2048 .f32) (x1 : Vec F S8x2048 .f32) (x2 : Vec F S8x2048 .f32) (x3 : Vec F S1x32x2048 .f32) (x4 : Vec F S31x2048 .f32) (x5 : Vec F S1x2048 .f32) (x6 : Vec F S1x2048 .f32) (x7 : Vec F S1x2048 .f32) : Vec F S1x30x2048 .f32 :=
  vout9.read (Elt F) (vout9.writes (Elt F) vout9.junk (run c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)

/-- Both outputs after a point. -/
def outs (c : Dev nD) (t : Fin cfg0.N) : Vec F S8x2048 .f32 × Vec F S1x30x2048 .f32 :=
  (out8 c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) scr0 (Memref.isWhole_whole _) scr1 (Memref.isWhole_whole _) scr2 (Memref.isWhole_whole _) (hc0_all t) (hc1_all t) (iblk m c 0 t) (iblk m c 1 t) (iblk m c 2 t) (iblk m c 3 t) (iblk m c 4 t) (iblk m c 5 t) (iblk m c 6 t) (iblk m c 7 t), out9 c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) scr0 (Memref.isWhole_whole _) scr1 (Memref.isWhole_whole _) scr2 (Memref.isWhole_whole _) (hc0_all t) (hc1_all t) (iblk m c 0 t) (iblk m c 1 t) (iblk m c 2 t) (iblk m c 3 t) (iblk m c 4 t) (iblk m c 5 t) (iblk m c 6 t) (iblk m c 7 t))

/-- The arrays before the run and the staging buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t).1
    | ⟨9, _⟩ => (outs m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t).1 := by dsimp only [dats]
theorem after0_9 (c : Dev nD) (t : Fin cfg0.N) : (dats m 0 c).after 9 t = (outs m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

/-- What the body returns. -/
def post (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1200000 in
/-- The body at any point. -/
theorem sound_body (c : Dev nD) (t : Fin cfg0.N) :
    pre m c t ⊢ wp frame (wpE (defs₀ (F := F)) Variants.none c none) Set.univ (bodyAt0 t) (fun _ => post m c t) := by
  unfold pre post bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, inv_eq]
  rw [show (dats m 0 c).leavesExact 0 t = owns (c : Thread nD τ) (stg0 t) fullShare ((dats m 0 c).after 0 t) from by
      unfold Dat.leavesExact; rw [liveAt0_0 t], after0_0]
  rw [show (dats m 0 c).leavesExact 1 t = owns (c : Thread nD τ) (stg1 t) fullShare ((dats m 0 c).after 1 t) from by
      unfold Dat.leavesExact; rw [liveAt0_1 t], after0_1]
  rw [show (dats m 0 c).leavesExact 2 t = owns (c : Thread nD τ) (stg2 t) fullShare ((dats m 0 c).after 2 t) from by
      unfold Dat.leavesExact; rw [liveAt0_2 t], after0_2]
  rw [show (dats m 0 c).leavesExact 3 t = owns (c : Thread nD τ) (stg3 t) fullShare ((dats m 0 c).after 3 t) from by
      unfold Dat.leavesExact; rw [liveAt0_3 t], after0_3]
  rw [show (dats m 0 c).leavesExact 4 t = owns (c : Thread nD τ) (stg4 t) fullShare ((dats m 0 c).after 4 t) from by
      unfold Dat.leavesExact; rw [liveAt0_4 t], after0_4]
  rw [show (dats m 0 c).leavesExact 5 t = owns (c : Thread nD τ) (stg5 t) fullShare ((dats m 0 c).after 5 t) from by
      unfold Dat.leavesExact; rw [liveAt0_5 t], after0_5]
  rw [show (dats m 0 c).leavesExact 6 t = owns (c : Thread nD τ) (stg6 t) fullShare ((dats m 0 c).after 6 t) from by
      unfold Dat.leavesExact; rw [liveAt0_6 t], after0_6]
  rw [show (dats m 0 c).leavesExact 7 t = owns (c : Thread nD τ) (stg7 t) fullShare ((dats m 0 c).after 7 t) from by
      unfold Dat.leavesExact; rw [liveAt0_7 t], after0_7]
  rw [show (dats m 0 c).leavesExact 8 t = owns (c : Thread nD τ) (stg8 t) fullShare ((dats m 0 c).after 8 t) from by
      unfold Dat.leavesExact; rw [liveAt0_8 t], after0_8]
  rw [show (dats m 0 c).leavesExact 9 t = owns (c : Thread nD τ) (stg9 t) fullShare ((dats m 0 c).after 9 t) from by
      unfold Dat.leavesExact; rw [liveAt0_9 t (hc0_all t) (hc1_all t)], after0_9]
  unfold outs
  unfold out8 out9; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid0.coords t) _ _ _ _ _ _ _ _ _ _ _ _ _ _ _ _ _ _ _ _ _ _ _ _ _ _ (hc0_all t) (hc1_all t) (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, ⟨%e8, H8⟩, ⟨%e9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover9 c _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- Every point runs. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run, its counters included. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run, up to what it leaves in every array. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The run ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ConvSampleIdeal.Conv
-- ==== Proof.ConvSampleTaps.lean ====
module

public import proofs.«01_k».proof.Proof.ConvSampleIdealRun
public import Idealize.ShloMosaic.Lib.Pipeline.ValueKit
public import Idealize.ShloMosaic.Lib.Pointwise
public import Idealize.ShloMosaic.Lib.WholeRead
public import Idealize.ShloMosaic.Lib.WritesUnit

/-!
# One column block of the convolution

A trip of the kernel's loop computes 128 channels of the convolution: the bias, and the 31 taps in the order of their
residues modulo the sublane count, each read back from the scratch window.
-/

@[expose] public section

set_option maxRecDepth 16384

noncomputable section

namespace Cert.ConvSampleIdeal.Conv

open Cert.ConvSampleIdeal Cert.ConvSampleIdeal.Gen Idealize.ShloMosaic Idealize.ShloMosaic.TcCoe Idealize.SL.Sem Idealize.ShloMosaic.Tactic

/-- The channel of lane `l` of trip `k`. -/
def col (k : Fin k0_t1_loop.trips) (l : Fin 128) : Fin 2048 :=
  ⟨128 * k.val + l.val, by have := k.isLt; have e : k0_t1_loop.trips = 16 := trips_eq; omega⟩

/-- A load of rows of a whole two-axis buffer held at what reads `X`. -/
theorem ld_rows {d0 n : ℕ} (g : Memref sig .tc .vmem (⟨2, ![d0, 2048]⟩ : Shape) .f32) (hg : g.IsWhole) (X : Vec Ideal (⟨2, ![d0, 2048]⟩ : Shape) .f32)
    (k : Fin k0_t1_loop.trips) (off : Fin 2 → ℕ) (inb : ∀ a, off a + (⟨2, ![n, 128]⟩ : Shape).size a ≤ (⟨2, ![d0, 2048]⟩ : Shape).size a) (o : ℕ) (hoff : off = ![o, 128 * k.val])
    (a : Fin n) (l : Fin 128) (b : Fin d0) (hb : b.val = o + a.val) :
    View.readAt (Elt Ideal) g.view (Rect.unit (s := (⟨2, ![d0, 2048]⟩ : Shape)) off (⟨2, ![n, 128]⟩ : Shape).size inb).toLoadRect (hg.unread X) (ix2 a l) = X (ix2 b (col k l)) := by
  subst hoff
  rw [hg.readAt_unread]
  refine congrArg X (funext (Fin.forall_fin_two.mpr ⟨Fin.ext ?_, Fin.ext ?_⟩))
  · simp only [Rect.unit]; simp [hb, ix2, Rect.toLoadRect]
  · simp only [Rect.unit]; simp [col, ix2, Rect.toLoadRect]

/-- A load of eight-row-aligned rows of the window reads the rows last stored at its head. -/
theorem back {n : ℕ} (g : Memref sig .tc .vmem S40x128 .f32) (inb0 : ∀ a, (![0, 0] : Fin 2 → ℕ) a + (⟨2, ![n, 128]⟩ : Shape).size a ≤ S40x128.size a)
    (w : Vec Ideal (⟨2, ![n, 128]⟩ : Shape) .f32) (L : List (View.Piece (Elt Ideal) S40x128 .f32)) (q : ℕ) (inb : ∀ a, (![q, 0] : Fin 2 → ℕ) a + S8x128.size a ≤ S40x128.size a)
    (r : Fin 8) (l : Fin 128) (b : Fin n) (hb : b.val = q + r.val) :
    View.readCov (Val := Elt Ideal) g.view (⟨Rect.unit (s := S40x128) ![0, 0] (⟨2, ![n, 128]⟩ : Shape).size inb0, w⟩ :: L) (Rect.unit (s := S40x128) ![q, 0] S8x128.size inb).toLoadRect (ix2 r l) = w (ix2 b l) := by
  refine View.read_writes_cons_rows_of_mem (o := 0) g.view g.view.junk inb0 w L _ (ix2 b l) rfl ?_ ?_
  · simp only [Rect.unit]; simp [hb, ix2, Rect.toLoadRect]
  · simp only [Rect.unit]; simp [ix2, Rect.toLoadRect]

theorem stored1 (w : Vec Ideal S32x128 .f32) (b : Fin 32) (l : Fin 128) : k0_pay4 w (ix2 b l) = w (ix2 b l) := by
  pointwise [k0_pay4]

theorem stored2 (w : Vec Ideal S24x128 .f32) (b : Fin 24) (l : Fin 128) : k0_pay6 w (ix2 b l) = w (ix2 b l) := by
  pointwise [k0_pay6]

theorem stored3 (w : Vec Ideal S32x128 .f32) (b : Fin 32) (l : Fin 128) : k0_pay7 w (ix2 b l) = w (ix2 b l) := by
  pointwise [k0_pay7]

theorem stored4 (w : Vec Ideal S32x128 .f32) (b : Fin 32) (l : Fin 128) : k0_pay9 w (ix2 b l) = w (ix2 b l) := by
  pointwise [k0_pay9]

theorem stored5 (w : Vec Ideal S32x128 .f32) (b : Fin 32) (l : Fin 128) : k0_pay12 w (ix2 b l) = w (ix2 b l) := by
  pointwise [k0_pay12]

theorem stored6 (w : Vec Ideal S32x128 .f32) (b : Fin 32) (l : Fin 128) : k0_pay14 w (ix2 b l) = w (ix2 b l) := by
  pointwise [k0_pay14]

theorem stored7 (w : Vec Ideal S32x128 .f32) (b : Fin 32) (l : Fin 128) : k0_pay15 w (ix2 b l) = w (ix2 b l) := by
  pointwise [k0_pay15]

theorem stored8 (w : Vec Ideal S32x128 .f32) (b : Fin 32) (l : Fin 128) : k0_pay17 w (ix2 b l) = w (ix2 b l) := by
  pointwise [k0_pay17]

variable (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole)

variable (x4 : Vec Ideal S31x2048 .f32) (x5 : Vec Ideal S1x2048 .f32) (e : Vec Ideal S40x2048 .f32) (k : Fin k0_t1_loop.trips) (r : Fin 8) (l : Fin 128)

theorem tap6 : trip.sl.v80 arg12 arg14 (harg12.unread e) k (ix2 r l) = e (ix2 ⟨8 + r.val, by omega⟩ (col k l)) := by
  unfold trip.sl.v80 trip.sl.HW_arg14_1
  refine (back arg14 _ _ _ 0 _ r l ⟨0 + r.val, by omega⟩ rfl).trans ((stored1 _ _ _).trans ?_)
  exact ld_rows arg12 harg12 e k _ _ 8 (k0_off2_eq k) _ l _ (by simp only []; omega)

theorem weight6 : View.readAt (Elt Ideal) arg6.view (Rect.unit (s := S31x2048) (k0_off3 k) S1x128.size (k0_off3_inb k)).toLoadRect (harg6.unread x4) (ix2 0 l) = x4 (ix2 6 (col k l)) :=
  ld_rows arg6 harg6 x4 k _ _ 6 (k0_off3_eq k) 0 l _ rfl

theorem tap14 : trip.sl.v86 arg12 arg14 (harg12.unread e) k (ix2 r l) = e (ix2 ⟨16 + r.val, by omega⟩ (col k l)) := by
  unfold trip.sl.v86 trip.sl.HW_arg14_1
  refine (back arg14 _ _ _ 8 _ r l ⟨8 + r.val, by omega⟩ rfl).trans ((stored1 _ _ _).trans ?_)
  exact ld_rows arg12 harg12 e k _ _ 8 (k0_off2_eq k) _ l _ (by simp only []; omega)

theorem weight14 : View.readAt (Elt Ideal) arg6.view (Rect.unit (s := S31x2048) (k0_off4 k) S1x128.size (k0_off4_inb k)).toLoadRect (harg6.unread x4) (ix2 0 l) = x4 (ix2 14 (col k l)) :=
  ld_rows arg6 harg6 x4 k _ _ 14 (k0_off4_eq k) 0 l _ rfl

theorem tap22 : trip.sl.v92 arg12 arg14 (harg12.unread e) k (ix2 r l) = e (ix2 ⟨24 + r.val, by omega⟩ (col k l)) := by
  unfold trip.sl.v92 trip.sl.HW_arg14_1
  refine (back arg14 _ _ _ 16 _ r l ⟨16 + r.val, by omega⟩ rfl).trans ((stored1 _ _ _).trans ?_)
  exact ld_rows arg12 harg12 e k _ _ 8 (k0_off2_eq k) _ l _ (by simp only []; omega)

theorem weight22 : View.readAt (Elt Ideal) arg6.view (Rect.unit (s := S31x2048) (k0_off5 k) S1x128.size (k0_off5_inb k)).toLoadRect (harg6.unread x4) (ix2 0 l) = x4 (ix2 22 (col k l)) :=
  ld_rows arg6 harg6 x4 k _ _ 22 (k0_off5_eq k) 0 l _ rfl

theorem tap30 : trip.sl.v98 arg12 arg14 (harg12.unread e) k (ix2 r l) = e (ix2 ⟨32 + r.val, by omega⟩ (col k l)) := by
  unfold trip.sl.v98 trip.sl.HW_arg14_1
  refine (back arg14 _ _ _ 24 _ r l ⟨24 + r.val, by omega⟩ rfl).trans ((stored1 _ _ _).trans ?_)
  exact ld_rows arg12 harg12 e k _ _ 8 (k0_off2_eq k) _ l _ (by simp only []; omega)

theorem weight30 : View.readAt (Elt Ideal) arg6.view (Rect.unit (s := S31x2048) (k0_off6 k) S1x128.size (k0_off6_inb k)).toLoadRect (harg6.unread x4) (ix2 0 l) = x4 (ix2 30 (col k l)) :=
  ld_rows arg6 harg6 x4 k _ _ 30 (k0_off6_eq k) 0 l _ rfl

theorem tap7 : trip.sl.v109 arg12 arg14 (harg12.unread e) k (ix2 r l) = e (ix2 ⟨9 + r.val, by omega⟩ (col k l)) := by
  unfold trip.sl.v109 trip.sl.HW_arg14_2 trip.sl.r_1
  refine (back arg14 _ _ _ 0 _ r l ⟨0 + r.val, by omega⟩ rfl).trans ((stored2 _ _ _).trans ?_)
  exact ld_rows arg12 harg12 e k _ _ 9 (k0_off7_eq k) _ l _ (by simp only []; omega)

theorem weight7 : View.readAt (Elt Ideal) arg6.view (Rect.unit (s := S31x2048) (k0_off8 k) S1x128.size (k0_off8_inb k)).toLoadRect (harg6.unread x4) (ix2 0 l) = x4 (ix2 7 (col k l)) :=
  ld_rows arg6 harg6 x4 k _ _ 7 (k0_off8_eq k) 0 l _ rfl

theorem tap15 : trip.sl.v115 arg12 arg14 (harg12.unread e) k (ix2 r l) = e (ix2 ⟨17 + r.val, by omega⟩ (col k l)) := by
  unfold trip.sl.v115 trip.sl.HW_arg14_2 trip.sl.r_1
  refine (back arg14 _ _ _ 8 _ r l ⟨8 + r.val, by omega⟩ rfl).trans ((stored2 _ _ _).trans ?_)
  exact ld_rows arg12 harg12 e k _ _ 9 (k0_off7_eq k) _ l _ (by simp only []; omega)

theorem weight15 : View.readAt (Elt Ideal) arg6.view (Rect.unit (s := S31x2048) (k0_off9 k) S1x128.size (k0_off9_inb k)).toLoadRect (harg6.unread x4) (ix2 0 l) = x4 (ix2 15 (col k l)) :=
  ld_rows arg6 harg6 x4 k _ _ 15 (k0_off9_eq k) 0 l _ rfl

theorem tap23 : trip.sl.v121 arg12 arg14 (harg12.unread e) k (ix2 r l) = e (ix2 ⟨25 + r.val, by omega⟩ (col k l)) := by
  unfold trip.sl.v121 trip.sl.HW_arg14_2 trip.sl.r_1
  refine (back arg14 _ _ _ 16 _ r l ⟨16 + r.val, by omega⟩ rfl).trans ((stored2 _ _ _).trans ?_)
  exact ld_rows arg12 harg12 e k _ _ 9 (k0_off7_eq k) _ l _ (by simp only []; omega)

theorem weight23 : View.readAt (Elt Ideal) arg6.view (Rect.unit (s := S31x2048) (k0_off10 k) S1x128.size (k0_off10_inb k)).toLoadRect (harg6.unread x4) (ix2 0 l) = x4 (ix2 23 (col k l)) :=
  ld_rows arg6 harg6 x4 k _ _ 23 (k0_off10_eq k) 0 l _ rfl

theorem tap0 : trip.sl.v132 arg12 arg14 (harg12.unread e) k (ix2 r l) = e (ix2 ⟨2 + r.val, by omega⟩ (col k l)) := by
  unfold trip.sl.v132 trip.sl.HW_arg14_3
  refine (back arg14 _ _ _ 0 _ r l ⟨0 + r.val, by omega⟩ rfl).trans ((stored3 _ _ _).trans ?_)
  exact ld_rows arg12 harg12 e k _ _ 2 (k0_off11_eq k) _ l _ (by simp only []; omega)

theorem weight0 : View.readAt (Elt Ideal) arg6.view (Rect.unit (s := S31x2048) (k0_off12 k) S1x128.size (k0_off12_inb k)).toLoadRect (harg6.unread x4) (ix2 0 l) = x4 (ix2 0 (col k l)) :=
  ld_rows arg6 harg6 x4 k _ _ 0 (k0_off12_eq k) 0 l _ rfl

theorem tap8 : trip.sl.v138 arg12 arg14 (harg12.unread e) k (ix2 r l) = e (ix2 ⟨10 + r.val, by omega⟩ (col k l)) := by
  unfold trip.sl.v138 trip.sl.HW_arg14_3
  refine (back arg14 _ _ _ 8 _ r l ⟨8 + r.val, by omega⟩ rfl).trans ((stored3 _ _ _).trans ?_)
  exact ld_rows arg12 harg12 e k _ _ 2 (k0_off11_eq k) _ l _ (by simp only []; omega)

theorem weight8 : View.readAt (Elt Ideal) arg6.view (Rect.unit (s := S31x2048) (k0_off13 k) S1x128.size (k0_off13_inb k)).toLoadRect (harg6.unread x4) (ix2 0 l) = x4 (ix2 8 (col k l)) :=
  ld_rows arg6 harg6 x4 k _ _ 8 (k0_off13_eq k) 0 l _ rfl

theorem tap16 : trip.sl.v144 arg12 arg14 (harg12.unread e) k (ix2 r l) = e (ix2 ⟨18 + r.val, by omega⟩ (col k l)) := by
  unfold trip.sl.v144 trip.sl.HW_arg14_3
  refine (back arg14 _ _ _ 16 _ r l ⟨16 + r.val, by omega⟩ rfl).trans ((stored3 _ _ _).trans ?_)
  exact ld_rows arg12 harg12 e k _ _ 2 (k0_off11_eq k) _ l _ (by simp only []; omega)

theorem weight16 : View.readAt (Elt Ideal) arg6.view (Rect.unit (s := S31x2048) (k0_off14 k) S1x128.size (k0_off14_inb k)).toLoadRect (harg6.unread x4) (ix2 0 l) = x4 (ix2 16 (col k l)) :=
  ld_rows arg6 harg6 x4 k _ _ 16 (k0_off14_eq k) 0 l _ rfl

theorem tap24 : trip.sl.v150 arg12 arg14 (harg12.unread e) k (ix2 r l) = e (ix2 ⟨26 + r.val, by omega⟩ (col k l)) := by
  unfold trip.sl.v150 trip.sl.HW_arg14_3
  refine (back arg14 _ _ _ 24 _ r l ⟨24 + r.val, by omega⟩ rfl).trans ((stored3 _ _ _).trans ?_)
  exact ld_rows arg12 harg12 e k _ _ 2 (k0_off11_eq k) _ l _ (by simp only []; omega)

theorem weight24 : View.readAt (Elt Ideal) arg6.view (Rect.unit (s := S31x2048) (k0_off15 k) S1x128.size (k0_off15_inb k)).toLoadRect (harg6.unread x4) (ix2 0 l) = x4 (ix2 24 (col k l)) :=
  ld_rows arg6 harg6 x4 k _ _ 24 (k0_off15_eq k) 0 l _ rfl

theorem tap1 : trip.sl.v161 arg12 arg14 (harg12.unread e) k (ix2 r l) = e (ix2 ⟨3 + r.val, by omega⟩ (col k l)) := by
  unfold trip.sl.v161 trip.sl.HW_arg14_4
  refine (back arg14 _ _ _ 0 _ r l ⟨0 + r.val, by omega⟩ rfl).trans ((stored4 _ _ _).trans ?_)
  exact ld_rows arg12 harg12 e k _ _ 3 (k0_off16_eq k) _ l _ (by simp only []; omega)

theorem weight1 : View.readAt (Elt Ideal) arg6.view (Rect.unit (s := S31x2048) (k0_off17 k) S1x128.size (k0_off17_inb k)).toLoadRect (harg6.unread x4) (ix2 0 l) = x4 (ix2 1 (col k l)) :=
  ld_rows arg6 harg6 x4 k _ _ 1 (k0_off17_eq k) 0 l _ rfl

theorem tap9 : trip.sl.v167 arg12 arg14 (harg12.unread e) k (ix2 r l) = e (ix2 ⟨11 + r.val, by omega⟩ (col k l)) := by
  unfold trip.sl.v167 trip.sl.HW_arg14_4
  refine (back arg14 _ _ _ 8 _ r l ⟨8 + r.val, by omega⟩ rfl).trans ((stored4 _ _ _).trans ?_)
  exact ld_rows arg12 harg12 e k _ _ 3 (k0_off16_eq k) _ l _ (by simp only []; omega)

theorem weight9 : View.readAt (Elt Ideal) arg6.view (Rect.unit (s := S31x2048) (k0_off18 k) S1x128.size (k0_off18_inb k)).toLoadRect (harg6.unread x4) (ix2 0 l) = x4 (ix2 9 (col k l)) :=
  ld_rows arg6 harg6 x4 k _ _ 9 (k0_off18_eq k) 0 l _ rfl

theorem tap17 : trip.sl.v173 arg12 arg14 (harg12.unread e) k (ix2 r l) = e (ix2 ⟨19 + r.val, by omega⟩ (col k l)) := by
  unfold trip.sl.v173 trip.sl.HW_arg14_4
  refine (back arg14 _ _ _ 16 _ r l ⟨16 + r.val, by omega⟩ rfl).trans ((stored4 _ _ _).trans ?_)
  exact ld_rows arg12 harg12 e k _ _ 3 (k0_off16_eq k) _ l _ (by simp only []; omega)

theorem weight17 : View.readAt (Elt Ideal) arg6.view (Rect.unit (s := S31x2048) (k0_off19 k) S1x128.size (k0_off19_inb k)).toLoadRect (harg6.unread x4) (ix2 0 l) = x4 (ix2 17 (col k l)) :=
  ld_rows arg6 harg6 x4 k _ _ 17 (k0_off19_eq k) 0 l _ rfl

theorem tap25 : trip.sl.v179 arg12 arg14 (harg12.unread e) k (ix2 r l) = e (ix2 ⟨27 + r.val, by omega⟩ (col k l)) := by
  unfold trip.sl.v179 trip.sl.HW_arg14_4
  refine (back arg14 _ _ _ 24 _ r l ⟨24 + r.val, by omega⟩ rfl).trans ((stored4 _ _ _).trans ?_)
  exact ld_rows arg12 harg12 e k _ _ 3 (k0_off16_eq k) _ l _ (by simp only []; omega)

theorem weight25 : View.readAt (Elt Ideal) arg6.view (Rect.unit (s := S31x2048) (k0_off20 k) S1x128.size (k0_off20_inb k)).toLoadRect (harg6.unread x4) (ix2 0 l) = x4 (ix2 25 (col k l)) :=
  ld_rows arg6 harg6 x4 k _ _ 25 (k0_off20_eq k) 0 l _ rfl

theorem tap2 : trip.sl.v190 arg12 arg14 (harg12.unread e) k (ix2 r l) = e (ix2 ⟨4 + r.val, by omega⟩ (col k l)) := by
  unfold trip.sl.v190 trip.sl.HW_arg14_5
  refine (back arg14 _ _ _ 0 _ r l ⟨0 + r.val, by omega⟩ rfl).trans ((stored5 _ _ _).trans ?_)
  exact ld_rows arg12 harg12 e k _ _ 4 (k0_off21_eq k) _ l _ (by simp only []; omega)

theorem weight2 : View.readAt (Elt Ideal) arg6.view (Rect.unit (s := S31x2048) (k0_off22 k) S1x128.size (k0_off22_inb k)).toLoadRect (harg6.unread x4) (ix2 0 l) = x4 (ix2 2 (col k l)) :=
  ld_rows arg6 harg6 x4 k _ _ 2 (k0_off22_eq k) 0 l _ rfl

theorem tap10 : trip.sl.v196 arg12 arg14 (harg12.unread e) k (ix2 r l) = e (ix2 ⟨12 + r.val, by omega⟩ (col k l)) := by
  unfold trip.sl.v196 trip.sl.HW_arg14_5
  refine (back arg14 _ _ _ 8 _ r l ⟨8 + r.val, by omega⟩ rfl).trans ((stored5 _ _ _).trans ?_)
  exact ld_rows arg12 harg12 e k _ _ 4 (k0_off21_eq k) _ l _ (by simp only []; omega)

theorem weight10 : View.readAt (Elt Ideal) arg6.view (Rect.unit (s := S31x2048) (k0_off23 k) S1x128.size (k0_off23_inb k)).toLoadRect (harg6.unread x4) (ix2 0 l) = x4 (ix2 10 (col k l)) :=
  ld_rows arg6 harg6 x4 k _ _ 10 (k0_off23_eq k) 0 l _ rfl

theorem tap18 : trip.sl.v202 arg12 arg14 (harg12.unread e) k (ix2 r l) = e (ix2 ⟨20 + r.val, by omega⟩ (col k l)) := by
  unfold trip.sl.v202 trip.sl.HW_arg14_5
  refine (back arg14 _ _ _ 16 _ r l ⟨16 + r.val, by omega⟩ rfl).trans ((stored5 _ _ _).trans ?_)
  exact ld_rows arg12 harg12 e k _ _ 4 (k0_off21_eq k) _ l _ (by simp only []; omega)

theorem weight18 : View.readAt (Elt Ideal) arg6.view (Rect.unit (s := S31x2048) (k0_off24 k) S1x128.size (k0_off24_inb k)).toLoadRect (harg6.unread x4) (ix2 0 l) = x4 (ix2 18 (col k l)) :=
  ld_rows arg6 harg6 x4 k _ _ 18 (k0_off24_eq k) 0 l _ rfl

theorem tap26 : trip.sl.v208 arg12 arg14 (harg12.unread e) k (ix2 r l) = e (ix2 ⟨28 + r.val, by omega⟩ (col k l)) := by
  unfold trip.sl.v208 trip.sl.HW_arg14_5
  refine (back arg14 _ _ _ 24 _ r l ⟨24 + r.val, by omega⟩ rfl).trans ((stored5 _ _ _).trans ?_)
  exact ld_rows arg12 harg12 e k _ _ 4 (k0_off21_eq k) _ l _ (by simp only []; omega)

theorem weight26 : View.readAt (Elt Ideal) arg6.view (Rect.unit (s := S31x2048) (k0_off25 k) S1x128.size (k0_off25_inb k)).toLoadRect (harg6.unread x4) (ix2 0 l) = x4 (ix2 26 (col k l)) :=
  ld_rows arg6 harg6 x4 k _ _ 26 (k0_off25_eq k) 0 l _ rfl

theorem tap3 : trip.sl.v219 arg12 arg14 (harg12.unread e) k (ix2 r l) = e (ix2 ⟨5 + r.val, by omega⟩ (col k l)) := by
  unfold trip.sl.v219 trip.sl.HW_arg14_6
  refine (back arg14 _ _ _ 0 _ r l ⟨0 + r.val, by omega⟩ rfl).trans ((stored6 _ _ _).trans ?_)
  exact ld_rows arg12 harg12 e k _ _ 5 (k0_off26_eq k) _ l _ (by simp only []; omega)

theorem weight3 : View.readAt (Elt Ideal) arg6.view (Rect.unit (s := S31x2048) (k0_off27 k) S1x128.size (k0_off27_inb k)).toLoadRect (harg6.unread x4) (ix2 0 l) = x4 (ix2 3 (col k l)) :=
  ld_rows arg6 harg6 x4 k _ _ 3 (k0_off27_eq k) 0 l _ rfl

theorem tap11 : trip.sl.v225 arg12 arg14 (harg12.unread e) k (ix2 r l) = e (ix2 ⟨13 + r.val, by omega⟩ (col k l)) := by
  unfold trip.sl.v225 trip.sl.HW_arg14_6
  refine (back arg14 _ _ _ 8 _ r l ⟨8 + r.val, by omega⟩ rfl).trans ((stored6 _ _ _).trans ?_)
  exact ld_rows arg12 harg12 e k _ _ 5 (k0_off26_eq k) _ l _ (by simp only []; omega)

theorem weight11 : View.readAt (Elt Ideal) arg6.view (Rect.unit (s := S31x2048) (k0_off28 k) S1x128.size (k0_off28_inb k)).toLoadRect (harg6.unread x4) (ix2 0 l) = x4 (ix2 11 (col k l)) :=
  ld_rows arg6 harg6 x4 k _ _ 11 (k0_off28_eq k) 0 l _ rfl

theorem tap19 : trip.sl.v231 arg12 arg14 (harg12.unread e) k (ix2 r l) = e (ix2 ⟨21 + r.val, by omega⟩ (col k l)) := by
  unfold trip.sl.v231 trip.sl.HW_arg14_6
  refine (back arg14 _ _ _ 16 _ r l ⟨16 + r.val, by omega⟩ rfl).trans ((stored6 _ _ _).trans ?_)
  exact ld_rows arg12 harg12 e k _ _ 5 (k0_off26_eq k) _ l _ (by simp only []; omega)

theorem weight19 : View.readAt (Elt Ideal) arg6.view (Rect.unit (s := S31x2048) (k0_off29 k) S1x128.size (k0_off29_inb k)).toLoadRect (harg6.unread x4) (ix2 0 l) = x4 (ix2 19 (col k l)) :=
  ld_rows arg6 harg6 x4 k _ _ 19 (k0_off29_eq k) 0 l _ rfl

theorem tap27 : trip.sl.v237 arg12 arg14 (harg12.unread e) k (ix2 r l) = e (ix2 ⟨29 + r.val, by omega⟩ (col k l)) := by
  unfold trip.sl.v237 trip.sl.HW_arg14_6
  refine (back arg14 _ _ _ 24 _ r l ⟨24 + r.val, by omega⟩ rfl).trans ((stored6 _ _ _).trans ?_)
  exact ld_rows arg12 harg12 e k _ _ 5 (k0_off26_eq k) _ l _ (by simp only []; omega)

theorem weight27 : View.readAt (Elt Ideal) arg6.view (Rect.unit (s := S31x2048) (k0_off30 k) S1x128.size (k0_off30_inb k)).toLoadRect (harg6.unread x4) (ix2 0 l) = x4 (ix2 27 (col k l)) :=
  ld_rows arg6 harg6 x4 k _ _ 27 (k0_off30_eq k) 0 l _ rfl

theorem tap4 : trip.sl.v248 arg12 arg14 (harg12.unread e) k (ix2 r l) = e (ix2 ⟨6 + r.val, by omega⟩ (col k l)) := by
  unfold trip.sl.v248 trip.sl.HW_arg14_7
  refine (back arg14 _ _ _ 0 _ r l ⟨0 + r.val, by omega⟩ rfl).trans ((stored7 _ _ _).trans ?_)
  exact ld_rows arg12 harg12 e k _ _ 6 (k0_off31_eq k) _ l _ (by simp only []; omega)

theorem weight4 : View.readAt (Elt Ideal) arg6.view (Rect.unit (s := S31x2048) (k0_off32 k) S1x128.size (k0_off32_inb k)).toLoadRect (harg6.unread x4) (ix2 0 l) = x4 (ix2 4 (col k l)) :=
  ld_rows arg6 harg6 x4 k _ _ 4 (k0_off32_eq k) 0 l _ rfl

theorem tap12 : trip.sl.v254 arg12 arg14 (harg12.unread e) k (ix2 r l) = e (ix2 ⟨14 + r.val, by omega⟩ (col k l)) := by
  unfold trip.sl.v254 trip.sl.HW_arg14_7
  refine (back arg14 _ _ _ 8 _ r l ⟨8 + r.val, by omega⟩ rfl).trans ((stored7 _ _ _).trans ?_)
  exact ld_rows arg12 harg12 e k _ _ 6 (k0_off31_eq k) _ l _ (by simp only []; omega)

theorem weight12 : View.readAt (Elt Ideal) arg6.view (Rect.unit (s := S31x2048) (k0_off33 k) S1x128.size (k0_off33_inb k)).toLoadRect (harg6.unread x4) (ix2 0 l) = x4 (ix2 12 (col k l)) :=
  ld_rows arg6 harg6 x4 k _ _ 12 (k0_off33_eq k) 0 l _ rfl

theorem tap20 : trip.sl.v260 arg12 arg14 (harg12.unread e) k (ix2 r l) = e (ix2 ⟨22 + r.val, by omega⟩ (col k l)) := by
  unfold trip.sl.v260 trip.sl.HW_arg14_7
  refine (back arg14 _ _ _ 16 _ r l ⟨16 + r.val, by omega⟩ rfl).trans ((stored7 _ _ _).trans ?_)
  exact ld_rows arg12 harg12 e k _ _ 6 (k0_off31_eq k) _ l _ (by simp only []; omega)

theorem weight20 : View.readAt (Elt Ideal) arg6.view (Rect.unit (s := S31x2048) (k0_off34 k) S1x128.size (k0_off34_inb k)).toLoadRect (harg6.unread x4) (ix2 0 l) = x4 (ix2 20 (col k l)) :=
  ld_rows arg6 harg6 x4 k _ _ 20 (k0_off34_eq k) 0 l _ rfl

theorem tap28 : trip.sl.v266 arg12 arg14 (harg12.unread e) k (ix2 r l) = e (ix2 ⟨30 + r.val, by omega⟩ (col k l)) := by
  unfold trip.sl.v266 trip.sl.HW_arg14_7
  refine (back arg14 _ _ _ 24 _ r l ⟨24 + r.val, by omega⟩ rfl).trans ((stored7 _ _ _).trans ?_)
  exact ld_rows arg12 harg12 e k _ _ 6 (k0_off31_eq k) _ l _ (by simp only []; omega)

theorem weight28 : View.readAt (Elt Ideal) arg6.view (Rect.unit (s := S31x2048) (k0_off35 k) S1x128.size (k0_off35_inb k)).toLoadRect (harg6.unread x4) (ix2 0 l) = x4 (ix2 28 (col k l)) :=
  ld_rows arg6 harg6 x4 k _ _ 28 (k0_off35_eq k) 0 l _ rfl

theorem tap5 : trip.sl.v277 arg12 arg14 (harg12.unread e) k (ix2 r l) = e (ix2 ⟨7 + r.val, by omega⟩ (col k l)) := by
  unfold trip.sl.v277 trip.sl.HW_arg14_8
  refine (back arg14 _ _ _ 0 _ r l ⟨0 + r.val, by omega⟩ rfl).trans ((stored8 _ _ _).trans ?_)
  exact ld_rows arg12 harg12 e k _ _ 7 (k0_off36_eq k) _ l _ (by simp only []; omega)

theorem weight5 : View.readAt (Elt Ideal) arg6.view (Rect.unit (s := S31x2048) (k0_off37 k) S1x128.size (k0_off37_inb k)).toLoadRect (harg6.unread x4) (ix2 0 l) = x4 (ix2 5 (col k l)) :=
  ld_rows arg6 harg6 x4 k _ _ 5 (k0_off37_eq k) 0 l _ rfl

theorem tap13 : trip.sl.v283 arg12 arg14 (harg12.unread e) k (ix2 r l) = e (ix2 ⟨15 + r.val, by omega⟩ (col k l)) := by
  unfold trip.sl.v283 trip.sl.HW_arg14_8
  refine (back arg14 _ _ _ 8 _ r l ⟨8 + r.val, by omega⟩ rfl).trans ((stored8 _ _ _).trans ?_)
  exact ld_rows arg12 harg12 e k _ _ 7 (k0_off36_eq k) _ l _ (by simp only []; omega)

theorem weight13 : View.readAt (Elt Ideal) arg6.view (Rect.unit (s := S31x2048) (k0_off38 k) S1x128.size (k0_off38_inb k)).toLoadRect (harg6.unread x4) (ix2 0 l) = x4 (ix2 13 (col k l)) :=
  ld_rows arg6 harg6 x4 k _ _ 13 (k0_off38_eq k) 0 l _ rfl

theorem tap21 : trip.sl.v289 arg12 arg14 (harg12.unread e) k (ix2 r l) = e (ix2 ⟨23 + r.val, by omega⟩ (col k l)) := by
  unfold trip.sl.v289 trip.sl.HW_arg14_8
  refine (back arg14 _ _ _ 16 _ r l ⟨16 + r.val, by omega⟩ rfl).trans ((stored8 _ _ _).trans ?_)
  exact ld_rows arg12 harg12 e k _ _ 7 (k0_off36_eq k) _ l _ (by simp only []; omega)

theorem weight21 : View.readAt (Elt Ideal) arg6.view (Rect.unit (s := S31x2048) (k0_off39 k) S1x128.size (k0_off39_inb k)).toLoadRect (harg6.unread x4) (ix2 0 l) = x4 (ix2 21 (col k l)) :=
  ld_rows arg6 harg6 x4 k _ _ 21 (k0_off39_eq k) 0 l _ rfl

theorem tap29 : trip.sl.v295 arg12 arg14 (harg12.unread e) k (ix2 r l) = e (ix2 ⟨31 + r.val, by omega⟩ (col k l)) := by
  unfold trip.sl.v295 trip.sl.HW_arg14_8
  refine (back arg14 _ _ _ 24 _ r l ⟨24 + r.val, by omega⟩ rfl).trans ((stored8 _ _ _).trans ?_)
  exact ld_rows arg12 harg12 e k _ _ 7 (k0_off36_eq k) _ l _ (by simp only []; omega)

theorem weight29 : View.readAt (Elt Ideal) arg6.view (Rect.unit (s := S31x2048) (k0_off40 k) S1x128.size (k0_off40_inb k)).toLoadRect (harg6.unread x4) (ix2 0 l) = x4 (ix2 29 (col k l)) :=
  ld_rows arg6 harg6 x4 k _ _ 29 (k0_off40_eq k) 0 l _ rfl

theorem sum_r (b : Vec Ideal S1x128 .f32) (a6 : Vec Ideal S8x128 .f32) (w6 : Vec Ideal S1x128 .f32) (a14 : Vec Ideal S8x128 .f32) (w14 : Vec Ideal S1x128 .f32) (a22 : Vec Ideal S8x128 .f32) (w22 : Vec Ideal S1x128 .f32) (a30 : Vec Ideal S8x128 .f32) (w30 : Vec Ideal S1x128 .f32) : k0_pay5 b a6 w6 a14 w14 a22 w22 a30 w30 (ix2 r l) = b (ix2 0 l) + a6 (ix2 r l) * w6 (ix2 0 l) + a14 (ix2 r l) * w14 (ix2 0 l) + a22 (ix2 r l) * w22 (ix2 0 l) + a30 (ix2 r l) * w30 (ix2 0 l) := by
  pointwise [k0_pay5]

theorem sum_r_2 (sr : FVec Ideal S8x128 .f32) (a7 : Vec Ideal S8x128 .f32) (w7 : Vec Ideal S1x128 .f32) (a15 : Vec Ideal S8x128 .f32) (w15 : Vec Ideal S1x128 .f32) (a23 : Vec Ideal S8x128 .f32) (w23 : Vec Ideal S1x128 .f32) (a0 : Vec Ideal S8x128 .f32) (w0 : Vec Ideal S1x128 .f32) (a8 : Vec Ideal S8x128 .f32) (w8 : Vec Ideal S1x128 .f32) : k0_pay8 sr a7 w7 a15 w15 a23 w23 a0 w0 a8 w8 (ix2 r l) = sr (ix2 r l) + a7 (ix2 r l) * w7 (ix2 0 l) + a15 (ix2 r l) * w15 (ix2 0 l) + a23 (ix2 r l) * w23 (ix2 0 l) + a0 (ix2 r l) * w0 (ix2 0 l) + a8 (ix2 r l) * w8 (ix2 0 l) := by
  pointwise [k0_pay8]

theorem sum_r_3 (sr_2 : FVec Ideal S8x128 .f32) (a16 : Vec Ideal S8x128 .f32) (w16 : Vec Ideal S1x128 .f32) (a24 : Vec Ideal S8x128 .f32) (w24 : Vec Ideal S1x128 .f32) (a1 : Vec Ideal S8x128 .f32) (w1 : Vec Ideal S1x128 .f32) (a9 : Vec Ideal S8x128 .f32) (w9 : Vec Ideal S1x128 .f32) (a17 : Vec Ideal S8x128 .f32) (w17 : Vec Ideal S1x128 .f32) : k0_pay10 sr_2 a16 w16 a24 w24 a1 w1 a9 w9 a17 w17 (ix2 r l) = sr_2 (ix2 r l) + a16 (ix2 r l) * w16 (ix2 0 l) + a24 (ix2 r l) * w24 (ix2 0 l) + a1 (ix2 r l) * w1 (ix2 0 l) + a9 (ix2 r l) * w9 (ix2 0 l) + a17 (ix2 r l) * w17 (ix2 0 l) := by
  pointwise [k0_pay10]

theorem sum_r_4 (a25 : Vec Ideal S8x128 .f32) (w25 : Vec Ideal S1x128 .f32) : k0_pay11  a25 w25 (ix2 r l) = a25 (ix2 r l) * w25 (ix2 0 l) := by
  pointwise [k0_pay11]

theorem sum_r_5 (sr_3 : FVec Ideal S8x128 .f32) (sr_4 : FVec Ideal S8x128 .f32) (a2 : Vec Ideal S8x128 .f32) (w2 : Vec Ideal S1x128 .f32) (a10 : Vec Ideal S8x128 .f32) (w10 : Vec Ideal S1x128 .f32) (a18 : Vec Ideal S8x128 .f32) (w18 : Vec Ideal S1x128 .f32) (a26 : Vec Ideal S8x128 .f32) (w26 : Vec Ideal S1x128 .f32) : k0_pay13 sr_3 sr_4 a2 w2 a10 w10 a18 w18 a26 w26 (ix2 r l) = sr_3 (ix2 r l) + sr_4 (ix2 r l) + a2 (ix2 r l) * w2 (ix2 0 l) + a10 (ix2 r l) * w10 (ix2 0 l) + a18 (ix2 r l) * w18 (ix2 0 l) + a26 (ix2 r l) * w26 (ix2 0 l) := by
  pointwise [k0_pay13]

theorem sum_r_6 (sr_5 : FVec Ideal S8x128 .f32) (a3 : Vec Ideal S8x128 .f32) (w3 : Vec Ideal S1x128 .f32) (a11 : Vec Ideal S8x128 .f32) (w11 : Vec Ideal S1x128 .f32) (a19 : Vec Ideal S8x128 .f32) (w19 : Vec Ideal S1x128 .f32) (a27 : Vec Ideal S8x128 .f32) (w27 : Vec Ideal S1x128 .f32) (a4 : Vec Ideal S8x128 .f32) (w4 : Vec Ideal S1x128 .f32) (a12 : Vec Ideal S8x128 .f32) (w12 : Vec Ideal S1x128 .f32) : k0_pay16 sr_5 a3 w3 a11 w11 a19 w19 a27 w27 a4 w4 a12 w12 (ix2 r l) = sr_5 (ix2 r l) + a3 (ix2 r l) * w3 (ix2 0 l) + a11 (ix2 r l) * w11 (ix2 0 l) + a19 (ix2 r l) * w19 (ix2 0 l) + a27 (ix2 r l) * w27 (ix2 0 l) + a4 (ix2 r l) * w4 (ix2 0 l) + a12 (ix2 r l) * w12 (ix2 0 l) := by
  pointwise [k0_pay16]

theorem sum_r_7 (sr_6 : FVec Ideal S8x128 .f32) (a20 : Vec Ideal S8x128 .f32) (w20 : Vec Ideal S1x128 .f32) (a28 : Vec Ideal S8x128 .f32) (w28 : Vec Ideal S1x128 .f32) (a5 : Vec Ideal S8x128 .f32) (w5 : Vec Ideal S1x128 .f32) (a13 : Vec Ideal S8x128 .f32) (w13 : Vec Ideal S1x128 .f32) (a21 : Vec Ideal S8x128 .f32) (w21 : Vec Ideal S1x128 .f32) : k0_pay18 sr_6 a20 w20 a28 w28 a5 w5 a13 w13 a21 w21 (ix2 r l) = sr_6 (ix2 r l) + a20 (ix2 r l) * w20 (ix2 0 l) + a28 (ix2 r l) * w28 (ix2 0 l) + a5 (ix2 r l) * w5 (ix2 0 l) + a13 (ix2 r l) * w13 (ix2 0 l) + a21 (ix2 r l) * w21 (ix2 0 l) := by
  pointwise [k0_pay18]

theorem sum_r_8 (a29 : Vec Ideal S8x128 .f32) (w29 : Vec Ideal S1x128 .f32) : k0_pay19  a29 w29 (ix2 r l) = a29 (ix2 r l) * w29 (ix2 0 l) := by
  pointwise [k0_pay19]

/-- The product of a tap: the row of the history it reads, times its weight. -/
def prod (x4 : Vec Ideal S31x2048 .f32) (e : Vec Ideal S40x2048 .f32) (r : Fin 8) (h : Fin 2048) (i : Fin 31) : EReal :=
  e (ix2 ⟨2 + i.val + r.val, by omega⟩ h) * x4 (ix2 i h)

/-- The order of the taps' sum does not matter. -/
theorem reorder (b : EReal) (f : Fin 31 → EReal) :
    b + f 6 + f 14 + f 22 + f 30 + f 7 + f 15 + f 23 + f 0 + f 8 + f 16 + f 24 + f 1 + f 9 + f 17 + f 25 + f 2 + f 10 + f 18 + f 26 + f 3 + f 11 + f 19 + f 27 + f 4 + f 12 + f 20 + f 28 + f 5 + f 13 + f 21 + f 29 = b + ∑ i, f i := by
  simp only [Fin.sum_univ_succ, Fin.sum_univ_zero]
  simp
  abel

theorem bias : View.readAt (Elt Ideal) arg7.view (Rect.unit (s := S1x2048) (k0_off1 k) S1x128.size (k0_off1_inb k)).toLoadRect (harg7.unread x5) (ix2 0 l) = x5 (ix2 0 (col k l)) :=
  ld_rows arg7 harg7 x5 k _ _ 0 (k0_off1_eq k) 0 l _ rfl

theorem at_r : trip.sl.r arg6 arg7 arg12 arg14 (harg6.unread x4) (harg7.unread x5) (harg12.unread e) k (ix2 r l) = x5 (ix2 0 (col k l)) + prod x4 e r (col k l) 6 + prod x4 e r (col k l) 14 + prod x4 e r (col k l) 22 + prod x4 e r (col k l) 30 := by
  unfold trip.sl.r
  refine (sum_r r l _ _ _ _ _ _ _ _ _).trans ?_
  rw [bias arg7 harg7 x5 k l, tap6 arg12 harg12 arg14 e k r l, weight6 arg6 harg6 x4 k l, tap14 arg12 harg12 arg14 e k r l, weight14 arg6 harg6 x4 k l, tap22 arg12 harg12 arg14 e k r l, weight22 arg6 harg6 x4 k l, tap30 arg12 harg12 arg14 e k r l, weight30 arg6 harg6 x4 k l]
  rfl

theorem at_r_2 : trip.sl.r_2 arg6 arg7 arg12 arg14 (harg6.unread x4) (harg7.unread x5) (harg12.unread e) k (ix2 r l) = x5 (ix2 0 (col k l)) + prod x4 e r (col k l) 6 + prod x4 e r (col k l) 14 + prod x4 e r (col k l) 22 + prod x4 e r (col k l) 30 + prod x4 e r (col k l) 7 + prod x4 e r (col k l) 15 + prod x4 e r (col k l) 23 + prod x4 e r (col k l) 0 + prod x4 e r (col k l) 8 := by
  unfold trip.sl.r_2
  refine (sum_r_2 r l _ _ _ _ _ _ _ _ _ _ _).trans ?_
  rw [at_r, tap7 arg12 harg12 arg14 e k r l, weight7 arg6 harg6 x4 k l, tap15 arg12 harg12 arg14 e k r l, weight15 arg6 harg6 x4 k l, tap23 arg12 harg12 arg14 e k r l, weight23 arg6 harg6 x4 k l, tap0 arg12 harg12 arg14 e k r l, weight0 arg6 harg6 x4 k l, tap8 arg12 harg12 arg14 e k r l, weight8 arg6 harg6 x4 k l]
  rfl

theorem at_r_3 : trip.sl.r_3 arg6 arg7 arg12 arg14 (harg6.unread x4) (harg7.unread x5) (harg12.unread e) k (ix2 r l) = x5 (ix2 0 (col k l)) + prod x4 e r (col k l) 6 + prod x4 e r (col k l) 14 + prod x4 e r (col k l) 22 + prod x4 e r (col k l) 30 + prod x4 e r (col k l) 7 + prod x4 e r (col k l) 15 + prod x4 e r (col k l) 23 + prod x4 e r (col k l) 0 + prod x4 e r (col k l) 8 + prod x4 e r (col k l) 16 + prod x4 e r (col k l) 24 + prod x4 e r (col k l) 1 + prod x4 e r (col k l) 9 + prod x4 e r (col k l) 17 := by
  unfold trip.sl.r_3
  refine (sum_r_3 r l _ _ _ _ _ _ _ _ _ _ _).trans ?_
  rw [at_r_2, tap16 arg12 harg12 arg14 e k r l, weight16 arg6 harg6 x4 k l, tap24 arg12 harg12 arg14 e k r l, weight24 arg6 harg6 x4 k l, tap1 arg12 harg12 arg14 e k r l, weight1 arg6 harg6 x4 k l, tap9 arg12 harg12 arg14 e k r l, weight9 arg6 harg6 x4 k l, tap17 arg12 harg12 arg14 e k r l, weight17 arg6 harg6 x4 k l]
  rfl

theorem at_r_4 : trip.sl.r_4 arg6 arg12 arg14 (harg6.unread x4) (harg12.unread e) k (ix2 r l) = prod x4 e r (col k l) 25 := by
  unfold trip.sl.r_4
  refine (sum_r_4 r l _ _).trans ?_
  rw [tap25 arg12 harg12 arg14 e k r l, weight25 arg6 harg6 x4 k l]
  rfl

theorem at_r_5 : trip.sl.r_5 arg6 arg7 arg12 arg14 (harg6.unread x4) (harg7.unread x5) (harg12.unread e) k (ix2 r l) = x5 (ix2 0 (col k l)) + prod x4 e r (col k l) 6 + prod x4 e r (col k l) 14 + prod x4 e r (col k l) 22 + prod x4 e r (col k l) 30 + prod x4 e r (col k l) 7 + prod x4 e r (col k l) 15 + prod x4 e r (col k l) 23 + prod x4 e r (col k l) 0 + prod x4 e r (col k l) 8 + prod x4 e r (col k l) 16 + prod x4 e r (col k l) 24 + prod x4 e r (col k l) 1 + prod x4 e r (col k l) 9 + prod x4 e r (col k l) 17 + prod x4 e r (col k l) 25 + prod x4 e r (col k l) 2 + prod x4 e r (col k l) 10 + prod x4 e r (col k l) 18 + prod x4 e r (col k l) 26 := by
  unfold trip.sl.r_5
  refine (sum_r_5 r l _ _ _ _ _ _ _ _ _ _).trans ?_
  rw [at_r_3, at_r_4, tap2 arg12 harg12 arg14 e k r l, weight2 arg6 harg6 x4 k l, tap10 arg12 harg12 arg14 e k r l, weight10 arg6 harg6 x4 k l, tap18 arg12 harg12 arg14 e k r l, weight18 arg6 harg6 x4 k l, tap26 arg12 harg12 arg14 e k r l, weight26 arg6 harg6 x4 k l]
  rfl

theorem at_r_6 : trip.sl.r_6 arg6 arg7 arg12 arg14 (harg6.unread x4) (harg7.unread x5) (harg12.unread e) k (ix2 r l) = x5 (ix2 0 (col k l)) + prod x4 e r (col k l) 6 + prod x4 e r (col k l) 14 + prod x4 e r (col k l) 22 + prod x4 e r (col k l) 30 + prod x4 e r (col k l) 7 + prod x4 e r (col k l) 15 + prod x4 e r (col k l) 23 + prod x4 e r (col k l) 0 + prod x4 e r (col k l) 8 + prod x4 e r (col k l) 16 + prod x4 e r (col k l) 24 + prod x4 e r (col k l) 1 + prod x4 e r (col k l) 9 + prod x4 e r (col k l) 17 + prod x4 e r (col k l) 25 + prod x4 e r (col k l) 2 + prod x4 e r (col k l) 10 + prod x4 e r (col k l) 18 + prod x4 e r (col k l) 26 + prod x4 e r (col k l) 3 + prod x4 e r (col k l) 11 + prod x4 e r (col k l) 19 + prod x4 e r (col k l) 27 + prod x4 e r (col k l) 4 + prod x4 e r (col k l) 12 := by
  unfold trip.sl.r_6
  refine (sum_r_6 r l _ _ _ _ _ _ _ _ _ _ _ _ _).trans ?_
  rw [at_r_5, tap3 arg12 harg12 arg14 e k r l, weight3 arg6 harg6 x4 k l, tap11 arg12 harg12 arg14 e k r l, weight11 arg6 harg6 x4 k l, tap19 arg12 harg12 arg14 e k r l, weight19 arg6 harg6 x4 k l, tap27 arg12 harg12 arg14 e k r l, weight27 arg6 harg6 x4 k l, tap4 arg12 harg12 arg14 e k r l, weight4 arg6 harg6 x4 k l, tap12 arg12 harg12 arg14 e k r l, weight12 arg6 harg6 x4 k l]
  rfl

theorem at_r_7 : trip.sl.r_7 arg6 arg7 arg12 arg14 (harg6.unread x4) (harg7.unread x5) (harg12.unread e) k (ix2 r l) = x5 (ix2 0 (col k l)) + prod x4 e r (col k l) 6 + prod x4 e r (col k l) 14 + prod x4 e r (col k l) 22 + prod x4 e r (col k l) 30 + prod x4 e r (col k l) 7 + prod x4 e r (col k l) 15 + prod x4 e r (col k l) 23 + prod x4 e r (col k l) 0 + prod x4 e r (col k l) 8 + prod x4 e r (col k l) 16 + prod x4 e r (col k l) 24 + prod x4 e r (col k l) 1 + prod x4 e r (col k l) 9 + prod x4 e r (col k l) 17 + prod x4 e r (col k l) 25 + prod x4 e r (col k l) 2 + prod x4 e r (col k l) 10 + prod x4 e r (col k l) 18 + prod x4 e r (col k l) 26 + prod x4 e r (col k l) 3 + prod x4 e r (col k l) 11 + prod x4 e r (col k l) 19 + prod x4 e r (col k l) 27 + prod x4 e r (col k l) 4 + prod x4 e r (col k l) 12 + prod x4 e r (col k l) 20 + prod x4 e r (col k l) 28 + prod x4 e r (col k l) 5 + prod x4 e r (col k l) 13 + prod x4 e r (col k l) 21 := by
  unfold trip.sl.r_7
  refine (sum_r_7 r l _ _ _ _ _ _ _ _ _ _ _).trans ?_
  rw [at_r_6, tap20 arg12 harg12 arg14 e k r l, weight20 arg6 harg6 x4 k l, tap28 arg12 harg12 arg14 e k r l, weight28 arg6 harg6 x4 k l, tap5 arg12 harg12 arg14 e k r l, weight5 arg6 harg6 x4 k l, tap13 arg12 harg12 arg14 e k r l, weight13 arg6 harg6 x4 k l, tap21 arg12 harg12 arg14 e k r l, weight21 arg6 harg6 x4 k l]
  rfl

theorem at_r_8 : trip.sl.r_8 arg6 arg12 arg14 (harg6.unread x4) (harg12.unread e) k (ix2 r l) = prod x4 e r (col k l) 29 := by
  unfold trip.sl.r_8
  refine (sum_r_8 r l _ _).trans ?_
  rw [tap29 arg12 harg12 arg14 e k r l, weight29 arg6 harg6 x4 k l]
  rfl

theorem sum_last (a b : FVec Ideal S8x128 .f32) : k0_pay22 a b (ix2 r l) = a (ix2 r l) + b (ix2 r l) := by
  pointwise [k0_pay22]

/-- A trip's block of the convolution: the bias, and the sum of the taps' products. -/
theorem trip_at (c : Dev nD) (i : grid0.Coords) : (trip Variants.none c none i arg2 harg2 arg3 harg3 arg4 harg4 arg5 harg5 arg6 harg6 arg7 harg7 arg8 harg8 arg9 harg9 arg10 harg10 arg11 harg11 arg12 harg12 arg13 harg13 arg14 harg14 (harg6.unread x4) (harg7.unread x5) (harg12.unread e) k).1 (ix2 r l)
    = x5 (ix2 0 (col k l)) + ∑ i, prod x4 e r (col k l) i := by
  refine (sum_last r l (trip.sl.r_7 arg6 arg7 arg12 arg14 (harg6.unread x4) (harg7.unread x5) (harg12.unread e) k) (trip.sl.r_8 arg6 arg12 arg14 (harg6.unread x4) (harg12.unread e) k)).trans ?_
  rw [at_r_7, at_r_8]
  exact reorder _ (prod x4 e r (col k l))

end Cert.ConvSampleIdeal.Conv
-- ==== Proof.ConvSampleRef.lean ====
module

public import proofs.«01_k».proof.Proof.Gen.ConvSampleReferenceIdeal.Read
public import Idealize.ShloMosaic.Lib.Pipeline.ValueKit
public import Idealize.ShloMosaic.Lib.Pointwise

/-!
# The reference's convolution

The reference adds the taps' products in order; its value is the sum of the taps' products.
-/

@[expose] public section

set_option maxRecDepth 16384

noncomputable section

namespace Cert.ConvSampleReferenceIdeal.Conv

open Cert.ConvSampleReferenceIdeal Idealize.ShloMosaic Idealize.ShloMosaic.TcCoe Idealize.SL.Sem Idealize.ShloMosaic.Tactic
open Cert.ConvSampleReferenceIdeal.Read

variable (x0 x1 : FVec Ideal S64x2048 .f32) (x3 : FVec Ideal S8x30x2048 .f32) (x4 : FVec Ideal S31x2048 .f32) (b : Fin 8) (t : Fin 8) (h : Fin 2048)

/-- The product of a tap. -/
def prod (x0 x1 : FVec Ideal S64x2048 .f32) (x3 : FVec Ideal S8x30x2048 .f32) (x4 : FVec Ideal S31x2048 .f32) (b : Fin 8) (t : Fin 8) (h : Fin 2048) (i : Fin 31) : EReal :=
  val_main_v8 (F := Ideal) x0 x1 x3 (ix3 b ⟨i.val + t.val, by omega⟩ h) * x4 (ix2 i h)

/-- The sum in the order of the taps. -/
theorem inorder (f : Fin 31 → EReal) : f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ i, f i := by
  simp only [Fin.sum_univ_succ, Fin.sum_univ_zero]
  simp
  abel

theorem mul0 : val_main_v14 (F := Ideal) x0 x1 x3 x4 (ix3 b t h) = val_main_v8 (F := Ideal) x0 x1 x3 (ix3 b ⟨0 + t.val, by omega⟩ h) * x4 (ix2 0 h) := by
  pointwise [val_main_v9, val_main_v10, val_main_v11, val_main_v12, val_main_v13, val_main_v14]

theorem mul1 : val_main_v22 (F := Ideal) x0 x1 x3 x4 (ix3 b t h) = val_main_v8 (F := Ideal) x0 x1 x3 (ix3 b ⟨1 + t.val, by omega⟩ h) * x4 (ix2 1 h) := by
  pointwise [val_main_v17, val_main_v18, val_main_v19, val_main_v20, val_main_v21, val_main_v22]

theorem mul2 : val_main_v29 (F := Ideal) x0 x1 x3 x4 (ix3 b t h) = val_main_v8 (F := Ideal) x0 x1 x3 (ix3 b ⟨2 + t.val, by omega⟩ h) * x4 (ix2 2 h) := by
  pointwise [val_main_v24, val_main_v25, val_main_v26, val_main_v27, val_main_v28, val_main_v29]

theorem mul3 : val_main_v36 (F := Ideal) x0 x1 x3 x4 (ix3 b t h) = val_main_v8 (F := Ideal) x0 x1 x3 (ix3 b ⟨3 + t.val, by omega⟩ h) * x4 (ix2 3 h) := by
  pointwise [val_main_v31, val_main_v32, val_main_v33, val_main_v34, val_main_v35, val_main_v36]

theorem mul4 : val_main_v43 (F := Ideal) x0 x1 x3 x4 (ix3 b t h) = val_main_v8 (F := Ideal) x0 x1 x3 (ix3 b ⟨4 + t.val, by omega⟩ h) * x4 (ix2 4 h) := by
  pointwise [val_main_v38, val_main_v39, val_main_v40, val_main_v41, val_main_v42, val_main_v43]

theorem mul5 : val_main_v50 (F := Ideal) x0 x1 x3 x4 (ix3 b t h) = val_main_v8 (F := Ideal) x0 x1 x3 (ix3 b ⟨5 + t.val, by omega⟩ h) * x4 (ix2 5 h) := by
  pointwise [val_main_v45, val_main_v46, val_main_v47, val_main_v48, val_main_v49, val_main_v50]

theorem mul6 : val_main_v57 (F := Ideal) x0 x1 x3 x4 (ix3 b t h) = val_main_v8 (F := Ideal) x0 x1 x3 (ix3 b ⟨6 + t.val, by omega⟩ h) * x4 (ix2 6 h) := by
  pointwise [val_main_v52, val_main_v53, val_main_v54, val_main_v55, val_main_v56, val_main_v57]

theorem mul7 : val_main_v64 (F := Ideal) x0 x1 x3 x4 (ix3 b t h) = val_main_v8 (F := Ideal) x0 x1 x3 (ix3 b ⟨7 + t.val, by omega⟩ h) * x4 (ix2 7 h) := by
  pointwise [val_main_v59, val_main_v60, val_main_v61, val_main_v62, val_main_v63, val_main_v64]

theorem mul8 : val_main_v71 (F := Ideal) x0 x1 x3 x4 (ix3 b t h) = val_main_v8 (F := Ideal) x0 x1 x3 (ix3 b ⟨8 + t.val, by omega⟩ h) * x4 (ix2 8 h) := by
  pointwise [val_main_v66, val_main_v67, val_main_v68, val_main_v69, val_main_v70, val_main_v71]

theorem mul9 : val_main_v78 (F := Ideal) x0 x1 x3 x4 (ix3 b t h) = val_main_v8 (F := Ideal) x0 x1 x3 (ix3 b ⟨9 + t.val, by omega⟩ h) * x4 (ix2 9 h) := by
  pointwise [val_main_v73, val_main_v74, val_main_v75, val_main_v76, val_main_v77, val_main_v78]

theorem mul10 : val_main_v85 (F := Ideal) x0 x1 x3 x4 (ix3 b t h) = val_main_v8 (F := Ideal) x0 x1 x3 (ix3 b ⟨10 + t.val, by omega⟩ h) * x4 (ix2 10 h) := by
  pointwise [val_main_v80, val_main_v81, val_main_v82, val_main_v83, val_main_v84, val_main_v85]

theorem mul11 : val_main_v92 (F := Ideal) x0 x1 x3 x4 (ix3 b t h) = val_main_v8 (F := Ideal) x0 x1 x3 (ix3 b ⟨11 + t.val, by omega⟩ h) * x4 (ix2 11 h) := by
  pointwise [val_main_v87, val_main_v88, val_main_v89, val_main_v90, val_main_v91, val_main_v92]

theorem mul12 : val_main_v99 (F := Ideal) x0 x1 x3 x4 (ix3 b t h) = val_main_v8 (F := Ideal) x0 x1 x3 (ix3 b ⟨12 + t.val, by omega⟩ h) * x4 (ix2 12 h) := by
  pointwise [val_main_v94, val_main_v95, val_main_v96, val_main_v97, val_main_v98, val_main_v99]

theorem mul13 : val_main_v106 (F := Ideal) x0 x1 x3 x4 (ix3 b t h) = val_main_v8 (F := Ideal) x0 x1 x3 (ix3 b ⟨13 + t.val, by omega⟩ h) * x4 (ix2 13 h) := by
  pointwise [val_main_v101, val_main_v102, val_main_v103, val_main_v104, val_main_v105, val_main_v106]

theorem mul14 : val_main_v113 (F := Ideal) x0 x1 x3 x4 (ix3 b t h) = val_main_v8 (F := Ideal) x0 x1 x3 (ix3 b ⟨14 + t.val, by omega⟩ h) * x4 (ix2 14 h) := by
  pointwise [val_main_v108, val_main_v109, val_main_v110, val_main_v111, val_main_v112, val_main_v113]

theorem mul15 : val_main_v120 (F := Ideal) x0 x1 x3 x4 (ix3 b t h) = val_main_v8 (F := Ideal) x0 x1 x3 (ix3 b ⟨15 + t.val, by omega⟩ h) * x4 (ix2 15 h) := by
  pointwise [val_main_v115, val_main_v116, val_main_v117, val_main_v118, val_main_v119, val_main_v120]

theorem mul16 : val_main_v127 (F := Ideal) x0 x1 x3 x4 (ix3 b t h) = val_main_v8 (F := Ideal) x0 x1 x3 (ix3 b ⟨16 + t.val, by omega⟩ h) * x4 (ix2 16 h) := by
  pointwise [val_main_v122, val_main_v123, val_main_v124, val_main_v125, val_main_v126, val_main_v127]

theorem mul17 : val_main_v134 (F := Ideal) x0 x1 x3 x4 (ix3 b t h) = val_main_v8 (F := Ideal) x0 x1 x3 (ix3 b ⟨17 + t.val, by omega⟩ h) * x4 (ix2 17 h) := by
  pointwise [val_main_v129, val_main_v130, val_main_v131, val_main_v132, val_main_v133, val_main_v134]

theorem mul18 : val_main_v141 (F := Ideal) x0 x1 x3 x4 (ix3 b t h) = val_main_v8 (F := Ideal) x0 x1 x3 (ix3 b ⟨18 + t.val, by omega⟩ h) * x4 (ix2 18 h) := by
  pointwise [val_main_v136, val_main_v137, val_main_v138, val_main_v139, val_main_v140, val_main_v141]

theorem mul19 : val_main_v148 (F := Ideal) x0 x1 x3 x4 (ix3 b t h) = val_main_v8 (F := Ideal) x0 x1 x3 (ix3 b ⟨19 + t.val, by omega⟩ h) * x4 (ix2 19 h) := by
  pointwise [val_main_v143, val_main_v144, val_main_v145, val_main_v146, val_main_v147, val_main_v148]

theorem mul20 : val_main_v155 (F := Ideal) x0 x1 x3 x4 (ix3 b t h) = val_main_v8 (F := Ideal) x0 x1 x3 (ix3 b ⟨20 + t.val, by omega⟩ h) * x4 (ix2 20 h) := by
  pointwise [val_main_v150, val_main_v151, val_main_v152, val_main_v153, val_main_v154, val_main_v155]

theorem mul21 : val_main_v162 (F := Ideal) x0 x1 x3 x4 (ix3 b t h) = val_main_v8 (F := Ideal) x0 x1 x3 (ix3 b ⟨21 + t.val, by omega⟩ h) * x4 (ix2 21 h) := by
  pointwise [val_main_v157, val_main_v158, val_main_v159, val_main_v160, val_main_v161, val_main_v162]

theorem mul22 : val_main_v169 (F := Ideal) x0 x1 x3 x4 (ix3 b t h) = val_main_v8 (F := Ideal) x0 x1 x3 (ix3 b ⟨22 + t.val, by omega⟩ h) * x4 (ix2 22 h) := by
  pointwise [val_main_v164, val_main_v165, val_main_v166, val_main_v167, val_main_v168, val_main_v169]

theorem mul23 : val_main_v176 (F := Ideal) x0 x1 x3 x4 (ix3 b t h) = val_main_v8 (F := Ideal) x0 x1 x3 (ix3 b ⟨23 + t.val, by omega⟩ h) * x4 (ix2 23 h) := by
  pointwise [val_main_v171, val_main_v172, val_main_v173, val_main_v174, val_main_v175, val_main_v176]

theorem mul24 : val_main_v183 (F := Ideal) x0 x1 x3 x4 (ix3 b t h) = val_main_v8 (F := Ideal) x0 x1 x3 (ix3 b ⟨24 + t.val, by omega⟩ h) * x4 (ix2 24 h) := by
  pointwise [val_main_v178, val_main_v179, val_main_v180, val_main_v181, val_main_v182, val_main_v183]

theorem mul25 : val_main_v190 (F := Ideal) x0 x1 x3 x4 (ix3 b t h) = val_main_v8 (F := Ideal) x0 x1 x3 (ix3 b ⟨25 + t.val, by omega⟩ h) * x4 (ix2 25 h) := by
  pointwise [val_main_v185, val_main_v186, val_main_v187, val_main_v188, val_main_v189, val_main_v190]

theorem mul26 : val_main_v197 (F := Ideal) x0 x1 x3 x4 (ix3 b t h) = val_main_v8 (F := Ideal) x0 x1 x3 (ix3 b ⟨26 + t.val, by omega⟩ h) * x4 (ix2 26 h) := by
  pointwise [val_main_v192, val_main_v193, val_main_v194, val_main_v195, val_main_v196, val_main_v197]

theorem mul27 : val_main_v204 (F := Ideal) x0 x1 x3 x4 (ix3 b t h) = val_main_v8 (F := Ideal) x0 x1 x3 (ix3 b ⟨27 + t.val, by omega⟩ h) * x4 (ix2 27 h) := by
  pointwise [val_main_v199, val_main_v200, val_main_v201, val_main_v202, val_main_v203, val_main_v204]

theorem mul28 : val_main_v211 (F := Ideal) x0 x1 x3 x4 (ix3 b t h) = val_main_v8 (F := Ideal) x0 x1 x3 (ix3 b ⟨28 + t.val, by omega⟩ h) * x4 (ix2 28 h) := by
  pointwise [val_main_v206, val_main_v207, val_main_v208, val_main_v209, val_main_v210, val_main_v211]

theorem mul29 : val_main_v218 (F := Ideal) x0 x1 x3 x4 (ix3 b t h) = val_main_v8 (F := Ideal) x0 x1 x3 (ix3 b ⟨29 + t.val, by omega⟩ h) * x4 (ix2 29 h) := by
  pointwise [val_main_v213, val_main_v214, val_main_v215, val_main_v216, val_main_v217, val_main_v218]

theorem mul30 : val_main_v225 (F := Ideal) x0 x1 x3 x4 (ix3 b t h) = val_main_v8 (F := Ideal) x0 x1 x3 (ix3 b ⟨30 + t.val, by omega⟩ h) * x4 (ix2 30 h) := by
  pointwise [val_main_v220, val_main_v221, val_main_v222, val_main_v223, val_main_v224, val_main_v225]

theorem unfolded : val_main_v226 (F := Ideal) x0 x1 x3 x4 (ix3 b t h) = val_main_v14 (F := Ideal) x0 x1 x3 x4 (ix3 b t h) + val_main_v22 (F := Ideal) x0 x1 x3 x4 (ix3 b t h) + val_main_v29 (F := Ideal) x0 x1 x3 x4 (ix3 b t h) + val_main_v36 (F := Ideal) x0 x1 x3 x4 (ix3 b t h) + val_main_v43 (F := Ideal) x0 x1 x3 x4 (ix3 b t h) + val_main_v50 (F := Ideal) x0 x1 x3 x4 (ix3 b t h) + val_main_v57 (F := Ideal) x0 x1 x3 x4 (ix3 b t h) + val_main_v64 (F := Ideal) x0 x1 x3 x4 (ix3 b t h) + val_main_v71 (F := Ideal) x0 x1 x3 x4 (ix3 b t h) + val_main_v78 (F := Ideal) x0 x1 x3 x4 (ix3 b t h) + val_main_v85 (F := Ideal) x0 x1 x3 x4 (ix3 b t h) + val_main_v92 (F := Ideal) x0 x1 x3 x4 (ix3 b t h) + val_main_v99 (F := Ideal) x0 x1 x3 x4 (ix3 b t h) + val_main_v106 (F := Ideal) x0 x1 x3 x4 (ix3 b t h) + val_main_v113 (F := Ideal) x0 x1 x3 x4 (ix3 b t h) + val_main_v120 (F := Ideal) x0 x1 x3 x4 (ix3 b t h) + val_main_v127 (F := Ideal) x0 x1 x3 x4 (ix3 b t h) + val_main_v134 (F := Ideal) x0 x1 x3 x4 (ix3 b t h) + val_main_v141 (F := Ideal) x0 x1 x3 x4 (ix3 b t h) + val_main_v148 (F := Ideal) x0 x1 x3 x4 (ix3 b t h) + val_main_v155 (F := Ideal) x0 x1 x3 x4 (ix3 b t h) + val_main_v162 (F := Ideal) x0 x1 x3 x4 (ix3 b t h) + val_main_v169 (F := Ideal) x0 x1 x3 x4 (ix3 b t h) + val_main_v176 (F := Ideal) x0 x1 x3 x4 (ix3 b t h) + val_main_v183 (F := Ideal) x0 x1 x3 x4 (ix3 b t h) + val_main_v190 (F := Ideal) x0 x1 x3 x4 (ix3 b t h) + val_main_v197 (F := Ideal) x0 x1 x3 x4 (ix3 b t h) + val_main_v204 (F := Ideal) x0 x1 x3 x4 (ix3 b t h) + val_main_v211 (F := Ideal) x0 x1 x3 x4 (ix3 b t h) + val_main_v218 (F := Ideal) x0 x1 x3 x4 (ix3 b t h) + val_main_v225 (F := Ideal) x0 x1 x3 x4 (ix3 b t h) := by
  pointwise [val_main_v15, val_main_v16, val_main_v23, val_main_v30, val_main_v37, val_main_v44, val_main_v51, val_main_v58, val_main_v65, val_main_v72, val_main_v79, val_main_v86, val_main_v93, val_main_v100, val_main_v107, val_main_v114, val_main_v121, val_main_v128, val_main_v135, val_main_v142, val_main_v149, val_main_v156, val_main_v163, val_main_v170, val_main_v177, val_main_v184, val_main_v191, val_main_v198, val_main_v205, val_main_v212, val_main_v219, val_main_v226, val_main_cst_1]

/-- The reference's convolution before its bias. -/
theorem conv_apply : val_main_v226 (F := Ideal) x0 x1 x3 x4 (ix3 b t h) = ∑ i, prod x0 x1 x3 x4 b t h i := by
  refine (unfolded x0 x1 x3 x4 b t h).trans ?_
  rw [mul0, mul1, mul2, mul3, mul4, mul5, mul6, mul7, mul8, mul9, mul10, mul11, mul12, mul13, mul14, mul15, mul16, mul17, mul18, mul19, mul20, mul21, mul22, mul23, mul24, mul25, mul26, mul27, mul28, mul29, mul30]
  exact inorder (prod x0 x1 x3 x4 b t h)

/-- A gated value. -/
def gated (v g : EReal) : EReal := v * Ideal.div 1 (1 + Ideal.exp (-g))

/-- The history's first rows are the state's. -/
theorem hist_lo (j : Fin 38) (j' : Fin 30) (hj : j.val = j'.val) : val_main_v8 (F := Ideal) x0 x1 x3 (ix3 b j h) = x3 (ix3 b j' h) := by
  unfold val_main_v8
  exact concatenate_pair_apply_left 1 x3 _ _ (ix3 b j h) rfl (ix3 b j' h) (by
    intro a
    fin_cases a
    · rfl
    · exact hj.symm
    · rfl)

/-- The history's last rows are the gated values. -/
theorem hist_hi (j : Fin 38) (hj : j.val = 30 + t.val) : val_main_v8 (F := Ideal) x0 x1 x3 (ix3 b j h)
    = gated (x0 (ix2 ⟨b.val * 8 + t.val, by omega⟩ h)) (x1 (ix2 ⟨b.val * 8 + t.val, by omega⟩ h)) := by
  have e : val_main_v7 (F := Ideal) x0 x1 (ix3 b t h) = gated (x0 (ix2 ⟨b.val * 8 + t.val, by omega⟩ h)) (x1 (ix2 ⟨b.val * 8 + t.val, by omega⟩ h)) := by
    unfold gated
    pointwise [val_main_v0, val_main_v1, val_main_cst, val_main_v2, val_main_v3, val_main_cst_0, val_main_v4, val_main_v5, val_main_v6, val_main_v7]
  refine Eq.trans ?_ e
  unfold val_main_v8
  exact concatenate_pair_apply_right 1 x3 (val_main_v7 (F := Ideal) x0 x1) _ (ix3 b j h) rfl rfl (ix3 b t h) (by
    intro a ha
    fin_cases a
    · rfl
    · exact absurd rfl ha
    · rfl) (show t.val + 30 = j.val by omega)

/-- The reference's second result is the history's last rows. -/
theorem second_apply (j : Fin 30) : val_main_v258 (F := Ideal) x0 x1 x3 (ix3 b j h) = val_main_v8 (F := Ideal) x0 x1 x3 (ix3 b ⟨8 + j.val, by omega⟩ h) := by
  pointwise [val_main_v258]

/-- The layer norm of a row, its activation, and the gate, at a channel. -/
def tail (u : Fin 2048 → EReal) (g b z : EReal) (h : Fin 2048) : EReal :=
  have d : Fin 2048 → EReal := fun l => u l - Ideal.div (∑ k : Fin 2048, u k) (Ideal.ofBits .f32 0x45000000#32)
  have n : EReal := d h * Ideal.rsqrt (Ideal.div (∑ l : Fin 2048, d l * d l) (Ideal.ofBits .f32 0x45000000#32) + Ideal.ofBits .f32 0x358637BD#32) * g + b
  n * Ideal.div 1 (1 + Ideal.exp (-n)) * (z * Ideal.div 1 (1 + Ideal.exp (-z)))

variable (x2 : FVec Ideal S64x2048 .f32) (x5 x6 x7 : FVec Ideal S2048 .f32)

/-- The reference's convolution with its bias. -/
theorem biased_apply : val_main_v229 (F := Ideal) x0 x1 x3 x4 x5 (ix3 b t h) = (∑ i, prod x0 x1 x3 x4 b t h i) + x5 (ix1 h) := by
  refine Eq.trans ?_ (congrArg (fun u : EReal => u + x5 (ix1 h)) (conv_apply x0 x1 x3 x4 b t h))
  pointwise [val_main_v227, val_main_v228, val_main_v229]

/-- The reference's first result. -/
theorem first_apply : val_main_v257 (F := Ideal) x0 x1 x2 x3 x4 x5 x6 x7 (ix2 ⟨b.val * 8 + t.val, by omega⟩ h)
    = tail (fun l => val_main_v229 (F := Ideal) x0 x1 x3 x4 x5 (ix3 b t l)) (x6 (ix1 h)) (x7 (ix1 h)) (x2 (ix2 ⟨b.val * 8 + t.val, by omega⟩ h)) h := by
  unfold tail
  pointwise [val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_cst_2, val_main_cst_3, val_main_cst_4, val_main_cst_5, val_main_cst_6, val_main_call0_v0, val_main_call0_v1, val_main_call0_cst, val_main_call0_v2, val_main_call0_v3, val_main_call0_cst_0, val_main_call0_v4, val_main_call0_v5, val_main_call1_v0, val_main_call1_v1, val_main_call1_cst, val_main_call1_v2, val_main_call1_v3, val_main_call1_cst_0, val_main_call1_v4, val_main_call1_v5]

end Cert.ConvSampleReferenceIdeal.Conv
-- ==== Proof.ConvSampleValue.lean ====
module

public import Idealize.ShloMosaic.Lib.StableHlo.ReadAt
public import proofs.«01_k».proof.Proof.ConvSampleIdealFrame
public import proofs.«01_k».proof.Proof.ConvSampleTaps
public import proofs.«01_k».proof.Proof.ConvSampleRef

/-!
# The convolution module over the candidates

A grid point computes one candidate's eight rows and its next state.
-/

@[expose] public section

set_option maxRecDepth 16384

noncomputable section

namespace Cert.ConvSampleIdeal.Conv

open Cert.ConvSampleIdeal Cert.ConvSampleIdeal.Gen Idealize.ShloMosaic Idealize.ShloMosaic.TcCoe Idealize.SL.Sem Idealize.ShloMosaic.Tactic
open Cert.ConvSampleReferenceIdeal.Read

/-- What a point writes first. -/
theorem out8_eq (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (hc0 : C0 i) (hc1 : C1 i) (x0 : Vec Ideal S8x2048 .f32) (x1 : Vec Ideal S8x2048 .f32) (x2 : Vec Ideal S8x2048 .f32) (x3 : Vec Ideal S1x32x2048 .f32) (x4 : Vec Ideal S31x2048 .f32) (x5 : Vec Ideal S1x2048 .f32) (x6 : Vec Ideal S1x2048 .f32) (x7 : Vec Ideal S1x2048 .f32) :
    out8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay1 (k0_pay23 (accOf c i arg2 harg2 arg3 harg3 arg4 harg4 arg5 harg5 arg6 harg6 arg7 harg7 arg8 harg8 arg9 harg9 arg10 harg10 arg11 harg11 arg12 harg12 arg13 harg13 arg14 harg14 x4 x5 (rowsOf (k0_pay20 x3) (k0_pay21 x0 x1)))) (k0_pay24 (accOf c i arg2 harg2 arg3 harg3 arg4 harg4 arg5 harg5 arg6 harg6 arg7 harg7 arg8 harg8 arg9 harg9 arg10 harg10 arg11 harg11 arg12 harg12 arg13 harg13 arg14 harg14 x4 x5 (rowsOf (k0_pay20 x3) (k0_pay21 x0 x1)))) x6 x7 x2 := by
  unfold out8 run
  dsimp only
  frame_out

/-- What a point writes second. -/
theorem out9_eq (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (hc0 : C0 i) (hc1 : C1 i) (x0 : Vec Ideal S8x2048 .f32) (x1 : Vec Ideal S8x2048 .f32) (x2 : Vec Ideal S8x2048 .f32) (x3 : Vec Ideal S1x32x2048 .f32) (x4 : Vec Ideal S31x2048 .f32) (x5 : Vec Ideal S1x2048 .f32) (x6 : Vec Ideal S1x2048 .f32) (x7 : Vec Ideal S1x2048 .f32) :
    out9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 (View.ld (rowsOf (k0_pay20 x3) (k0_pay21 x0 x1)) (Rect.unit (s := S40x2048) ![10, 0] S30x2048.size inb_S40x2048_S30x2048_10_0)) := by
  unfold out9 run
  dsimp only
  frame_out

/-- The convolution's rows, before the norm. -/
theorem acc_at (c : Dev nD) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (x4 : Vec Ideal S31x2048 .f32) (x5 : Vec Ideal S1x2048 .f32) (e : Vec Ideal S40x2048 .f32) (r : Fin 8) (h : Fin 2048) :
    accOf c i arg2 harg2 arg3 harg3 arg4 harg4 arg5 harg5 arg6 harg6 arg7 harg7 arg8 harg8 arg9 harg9 arg10 harg10 arg11 harg11 arg12 harg12 arg13 harg13 arg14 harg14 x4 x5 e (ix2 r h) = x5 (ix2 0 h) + ∑ n, prod x4 e r h n := by
  have hk : h.val / 128 < k0_t1_loop.trips := by rw [trips_eq]; omega
  have hcol : col ⟨h.val / 128, hk⟩ ⟨h.val % 128, Nat.mod_lt _ (by decide)⟩ = h := Fin.ext (Nat.div_add_mod h.val 128)
  refine Eq.trans ?_ ((trip_at arg2 harg2 arg3 harg3 arg4 harg4 arg5 harg5 arg6 harg6 arg7 harg7 arg8 harg8 arg9 harg9 arg10 harg10 arg11 harg11 arg12 harg12 arg13 harg13 arg14 harg14 x4 x5 e ⟨h.val / 128, hk⟩ r ⟨h.val % 128, Nat.mod_lt _ (by decide)⟩ c i).trans ?_)
  · unfold accOf
    refine congrArg _ (funext (Fin.forall_fin_two.mpr ⟨rfl, rfl⟩))
  · rw [hcol]

/-- The kernel's norm, activation and gate. -/
theorem tail_at (x : FVec Ideal S8x2048 .f32) (g b : Vec Ideal S1x2048 .f32) (z : Vec Ideal S8x2048 .f32) (r : Fin 8) (h : Fin 2048) :
    k0_pay1 (k0_pay23 x) (k0_pay24 x) g b z (ix2 r h) = Cert.ConvSampleReferenceIdeal.Conv.tail (fun l => x (ix2 r l)) (g (ix2 0 h)) (b (ix2 0 h)) (z (ix2 r h)) h := by
  unfold Cert.ConvSampleReferenceIdeal.Conv.tail
  pointwise [k0_pay1, k0_pay23, k0_pay24, zero_sub]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0, 0] :=
  (by decide +kernel : ∀ t : Fin grid0.N, _)

/-- The row of the arrays that row `r` of grid point `t` is. -/
def row (t : Fin cfg0.N) (r : Fin 8) : Fin 64 := ⟨t.val * 8 + r.val, by have : t.val < 8 := t.isLt; omega⟩

/-- The candidate of a grid point. -/
def cand (t : Fin cfg0.N) : Fin 8 := ⟨t.val, t.isLt⟩

theorem padded (n : Fin 8) (j : Fin 30) (h : Fin 2048) : V m c main_v0 (ix3 n (⟨2 + j.val, by omega⟩ : Fin 32) h) = m ((c : Thread nD τ).loc main_arg3) (ix3 n j h) := by
  unfold V
  simp only [hostOps0, hostOps0_1, hostOps0_2, List.flatten_cons, List.flatten_nil, List.append_nil, List.cons_append, List.nil_append]
  after_reads_at

theorem vec5 (h : Fin 2048) : V m c main_v1 (ix2 (0 : Fin 1) h) = m ((c : Thread nD τ).loc main_arg5) (ix1 h) := by
  unfold V
  simp only [hostOps0, hostOps0_1, hostOps0_2, List.flatten_cons, List.flatten_nil, List.append_nil, List.cons_append, List.nil_append]
  after_reads_at

theorem vec6 (h : Fin 2048) : V m c main_v2 (ix2 (0 : Fin 1) h) = m ((c : Thread nD τ).loc main_arg6) (ix1 h) := by
  unfold V
  simp only [hostOps0, hostOps0_1, hostOps0_2, List.flatten_cons, List.flatten_nil, List.append_nil, List.cons_append, List.nil_append]
  after_reads_at

theorem vec7 (h : Fin 2048) : V m c main_v3 (ix2 (0 : Fin 1) h) = m ((c : Thread nD τ).loc main_arg7) (ix1 h) := by
  unfold V
  simp only [hostOps0, hostOps0_1, hostOps0_2, List.flatten_cons, List.flatten_nil, List.append_nil, List.cons_append, List.nil_append]
  after_reads_at

theorem values (t : Fin cfg0.N) (r : Fin 8) (h : Fin 2048) : iblk m c 0 t (ix2 r h) = m ((c : Thread nD τ).loc main_arg0) (ix2 (row t r) h) := by
  unfold row
  blk_point [iblk, V, idx t]

theorem gates (t : Fin cfg0.N) (r : Fin 8) (h : Fin 2048) : iblk m c 1 t (ix2 r h) = m ((c : Thread nD τ).loc main_arg1) (ix2 (row t r) h) := by
  unfold row
  blk_point [iblk, V, idx t]

theorem branch (t : Fin cfg0.N) (r : Fin 8) (h : Fin 2048) : iblk m c 2 t (ix2 r h) = m ((c : Thread nD τ).loc main_arg2) (ix2 (row t r) h) := by
  unfold row
  blk_point [iblk, V, idx t]

theorem state (t : Fin cfg0.N) (j : Fin 30) (h : Fin 2048) : iblk m c 3 t (ix3 0 ⟨2 + j.val, by omega⟩ h) = m ((c : Thread nD τ).loc main_arg3) (ix3 (cand t) j h) := by
  refine Eq.trans ?_ (padded m c (cand t) j h)
  unfold cand
  blk_point [iblk, idx t]

theorem taps (t : Fin cfg0.N) (n : Fin 31) (h : Fin 2048) : iblk m c 4 t (ix2 n h) = m ((c : Thread nD τ).loc main_arg4) (ix2 n h) := by
  blk_point [iblk, V, idx t]

theorem shift (t : Fin cfg0.N) (h : Fin 2048) : iblk m c 5 t (ix2 (0 : Fin 1) h) = m ((c : Thread nD τ).loc main_arg5) (ix1 h) := by
  refine Eq.trans ?_ (vec5 m c h)
  blk_point [iblk, idx t]

theorem gain (t : Fin cfg0.N) (h : Fin 2048) : iblk m c 6 t (ix2 (0 : Fin 1) h) = m ((c : Thread nD τ).loc main_arg6) (ix1 h) := by
  refine Eq.trans ?_ (vec6 m c h)
  blk_point [iblk, idx t]

theorem offset (t : Fin cfg0.N) (h : Fin 2048) : iblk m c 7 t (ix2 (0 : Fin 1) h) = m ((c : Thread nD τ).loc main_arg7) (ix1 h) := by
  refine Eq.trans ?_ (vec7 m c h)
  blk_point [iblk, idx t]

/-- The history the kernel's scratch holds at a point. -/
abbrev rows (t : Fin cfg0.N) : Vec Ideal S40x2048 .f32 := rowsOf (k0_pay20 (iblk m c 3 t)) (k0_pay21 (iblk m c 0 t) (iblk m c 1 t))

theorem rows_lo (t : Fin cfg0.N) (j : Fin 30) (h : Fin 2048) : rows m c t (ix2 ⟨2 + j.val, by omega⟩ h) = m ((c : Thread nD τ).loc main_arg3) (ix3 (cand t) j h) := by
  refine Eq.trans ?_ (state m c t j h)
  unfold rows rowsOf
  refine (dif_pos (show 2 + j.val < 32 by omega)).trans ?_
  refine Eq.trans (congrArg (k0_pay20 (iblk m c 3 t)) (show _ = ix2 (⟨2 + j.val, by omega⟩ : Fin 32) h from funext (Fin.forall_fin_two.mpr ⟨rfl, rfl⟩))) ?_
  pointwise [k0_pay20]

theorem rows_hi (t : Fin cfg0.N) (r : Fin 8) (h : Fin 2048) : rows m c t (ix2 ⟨32 + r.val, by omega⟩ h)
    = Cert.ConvSampleReferenceIdeal.Conv.gated (m ((c : Thread nD τ).loc main_arg0) (ix2 (row t r) h)) (m ((c : Thread nD τ).loc main_arg1) (ix2 (row t r) h)) := by
  refine Eq.trans ?_ (congrArg₂ Cert.ConvSampleReferenceIdeal.Conv.gated (values m c t r h) (gates m c t r h))
  unfold rows rowsOf Cert.ConvSampleReferenceIdeal.Conv.gated
  refine (dif_neg (show ¬ 32 + r.val < 32 by omega)).trans ?_
  refine Eq.trans (congrArg (k0_pay21 (iblk m c 0 t) (iblk m c 1 t)) (show _ = ix2 r h from funext (Fin.forall_fin_two.mpr ⟨Fin.ext (show 32 + r.val - 32 = r.val by omega), rfl⟩))) ?_
  pointwise [k0_pay21, zero_sub]

/-- The reference's history, of the kernel's arguments. -/
abbrev hist : FVec Ideal Cert.ConvSampleReferenceIdeal.S8x38x2048 .f32 :=
  val_main_v8 (F := Ideal) (m ((c : Thread nD τ).loc main_arg0)) (m ((c : Thread nD τ).loc main_arg1)) (m ((c : Thread nD τ).loc main_arg3))

/-- The reference's first result, of the kernel's arguments. -/
abbrev result : FVec Ideal S64x2048 .f32 :=
  val_main_v257 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's second result, of the kernel's arguments. -/
abbrev next : FVec Ideal S8x30x2048 .f32 :=
  val_main_v258 (F := Ideal) (m ((c : Thread nD τ).loc main_arg0)) (m ((c : Thread nD τ).loc main_arg1)) (m ((c : Thread nD τ).loc main_arg3))

/-- The kernel's history is the reference's, two rows further down. -/
theorem rows_eq (t : Fin cfg0.N) (p : Fin 40) (j : Fin 38) (hp : p.val = 2 + j.val) (h : Fin 2048) : rows m c t (ix2 p h) = hist m c (ix3 (cand t) j h) := by
  by_cases hj : j.val < 30
  · refine Eq.trans ?_ ((rows_lo m c t ⟨j.val, hj⟩ h).trans (Cert.ConvSampleReferenceIdeal.Conv.hist_lo _ _ _ (cand t) h j ⟨j.val, hj⟩ rfl).symm)
    exact congrArg (fun p => rows m c t (ix2 p h)) (Fin.ext hp)
  · have hr : j.val - 30 < 8 := by omega
    refine Eq.trans ?_ ((rows_hi m c t ⟨j.val - 30, hr⟩ h).trans (Cert.ConvSampleReferenceIdeal.Conv.hist_hi _ _ _ (cand t) ⟨j.val - 30, hr⟩ h j (show j.val = 30 + (j.val - 30) by omega)).symm)
    exact congrArg (fun p => rows m c t (ix2 p h)) (Fin.ext (show p.val = 32 + (j.val - 30) by omega))

/-- A point's convolution is the reference's. -/
theorem conv_eq (t : Fin cfg0.N) (i : grid0.Coords) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x32x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S1x30x2048 .f32) (harg11 : arg11.IsWhole) (arg12 : Memref sig .tc .vmem S40x2048 .f32) (harg12 : arg12.IsWhole) (arg13 : Memref sig .tc .vmem S8x2048 .f32) (harg13 : arg13.IsWhole) (arg14 : Memref sig .tc .vmem S40x128 .f32) (harg14 : arg14.IsWhole) (r : Fin 8) (h : Fin 2048) :
    accOf c i arg2 harg2 arg3 harg3 arg4 harg4 arg5 harg5 arg6 harg6 arg7 harg7 arg8 harg8 arg9 harg9 arg10 harg10 arg11 harg11 arg12 harg12 arg13 harg13 arg14 harg14 (iblk m c 4 t) (iblk m c 5 t) (rows m c t) (ix2 r h)
      = val_main_v229 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix3 (cand t) r h) := by
  refine (acc_at c i arg2 harg2 arg3 harg3 arg4 harg4 arg5 harg5 arg6 harg6 arg7 harg7 arg8 harg8 arg9 harg9 arg10 harg10 arg11 harg11 arg12 harg12 arg13 harg13 arg14 harg14 _ _ _ r h).trans (Eq.trans ?_ (Cert.ConvSampleReferenceIdeal.Conv.biased_apply _ _ _ _ (cand t) r h _).symm)
  refine (add_comm _ _).trans (congrArg₂ (fun u v : EReal => u + v) (Finset.sum_congr rfl fun n _ => ?_) (shift m c t h))
  exact congrArg₂ (fun u v : EReal => u * v) (rows_eq m c t _ ⟨n.val + r.val, by omega⟩ (Nat.add_assoc 2 n.val r.val) h) (taps m c t n h)

/-- What a point writes first is the result at its rows. -/
theorem point (t : Fin cfg0.N) (r : Fin 8) (h : Fin 2048) : (outs m c t).1 (ix2 r h) = result m c (ix2 (row t r) h) := by
  unfold outs
  dsimp only
  rw [out8_eq]
  refine (tail_at _ _ _ _ r h).trans (Eq.trans ?_ (Cert.ConvSampleReferenceIdeal.Conv.first_apply _ _ _ _ (cand t) r h _ _ _ _).symm)
  rw [gain, offset, branch]
  exact congrArg (fun u => Cert.ConvSampleReferenceIdeal.Conv.tail u _ _ _ h) (funext fun l => conv_eq m c t _ _ _ _ _ _ _ _ _ _ _ _ _ _ _ _ _ _ _ _ _ _ _ _ _ _ _ r l)

/-- What a point writes second is the next state of its candidate. -/
theorem point2 (t : Fin cfg0.N) (j : Fin 30) (h : Fin 2048) : (outs m c t).2 (ix3 (0 : Fin 1) j h) = next m c (ix3 (cand t) j h) := by
  unfold outs
  dsimp only
  rw [out9_eq]
  refine Eq.trans ?_ ((rows_eq m c t ⟨10 + j.val, by omega⟩ ⟨8 + j.val, by omega⟩ (by simp only []; omega) h).trans (Cert.ConvSampleReferenceIdeal.Conv.second_apply _ _ _ (cand t) h j).symm)
  refine Eq.trans (b := View.ld (rows m c t) (Rect.unit (s := S40x2048) ![10, 0] S30x2048.size inb_S40x2048_S30x2048_10_0) (ix2 j h)) ?_ ?_
  · pointwise [k0_pay2]
  · refine congrArg (rows m c t) (funext (Fin.forall_fin_two.mpr ⟨Fin.ext ?_, Fin.ext ?_⟩))
    · simp only [Rect.unit]; simp [ix2]
    · simp only [Rect.unit]; simp [ix2]

/-- The first output array after the run. -/
theorem final : (dats m 0 c).arrAt 8 cfg0.N = result m c := by
  refine (dats m 0 c).arrAt_eq_of_covers 8 _ (by decide +kernel) fun t hf y => ?_
  blk_simp
  rw [after0_8, eq_ix2 (n0 := 8) (n1 := 2048) y]
  refine (point m c t (y 0) (y 1)).trans (congrArg (result m c) ?_)
  unfold row
  blk_ext [idx t]

/-- The second output array after the run. -/
theorem final_next : (dats m 0 c).arrAt 9 cfg0.N = next m c := by
  refine (dats m 0 c).arrAt_eq_of_covers 9 _ (by decide +kernel) fun t hf y => ?_
  blk_simp
  rw [after0_9, eq_ix3 (n0 := 1) (n1 := 30) (n2 := 2048) y]
  have hy : y 0 = (0 : Fin 1) := Fin.ext (Nat.lt_one_iff.mp (show (y 0).val < 1 from (y 0).isLt))
  rw [hy]
  refine (point2 m c t (y 1) (y 2)).trans (congrArg (next m c) ?_)
  unfold cand
  blk_ext [idx t]

/-- The run ends with the two results in the output arrays, and the arguments as they were. -/
theorem run_results (ρ : Dev nD → PrngReg) : θ_run defs (onTc (τ := τ) (main (F := Ideal))) ⟨m, fun _ => 0, ρ⟩ (fun r => ∀ c : Dev nD,
      r.2.mem ((c.tc : Thread nD τ).loc main_v4_0) = result m c
      ∧ r.2.mem ((c.tc : Thread nD τ).loc main_v4_1) = next m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c), ((h c).1 9).trans (final_next m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.ConvSampleIdeal.Conv
-- ==== Proof.lean ====
module

public import proofs.«01_k».proof.Defs
public import proofs.«01_k».proof.Proof.Gen.Kernel.Frame
public import proofs.«01_k».proof.Proof.Whole
public import proofs.«01_k».proof.Proof.Gen.Output.Frame
public import proofs.«01_k».proof.Proof.Gen.OutputReferenceIdeal.Run
public import proofs.«01_k».proof.Proof.OutputValue
public import proofs.«01_k».proof.Proof.Gen.OutputSample.Frame
public import proofs.«01_k».proof.Proof.Gen.OutputSampleReferenceIdeal.Run
public import proofs.«01_k».proof.Proof.OutputSampleValue
public import proofs.«01_k».proof.Proof.Gen.OutputNext.Frame
public import proofs.«01_k».proof.Proof.Gen.OutputNextReferenceIdeal.Run
public import proofs.«01_k».proof.Proof.OutputNextValue
public import proofs.«01_k».proof.Proof.Gen.Project.Frame
public import proofs.«01_k».proof.Proof.Gen.ProjectReferenceIdeal.Run
public import proofs.«01_k».proof.Proof.ProjectValue
public import proofs.«01_k».proof.Proof.Gen.ProjectSample.Frame
public import proofs.«01_k».proof.Proof.Gen.ProjectSampleReferenceIdeal.Run
public import proofs.«01_k».proof.Proof.ProjectSampleValue
public import proofs.«01_k».proof.Proof.Gen.ProjectWide.Frame
public import proofs.«01_k».proof.Proof.Gen.ProjectWideReferenceIdeal.Run
public import proofs.«01_k».proof.Proof.ProjectWideValue
public import proofs.«01_k».proof.Proof.Gen.Norm.Frame
public import proofs.«01_k».proof.Proof.Gen.NormReferenceIdeal.Run
public import proofs.«01_k».proof.Proof.NormValue
public import proofs.«01_k».proof.Proof.Gen.OutputFirst.Frame
public import proofs.«01_k».proof.Proof.Gen.OutputFirstReferenceIdeal.Run
public import proofs.«01_k».proof.Proof.OutputFirstValue
public import proofs.«01_k».proof.Proof.Gen.OutputFirstSample.Frame
public import proofs.«01_k».proof.Proof.Gen.OutputFirstSampleReferenceIdeal.Run
public import proofs.«01_k».proof.Proof.OutputFirstSampleValue
public import proofs.«01_k».proof.Proof.Gen.OutputNextSample.Frame
public import proofs.«01_k».proof.Proof.Gen.OutputNextSampleReferenceIdeal.Run
public import proofs.«01_k».proof.Proof.OutputNextSampleValue
public import proofs.«01_k».proof.Proof.Gen.ProjectGate.Frame
public import proofs.«01_k».proof.Proof.Gen.ProjectGateReferenceIdeal.Run
public import proofs.«01_k».proof.Proof.ProjectGateValue
public import proofs.«01_k».proof.Proof.Gen.ProjectStep.Frame
public import proofs.«01_k».proof.Proof.Gen.ProjectStepReferenceIdeal.Run
public import proofs.«01_k».proof.Proof.ProjectStepValue
public import proofs.«01_k».proof.Proof.Gen.ProjectWideSample.Frame
public import proofs.«01_k».proof.Proof.Gen.ProjectWideSampleReferenceIdeal.Run
public import proofs.«01_k».proof.Proof.ProjectWideSampleValue
public import proofs.«01_k».proof.Proof.Gen.ProjectGateSample.Frame
public import proofs.«01_k».proof.Proof.Gen.ProjectGateSampleReferenceIdeal.Run
public import proofs.«01_k».proof.Proof.ProjectGateSampleValue
public import proofs.«01_k».proof.Proof.Gen.ProjectStepSample.Frame
public import proofs.«01_k».proof.Proof.Gen.ProjectStepSampleReferenceIdeal.Run
public import proofs.«01_k».proof.Proof.ProjectStepSampleValue
public import proofs.«01_k».proof.Proof.Gen.NormSample.Frame
public import proofs.«01_k».proof.Proof.Gen.NormSampleReferenceIdeal.Run
public import proofs.«01_k».proof.Proof.NormSampleValue
public import proofs.«01_k».proof.Proof.ConvSampleFrame
public import proofs.«01_k».proof.Proof.Gen.ConvSampleReferenceIdeal.Run
public import proofs.«01_k».proof.Proof.ConvSampleValue

/-!
# The certificate's claims
-/

@[expose] public section

namespace Cert.Proof

open Idealize.ShloMosaic Idealize.ShloMosaic.TcCoe Idealize.SL.Sem

/-- The ideal program differs from the kernel's in two named constants only: `log2e` and `qscale`. -/
theorem preserves : Cert.preserves_Kernel_KernelIdeal :=
  ⟨IdealRules.named_const.statement Cert.KernelIdeal.κ "log2e" .f32 0x3FB8AA3B#32 _ rfl,
    IdealRules.named_const.statement Cert.KernelIdeal.κ "qscale" .f32 0x3E0293EE#32 _ rfl⟩

/-- Over the extended reals the kernel's attention array is the reference's, from equal arguments. -/
theorem value : Cert.algebraic_KernelIdeal_ReferenceIdeal (hKernelIdeal := Cert.KernelIdeal.Gen.facts) (hReferenceIdeal := Cert.ReferenceIdeal.Gen.facts) := by
  intro m g m' g' _ hag
  refine ⟨fun c => Cert.ReferenceIdeal.Value.res_main_v30 m' c, ?_, ?_⟩
  · refine (θ_run _ _ _).mono (fun r h c => ⟨(h c).1.trans ?_, (h c).2⟩) (Cert.KernelIdeal.Value.run_blocks m g)
    obtain ⟨h0, h1, h2, h3, h4⟩ := hag c
    refine (Cert.KernelIdeal.Sweep.final m c).trans (Eq.trans ?_ (Cert.ReferenceIdeal.Read.val_main_v30_eq m' c).symm)
    rw [h0, h1, h2, h3, h4]
    rfl
  · exact Cert.ReferenceIdeal.Value.run m' g'

/-- The reference's run leaves its arguments as they were; it declares no semaphore, so every counter reads zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's run leaves its arguments as they were; it declares no semaphore, so every counter reads zero. -/
theorem frameOutput : Cert.quiescent_OutputReferenceIdeal (hOutputReferenceIdeal := Cert.OutputReferenceIdeal.Gen.facts) := fun m ρ _ =>
  (θ_run Cert.OutputReferenceIdeal.defs _ _).mono
    (fun r h => ⟨fun c => (h c).2, Idealize.ShloMosaic.sem_eq_zero_of_no_sems (by decide) r.2⟩)
    (Cert.OutputReferenceIdeal.Value.run (F := Ideal) m ρ)

/-- Over the extended reals the array `Output` computes is its reference's, from equal arguments. -/
theorem valueOutput : Cert.algebraic_OutputIdeal_OutputReferenceIdeal (hOutputIdeal := Cert.OutputIdeal.Gen.facts) (hOutputReferenceIdeal := Cert.OutputReferenceIdeal.Gen.facts) := by
  intro m g m' g' _ hag
  refine ⟨fun c => Cert.OutputReferenceIdeal.Read.val_main_v25 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)), ?_, ?_⟩
  · refine (θ_run _ _ _).mono (fun r h c => ⟨(h c).1.trans ?_, (h c).2⟩) (Cert.OutputIdeal.Value.run_blocks m g)
    obtain ⟨h0, h1, h2, h3, h4, h5, h6⟩ := hag c
    refine (Cert.OutputIdeal.Rows.final m c).trans ?_
    dsimp only
    rw [h0, h1, h2, h3, h4, h5, h6]
  · exact (θ_run _ _ _).mono (fun r h c => ⟨(h c).1.trans (Cert.OutputReferenceIdeal.Read.val_main_v25_eq _ _ _ _ _ _ _), (h c).2⟩) (Cert.OutputReferenceIdeal.Value.run m' g')

/-- The reference's run leaves its arguments as they were; it declares no semaphore, so every counter reads zero. -/
theorem frameOutputSample : Cert.quiescent_OutputSampleReferenceIdeal (hOutputSampleReferenceIdeal := Cert.OutputSampleReferenceIdeal.Gen.facts) := fun m ρ _ =>
  (θ_run Cert.OutputSampleReferenceIdeal.defs _ _).mono
    (fun r h => ⟨fun c => (h c).2, Idealize.ShloMosaic.sem_eq_zero_of_no_sems (by decide) r.2⟩)
    (Cert.OutputSampleReferenceIdeal.Value.run (F := Ideal) m ρ)

/-- Over the extended reals the array `OutputSample` computes is its reference's, from equal arguments. -/
theorem valueOutputSample : Cert.algebraic_OutputSampleIdeal_OutputSampleReferenceIdeal (hOutputSampleIdeal := Cert.OutputSampleIdeal.Gen.facts) (hOutputSampleReferenceIdeal := Cert.OutputSampleReferenceIdeal.Gen.facts) := by
  intro m g m' g' _ hag
  refine ⟨fun c => Cert.OutputSampleReferenceIdeal.Read.val_main_v24 (F := Ideal) (m' ((c : Thread Cert.OutputSampleReferenceIdeal.nD Cert.OutputSampleReferenceIdeal.τ).loc Cert.OutputSampleReferenceIdeal.main_arg0)) (m' ((c : Thread Cert.OutputSampleReferenceIdeal.nD Cert.OutputSampleReferenceIdeal.τ).loc Cert.OutputSampleReferenceIdeal.main_arg1)) (m' ((c : Thread Cert.OutputSampleReferenceIdeal.nD Cert.OutputSampleReferenceIdeal.τ).loc Cert.OutputSampleReferenceIdeal.main_arg2)) (m' ((c : Thread Cert.OutputSampleReferenceIdeal.nD Cert.OutputSampleReferenceIdeal.τ).loc Cert.OutputSampleReferenceIdeal.main_arg3)) (m' ((c : Thread Cert.OutputSampleReferenceIdeal.nD Cert.OutputSampleReferenceIdeal.τ).loc Cert.OutputSampleReferenceIdeal.main_arg4)) (m' ((c : Thread Cert.OutputSampleReferenceIdeal.nD Cert.OutputSampleReferenceIdeal.τ).loc Cert.OutputSampleReferenceIdeal.main_arg5)) (m' ((c : Thread Cert.OutputSampleReferenceIdeal.nD Cert.OutputSampleReferenceIdeal.τ).loc Cert.OutputSampleReferenceIdeal.main_arg6)), ?_, ?_⟩
  · refine (θ_run _ _ _).mono (fun r h c => ⟨(h c).1.trans ?_, (h c).2⟩) (Cert.OutputSampleIdeal.Value.run_blocks m g)
    obtain ⟨h0, h1, h2, h3, h4, h5, h6⟩ := hag c
    refine (Cert.OutputSampleIdeal.Rows.final m c).trans ?_
    dsimp only
    rw [h0, h1, h2, h3, h4, h5, h6]
  · exact (θ_run _ _ _).mono (fun r h c => ⟨(h c).1.trans (Cert.OutputSampleReferenceIdeal.Read.val_main_v24_eq _ _ _ _ _ _ _), (h c).2⟩) (Cert.OutputSampleReferenceIdeal.Value.run m' g')

/-- The reference's run leaves its arguments as they were; it declares no semaphore, so every counter reads zero. -/
theorem frameOutputNext : Cert.quiescent_OutputNextReferenceIdeal (hOutputNextReferenceIdeal := Cert.OutputNextReferenceIdeal.Gen.facts) := fun m ρ _ =>
  (θ_run Cert.OutputNextReferenceIdeal.defs _ _).mono
    (fun r h => ⟨fun c => (h c).2.2, Idealize.ShloMosaic.sem_eq_zero_of_no_sems (by decide) r.2⟩)
    (Cert.OutputNextReferenceIdeal.Value.run (F := Ideal) m ρ)

/-- Over the extended reals the two arrays `OutputNext` computes are its reference's, from equal arguments. -/
theorem valueOutputNext : Cert.algebraic_OutputNextIdeal_OutputNextReferenceIdeal (hOutputNextIdeal := Cert.OutputNextIdeal.Gen.facts) (hOutputNextReferenceIdeal := Cert.OutputNextReferenceIdeal.Gen.facts) := by
  intro m g m' g' _ hag
  refine ⟨fun c => Cert.OutputNextReferenceIdeal.Read.val_main_v25 (F := Ideal) (m' ((c : Thread Cert.OutputNextReferenceIdeal.nD Cert.OutputNextReferenceIdeal.τ).loc Cert.OutputNextReferenceIdeal.main_arg0)) (m' ((c : Thread Cert.OutputNextReferenceIdeal.nD Cert.OutputNextReferenceIdeal.τ).loc Cert.OutputNextReferenceIdeal.main_arg1)) (m' ((c : Thread Cert.OutputNextReferenceIdeal.nD Cert.OutputNextReferenceIdeal.τ).loc Cert.OutputNextReferenceIdeal.main_arg2)) (m' ((c : Thread Cert.OutputNextReferenceIdeal.nD Cert.OutputNextReferenceIdeal.τ).loc Cert.OutputNextReferenceIdeal.main_arg3)) (m' ((c : Thread Cert.OutputNextReferenceIdeal.nD Cert.OutputNextReferenceIdeal.τ).loc Cert.OutputNextReferenceIdeal.main_arg4)) (m' ((c : Thread Cert.OutputNextReferenceIdeal.nD Cert.OutputNextReferenceIdeal.τ).loc Cert.OutputNextReferenceIdeal.main_arg5)) (m' ((c : Thread Cert.OutputNextReferenceIdeal.nD Cert.OutputNextReferenceIdeal.τ).loc Cert.OutputNextReferenceIdeal.main_arg6)),
    fun c => Cert.OutputNextReferenceIdeal.Read.val_main_v39 (F := Ideal) (m' ((c : Thread Cert.OutputNextReferenceIdeal.nD Cert.OutputNextReferenceIdeal.τ).loc Cert.OutputNextReferenceIdeal.main_arg0)) (m' ((c : Thread Cert.OutputNextReferenceIdeal.nD Cert.OutputNextReferenceIdeal.τ).loc Cert.OutputNextReferenceIdeal.main_arg1)) (m' ((c : Thread Cert.OutputNextReferenceIdeal.nD Cert.OutputNextReferenceIdeal.τ).loc Cert.OutputNextReferenceIdeal.main_arg2)) (m' ((c : Thread Cert.OutputNextReferenceIdeal.nD Cert.OutputNextReferenceIdeal.τ).loc Cert.OutputNextReferenceIdeal.main_arg3)) (m' ((c : Thread Cert.OutputNextReferenceIdeal.nD Cert.OutputNextReferenceIdeal.τ).loc Cert.OutputNextReferenceIdeal.main_arg4)) (m' ((c : Thread Cert.OutputNextReferenceIdeal.nD Cert.OutputNextReferenceIdeal.τ).loc Cert.OutputNextReferenceIdeal.main_arg5)) (m' ((c : Thread Cert.OutputNextReferenceIdeal.nD Cert.OutputNextReferenceIdeal.τ).loc Cert.OutputNextReferenceIdeal.main_arg6)) (m' ((c : Thread Cert.OutputNextReferenceIdeal.nD Cert.OutputNextReferenceIdeal.τ).loc Cert.OutputNextReferenceIdeal.main_arg7)), ?_, ?_⟩
  · refine (θ_run _ _ _).mono (fun r h c => ⟨(h c).1.trans ?_, (h c).2.1.trans ?_, (h c).2.2⟩) (Cert.OutputNextIdeal.Value.run_blocks m g)
    · obtain ⟨h0, h1, h2, h3, h4, h5, h6, h7⟩ := hag c
      refine (Cert.OutputNextIdeal.Rows.final m c).trans ?_
      dsimp only
      rw [h0, h1, h2, h3, h4, h5, h6]
    · obtain ⟨h0, h1, h2, h3, h4, h5, h6, h7⟩ := hag c
      refine (Cert.OutputNextIdeal.Rows.final_next m c).trans ?_
      dsimp only
      rw [h0, h1, h2, h3, h4, h5, h6, h7]
  · exact (θ_run _ _ _).mono (fun r h c => ⟨(h c).1.trans (Cert.OutputNextReferenceIdeal.Read.val_main_v25_eq _ _ _ _ _ _ _),
      (h c).2.1.trans (Cert.OutputNextReferenceIdeal.Read.val_main_v39_eq m' c), (h c).2.2⟩) (Cert.OutputNextReferenceIdeal.Value.run m' g')

/-- The reference's run leaves its arguments as they were; it declares no semaphore, so every counter reads zero. -/
theorem frameProject : Cert.quiescent_ProjectReferenceIdeal (hProjectReferenceIdeal := Cert.ProjectReferenceIdeal.Gen.facts) := fun m ρ _ =>
  (θ_run Cert.ProjectReferenceIdeal.defs _ _).mono
    (fun r h => ⟨fun c => (h c).2, Idealize.ShloMosaic.sem_eq_zero_of_no_sems (by decide) r.2⟩)
    (Cert.ProjectReferenceIdeal.Value.run (F := Ideal) m ρ)

/-- Over the extended reals the array `Project` computes is its reference's, from equal arguments. -/
theorem valueProject : Cert.algebraic_ProjectIdeal_ProjectReferenceIdeal (hProjectIdeal := Cert.ProjectIdeal.Gen.facts) (hProjectReferenceIdeal := Cert.ProjectReferenceIdeal.Gen.facts) := by
  intro m g m' g' _ hag
  refine ⟨fun c => Cert.ProjectReferenceIdeal.Read.val_main_v1 (F := Ideal) (m' ((c : Thread Cert.ProjectReferenceIdeal.nD Cert.ProjectReferenceIdeal.τ).loc Cert.ProjectReferenceIdeal.main_arg0)) (m' ((c : Thread Cert.ProjectReferenceIdeal.nD Cert.ProjectReferenceIdeal.τ).loc Cert.ProjectReferenceIdeal.main_arg1)), ?_, ?_⟩
  · refine (θ_run _ _ _).mono (fun r h c => ⟨(h c).1.trans ?_, (h c).2⟩) (Cert.ProjectIdeal.Value.run_blocks m g)
    obtain ⟨h0, h1⟩ := hag c
    refine (Cert.ProjectIdeal.Rows.final m c).trans ?_
    dsimp only
    rw [h0, h1]
  · exact (θ_run _ _ _).mono (fun r h c => ⟨(h c).1.trans (Cert.ProjectReferenceIdeal.Read.val_main_v1_eq _ _), (h c).2⟩) (Cert.ProjectReferenceIdeal.Value.run m' g')

/-- The reference's run leaves its arguments as they were; it declares no semaphore, so every counter reads zero. -/
theorem frameProjectSample : Cert.quiescent_ProjectSampleReferenceIdeal (hProjectSampleReferenceIdeal := Cert.ProjectSampleReferenceIdeal.Gen.facts) := fun m ρ _ =>
  (θ_run Cert.ProjectSampleReferenceIdeal.defs _ _).mono
    (fun r h => ⟨fun c => (h c).2, Idealize.ShloMosaic.sem_eq_zero_of_no_sems (by decide) r.2⟩)
    (Cert.ProjectSampleReferenceIdeal.Value.run (F := Ideal) m ρ)

/-- Over the extended reals the array `ProjectSample` computes is its reference's, from equal arguments. -/
theorem valueProjectSample : Cert.algebraic_ProjectSampleIdeal_ProjectSampleReferenceIdeal (hProjectSampleIdeal := Cert.ProjectSampleIdeal.Gen.facts) (hProjectSampleReferenceIdeal := Cert.ProjectSampleReferenceIdeal.Gen.facts) := by
  intro m g m' g' _ hag
  refine ⟨fun c => Cert.ProjectSampleReferenceIdeal.Read.val_main_v1 (F := Ideal) (m' ((c : Thread Cert.ProjectSampleReferenceIdeal.nD Cert.ProjectSampleReferenceIdeal.τ).loc Cert.ProjectSampleReferenceIdeal.main_arg0)) (m' ((c : Thread Cert.ProjectSampleReferenceIdeal.nD Cert.ProjectSampleReferenceIdeal.τ).loc Cert.ProjectSampleReferenceIdeal.main_arg1)), ?_, ?_⟩
  · refine (θ_run _ _ _).mono (fun r h c => ⟨(h c).1.trans ?_, (h c).2⟩) (Cert.ProjectSampleIdeal.Value.run_blocks m g)
    obtain ⟨h0, h1⟩ := hag c
    refine (Cert.ProjectSampleIdeal.Rows.final m c).trans ?_
    dsimp only
    rw [h0, h1]
  · exact (θ_run _ _ _).mono (fun r h c => ⟨(h c).1.trans (Cert.ProjectSampleReferenceIdeal.Read.val_main_v1_eq _ _), (h c).2⟩) (Cert.ProjectSampleReferenceIdeal.Value.run m' g')

/-- The reference's run leaves its arguments as they were; it declares no semaphore, so every counter reads zero. -/
theorem frameProjectWide : Cert.quiescent_ProjectWideReferenceIdeal (hProjectWideReferenceIdeal := Cert.ProjectWideReferenceIdeal.Gen.facts) := fun m ρ _ =>
  (θ_run Cert.ProjectWideReferenceIdeal.defs _ _).mono
    (fun r h => ⟨fun c => (h c).2, Idealize.ShloMosaic.sem_eq_zero_of_no_sems (by decide) r.2⟩)
    (Cert.ProjectWideReferenceIdeal.Value.run (F := Ideal) m ρ)

/-- Over the extended reals the array `ProjectWide` computes is its reference's, from equal arguments. -/
theorem valueProjectWide : Cert.algebraic_ProjectWideIdeal_ProjectWideReferenceIdeal (hProjectWideIdeal := Cert.ProjectWideIdeal.Gen.facts) (hProjectWideReferenceIdeal := Cert.ProjectWideReferenceIdeal.Gen.facts) := by
  intro m g m' g' _ hag
  refine ⟨fun c => Cert.ProjectWideReferenceIdeal.Read.val_main_v1 (F := Ideal) (m' ((c : Thread Cert.ProjectWideReferenceIdeal.nD Cert.ProjectWideReferenceIdeal.τ).loc Cert.ProjectWideReferenceIdeal.main_arg0)) (m' ((c : Thread Cert.ProjectWideReferenceIdeal.nD Cert.ProjectWideReferenceIdeal.τ).loc Cert.ProjectWideReferenceIdeal.main_arg1)), ?_, ?_⟩
  · refine (θ_run _ _ _).mono (fun r h c => ⟨(h c).1.trans ?_, (h c).2⟩) (Cert.ProjectWideIdeal.Value.run_blocks m g)
    obtain ⟨h0, h1⟩ := hag c
    refine (Cert.ProjectWideIdeal.Rows.final m c).trans ?_
    dsimp only
    rw [h0, h1]
  · exact (θ_run _ _ _).mono (fun r h c => ⟨(h c).1.trans (Cert.ProjectWideReferenceIdeal.Read.val_main_v1_eq _ _), (h c).2⟩) (Cert.ProjectWideReferenceIdeal.Value.run m' g')

/-- The reference's run leaves its arguments as they were; it declares no semaphore, so every counter reads zero. -/
theorem frameNorm : Cert.quiescent_NormReferenceIdeal (hNormReferenceIdeal := Cert.NormReferenceIdeal.Gen.facts) := fun m ρ _ =>
  (θ_run Cert.NormReferenceIdeal.defs _ _).mono
    (fun r h => ⟨fun c => (h c).2, Idealize.ShloMosaic.sem_eq_zero_of_no_sems (by decide) r.2⟩)
    (Cert.NormReferenceIdeal.Value.run (F := Ideal) m ρ)

/-- Over the extended reals the array `Norm` computes is its reference's, from equal arguments. -/
theorem valueNorm : Cert.algebraic_NormIdeal_NormReferenceIdeal (hNormIdeal := Cert.NormIdeal.Gen.facts) (hNormReferenceIdeal := Cert.NormReferenceIdeal.Gen.facts) := by
  intro m g m' g' _ hag
  refine ⟨fun c => Cert.NormReferenceIdeal.Read.val_main_v13 (F := Ideal) (m' ((c : Thread Cert.NormReferenceIdeal.nD Cert.NormReferenceIdeal.τ).loc Cert.NormReferenceIdeal.main_arg0)) (m' ((c : Thread Cert.NormReferenceIdeal.nD Cert.NormReferenceIdeal.τ).loc Cert.NormReferenceIdeal.main_arg1)), ?_, ?_⟩
  · refine (θ_run _ _ _).mono (fun r h c => ⟨(h c).1.trans ?_, (h c).2⟩) (Cert.NormIdeal.Value.run_blocks m g)
    obtain ⟨h0, h1⟩ := hag c
    refine (Cert.NormIdeal.Rows.final m c).trans ?_
    dsimp only
    rw [h0, h1]
  · exact (θ_run _ _ _).mono (fun r h c => ⟨(h c).1.trans (Cert.NormReferenceIdeal.Read.val_main_v13_eq _ _), (h c).2⟩) (Cert.NormReferenceIdeal.Value.run m' g')

/-- The reference's run leaves its arguments as they were; it declares no semaphore, so every counter reads zero. -/
theorem frameOutputFirst : Cert.quiescent_OutputFirstReferenceIdeal (hOutputFirstReferenceIdeal := Cert.OutputFirstReferenceIdeal.Gen.facts) := fun m ρ _ =>
  (θ_run Cert.OutputFirstReferenceIdeal.defs _ _).mono
    (fun r h => ⟨fun c => (h c).2.2, Idealize.ShloMosaic.sem_eq_zero_of_no_sems (by decide) r.2⟩)
    (Cert.OutputFirstReferenceIdeal.Value.run (F := Ideal) m ρ)

/-- Over the extended reals the two arrays `OutputFirst` computes are its reference's, from equal arguments. -/
theorem valueOutputFirst : Cert.algebraic_OutputFirstIdeal_OutputFirstReferenceIdeal (hOutputFirstIdeal := Cert.OutputFirstIdeal.Gen.facts) (hOutputFirstReferenceIdeal := Cert.OutputFirstReferenceIdeal.Gen.facts) := by
  intro m g m' g' _ hag
  refine ⟨fun c => Cert.OutputFirstReferenceIdeal.Read.val_main_v25 (F := Ideal) (m' ((c : Thread Cert.OutputFirstReferenceIdeal.nD Cert.OutputFirstReferenceIdeal.τ).loc Cert.OutputFirstReferenceIdeal.main_arg0)) (m' ((c : Thread Cert.OutputFirstReferenceIdeal.nD Cert.OutputFirstReferenceIdeal.τ).loc Cert.OutputFirstReferenceIdeal.main_arg1)) (m' ((c : Thread Cert.OutputFirstReferenceIdeal.nD Cert.OutputFirstReferenceIdeal.τ).loc Cert.OutputFirstReferenceIdeal.main_arg2)) (m' ((c : Thread Cert.OutputFirstReferenceIdeal.nD Cert.OutputFirstReferenceIdeal.τ).loc Cert.OutputFirstReferenceIdeal.main_arg3)) (m' ((c : Thread Cert.OutputFirstReferenceIdeal.nD Cert.OutputFirstReferenceIdeal.τ).loc Cert.OutputFirstReferenceIdeal.main_arg4)) (m' ((c : Thread Cert.OutputFirstReferenceIdeal.nD Cert.OutputFirstReferenceIdeal.τ).loc Cert.OutputFirstReferenceIdeal.main_arg5)) (m' ((c : Thread Cert.OutputFirstReferenceIdeal.nD Cert.OutputFirstReferenceIdeal.τ).loc Cert.OutputFirstReferenceIdeal.main_arg6)),
    fun c => Cert.OutputFirstReferenceIdeal.Read.val_main_v39 (F := Ideal) (m' ((c : Thread Cert.OutputFirstReferenceIdeal.nD Cert.OutputFirstReferenceIdeal.τ).loc Cert.OutputFirstReferenceIdeal.main_arg0)) (m' ((c : Thread Cert.OutputFirstReferenceIdeal.nD Cert.OutputFirstReferenceIdeal.τ).loc Cert.OutputFirstReferenceIdeal.main_arg1)) (m' ((c : Thread Cert.OutputFirstReferenceIdeal.nD Cert.OutputFirstReferenceIdeal.τ).loc Cert.OutputFirstReferenceIdeal.main_arg2)) (m' ((c : Thread Cert.OutputFirstReferenceIdeal.nD Cert.OutputFirstReferenceIdeal.τ).loc Cert.OutputFirstReferenceIdeal.main_arg3)) (m' ((c : Thread Cert.OutputFirstReferenceIdeal.nD Cert.OutputFirstReferenceIdeal.τ).loc Cert.OutputFirstReferenceIdeal.main_arg4)) (m' ((c : Thread Cert.OutputFirstReferenceIdeal.nD Cert.OutputFirstReferenceIdeal.τ).loc Cert.OutputFirstReferenceIdeal.main_arg5)) (m' ((c : Thread Cert.OutputFirstReferenceIdeal.nD Cert.OutputFirstReferenceIdeal.τ).loc Cert.OutputFirstReferenceIdeal.main_arg6)) (m' ((c : Thread Cert.OutputFirstReferenceIdeal.nD Cert.OutputFirstReferenceIdeal.τ).loc Cert.OutputFirstReferenceIdeal.main_arg7)), ?_, ?_⟩
  · refine (θ_run _ _ _).mono (fun r h c => ⟨(h c).1.trans ?_, (h c).2.1.trans ?_, (h c).2.2⟩) (Cert.OutputFirstIdeal.Value.run_blocks m g)
    · obtain ⟨h0, h1, h2, h3, h4, h5, h6, h7⟩ := hag c
      refine (Cert.OutputFirstIdeal.Rows.final m c).trans ?_
      dsimp only
      rw [h0, h1, h2, h3, h4, h5, h6]
    · obtain ⟨h0, h1, h2, h3, h4, h5, h6, h7⟩ := hag c
      refine (Cert.OutputFirstIdeal.Rows.final_next m c).trans ?_
      dsimp only
      rw [h0, h1, h2, h3, h4, h5, h6, h7]
  · exact (θ_run _ _ _).mono (fun r h c => ⟨(h c).1.trans (Cert.OutputFirstReferenceIdeal.Read.val_main_v25_eq _ _ _ _ _ _ _),
      (h c).2.1.trans (Cert.OutputFirstReferenceIdeal.Read.val_main_v39_eq m' c), (h c).2.2⟩) (Cert.OutputFirstReferenceIdeal.Value.run m' g')

/-- The reference's run leaves its arguments as they were; it declares no semaphore, so every counter reads zero. -/
theorem frameOutputFirstSample : Cert.quiescent_OutputFirstSampleReferenceIdeal (hOutputFirstSampleReferenceIdeal := Cert.OutputFirstSampleReferenceIdeal.Gen.facts) := fun m ρ _ =>
  (θ_run Cert.OutputFirstSampleReferenceIdeal.defs _ _).mono
    (fun r h => ⟨fun c => (h c).2.2, Idealize.ShloMosaic.sem_eq_zero_of_no_sems (by decide) r.2⟩)
    (Cert.OutputFirstSampleReferenceIdeal.Value.run (F := Ideal) m ρ)

/-- Over the extended reals the two arrays `OutputFirstSample` computes are its reference's, from equal arguments. -/
theorem valueOutputFirstSample : Cert.algebraic_OutputFirstSampleIdeal_OutputFirstSampleReferenceIdeal (hOutputFirstSampleIdeal := Cert.OutputFirstSampleIdeal.Gen.facts) (hOutputFirstSampleReferenceIdeal := Cert.OutputFirstSampleReferenceIdeal.Gen.facts) := by
  intro m g m' g' _ hag
  refine ⟨fun c => Cert.OutputFirstSampleReferenceIdeal.Read.val_main_v24 (F := Ideal) (m' ((c : Thread Cert.OutputFirstSampleReferenceIdeal.nD Cert.OutputFirstSampleReferenceIdeal.τ).loc Cert.OutputFirstSampleReferenceIdeal.main_arg0)) (m' ((c : Thread Cert.OutputFirstSampleReferenceIdeal.nD Cert.OutputFirstSampleReferenceIdeal.τ).loc Cert.OutputFirstSampleReferenceIdeal.main_arg1)) (m' ((c : Thread Cert.OutputFirstSampleReferenceIdeal.nD Cert.OutputFirstSampleReferenceIdeal.τ).loc Cert.OutputFirstSampleReferenceIdeal.main_arg2)) (m' ((c : Thread Cert.OutputFirstSampleReferenceIdeal.nD Cert.OutputFirstSampleReferenceIdeal.τ).loc Cert.OutputFirstSampleReferenceIdeal.main_arg3)) (m' ((c : Thread Cert.OutputFirstSampleReferenceIdeal.nD Cert.OutputFirstSampleReferenceIdeal.τ).loc Cert.OutputFirstSampleReferenceIdeal.main_arg4)) (m' ((c : Thread Cert.OutputFirstSampleReferenceIdeal.nD Cert.OutputFirstSampleReferenceIdeal.τ).loc Cert.OutputFirstSampleReferenceIdeal.main_arg5)) (m' ((c : Thread Cert.OutputFirstSampleReferenceIdeal.nD Cert.OutputFirstSampleReferenceIdeal.τ).loc Cert.OutputFirstSampleReferenceIdeal.main_arg6)),
    fun c => Cert.OutputFirstSampleReferenceIdeal.Read.val_main_v38 (F := Ideal) (m' ((c : Thread Cert.OutputFirstSampleReferenceIdeal.nD Cert.OutputFirstSampleReferenceIdeal.τ).loc Cert.OutputFirstSampleReferenceIdeal.main_arg0)) (m' ((c : Thread Cert.OutputFirstSampleReferenceIdeal.nD Cert.OutputFirstSampleReferenceIdeal.τ).loc Cert.OutputFirstSampleReferenceIdeal.main_arg1)) (m' ((c : Thread Cert.OutputFirstSampleReferenceIdeal.nD Cert.OutputFirstSampleReferenceIdeal.τ).loc Cert.OutputFirstSampleReferenceIdeal.main_arg2)) (m' ((c : Thread Cert.OutputFirstSampleReferenceIdeal.nD Cert.OutputFirstSampleReferenceIdeal.τ).loc Cert.OutputFirstSampleReferenceIdeal.main_arg3)) (m' ((c : Thread Cert.OutputFirstSampleReferenceIdeal.nD Cert.OutputFirstSampleReferenceIdeal.τ).loc Cert.OutputFirstSampleReferenceIdeal.main_arg4)) (m' ((c : Thread Cert.OutputFirstSampleReferenceIdeal.nD Cert.OutputFirstSampleReferenceIdeal.τ).loc Cert.OutputFirstSampleReferenceIdeal.main_arg5)) (m' ((c : Thread Cert.OutputFirstSampleReferenceIdeal.nD Cert.OutputFirstSampleReferenceIdeal.τ).loc Cert.OutputFirstSampleReferenceIdeal.main_arg6)) (m' ((c : Thread Cert.OutputFirstSampleReferenceIdeal.nD Cert.OutputFirstSampleReferenceIdeal.τ).loc Cert.OutputFirstSampleReferenceIdeal.main_arg7)), ?_, ?_⟩
  · refine (θ_run _ _ _).mono (fun r h c => ⟨(h c).1.trans ?_, (h c).2.1.trans ?_, (h c).2.2⟩) (Cert.OutputFirstSampleIdeal.Value.run_blocks m g)
    · obtain ⟨h0, h1, h2, h3, h4, h5, h6, h7⟩ := hag c
      refine (Cert.OutputFirstSampleIdeal.Rows.final m c).trans ?_
      dsimp only
      rw [h0, h1, h2, h3, h4, h5, h6]
    · obtain ⟨h0, h1, h2, h3, h4, h5, h6, h7⟩ := hag c
      refine (Cert.OutputFirstSampleIdeal.Rows.final_next m c).trans ?_
      dsimp only
      rw [h0, h1, h2, h3, h4, h5, h6, h7]
  · exact (θ_run _ _ _).mono (fun r h c => ⟨(h c).1.trans (Cert.OutputFirstSampleReferenceIdeal.Read.val_main_v24_eq _ _ _ _ _ _ _),
      (h c).2.1.trans (Cert.OutputFirstSampleReferenceIdeal.Read.val_main_v38_eq m' c), (h c).2.2⟩) (Cert.OutputFirstSampleReferenceIdeal.Value.run m' g')

/-- The reference's run leaves its arguments as they were; it declares no semaphore, so every counter reads zero. -/
theorem frameOutputNextSample : Cert.quiescent_OutputNextSampleReferenceIdeal (hOutputNextSampleReferenceIdeal := Cert.OutputNextSampleReferenceIdeal.Gen.facts) := fun m ρ _ =>
  (θ_run Cert.OutputNextSampleReferenceIdeal.defs _ _).mono
    (fun r h => ⟨fun c => (h c).2.2, Idealize.ShloMosaic.sem_eq_zero_of_no_sems (by decide) r.2⟩)
    (Cert.OutputNextSampleReferenceIdeal.Value.run (F := Ideal) m ρ)

/-- Over the extended reals the two arrays `OutputNextSample` computes are its reference's, from equal arguments. -/
theorem valueOutputNextSample : Cert.algebraic_OutputNextSampleIdeal_OutputNextSampleReferenceIdeal (hOutputNextSampleIdeal := Cert.OutputNextSampleIdeal.Gen.facts) (hOutputNextSampleReferenceIdeal := Cert.OutputNextSampleReferenceIdeal.Gen.facts) := by
  intro m g m' g' _ hag
  refine ⟨fun c => Cert.OutputNextSampleReferenceIdeal.Read.val_main_v24 (F := Ideal) (m' ((c : Thread Cert.OutputNextSampleReferenceIdeal.nD Cert.OutputNextSampleReferenceIdeal.τ).loc Cert.OutputNextSampleReferenceIdeal.main_arg0)) (m' ((c : Thread Cert.OutputNextSampleReferenceIdeal.nD Cert.OutputNextSampleReferenceIdeal.τ).loc Cert.OutputNextSampleReferenceIdeal.main_arg1)) (m' ((c : Thread Cert.OutputNextSampleReferenceIdeal.nD Cert.OutputNextSampleReferenceIdeal.τ).loc Cert.OutputNextSampleReferenceIdeal.main_arg2)) (m' ((c : Thread Cert.OutputNextSampleReferenceIdeal.nD Cert.OutputNextSampleReferenceIdeal.τ).loc Cert.OutputNextSampleReferenceIdeal.main_arg3)) (m' ((c : Thread Cert.OutputNextSampleReferenceIdeal.nD Cert.OutputNextSampleReferenceIdeal.τ).loc Cert.OutputNextSampleReferenceIdeal.main_arg4)) (m' ((c : Thread Cert.OutputNextSampleReferenceIdeal.nD Cert.OutputNextSampleReferenceIdeal.τ).loc Cert.OutputNextSampleReferenceIdeal.main_arg5)) (m' ((c : Thread Cert.OutputNextSampleReferenceIdeal.nD Cert.OutputNextSampleReferenceIdeal.τ).loc Cert.OutputNextSampleReferenceIdeal.main_arg6)),
    fun c => Cert.OutputNextSampleReferenceIdeal.Read.val_main_v38 (F := Ideal) (m' ((c : Thread Cert.OutputNextSampleReferenceIdeal.nD Cert.OutputNextSampleReferenceIdeal.τ).loc Cert.OutputNextSampleReferenceIdeal.main_arg0)) (m' ((c : Thread Cert.OutputNextSampleReferenceIdeal.nD Cert.OutputNextSampleReferenceIdeal.τ).loc Cert.OutputNextSampleReferenceIdeal.main_arg1)) (m' ((c : Thread Cert.OutputNextSampleReferenceIdeal.nD Cert.OutputNextSampleReferenceIdeal.τ).loc Cert.OutputNextSampleReferenceIdeal.main_arg2)) (m' ((c : Thread Cert.OutputNextSampleReferenceIdeal.nD Cert.OutputNextSampleReferenceIdeal.τ).loc Cert.OutputNextSampleReferenceIdeal.main_arg3)) (m' ((c : Thread Cert.OutputNextSampleReferenceIdeal.nD Cert.OutputNextSampleReferenceIdeal.τ).loc Cert.OutputNextSampleReferenceIdeal.main_arg4)) (m' ((c : Thread Cert.OutputNextSampleReferenceIdeal.nD Cert.OutputNextSampleReferenceIdeal.τ).loc Cert.OutputNextSampleReferenceIdeal.main_arg5)) (m' ((c : Thread Cert.OutputNextSampleReferenceIdeal.nD Cert.OutputNextSampleReferenceIdeal.τ).loc Cert.OutputNextSampleReferenceIdeal.main_arg6)) (m' ((c : Thread Cert.OutputNextSampleReferenceIdeal.nD Cert.OutputNextSampleReferenceIdeal.τ).loc Cert.OutputNextSampleReferenceIdeal.main_arg7)), ?_, ?_⟩
  · refine (θ_run _ _ _).mono (fun r h c => ⟨(h c).1.trans ?_, (h c).2.1.trans ?_, (h c).2.2⟩) (Cert.OutputNextSampleIdeal.Value.run_blocks m g)
    · obtain ⟨h0, h1, h2, h3, h4, h5, h6, h7⟩ := hag c
      refine (Cert.OutputNextSampleIdeal.Rows.final m c).trans ?_
      dsimp only
      rw [h0, h1, h2, h3, h4, h5, h6]
    · obtain ⟨h0, h1, h2, h3, h4, h5, h6, h7⟩ := hag c
      refine (Cert.OutputNextSampleIdeal.Rows.final_next m c).trans ?_
      dsimp only
      rw [h0, h1, h2, h3, h4, h5, h6, h7]
  · exact (θ_run _ _ _).mono (fun r h c => ⟨(h c).1.trans (Cert.OutputNextSampleReferenceIdeal.Read.val_main_v24_eq _ _ _ _ _ _ _),
      (h c).2.1.trans (Cert.OutputNextSampleReferenceIdeal.Read.val_main_v38_eq m' c), (h c).2.2⟩) (Cert.OutputNextSampleReferenceIdeal.Value.run m' g')

/-- The reference's run leaves its arguments as they were; it declares no semaphore, so every counter reads zero. -/
theorem frameProjectGate : Cert.quiescent_ProjectGateReferenceIdeal (hProjectGateReferenceIdeal := Cert.ProjectGateReferenceIdeal.Gen.facts) := fun m ρ _ =>
  (θ_run Cert.ProjectGateReferenceIdeal.defs _ _).mono
    (fun r h => ⟨fun c => (h c).2, Idealize.ShloMosaic.sem_eq_zero_of_no_sems (by decide) r.2⟩)
    (Cert.ProjectGateReferenceIdeal.Value.run (F := Ideal) m ρ)

/-- Over the extended reals the array `ProjectGate` computes is its reference's, from equal arguments. -/
theorem valueProjectGate : Cert.algebraic_ProjectGateIdeal_ProjectGateReferenceIdeal (hProjectGateIdeal := Cert.ProjectGateIdeal.Gen.facts) (hProjectGateReferenceIdeal := Cert.ProjectGateReferenceIdeal.Gen.facts) := by
  intro m g m' g' _ hag
  refine ⟨fun c => Cert.ProjectGateReferenceIdeal.Read.val_main_v1 (F := Ideal) (m' ((c : Thread Cert.ProjectGateReferenceIdeal.nD Cert.ProjectGateReferenceIdeal.τ).loc Cert.ProjectGateReferenceIdeal.main_arg0)) (m' ((c : Thread Cert.ProjectGateReferenceIdeal.nD Cert.ProjectGateReferenceIdeal.τ).loc Cert.ProjectGateReferenceIdeal.main_arg1)), ?_, ?_⟩
  · refine (θ_run _ _ _).mono (fun r h c => ⟨(h c).1.trans ?_, (h c).2⟩) (Cert.ProjectGateIdeal.Value.run_blocks m g)
    obtain ⟨h0, h1⟩ := hag c
    refine (Cert.ProjectGateIdeal.Rows.final m c).trans ?_
    dsimp only
    rw [h0, h1]
  · exact (θ_run _ _ _).mono (fun r h c => ⟨(h c).1.trans (Cert.ProjectGateReferenceIdeal.Read.val_main_v1_eq _ _), (h c).2⟩) (Cert.ProjectGateReferenceIdeal.Value.run m' g')

/-- The reference's run leaves its arguments as they were; it declares no semaphore, so every counter reads zero. -/
theorem frameProjectStep : Cert.quiescent_ProjectStepReferenceIdeal (hProjectStepReferenceIdeal := Cert.ProjectStepReferenceIdeal.Gen.facts) := fun m ρ _ =>
  (θ_run Cert.ProjectStepReferenceIdeal.defs _ _).mono
    (fun r h => ⟨fun c => (h c).2, Idealize.ShloMosaic.sem_eq_zero_of_no_sems (by decide) r.2⟩)
    (Cert.ProjectStepReferenceIdeal.Value.run (F := Ideal) m ρ)

/-- Over the extended reals the array `ProjectStep` computes is its reference's, from equal arguments. -/
theorem valueProjectStep : Cert.algebraic_ProjectStepIdeal_ProjectStepReferenceIdeal (hProjectStepIdeal := Cert.ProjectStepIdeal.Gen.facts) (hProjectStepReferenceIdeal := Cert.ProjectStepReferenceIdeal.Gen.facts) := by
  intro m g m' g' _ hag
  refine ⟨fun c => Cert.ProjectStepReferenceIdeal.Read.val_main_v1 (F := Ideal) (m' ((c : Thread Cert.ProjectStepReferenceIdeal.nD Cert.ProjectStepReferenceIdeal.τ).loc Cert.ProjectStepReferenceIdeal.main_arg0)) (m' ((c : Thread Cert.ProjectStepReferenceIdeal.nD Cert.ProjectStepReferenceIdeal.τ).loc Cert.ProjectStepReferenceIdeal.main_arg1)), ?_, ?_⟩
  · refine (θ_run _ _ _).mono (fun r h c => ⟨(h c).1.trans ?_, (h c).2⟩) (Cert.ProjectStepIdeal.Value.run_blocks m g)
    obtain ⟨h0, h1⟩ := hag c
    refine (Cert.ProjectStepIdeal.Rows.final m c).trans ?_
    dsimp only
    rw [h0, h1]
  · exact (θ_run _ _ _).mono (fun r h c => ⟨(h c).1.trans (Cert.ProjectStepReferenceIdeal.Read.val_main_v1_eq _ _), (h c).2⟩) (Cert.ProjectStepReferenceIdeal.Value.run m' g')

/-- The reference's run leaves its arguments as they were; it declares no semaphore, so every counter reads zero. -/
theorem frameProjectWideSample : Cert.quiescent_ProjectWideSampleReferenceIdeal (hProjectWideSampleReferenceIdeal := Cert.ProjectWideSampleReferenceIdeal.Gen.facts) := fun m ρ _ =>
  (θ_run Cert.ProjectWideSampleReferenceIdeal.defs _ _).mono
    (fun r h => ⟨fun c => (h c).2, Idealize.ShloMosaic.sem_eq_zero_of_no_sems (by decide) r.2⟩)
    (Cert.ProjectWideSampleReferenceIdeal.Value.run (F := Ideal) m ρ)

/-- Over the extended reals the array `ProjectWideSample` computes is its reference's, from equal arguments. -/
theorem valueProjectWideSample : Cert.algebraic_ProjectWideSampleIdeal_ProjectWideSampleReferenceIdeal (hProjectWideSampleIdeal := Cert.ProjectWideSampleIdeal.Gen.facts) (hProjectWideSampleReferenceIdeal := Cert.ProjectWideSampleReferenceIdeal.Gen.facts) := by
  intro m g m' g' _ hag
  refine ⟨fun c => Cert.ProjectWideSampleReferenceIdeal.Read.val_main_v1 (F := Ideal) (m' ((c : Thread Cert.ProjectWideSampleReferenceIdeal.nD Cert.ProjectWideSampleReferenceIdeal.τ).loc Cert.ProjectWideSampleReferenceIdeal.main_arg0)) (m' ((c : Thread Cert.ProjectWideSampleReferenceIdeal.nD Cert.ProjectWideSampleReferenceIdeal.τ).loc Cert.ProjectWideSampleReferenceIdeal.main_arg1)), ?_, ?_⟩
  · refine (θ_run _ _ _).mono (fun r h c => ⟨(h c).1.trans ?_, (h c).2⟩) (Cert.ProjectWideSampleIdeal.Value.run_blocks m g)
    obtain ⟨h0, h1⟩ := hag c
    refine (Cert.ProjectWideSampleIdeal.Rows.final m c).trans ?_
    dsimp only
    rw [h0, h1]
  · exact (θ_run _ _ _).mono (fun r h c => ⟨(h c).1.trans (Cert.ProjectWideSampleReferenceIdeal.Read.val_main_v1_eq _ _), (h c).2⟩) (Cert.ProjectWideSampleReferenceIdeal.Value.run m' g')

/-- The reference's run leaves its arguments as they were; it declares no semaphore, so every counter reads zero. -/
theorem frameProjectGateSample : Cert.quiescent_ProjectGateSampleReferenceIdeal (hProjectGateSampleReferenceIdeal := Cert.ProjectGateSampleReferenceIdeal.Gen.facts) := fun m ρ _ =>
  (θ_run Cert.ProjectGateSampleReferenceIdeal.defs _ _).mono
    (fun r h => ⟨fun c => (h c).2, Idealize.ShloMosaic.sem_eq_zero_of_no_sems (by decide) r.2⟩)
    (Cert.ProjectGateSampleReferenceIdeal.Value.run (F := Ideal) m ρ)

/-- Over the extended reals the array `ProjectGateSample` computes is its reference's, from equal arguments. -/
theorem valueProjectGateSample : Cert.algebraic_ProjectGateSampleIdeal_ProjectGateSampleReferenceIdeal (hProjectGateSampleIdeal := Cert.ProjectGateSampleIdeal.Gen.facts) (hProjectGateSampleReferenceIdeal := Cert.ProjectGateSampleReferenceIdeal.Gen.facts) := by
  intro m g m' g' _ hag
  refine ⟨fun c => Cert.ProjectGateSampleReferenceIdeal.Read.val_main_v1 (F := Ideal) (m' ((c : Thread Cert.ProjectGateSampleReferenceIdeal.nD Cert.ProjectGateSampleReferenceIdeal.τ).loc Cert.ProjectGateSampleReferenceIdeal.main_arg0)) (m' ((c : Thread Cert.ProjectGateSampleReferenceIdeal.nD Cert.ProjectGateSampleReferenceIdeal.τ).loc Cert.ProjectGateSampleReferenceIdeal.main_arg1)), ?_, ?_⟩
  · refine (θ_run _ _ _).mono (fun r h c => ⟨(h c).1.trans ?_, (h c).2⟩) (Cert.ProjectGateSampleIdeal.Value.run_blocks m g)
    obtain ⟨h0, h1⟩ := hag c
    refine (Cert.ProjectGateSampleIdeal.Rows.final m c).trans ?_
    dsimp only
    rw [h0, h1]
  · exact (θ_run _ _ _).mono (fun r h c => ⟨(h c).1.trans (Cert.ProjectGateSampleReferenceIdeal.Read.val_main_v1_eq _ _), (h c).2⟩) (Cert.ProjectGateSampleReferenceIdeal.Value.run m' g')

/-- The reference's run leaves its arguments as they were; it declares no semaphore, so every counter reads zero. -/
theorem frameProjectStepSample : Cert.quiescent_ProjectStepSampleReferenceIdeal (hProjectStepSampleReferenceIdeal := Cert.ProjectStepSampleReferenceIdeal.Gen.facts) := fun m ρ _ =>
  (θ_run Cert.ProjectStepSampleReferenceIdeal.defs _ _).mono
    (fun r h => ⟨fun c => (h c).2, Idealize.ShloMosaic.sem_eq_zero_of_no_sems (by decide) r.2⟩)
    (Cert.ProjectStepSampleReferenceIdeal.Value.run (F := Ideal) m ρ)

/-- Over the extended reals the array `ProjectStepSample` computes is its reference's, from equal arguments. -/
theorem valueProjectStepSample : Cert.algebraic_ProjectStepSampleIdeal_ProjectStepSampleReferenceIdeal (hProjectStepSampleIdeal := Cert.ProjectStepSampleIdeal.Gen.facts) (hProjectStepSampleReferenceIdeal := Cert.ProjectStepSampleReferenceIdeal.Gen.facts) := by
  intro m g m' g' _ hag
  refine ⟨fun c => Cert.ProjectStepSampleReferenceIdeal.Read.val_main_v1 (F := Ideal) (m' ((c : Thread Cert.ProjectStepSampleReferenceIdeal.nD Cert.ProjectStepSampleReferenceIdeal.τ).loc Cert.ProjectStepSampleReferenceIdeal.main_arg0)) (m' ((c : Thread Cert.ProjectStepSampleReferenceIdeal.nD Cert.ProjectStepSampleReferenceIdeal.τ).loc Cert.ProjectStepSampleReferenceIdeal.main_arg1)), ?_, ?_⟩
  · refine (θ_run _ _ _).mono (fun r h c => ⟨(h c).1.trans ?_, (h c).2⟩) (Cert.ProjectStepSampleIdeal.Value.run_blocks m g)
    obtain ⟨h0, h1⟩ := hag c
    refine (Cert.ProjectStepSampleIdeal.Rows.final m c).trans ?_
    dsimp only
    rw [h0, h1]
  · exact (θ_run _ _ _).mono (fun r h c => ⟨(h c).1.trans (Cert.ProjectStepSampleReferenceIdeal.Read.val_main_v1_eq _ _), (h c).2⟩) (Cert.ProjectStepSampleReferenceIdeal.Value.run m' g')

/-- The reference's run leaves its arguments as they were; it declares no semaphore, so every counter reads zero. -/
theorem frameNormSample : Cert.quiescent_NormSampleReferenceIdeal (hNormSampleReferenceIdeal := Cert.NormSampleReferenceIdeal.Gen.facts) := fun m ρ _ =>
  (θ_run Cert.NormSampleReferenceIdeal.defs _ _).mono
    (fun r h => ⟨fun c => (h c).2, Idealize.ShloMosaic.sem_eq_zero_of_no_sems (by decide) r.2⟩)
    (Cert.NormSampleReferenceIdeal.Value.run (F := Ideal) m ρ)

/-- Over the extended reals the array `NormSample` computes is its reference's, from equal arguments. -/
theorem valueNormSample : Cert.algebraic_NormSampleIdeal_NormSampleReferenceIdeal (hNormSampleIdeal := Cert.NormSampleIdeal.Gen.facts) (hNormSampleReferenceIdeal := Cert.NormSampleReferenceIdeal.Gen.facts) := by
  intro m g m' g' _ hag
  refine ⟨fun c => Cert.NormSampleReferenceIdeal.Read.val_main_v13 (F := Ideal) (m' ((c : Thread Cert.NormSampleReferenceIdeal.nD Cert.NormSampleReferenceIdeal.τ).loc Cert.NormSampleReferenceIdeal.main_arg0)) (m' ((c : Thread Cert.NormSampleReferenceIdeal.nD Cert.NormSampleReferenceIdeal.τ).loc Cert.NormSampleReferenceIdeal.main_arg1)), ?_, ?_⟩
  · refine (θ_run _ _ _).mono (fun r h c => ⟨(h c).1.trans ?_, (h c).2⟩) (Cert.NormSampleIdeal.Value.run_blocks m g)
    obtain ⟨h0, h1⟩ := hag c
    refine (Cert.NormSampleIdeal.Rows.final m c).trans ?_
    dsimp only
    rw [h0, h1]
  · exact (θ_run _ _ _).mono (fun r h c => ⟨(h c).1.trans (Cert.NormSampleReferenceIdeal.Read.val_main_v13_eq _ _), (h c).2⟩) (Cert.NormSampleReferenceIdeal.Value.run m' g')

/-- The reference's run leaves its arguments as they were; it declares no semaphore, so every counter reads zero. -/
theorem frameConvSample : Cert.quiescent_ConvSampleReferenceIdeal (hConvSampleReferenceIdeal := Cert.ConvSampleReferenceIdeal.Gen.facts) := fun m ρ _ =>
  (θ_run Cert.ConvSampleReferenceIdeal.defs _ _).mono
    (fun r h => ⟨fun c => (h c).2.2, Idealize.ShloMosaic.sem_eq_zero_of_no_sems (by decide) r.2⟩)
    (Cert.ConvSampleReferenceIdeal.Value.run (F := Ideal) m ρ)

/-- Over the extended reals the two arrays `ConvSample` computes are its reference's, from equal arguments. -/
theorem valueConvSample : Cert.algebraic_ConvSampleIdeal_ConvSampleReferenceIdeal (hConvSampleIdeal := Cert.ConvSampleIdeal.Gen.facts) (hConvSampleReferenceIdeal := Cert.ConvSampleReferenceIdeal.Gen.facts) := by
  intro m g m' g' _ hag
  refine ⟨fun c => Cert.ConvSampleReferenceIdeal.Read.val_main_v257 (F := Ideal) (m' ((c : Thread Cert.ConvSampleReferenceIdeal.nD Cert.ConvSampleReferenceIdeal.τ).loc Cert.ConvSampleReferenceIdeal.main_arg0)) (m' ((c : Thread Cert.ConvSampleReferenceIdeal.nD Cert.ConvSampleReferenceIdeal.τ).loc Cert.ConvSampleReferenceIdeal.main_arg1)) (m' ((c : Thread Cert.ConvSampleReferenceIdeal.nD Cert.ConvSampleReferenceIdeal.τ).loc Cert.ConvSampleReferenceIdeal.main_arg2)) (m' ((c : Thread Cert.ConvSampleReferenceIdeal.nD Cert.ConvSampleReferenceIdeal.τ).loc Cert.ConvSampleReferenceIdeal.main_arg3)) (m' ((c : Thread Cert.ConvSampleReferenceIdeal.nD Cert.ConvSampleReferenceIdeal.τ).loc Cert.ConvSampleReferenceIdeal.main_arg4)) (m' ((c : Thread Cert.ConvSampleReferenceIdeal.nD Cert.ConvSampleReferenceIdeal.τ).loc Cert.ConvSampleReferenceIdeal.main_arg5)) (m' ((c : Thread Cert.ConvSampleReferenceIdeal.nD Cert.ConvSampleReferenceIdeal.τ).loc Cert.ConvSampleReferenceIdeal.main_arg6)) (m' ((c : Thread Cert.ConvSampleReferenceIdeal.nD Cert.ConvSampleReferenceIdeal.τ).loc Cert.ConvSampleReferenceIdeal.main_arg7)),
    fun c => Cert.ConvSampleReferenceIdeal.Read.val_main_v258 (F := Ideal) (m' ((c : Thread Cert.ConvSampleReferenceIdeal.nD Cert.ConvSampleReferenceIdeal.τ).loc Cert.ConvSampleReferenceIdeal.main_arg0)) (m' ((c : Thread Cert.ConvSampleReferenceIdeal.nD Cert.ConvSampleReferenceIdeal.τ).loc Cert.ConvSampleReferenceIdeal.main_arg1)) (m' ((c : Thread Cert.ConvSampleReferenceIdeal.nD Cert.ConvSampleReferenceIdeal.τ).loc Cert.ConvSampleReferenceIdeal.main_arg3)), ?_, ?_⟩
  · refine (θ_run _ _ _).mono (fun r h c => ⟨(h c).1.trans ?_, (h c).2.1.trans ?_, (h c).2.2⟩) (Cert.ConvSampleIdeal.Conv.run_results m g)
    · obtain ⟨h0, h1, h2, h3, h4, h5, h6, h7⟩ := hag c
      dsimp only [Cert.ConvSampleIdeal.Conv.result]
      rw [h0, h1, h2, h3, h4, h5, h6, h7]
    · obtain ⟨h0, h1, h2, h3, h4, h5, h6, h7⟩ := hag c
      dsimp only [Cert.ConvSampleIdeal.Conv.next]
      rw [h0, h1, h3]
  · exact (θ_run _ _ _).mono (fun r h c => ⟨(h c).1.trans (Cert.ConvSampleReferenceIdeal.Read.val_main_v257_eq _),
      (h c).2.1.trans (Cert.ConvSampleReferenceIdeal.Read.val_main_v258_eq _), (h c).2.2⟩) (Cert.ConvSampleReferenceIdeal.Value.run m' g')

/-- Every claim of the certificate. -/
theorem claim : Cert.Claim :=
  ⟨Cert.Kernel.Gen.facts, Cert.KernelIdeal.Gen.facts, Cert.ReferenceIdeal.Gen.facts,
    Cert.Output.Gen.facts, Cert.OutputIdeal.Gen.facts, Cert.OutputReferenceIdeal.Gen.facts,
    Cert.OutputSample.Gen.facts, Cert.OutputSampleIdeal.Gen.facts, Cert.OutputSampleReferenceIdeal.Gen.facts,
    Cert.OutputNext.Gen.facts, Cert.OutputNextIdeal.Gen.facts, Cert.OutputNextReferenceIdeal.Gen.facts,
    Cert.Project.Gen.facts, Cert.ProjectIdeal.Gen.facts, Cert.ProjectReferenceIdeal.Gen.facts,
    Cert.ProjectSample.Gen.facts, Cert.ProjectSampleIdeal.Gen.facts, Cert.ProjectSampleReferenceIdeal.Gen.facts,
    Cert.ProjectWide.Gen.facts, Cert.ProjectWideIdeal.Gen.facts, Cert.ProjectWideReferenceIdeal.Gen.facts,
    Cert.Norm.Gen.facts, Cert.NormIdeal.Gen.facts, Cert.NormReferenceIdeal.Gen.facts,
    Cert.OutputFirst.Gen.facts, Cert.OutputFirstIdeal.Gen.facts, Cert.OutputFirstReferenceIdeal.Gen.facts,
    Cert.OutputFirstSample.Gen.facts, Cert.OutputFirstSampleIdeal.Gen.facts, Cert.OutputFirstSampleReferenceIdeal.Gen.facts,
    Cert.OutputNextSample.Gen.facts, Cert.OutputNextSampleIdeal.Gen.facts, Cert.OutputNextSampleReferenceIdeal.Gen.facts,
    Cert.ProjectGate.Gen.facts, Cert.ProjectGateIdeal.Gen.facts, Cert.ProjectGateReferenceIdeal.Gen.facts,
    Cert.ProjectStep.Gen.facts, Cert.ProjectStepIdeal.Gen.facts, Cert.ProjectStepReferenceIdeal.Gen.facts,
    Cert.ProjectWideSample.Gen.facts, Cert.ProjectWideSampleIdeal.Gen.facts, Cert.ProjectWideSampleReferenceIdeal.Gen.facts,
    Cert.ProjectGateSample.Gen.facts, Cert.ProjectGateSampleIdeal.Gen.facts, Cert.ProjectGateSampleReferenceIdeal.Gen.facts,
    Cert.ProjectStepSample.Gen.facts, Cert.ProjectStepSampleIdeal.Gen.facts, Cert.ProjectStepSampleReferenceIdeal.Gen.facts,
    Cert.NormSample.Gen.facts, Cert.NormSampleIdeal.Gen.facts, Cert.NormSampleReferenceIdeal.Gen.facts,
    Cert.ConvSample.Gen.facts, Cert.ConvSampleIdeal.Gen.facts, Cert.ConvSampleReferenceIdeal.Gen.facts,
    fun m ρ _ => Cert.Kernel.Gen.frame m ρ, fun m ρ _ => Cert.KernelIdeal.Gen.frame m ρ, reference_frame,
    fun m ρ _ => Cert.Output.Gen.frame m ρ, fun m ρ _ => Cert.OutputIdeal.Gen.frame m ρ, frameOutput,
    fun m ρ _ => Cert.OutputSample.Gen.frame m ρ, fun m ρ _ => Cert.OutputSampleIdeal.Gen.frame m ρ, frameOutputSample,
    fun m ρ _ => Cert.OutputNext.Gen.frame m ρ, fun m ρ _ => Cert.OutputNextIdeal.Gen.frame m ρ, frameOutputNext,
    fun m ρ _ => Cert.Project.Gen.frame m ρ, fun m ρ _ => Cert.ProjectIdeal.Gen.frame m ρ, frameProject,
    fun m ρ _ => Cert.ProjectSample.Gen.frame m ρ, fun m ρ _ => Cert.ProjectSampleIdeal.Gen.frame m ρ, frameProjectSample,
    fun m ρ _ => Cert.ProjectWide.Gen.frame m ρ, fun m ρ _ => Cert.ProjectWideIdeal.Gen.frame m ρ, frameProjectWide,
    fun m ρ _ => Cert.Norm.Gen.frame m ρ, fun m ρ _ => Cert.NormIdeal.Gen.frame m ρ, frameNorm,
    fun m ρ _ => Cert.OutputFirst.Gen.frame m ρ, fun m ρ _ => Cert.OutputFirstIdeal.Gen.frame m ρ, frameOutputFirst,
    fun m ρ _ => Cert.OutputFirstSample.Gen.frame m ρ, fun m ρ _ => Cert.OutputFirstSampleIdeal.Gen.frame m ρ, frameOutputFirstSample,
    fun m ρ _ => Cert.OutputNextSample.Gen.frame m ρ, fun m ρ _ => Cert.OutputNextSampleIdeal.Gen.frame m ρ, frameOutputNextSample,
    fun m ρ _ => Cert.ProjectGate.Gen.frame m ρ, fun m ρ _ => Cert.ProjectGateIdeal.Gen.frame m ρ, frameProjectGate,
    fun m ρ _ => Cert.ProjectStep.Gen.frame m ρ, fun m ρ _ => Cert.ProjectStepIdeal.Gen.frame m ρ, frameProjectStep,
    fun m ρ _ => Cert.ProjectWideSample.Gen.frame m ρ, fun m ρ _ => Cert.ProjectWideSampleIdeal.Gen.frame m ρ, frameProjectWideSample,
    fun m ρ _ => Cert.ProjectGateSample.Gen.frame m ρ, fun m ρ _ => Cert.ProjectGateSampleIdeal.Gen.frame m ρ, frameProjectGateSample,
    fun m ρ _ => Cert.ProjectStepSample.Gen.frame m ρ, fun m ρ _ => Cert.ProjectStepSampleIdeal.Gen.frame m ρ, frameProjectStepSample,
    fun m ρ _ => Cert.NormSample.Gen.frame m ρ, fun m ρ _ => Cert.NormSampleIdeal.Gen.frame m ρ, frameNormSample,
    fun m ρ _ => Cert.ConvSample.Conv.frame m ρ, fun m ρ _ => Cert.ConvSampleIdeal.Conv.frame m ρ, frameConvSample,
    preserves, value,
    trivial, valueOutput,
    trivial, valueOutputSample,
    trivial, valueOutputNext,
    trivial, valueProject,
    trivial, valueProjectSample,
    trivial, valueProjectWide,
    trivial, valueNorm,
    trivial, valueOutputFirst,
    trivial, valueOutputFirstSample,
    trivial, valueOutputNextSample,
    trivial, valueProjectGate,
    trivial, valueProjectStep,
    trivial, valueProjectWideSample,
    trivial, valueProjectGateSample,
    trivial, valueProjectStepSample,
    trivial, valueNormSample,
    trivial, valueConvSample⟩

end Cert.Proof
